-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_GwFfnIn (m : (ℓ : Loc Cert.GwFfnIn.nD Cert.GwFfnIn.τ Cert.GwFfnIn.sig) → Buf (Elt Bits) ℓ) : Prop :=
  True

def Pre_GwFfnInIdeal (m : (ℓ : Loc Cert.GwFfnInIdeal.nD Cert.GwFfnInIdeal.τ Cert.GwFfnInIdeal.sig) → Buf (Elt Ideal) ℓ) : Prop :=
  True

def Pre_GwFfnInRefIdeal (m : (ℓ : Loc Cert.GwFfnInRefIdeal.nD Cert.GwFfnInRefIdeal.τ Cert.GwFfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_GwFfnOut (m : (ℓ : Loc Cert.GwFfnOut.nD Cert.GwFfnOut.τ Cert.GwFfnOut.sig) → Buf (Elt Bits) ℓ) : Prop :=
  True

def Pre_GwFfnOutIdeal (m : (ℓ : Loc Cert.GwFfnOutIdeal.nD Cert.GwFfnOutIdeal.τ Cert.GwFfnOutIdeal.sig) → Buf (Elt Ideal) ℓ) : Prop :=
  True

def Pre_GwFfnOutRefIdeal (m : (ℓ : Loc Cert.GwFfnOutRefIdeal.nD Cert.GwFfnOutRefIdeal.τ Cert.GwFfnOutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYRefIdeal (m : (ℓ : Loc Cert.DYRefIdeal.nD Cert.DYRefIdeal.τ Cert.DYRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_AdamWAda (m : (ℓ : Loc Cert.AdamWAda.nD Cert.AdamWAda.τ Cert.AdamWAda.sig) → Buf (Elt Bits) ℓ) : Prop :=
  True

def Pre_AdamWAdaIdeal (m : (ℓ : Loc Cert.AdamWAdaIdeal.nD Cert.AdamWAdaIdeal.τ Cert.AdamWAdaIdeal.sig) → Buf (Elt Ideal) ℓ) : Prop :=
  True

def Pre_AdamWAdaRefIdeal (m : (ℓ : Loc Cert.AdamWAdaRefIdeal.nD Cert.AdamWAdaRefIdeal.τ Cert.AdamWAdaRefIdeal.sig) → Buf (Elt Ideal) ℓ) : Prop :=
  True

def Pre_AdamWUkv (m : (ℓ : Loc Cert.AdamWUkv.nD Cert.AdamWUkv.τ Cert.AdamWUkv.sig) → Buf (Elt Bits) ℓ) : Prop :=
  True

def Pre_AdamWUkvIdeal (m : (ℓ : Loc Cert.AdamWUkvIdeal.nD Cert.AdamWUkvIdeal.τ Cert.AdamWUkvIdeal.sig) → Buf (Elt Ideal) ℓ) : Prop :=
  True

def Pre_AdamWUkvRefIdeal (m : (ℓ : Loc Cert.AdamWUkvRefIdeal.nD Cert.AdamWUkvRefIdeal.τ Cert.AdamWUkvRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWFfnOut (m : (ℓ : Loc Cert.AdamWFfnOut.nD Cert.AdamWFfnOut.τ Cert.AdamWFfnOut.sig) → Buf (Elt Bits) ℓ) : Prop :=
  True

def Pre_AdamWFfnOutIdeal (m : (ℓ : Loc Cert.AdamWFfnOutIdeal.nD Cert.AdamWFfnOutIdeal.τ Cert.AdamWFfnOutIdeal.sig) → Buf (Elt Ideal) ℓ) : Prop :=
  True

def Pre_AdamWFfnOutRefIdeal (m : (ℓ : Loc Cert.AdamWFfnOutRefIdeal.nD Cert.AdamWFfnOutRefIdeal.τ Cert.AdamWFfnOutRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWUq (m : (ℓ : Loc Cert.AdamWUq.nD Cert.AdamWUq.τ Cert.AdamWUq.sig) → Buf (Elt Bits) ℓ) : Prop :=
  True

def Pre_AdamWUqIdeal (m : (ℓ : Loc Cert.AdamWUqIdeal.nD Cert.AdamWUqIdeal.τ Cert.AdamWUqIdeal.sig) → Buf (Elt Ideal) ℓ) : Prop :=
  True

def Pre_AdamWUqRefIdeal (m : (ℓ : Loc Cert.AdamWUqRefIdeal.nD Cert.AdamWUqRefIdeal.τ Cert.AdamWUqRefIdeal.sig) → Buf (Elt Ideal) ℓ) : Prop :=
  True

def Pre_AdamWFfnIn (m : (ℓ : Loc Cert.AdamWFfnIn.nD Cert.AdamWFfnIn.τ Cert.AdamWFfnIn.sig) → Buf (Elt Bits) ℓ) : Prop :=
  True

def Pre_AdamWFfnInIdeal (m : (ℓ : Loc Cert.AdamWFfnInIdeal.nD Cert.AdamWFfnInIdeal.τ Cert.AdamWFfnInIdeal.sig) → Buf (Elt Ideal) ℓ) : Prop :=
  True

def Pre_AdamWFfnInRefIdeal (m : (ℓ : Loc Cert.AdamWFfnInRefIdeal.nD Cert.AdamWFfnInRefIdeal.τ Cert.AdamWFfnInRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2)
      ∧ r.2.mem ((c.tc : Thread Cert.DH2.nD Cert.DH2.τ).loc Cert.DH2.main_arg3) = m ((c.tc : Thread Cert.DH2.nD Cert.DH2.τ).loc Cert.DH2.main_arg3))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
      ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2)
      ∧ r.2.mem ((c.tc : Thread Cert.DH2RefIdeal.nD Cert.DH2RefIdeal.τ).loc Cert.DH2RefIdeal.main_arg3) = m ((c.tc : Thread Cert.DH2RefIdeal.nD Cert.DH2RefIdeal.τ).loc Cert.DH2RefIdeal.main_arg3))
      ∧ r.2.sem = fun _ => 0)

def quiescent_GwFfnIn [hGwFfnIn : Cert.GwFfnIn.Facts] : Prop :=
  ∀ (m : (ℓ : Loc Cert.GwFfnIn.nD Cert.GwFfnIn.τ Cert.GwFfnIn.sig) → Buf (Elt Bits) ℓ) (g : Dev Cert.GwFfnIn.nD → PrngReg), Pre_GwFfnIn m →
    θ_run (Cert.GwFfnIn.defs (F := Bits)) (onTc (τ := Cert.GwFfnIn.τ) (Cert.GwFfnIn.main (F := Bits))) ⟨m, fun _ => 0, g⟩ (fun r => (∀ c : Dev Cert.GwFfnIn.nD,
      r.2.mem ((c.tc : Thread Cert.GwFfnIn.nD Cert.GwFfnIn.τ).loc Cert.GwFfnIn.main_arg0) = m ((c.tc : Thread Cert.GwFfnIn.nD Cert.GwFfnIn.τ).loc Cert.GwFfnIn.main_arg0)
      ∧ r.2.mem ((c.tc : Thread Cert.GwFfnIn.nD Cert.GwFfnIn.τ).loc Cert.GwFfnIn.main_arg1) = m ((c.tc : Thread Cert.GwFfnIn.nD Cert.GwFfnIn.τ).loc Cert.GwFfnIn.main_arg1)
      ∧ r.2.mem ((c.tc : Thread Cert.GwFfnIn.nD Cert.GwFfnIn.τ).loc Cert.GwFfnIn.main_arg2) = m ((c.tc : Thread Cert.GwFfnIn.nD Cert.GwFfnIn.τ).loc Cert.GwFfnIn.main_arg2)
      ∧ r.2.mem ((c.tc : Thread Cert.GwFfnIn.nD Cert.GwFfnIn.τ).loc Cert.GwFfnIn.main_arg3) = m ((c.tc : Thread Cert.GwFfnIn.nD Cert.GwFfnIn.τ).loc Cert.GwFfnIn.main_arg3))
      ∧ r.2.sem = fun _ => 0)

def quiescent_GwFfnInIdeal [hGwFfnInIdeal : Cert.GwFfnInIdeal.Facts] : Prop :=
  ∀ (m : (ℓ : Loc Cert.GwFfnInIdeal.nD Cert.GwFfnInIdeal.τ Cert.GwFfnInIdeal.sig) → Buf (Elt Ideal) ℓ) (g : Dev Cert.GwFfnInIdeal.nD → PrngReg), Pre_GwFfnInIdeal m →
    θ_run (Cert.GwFfnInIdeal.defs (F := Ideal)) (onTc (τ := Cert.GwFfnInIdeal.τ) (Cert.GwFfnInIdeal.main (F := Ideal))) ⟨m, fun _ => 0, g⟩ (fun r => (∀ c : Dev Cert.GwFfnInIdeal.nD,
      r.2.mem ((c.tc : Thread Cert.GwFfnInIdeal.nD Cert.GwFfnInIdeal.τ).loc Cert.GwFfnInIdeal.main_arg0) = m ((c.tc : Thread Cert.GwFfnInIdeal.nD Cert.GwFfnInIdeal.τ).loc Cert.GwFfnInIdeal.main_arg0)
      ∧ r.2.mem ((c.tc : Thread Cert.GwFfnInIdeal.nD Cert.GwFfnInIdeal.τ).loc Cert.GwFfnInIdeal.main_arg1) = m ((c.tc : Thread Cert.GwFfnInIdeal.nD Cert.GwFfnInIdeal.τ).loc Cert.GwFfnInIdeal.main_arg1)
      ∧ r.2.mem ((c.tc : Thread Cert.GwFfnInIdeal.nD Cert.GwFfnInIdeal.τ).loc Cert.GwFfnInIdeal.main_arg2) = m ((c.tc : Thread Cert.GwFfnInIdeal.nD Cert.GwFfnInIdeal.τ).loc Cert.GwFfnInIdeal.main_arg2)
      ∧ r.2.mem ((c.tc : Thread Cert.GwFfnInIdeal.nD Cert.GwFfnInIdeal.τ).loc Cert.GwFfnInIdeal.main_arg3) = m ((c.tc : Thread Cert.GwFfnInIdeal.nD Cert.GwFfnInIdeal.τ).loc Cert.GwFfnInIdeal.main_arg3))
      ∧ r.2.sem = fun _ => 0)

def quiescent_GwFfnInRefIdeal [hGwFfnInRefIdeal : Cert.GwFfnInRefIdeal.Facts] : Prop :=
  ∀ (m : (ℓ : Loc Cert.GwFfnInRefIdeal.nD Cert.GwFfnInRefIdeal.τ Cert.GwFfnInRefIdeal.sig) → Buf (Elt Ideal) ℓ) (g : Dev Cert.GwFfnInRefIdeal.nD → PrngReg), Pre_GwFfnInRefIdeal m →
    θ_run (Cert.GwFfnInRefIdeal.defs (F := Ideal)) (onTc (τ := Cert.GwFfnInRefIdeal.τ) (Cert.GwFfnInRefIdeal.main (F := Ideal))) ⟨m, fun _ => 0, g⟩ (fun r => (∀ c : Dev Cert.GwFfnInRefIdeal.nD,
      r.2.mem ((c.tc : Thread Cert.GwFfnInRefIdeal.nD Cert.GwFfnInRefIdeal.τ).loc Cert.GwFfnInRefIdeal.main_arg0) = m ((c.tc : Thread Cert.GwFfnInRefIdeal.nD Cert.GwFfnInRefIdeal.τ).loc Cert.GwFfnInRefIdeal.main_arg0)
      ∧ r.2.mem ((c.tc : Thread Cert.GwFfnInRefIdeal.nD Cert.GwFfnInRefIdeal.τ).loc Cert.GwFfnInRefIdeal.main_arg1) = m ((c.tc : Thread Cert.GwFfnInRefIdeal.nD Cert.GwFfnInRefIdeal.τ).loc Cert.GwFfnInRefIdeal.main_arg1)
      ∧ r.2.mem ((c.tc : Thread Cert.GwFfnInRefIdeal.nD Cert.GwFfnInRefIdeal.τ).loc Cert.GwFfnInRefIdeal.main_arg2) = m ((c.tc : Thread Cert.GwFfnInRefIdeal.nD Cert.GwFfnInRefIdeal.τ).loc Cert.GwFfnInRefIdeal.main_arg2)
      ∧ r.2.mem ((c.tc : Thread Cert.GwFfnInRefIdeal.nD Cert.GwFfnInRefIdeal.τ).loc Cert.GwFfnInRefIdeal.main_arg3) = m ((c.tc : Thread Cert.GwFfnInRefIdeal.nD Cert.GwFfnInRefIdeal.τ).loc Cert.GwFfnInRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_GwFfnOut [hGwFfnOut : Cert.GwFfnOut.Facts] : Prop :=
  ∀ (m : (ℓ : Loc Cert.GwFfnOut.nD Cert.GwFfnOut.τ Cert.GwFfnOut.sig) → Buf (Elt Bits) ℓ) (g : Dev Cert.GwFfnOut.nD → PrngReg), Pre_GwFfnOut m →
    θ_run (Cert.GwFfnOut.defs (F := Bits)) (onTc (τ := Cert.GwFfnOut.τ) (Cert.GwFfnOut.main (F := Bits))) ⟨m, fun _ => 0, g⟩ (fun r => (∀ c : Dev Cert.GwFfnOut.nD,
      r.2.mem ((c.tc : Thread Cert.GwFfnOut.nD Cert.GwFfnOut.τ).loc Cert.GwFfnOut.main_arg0) = m ((c.tc : Thread Cert.GwFfnOut.nD Cert.GwFfnOut.τ).loc Cert.GwFfnOut.main_arg0)
      ∧ r.2.mem ((c.tc : Thread Cert.GwFfnOut.nD Cert.GwFfnOut.τ).loc Cert.GwFfnOut.main_arg1) = m ((c.tc : Thread Cert.GwFfnOut.nD Cert.GwFfnOut.τ).loc Cert.GwFfnOut.main_arg1)
      ∧ r.2.mem ((c.tc : Thread Cert.GwFfnOut.nD Cert.GwFfnOut.τ).loc Cert.GwFfnOut.main_arg2) = m ((c.tc : Thread Cert.GwFfnOut.nD Cert.GwFfnOut.τ).loc Cert.GwFfnOut.main_arg2))
      ∧ r.2.sem = fun _ => 0)

def quiescent_GwFfnOutIdeal [hGwFfnOutIdeal : Cert.GwFfnOutIdeal.Facts] : Prop :=
  ∀ (m : (ℓ : Loc Cert.GwFfnOutIdeal.nD Cert.GwFfnOutIdeal.τ Cert.GwFfnOutIdeal.sig) → Buf (Elt Ideal) ℓ) (g : Dev Cert.GwFfnOutIdeal.nD → PrngReg), Pre_GwFfnOutIdeal m →
    θ_run (Cert.GwFfnOutIdeal.defs (F := Ideal)) (onTc (τ := Cert.GwFfnOutIdeal.τ) (Cert.GwFfnOutIdeal.main (F := Ideal))) ⟨m, fun _ => 0, g⟩ (fun r => (∀ c : Dev Cert.GwFfnOutIdeal.nD,
      r.2.mem ((c.tc : Thread Cert.GwFfnOutIdeal.nD Cert.GwFfnOutIdeal.τ).loc Cert.GwFfnOutIdeal.main_arg0) = m ((c.tc : Thread Cert.GwFfnOutIdeal.nD Cert.GwFfnOutIdeal.τ).loc Cert.GwFfnOutIdeal.main_arg0)
      ∧ r.2.mem ((c.tc : Thread Cert.GwFfnOutIdeal.nD Cert.GwFfnOutIdeal.τ).loc Cert.GwFfnOutIdeal.main_arg1) = m ((c.tc : Thread Cert.GwFfnOutIdeal.nD Cert.GwFfnOutIdeal.τ).loc Cert.GwFfnOutIdeal.main_arg1)
      ∧ r.2.mem ((c.tc : Thread Cert.GwFfnOutIdeal.nD Cert.GwFfnOutIdeal.τ).loc Cert.GwFfnOutIdeal.main_arg2) = m ((c.tc : Thread Cert.GwFfnOutIdeal.nD Cert.GwFfnOutIdeal.τ).loc Cert.GwFfnOutIdeal.main_arg2))
      ∧ r.2.sem = fun _ => 0)

def quiescent_GwFfnOutRefIdeal [hGwFfnOutRefIdeal : Cert.GwFfnOutRefIdeal.Facts] : Prop :=
  ∀ (m : (ℓ : Loc Cert.GwFfnOutRefIdeal.nD Cert.GwFfnOutRefIdeal.τ Cert.GwFfnOutRefIdeal.sig) → Buf (Elt Ideal) ℓ) (g : Dev Cert.GwFfnOutRefIdeal.nD → PrngReg), Pre_GwFfnOutRefIdeal m →
    θ_run (Cert.GwFfnOutRefIdeal.defs (F := Ideal)) (onTc (τ := Cert.GwFfnOutRefIdeal.τ) (Cert.GwFfnOutRefIdeal.main (F := Ideal))) ⟨m, fun _ => 0, g⟩ (fun r => (∀ c : Dev Cert.GwFfnOutRefIdeal.nD,
      r.2.mem ((c.tc : Thread Cert.GwFfnOutRefIdeal.nD Cert.GwFfnOutRefIdeal.τ).loc Cert.GwFfnOutRefIdeal.main_arg0) = m ((c.tc : Thread Cert.GwFfnOutRefIdeal.nD Cert.GwFfnOutRefIdeal.τ).loc Cert.GwFfnOutRefIdeal.main_arg0)
      ∧ r.2.mem ((c.tc : Thread Cert.GwFfnOutRefIdeal.nD Cert.GwFfnOutRefIdeal.τ).loc Cert.GwFfnOutRefIdeal.main_arg1) = m ((c.tc : Thread Cert.GwFfnOutRefIdeal.nD Cert.GwFfnOutRefIdeal.τ).loc Cert.GwFfnOutRefIdeal.main_arg1)
      ∧ r.2.mem ((c.tc : Thread Cert.GwFfnOutRefIdeal.nD Cert.GwFfnOutRefIdeal.τ).loc Cert.GwFfnOutRefIdeal.main_arg2) = m ((c.tc : Thread Cert.GwFfnOutRefIdeal.nD Cert.GwFfnOutRefIdeal.τ).loc Cert.GwFfnOutRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1)
      ∧ r.2.mem ((c.tc : Thread Cert.DY.nD Cert.DY.τ).loc Cert.DY.main_arg2) = m ((c.tc : Thread Cert.DY.nD Cert.DY.τ).loc Cert.DY.main_arg2))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1)
      ∧ r.2.mem ((c.tc : Thread Cert.DYIdeal.nD Cert.DYIdeal.τ).loc Cert.DYIdeal.main_arg2) = m ((c.tc : Thread Cert.DYIdeal.nD Cert.DYIdeal.τ).loc Cert.DYIdeal.main_arg2))
      ∧ r.2.sem = fun _ => 0)

def quiescent_DYRefIdeal [hDYRefIdeal : Cert.DYRefIdeal.Facts] : Prop :=
  ∀ (m : (ℓ : Loc Cert.DYRefIdeal.nD Cert.DYRefIdeal.τ Cert.DYRefIdeal.sig) → Buf (Elt Ideal) ℓ) (g : Dev Cert.DYRefIdeal.nD → PrngReg), Pre_DYRefIdeal m →
    θ_run (Cert.DYRefIdeal.defs (F := Ideal)) (onTc (τ := Cert.DYRefIdeal.τ) (Cert.DYRefIdeal.main (F := Ideal))) ⟨m, fun _ => 0, g⟩ (fun r => (∀ c : Dev Cert.DYRefIdeal.nD,
      r.2.mem ((c.tc : Thread Cert.DYRefIdeal.nD Cert.DYRefIdeal.τ).loc Cert.DYRefIdeal.main_arg0) = m ((c.tc : Thread Cert.DYRefIdeal.nD Cert.DYRefIdeal.τ).loc Cert.DYRefIdeal.main_arg0)
      ∧ r.2.mem ((c.tc : Thread Cert.DYRefIdeal.nD Cert.DYRefIdeal.τ).loc Cert.DYRefIdeal.main_arg1) = m ((c.tc : Thread Cert.DYRefIdeal.nD Cert.DYRefIdeal.τ).loc Cert.DYRefIdeal.main_arg1)
      ∧ r.2.mem ((c.tc : Thread Cert.DYRefIdeal.nD Cert.DYRefIdeal.τ).loc Cert.DYRefIdeal.main_arg2) = m ((c.tc : Thread Cert.DYRefIdeal.nD Cert.DYRefIdeal.τ).loc Cert.DYRefIdeal.main_arg2))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1)
      ∧ r.2.mem ((c.tc : Thread Cert.GwOut.nD Cert.GwOut.τ).loc Cert.GwOut.main_arg2) = m ((c.tc : Thread Cert.GwOut.nD Cert.GwOut.τ).loc Cert.GwOut.main_arg2))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1)
      ∧ r.2.mem ((c.tc : Thread Cert.GwOutIdeal.nD Cert.GwOutIdeal.τ).loc Cert.GwOutIdeal.main_arg2) = m ((c.tc : Thread Cert.GwOutIdeal.nD Cert.GwOutIdeal.τ).loc Cert.GwOutIdeal.main_arg2))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1)
      ∧ r.2.mem ((c.tc : Thread Cert.GwOutRefIdeal.nD Cert.GwOutRefIdeal.τ).loc Cert.GwOutRefIdeal.main_arg2) = m ((c.tc : Thread Cert.GwOutRefIdeal.nD Cert.GwOutRefIdeal.τ).loc Cert.GwOutRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1)
      ∧ r.2.mem ((c.tc : Thread Cert.GwIn.nD Cert.GwIn.τ).loc Cert.GwIn.main_arg2) = m ((c.tc : Thread Cert.GwIn.nD Cert.GwIn.τ).loc Cert.GwIn.main_arg2))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1)
      ∧ r.2.mem ((c.tc : Thread Cert.GwInIdeal.nD Cert.GwInIdeal.τ).loc Cert.GwInIdeal.main_arg2) = m ((c.tc : Thread Cert.GwInIdeal.nD Cert.GwInIdeal.τ).loc Cert.GwInIdeal.main_arg2))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1)
      ∧ r.2.mem ((c.tc : Thread Cert.GwInRefIdeal.nD Cert.GwInRefIdeal.τ).loc Cert.GwInRefIdeal.main_arg2) = m ((c.tc : Thread Cert.GwInRefIdeal.nD Cert.GwInRefIdeal.τ).loc Cert.GwInRefIdeal.main_arg2))
      ∧ r.2.sem = fun _ => 0)

def quiescent_AdamWAda [hAdamWAda : Cert.AdamWAda.Facts] : Prop :=
  ∀ (m : (ℓ : Loc Cert.AdamWAda.nD Cert.AdamWAda.τ Cert.AdamWAda.sig) → Buf (Elt Bits) ℓ) (g : Dev Cert.AdamWAda.nD → PrngReg), Pre_AdamWAda m →
    θ_run (Cert.AdamWAda.defs (F := Bits)) (onTc (τ := Cert.AdamWAda.τ) (Cert.AdamWAda.main (F := Bits))) ⟨m, fun _ => 0, g⟩ (fun r => (∀ c : Dev Cert.AdamWAda.nD,
      r.2.mem ((c.tc : Thread Cert.AdamWAda.nD Cert.AdamWAda.τ).loc Cert.AdamWAda.main_arg0) = m ((c.tc : Thread Cert.AdamWAda.nD Cert.AdamWAda.τ).loc Cert.AdamWAda.main_arg0)
      ∧ r.2.mem ((c.tc : Thread Cert.AdamWAda.nD Cert.AdamWAda.τ).loc Cert.AdamWAda.main_arg1) = m ((c.tc : Thread Cert.AdamWAda.nD Cert.AdamWAda.τ).loc Cert.AdamWAda.main_arg1)
      ∧ r.2.mem ((c.tc : Thread Cert.AdamWAda.nD Cert.AdamWAda.τ).loc Cert.AdamWAda.main_arg2) = m ((c.tc : Thread Cert.AdamWAda.nD Cert.AdamWAda.τ).loc Cert.AdamWAda.main_arg2)
      ∧ r.2.mem ((c.tc : Thread Cert.AdamWAda.nD Cert.AdamWAda.τ).loc Cert.AdamWAda.main_arg3) = m ((c.tc : Thread Cert.AdamWAda.nD Cert.AdamWAda.τ).loc Cert.AdamWAda.main_arg3))
      ∧ r.2.sem = fun _ => 0)

def quiescent_AdamWAdaIdeal [hAdamWAdaIdeal : Cert.AdamWAdaIdeal.Facts] : Prop :=
  ∀ (m : (ℓ : Loc Cert.AdamWAdaIdeal.nD Cert.AdamWAdaIdeal.τ Cert.AdamWAdaIdeal.sig) → Buf (Elt Ideal) ℓ) (g : Dev Cert.AdamWAdaIdeal.nD → PrngReg), Pre_AdamWAdaIdeal m →
    θ_run (Cert.AdamWAdaIdeal.defs (F := Ideal)) (onTc (τ := Cert.AdamWAdaIdeal.τ) (Cert.AdamWAdaIdeal.main (F := Ideal))) ⟨m, fun _ => 0, g⟩ (fun r => (∀ c : Dev Cert.AdamWAdaIdeal.nD,
      r.2.mem ((c.tc : Thread Cert.AdamWAdaIdeal.nD Cert.AdamWAdaIdeal.τ).loc Cert.AdamWAdaIdeal.main_arg0) = m ((c.tc : Thread Cert.AdamWAdaIdeal.nD Cert.AdamWAdaIdeal.τ).loc Cert.AdamWAdaIdeal.main_arg0)
      ∧ r.2.mem ((c.tc : Thread Cert.AdamWAdaIdeal.nD Cert.AdamWAdaIdeal.τ).loc Cert.AdamWAdaIdeal.main_arg1) = m ((c.tc : Thread Cert.AdamWAdaIdeal.nD Cert.AdamWAdaIdeal.τ).loc Cert.AdamWAdaIdeal.main_arg1)
      ∧ r.2.mem ((c.tc : Thread Cert.AdamWAdaIdeal.nD Cert.AdamWAdaIdeal.τ).loc Cert.AdamWAdaIdeal.main_arg2) = m ((c.tc : Thread Cert.AdamWAdaIdeal.nD Cert.AdamWAdaIdeal.τ).loc Cert.AdamWAdaIdeal.main_arg2)
      ∧ r.2.mem ((c.tc : Thread Cert.AdamWAdaIdeal.nD Cert.AdamWAdaIdeal.τ).loc Cert.AdamWAdaIdeal.main_arg3) = m ((c.tc : Thread Cert.AdamWAdaIdeal.nD Cert.AdamWAdaIdeal.τ).loc Cert.AdamWAdaIdeal.main_arg3))
      ∧ r.2.sem = fun _ => 0)

def quiescent_AdamWAdaRefIdeal [hAdamWAdaRefIdeal : Cert.AdamWAdaRefIdeal.Facts] : Prop :=
  ∀ (m : (ℓ : Loc Cert.AdamWAdaRefIdeal.nD Cert.AdamWAdaRefIdeal.τ Cert.AdamWAdaRefIdeal.sig) → Buf (Elt Ideal) ℓ) (g : Dev Cert.AdamWAdaRefIdeal.nD → PrngReg), Pre_AdamWAdaRefIdeal m →
    θ_run (Cert.AdamWAdaRefIdeal.defs (F := Ideal)) (onTc (τ := Cert.AdamWAdaRefIdeal.τ) (Cert.AdamWAdaRefIdeal.main (F := Ideal))) ⟨m, fun _ => 0, g⟩ (fun r => (∀ c : Dev Cert.AdamWAdaRefIdeal.nD,
      r.2.mem ((c.tc : Thread Cert.AdamWAdaRefIdeal.nD Cert.AdamWAdaRefIdeal.τ).loc Cert.AdamWAdaRefIdeal.main_arg0) = m ((c.tc : Thread Cert.AdamWAdaRefIdeal.nD Cert.AdamWAdaRefIdeal.τ).loc Cert.AdamWAdaRefIdeal.main_arg0)
      ∧ r.2.mem ((c.tc : Thread Cert.AdamWAdaRefIdeal.nD Cert.AdamWAdaRefIdeal.τ).loc Cert.AdamWAdaRefIdeal.main_arg1) = m ((c.tc : Thread Cert.AdamWAdaRefIdeal.nD Cert.AdamWAdaRefIdeal.τ).loc Cert.AdamWAdaRefIdeal.main_arg1)
      ∧ r.2.mem ((c.tc : Thread Cert.AdamWAdaRefIdeal.nD Cert.AdamWAdaRefIdeal.τ).loc Cert.AdamWAdaRefIdeal.main_arg2) = m ((c.tc : Thread Cert.AdamWAdaRefIdeal.nD Cert.AdamWAdaRefIdeal.τ).loc Cert.AdamWAdaRefIdeal.main_arg2)
      ∧ r.2.mem ((c.tc : Thread Cert.AdamWAdaRefIdeal.nD Cert.AdamWAdaRefIdeal.τ).loc Cert.AdamWAdaRefIdeal.main_arg3) = m ((c.tc : Thread Cert.AdamWAdaRefIdeal.nD Cert.AdamWAdaRefIdeal.τ).loc Cert.AdamWAdaRefIdeal.main_arg3))
      ∧ r.2.sem = fun _ => 0)

def quiescent_AdamWUkv [hAdamWUkv : Cert.AdamWUkv.Facts] : Prop :=
  ∀ (m : (ℓ : Loc Cert.AdamWUkv.nD Cert.AdamWUkv.τ Cert.AdamWUkv.sig) → Buf (Elt Bits) ℓ) (g : Dev Cert.AdamWUkv.nD → PrngReg), Pre_AdamWUkv m →
    θ_run (Cert.AdamWUkv.defs (F := Bits)) (onTc (τ := Cert.AdamWUkv.τ) (Cert.AdamWUkv.main (F := Bits))) ⟨m, fun _ => 0, g⟩ (fun r => (∀ c : Dev Cert.AdamWUkv.nD,
      r.2.mem ((c.tc : Thread Cert.AdamWUkv.nD Cert.AdamWUkv.τ).loc Cert.AdamWUkv.main_arg0) = m ((c.tc : Thread Cert.AdamWUkv.nD Cert.AdamWUkv.τ).loc Cert.AdamWUkv.main_arg0)
      ∧ r.2.mem ((c.tc : Thread Cert.AdamWUkv.nD Cert.AdamWUkv.τ).loc Cert.AdamWUkv.main_arg1) = m ((c.tc : Thread Cert.AdamWUkv.nD Cert.AdamWUkv.τ).loc Cert.AdamWUkv.main_arg1)
      ∧ r.2.mem ((c.tc : Thread Cert.AdamWUkv.nD Cert.AdamWUkv.τ).loc Cert.AdamWUkv.main_arg2) = m ((c.tc : Thread Cert.AdamWUkv.nD Cert.AdamWUkv.τ).loc Cert.AdamWUkv.main_arg2)
      ∧ r.2.mem ((c.tc : Thread Cert.AdamWUkv.nD Cert.AdamWUkv.τ).loc Cert.AdamWUkv.main_arg3) = m ((c.tc : Thread Cert.AdamWUkv.nD Cert.AdamWUkv.τ).loc Cert.AdamWUkv.main_arg3))
      ∧ r.2.sem = fun _ => 0)

def quiescent_AdamWUkvIdeal [hAdamWUkvIdeal : Cert.AdamWUkvIdeal.Facts] : Prop :=
  ∀ (m : (ℓ : Loc Cert.AdamWUkvIdeal.nD Cert.AdamWUkvIdeal.τ Cert.AdamWUkvIdeal.sig) → Buf (Elt Ideal) ℓ) (g : Dev Cert.AdamWUkvIdeal.nD → PrngReg), Pre_AdamWUkvIdeal m →
    θ_run (Cert.AdamWUkvIdeal.defs (F := Ideal)) (onTc (τ := Cert.AdamWUkvIdeal.τ) (Cert.AdamWUkvIdeal.main (F := Ideal))) ⟨m, fun _ => 0, g⟩ (fun r => (∀ c : Dev Cert.AdamWUkvIdeal.nD,
      r.2.mem ((c.tc : Thread Cert.AdamWUkvIdeal.nD Cert.AdamWUkvIdeal.τ).loc Cert.AdamWUkvIdeal.main_arg0) = m ((c.tc : Thread Cert.AdamWUkvIdeal.nD Cert.AdamWUkvIdeal.τ).loc Cert.AdamWUkvIdeal.main_arg0)
      ∧ r.2.mem ((c.tc : Thread Cert.AdamWUkvIdeal.nD Cert.AdamWUkvIdeal.τ).loc Cert.AdamWUkvIdeal.main_arg1) = m ((c.tc : Thread Cert.AdamWUkvIdeal.nD Cert.AdamWUkvIdeal.τ).loc Cert.AdamWUkvIdeal.main_arg1)
      ∧ r.2.mem ((c.tc : Thread Cert.AdamWUkvIdeal.nD Cert.AdamWUkvIdeal.τ).loc Cert.AdamWUkvIdeal.main_arg2) = m ((c.tc : Thread Cert.AdamWUkvIdeal.nD Cert.AdamWUkvIdeal.τ).loc Cert.AdamWUkvIdeal.main_arg2)
      ∧ r.2.mem ((c.tc : Thread Cert.AdamWUkvIdeal.nD Cert.AdamWUkvIdeal.τ).loc Cert.AdamWUkvIdeal.main_arg3) = m ((c.tc : Thread Cert.AdamWUkvIdeal.nD Cert.AdamWUkvIdeal.τ).loc Cert.AdamWUkvIdeal.main_arg3))
      ∧ r.2.sem = fun _ => 0)

def quiescent_AdamWUkvRefIdeal [hAdamWUkvRefIdeal : Cert.AdamWUkvRefIdeal.Facts] : Prop :=
  ∀ (m : (ℓ : Loc Cert.AdamWUkvRefIdeal.nD Cert.AdamWUkvRefIdeal.τ Cert.AdamWUkvRefIdeal.sig) → Buf (Elt Ideal) ℓ) (g : Dev Cert.AdamWUkvRefIdeal.nD → PrngReg), Pre_AdamWUkvRefIdeal m →
    θ_run (Cert.AdamWUkvRefIdeal.defs (F := Ideal)) (onTc (τ := Cert.AdamWUkvRefIdeal.τ) (Cert.AdamWUkvRefIdeal.main (F := Ideal))) ⟨m, fun _ => 0, g⟩ (fun r => (∀ c : Dev Cert.AdamWUkvRefIdeal.nD,
      r.2.mem ((c.tc : Thread Cert.AdamWUkvRefIdeal.nD Cert.AdamWUkvRefIdeal.τ).loc Cert.AdamWUkvRefIdeal.main_arg0) = m ((c.tc : Thread Cert.AdamWUkvRefIdeal.nD Cert.AdamWUkvRefIdeal.τ).loc Cert.AdamWUkvRefIdeal.main_arg0)
      ∧ r.2.mem ((c.tc : Thread Cert.AdamWUkvRefIdeal.nD Cert.AdamWUkvRefIdeal.τ).loc Cert.AdamWUkvRefIdeal.main_arg1) = m ((c.tc : Thread Cert.AdamWUkvRefIdeal.nD Cert.AdamWUkvRefIdeal.τ).loc Cert.AdamWUkvRefIdeal.main_arg1)
      ∧ r.2.mem ((c.tc : Thread Cert.AdamWUkvRefIdeal.nD Cert.AdamWUkvRefIdeal.τ).loc Cert.AdamWUkvRefIdeal.main_arg2) = m ((c.tc : Thread Cert.AdamWUkvRefIdeal.nD Cert.AdamWUkvRefIdeal.τ).loc Cert.AdamWUkvRefIdeal.main_arg2)
      ∧ r.2.mem ((c.tc : Thread Cert.AdamWUkvRefIdeal.nD Cert.AdamWUkvRefIdeal.τ).loc Cert.AdamWUkvRefIdeal.main_arg3) = m ((c.tc : Thread Cert.AdamWUkvRefIdeal.nD Cert.AdamWUkvRefIdeal.τ).loc Cert.AdamWUkvRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWFfnOut [hAdamWFfnOut : Cert.AdamWFfnOut.Facts] : Prop :=
  ∀ (m : (ℓ : Loc Cert.AdamWFfnOut.nD Cert.AdamWFfnOut.τ Cert.AdamWFfnOut.sig) → Buf (Elt Bits) ℓ) (g : Dev Cert.AdamWFfnOut.nD → PrngReg), Pre_AdamWFfnOut m →
    θ_run (Cert.AdamWFfnOut.defs (F := Bits)) (onTc (τ := Cert.AdamWFfnOut.τ) (Cert.AdamWFfnOut.main (F := Bits))) ⟨m, fun _ => 0, g⟩ (fun r => (∀ c : Dev Cert.AdamWFfnOut.nD,
      r.2.mem ((c.tc : Thread Cert.AdamWFfnOut.nD Cert.AdamWFfnOut.τ).loc Cert.AdamWFfnOut.main_arg0) = m ((c.tc : Thread Cert.AdamWFfnOut.nD Cert.AdamWFfnOut.τ).loc Cert.AdamWFfnOut.main_arg0)
      ∧ r.2.mem ((c.tc : Thread Cert.AdamWFfnOut.nD Cert.AdamWFfnOut.τ).loc Cert.AdamWFfnOut.main_arg1) = m ((c.tc : Thread Cert.AdamWFfnOut.nD Cert.AdamWFfnOut.τ).loc Cert.AdamWFfnOut.main_arg1)
      ∧ r.2.mem ((c.tc : Thread Cert.AdamWFfnOut.nD Cert.AdamWFfnOut.τ).loc Cert.AdamWFfnOut.main_arg2) = m ((c.tc : Thread Cert.AdamWFfnOut.nD Cert.AdamWFfnOut.τ).loc Cert.AdamWFfnOut.main_arg2)
      ∧ r.2.mem ((c.tc : Thread Cert.AdamWFfnOut.nD Cert.AdamWFfnOut.τ).loc Cert.AdamWFfnOut.main_arg3) = m ((c.tc : Thread Cert.AdamWFfnOut.nD Cert.AdamWFfnOut.τ).loc Cert.AdamWFfnOut.main_arg3))
      ∧ r.2.sem = fun _ => 0)

def quiescent_AdamWFfnOutIdeal [hAdamWFfnOutIdeal : Cert.AdamWFfnOutIdeal.Facts] : Prop :=
  ∀ (m : (ℓ : Loc Cert.AdamWFfnOutIdeal.nD Cert.AdamWFfnOutIdeal.τ Cert.AdamWFfnOutIdeal.sig) → Buf (Elt Ideal) ℓ) (g : Dev Cert.AdamWFfnOutIdeal.nD → PrngReg), Pre_AdamWFfnOutIdeal m →
    θ_run (Cert.AdamWFfnOutIdeal.defs (F := Ideal)) (onTc (τ := Cert.AdamWFfnOutIdeal.τ) (Cert.AdamWFfnOutIdeal.main (F := Ideal))) ⟨m, fun _ => 0, g⟩ (fun r => (∀ c : Dev Cert.AdamWFfnOutIdeal.nD,
      r.2.mem ((c.tc : Thread Cert.AdamWFfnOutIdeal.nD Cert.AdamWFfnOutIdeal.τ).loc Cert.AdamWFfnOutIdeal.main_arg0) = m ((c.tc : Thread Cert.AdamWFfnOutIdeal.nD Cert.AdamWFfnOutIdeal.τ).loc Cert.AdamWFfnOutIdeal.main_arg0)
      ∧ r.2.mem ((c.tc : Thread Cert.AdamWFfnOutIdeal.nD Cert.AdamWFfnOutIdeal.τ).loc Cert.AdamWFfnOutIdeal.main_arg1) = m ((c.tc : Thread Cert.AdamWFfnOutIdeal.nD Cert.AdamWFfnOutIdeal.τ).loc Cert.AdamWFfnOutIdeal.main_arg1)
      ∧ r.2.mem ((c.tc : Thread Cert.AdamWFfnOutIdeal.nD Cert.AdamWFfnOutIdeal.τ).loc Cert.AdamWFfnOutIdeal.main_arg2) = m ((c.tc : Thread Cert.AdamWFfnOutIdeal.nD Cert.AdamWFfnOutIdeal.τ).loc Cert.AdamWFfnOutIdeal.main_arg2)
      ∧ r.2.mem ((c.tc : Thread Cert.AdamWFfnOutIdeal.nD Cert.AdamWFfnOutIdeal.τ).loc Cert.AdamWFfnOutIdeal.main_arg3) = m ((c.tc : Thread Cert.AdamWFfnOutIdeal.nD Cert.AdamWFfnOutIdeal.τ).loc Cert.AdamWFfnOutIdeal.main_arg3))
      ∧ r.2.sem = fun _ => 0)

def quiescent_AdamWFfnOutRefIdeal [hAdamWFfnOutRefIdeal : Cert.AdamWFfnOutRefIdeal.Facts] : Prop :=
  ∀ (m : (ℓ : Loc Cert.AdamWFfnOutRefIdeal.nD Cert.AdamWFfnOutRefIdeal.τ Cert.AdamWFfnOutRefIdeal.sig) → Buf (Elt Ideal) ℓ) (g : Dev Cert.AdamWFfnOutRefIdeal.nD → PrngReg), Pre_AdamWFfnOutRefIdeal m →
    θ_run (Cert.AdamWFfnOutRefIdeal.defs (F := Ideal)) (onTc (τ := Cert.AdamWFfnOutRefIdeal.τ) (Cert.AdamWFfnOutRefIdeal.main (F := Ideal))) ⟨m, fun _ => 0, g⟩ (fun r => (∀ c : Dev Cert.AdamWFfnOutRefIdeal.nD,
      r.2.mem ((c.tc : Thread Cert.AdamWFfnOutRefIdeal.nD Cert.AdamWFfnOutRefIdeal.τ).loc Cert.AdamWFfnOutRefIdeal.main_arg0) = m ((c.tc : Thread Cert.AdamWFfnOutRefIdeal.nD Cert.AdamWFfnOutRefIdeal.τ).loc Cert.AdamWFfnOutRefIdeal.main_arg0)
      ∧ r.2.mem ((c.tc : Thread Cert.AdamWFfnOutRefIdeal.nD Cert.AdamWFfnOutRefIdeal.τ).loc Cert.AdamWFfnOutRefIdeal.main_arg1) = m ((c.tc : Thread Cert.AdamWFfnOutRefIdeal.nD Cert.AdamWFfnOutRefIdeal.τ).loc Cert.AdamWFfnOutRefIdeal.main_arg1)
      ∧ r.2.mem ((c.tc : Thread Cert.AdamWFfnOutRefIdeal.nD Cert.AdamWFfnOutRefIdeal.τ).loc Cert.AdamWFfnOutRefIdeal.main_arg2) = m ((c.tc : Thread Cert.AdamWFfnOutRefIdeal.nD Cert.AdamWFfnOutRefIdeal.τ).loc Cert.AdamWFfnOutRefIdeal.main_arg2)
      ∧ r.2.mem ((c.tc : Thread Cert.AdamWFfnOutRefIdeal.nD Cert.AdamWFfnOutRefIdeal.τ).loc Cert.AdamWFfnOutRefIdeal.main_arg3) = m ((c.tc : Thread Cert.AdamWFfnOutRefIdeal.nD Cert.AdamWFfnOutRefIdeal.τ).loc Cert.AdamWFfnOutRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWUq [hAdamWUq : Cert.AdamWUq.Facts] : Prop :=
  ∀ (m : (ℓ : Loc Cert.AdamWUq.nD Cert.AdamWUq.τ Cert.AdamWUq.sig) → Buf (Elt Bits) ℓ) (g : Dev Cert.AdamWUq.nD → PrngReg), Pre_AdamWUq m →
    θ_run (Cert.AdamWUq.defs (F := Bits)) (onTc (τ := Cert.AdamWUq.τ) (Cert.AdamWUq.main (F := Bits))) ⟨m, fun _ => 0, g⟩ (fun r => (∀ c : Dev Cert.AdamWUq.nD,
      r.2.mem ((c.tc : Thread Cert.AdamWUq.nD Cert.AdamWUq.τ).loc Cert.AdamWUq.main_arg0) = m ((c.tc : Thread Cert.AdamWUq.nD Cert.AdamWUq.τ).loc Cert.AdamWUq.main_arg0)
      ∧ r.2.mem ((c.tc : Thread Cert.AdamWUq.nD Cert.AdamWUq.τ).loc Cert.AdamWUq.main_arg1) = m ((c.tc : Thread Cert.AdamWUq.nD Cert.AdamWUq.τ).loc Cert.AdamWUq.main_arg1)
      ∧ r.2.mem ((c.tc : Thread Cert.AdamWUq.nD Cert.AdamWUq.τ).loc Cert.AdamWUq.main_arg2) = m ((c.tc : Thread Cert.AdamWUq.nD Cert.AdamWUq.τ).loc Cert.AdamWUq.main_arg2)
      ∧ r.2.mem ((c.tc : Thread Cert.AdamWUq.nD Cert.AdamWUq.τ).loc Cert.AdamWUq.main_arg3) = m ((c.tc : Thread Cert.AdamWUq.nD Cert.AdamWUq.τ).loc Cert.AdamWUq.main_arg3))
      ∧ r.2.sem = fun _ => 0)

def quiescent_AdamWUqIdeal [hAdamWUqIdeal : Cert.AdamWUqIdeal.Facts] : Prop :=
  ∀ (m : (ℓ : Loc Cert.AdamWUqIdeal.nD Cert.AdamWUqIdeal.τ Cert.AdamWUqIdeal.sig) → Buf (Elt Ideal) ℓ) (g : Dev Cert.AdamWUqIdeal.nD → PrngReg), Pre_AdamWUqIdeal m →
    θ_run (Cert.AdamWUqIdeal.defs (F := Ideal)) (onTc (τ := Cert.AdamWUqIdeal.τ) (Cert.AdamWUqIdeal.main (F := Ideal))) ⟨m, fun _ => 0, g⟩ (fun r => (∀ c : Dev Cert.AdamWUqIdeal.nD,
      r.2.mem ((c.tc : Thread Cert.AdamWUqIdeal.nD Cert.AdamWUqIdeal.τ).loc Cert.AdamWUqIdeal.main_arg0) = m ((c.tc : Thread Cert.AdamWUqIdeal.nD Cert.AdamWUqIdeal.τ).loc Cert.AdamWUqIdeal.main_arg0)
      ∧ r.2.mem ((c.tc : Thread Cert.AdamWUqIdeal.nD Cert.AdamWUqIdeal.τ).loc Cert.AdamWUqIdeal.main_arg1) = m ((c.tc : Thread Cert.AdamWUqIdeal.nD Cert.AdamWUqIdeal.τ).loc Cert.AdamWUqIdeal.main_arg1)
      ∧ r.2.mem ((c.tc : Thread Cert.AdamWUqIdeal.nD Cert.AdamWUqIdeal.τ).loc Cert.AdamWUqIdeal.main_arg2) = m ((c.tc : Thread Cert.AdamWUqIdeal.nD Cert.AdamWUqIdeal.τ).loc Cert.AdamWUqIdeal.main_arg2)
      ∧ r.2.mem ((c.tc : Thread Cert.AdamWUqIdeal.nD Cert.AdamWUqIdeal.τ).loc Cert.AdamWUqIdeal.main_arg3) = m ((c.tc : Thread Cert.AdamWUqIdeal.nD Cert.AdamWUqIdeal.τ).loc Cert.AdamWUqIdeal.main_arg3))
      ∧ r.2.sem = fun _ => 0)

def quiescent_AdamWUqRefIdeal [hAdamWUqRefIdeal : Cert.AdamWUqRefIdeal.Facts] : Prop :=
  ∀ (m : (ℓ : Loc Cert.AdamWUqRefIdeal.nD Cert.AdamWUqRefIdeal.τ Cert.AdamWUqRefIdeal.sig) → Buf (Elt Ideal) ℓ) (g : Dev Cert.AdamWUqRefIdeal.nD → PrngReg), Pre_AdamWUqRefIdeal m →
    θ_run (Cert.AdamWUqRefIdeal.defs (F := Ideal)) (onTc (τ := Cert.AdamWUqRefIdeal.τ) (Cert.AdamWUqRefIdeal.main (F := Ideal))) ⟨m, fun _ => 0, g⟩ (fun r => (∀ c : Dev Cert.AdamWUqRefIdeal.nD,
      r.2.mem ((c.tc : Thread Cert.AdamWUqRefIdeal.nD Cert.AdamWUqRefIdeal.τ).loc Cert.AdamWUqRefIdeal.main_arg0) = m ((c.tc : Thread Cert.AdamWUqRefIdeal.nD Cert.AdamWUqRefIdeal.τ).loc Cert.AdamWUqRefIdeal.main_arg0)
      ∧ r.2.mem ((c.tc : Thread Cert.AdamWUqRefIdeal.nD Cert.AdamWUqRefIdeal.τ).loc Cert.AdamWUqRefIdeal.main_arg1) = m ((c.tc : Thread Cert.AdamWUqRefIdeal.nD Cert.AdamWUqRefIdeal.τ).loc Cert.AdamWUqRefIdeal.main_arg1)
      ∧ r.2.mem ((c.tc : Thread Cert.AdamWUqRefIdeal.nD Cert.AdamWUqRefIdeal.τ).loc Cert.AdamWUqRefIdeal.main_arg2) = m ((c.tc : Thread Cert.AdamWUqRefIdeal.nD Cert.AdamWUqRefIdeal.τ).loc Cert.AdamWUqRefIdeal.main_arg2)
      ∧ r.2.mem ((c.tc : Thread Cert.AdamWUqRefIdeal.nD Cert.AdamWUqRefIdeal.τ).loc Cert.AdamWUqRefIdeal.main_arg3) = m ((c.tc : Thread Cert.AdamWUqRefIdeal.nD Cert.AdamWUqRefIdeal.τ).loc Cert.AdamWUqRefIdeal.main_arg3))
      ∧ r.2.sem = fun _ => 0)

def quiescent_AdamWFfnIn [hAdamWFfnIn : Cert.AdamWFfnIn.Facts] : Prop :=
  ∀ (m : (ℓ : Loc Cert.AdamWFfnIn.nD Cert.AdamWFfnIn.τ Cert.AdamWFfnIn.sig) → Buf (Elt Bits) ℓ) (g : Dev Cert.AdamWFfnIn.nD → PrngReg), Pre_AdamWFfnIn m →
    θ_run (Cert.AdamWFfnIn.defs (F := Bits)) (onTc (τ := Cert.AdamWFfnIn.τ) (Cert.AdamWFfnIn.main (F := Bits))) ⟨m, fun _ => 0, g⟩ (fun r => (∀ c : Dev Cert.AdamWFfnIn.nD,
      r.2.mem ((c.tc : Thread Cert.AdamWFfnIn.nD Cert.AdamWFfnIn.τ).loc Cert.AdamWFfnIn.main_arg0) = m ((c.tc : Thread Cert.AdamWFfnIn.nD Cert.AdamWFfnIn.τ).loc Cert.AdamWFfnIn.main_arg0)
      ∧ r.2.mem ((c.tc : Thread Cert.AdamWFfnIn.nD Cert.AdamWFfnIn.τ).loc Cert.AdamWFfnIn.main_arg1) = m ((c.tc : Thread Cert.AdamWFfnIn.nD Cert.AdamWFfnIn.τ).loc Cert.AdamWFfnIn.main_arg1)
      ∧ r.2.mem ((c.tc : Thread Cert.AdamWFfnIn.nD Cert.AdamWFfnIn.τ).loc Cert.AdamWFfnIn.main_arg2) = m ((c.tc : Thread Cert.AdamWFfnIn.nD Cert.AdamWFfnIn.τ).loc Cert.AdamWFfnIn.main_arg2)
      ∧ r.2.mem ((c.tc : Thread Cert.AdamWFfnIn.nD Cert.AdamWFfnIn.τ).loc Cert.AdamWFfnIn.main_arg3) = m ((c.tc : Thread Cert.AdamWFfnIn.nD Cert.AdamWFfnIn.τ).loc Cert.AdamWFfnIn.main_arg3))
      ∧ r.2.sem = fun _ => 0)

def quiescent_AdamWFfnInIdeal [hAdamWFfnInIdeal : Cert.AdamWFfnInIdeal.Facts] : Prop :=
  ∀ (m : (ℓ : Loc Cert.AdamWFfnInIdeal.nD Cert.AdamWFfnInIdeal.τ Cert.AdamWFfnInIdeal.sig) → Buf (Elt Ideal) ℓ) (g : Dev Cert.AdamWFfnInIdeal.nD → PrngReg), Pre_AdamWFfnInIdeal m →
    θ_run (Cert.AdamWFfnInIdeal.defs (F := Ideal)) (onTc (τ := Cert.AdamWFfnInIdeal.τ) (Cert.AdamWFfnInIdeal.main (F := Ideal))) ⟨m, fun _ => 0, g⟩ (fun r => (∀ c : Dev Cert.AdamWFfnInIdeal.nD,
      r.2.mem ((c.tc : Thread Cert.AdamWFfnInIdeal.nD Cert.AdamWFfnInIdeal.τ).loc Cert.AdamWFfnInIdeal.main_arg0) = m ((c.tc : Thread Cert.AdamWFfnInIdeal.nD Cert.AdamWFfnInIdeal.τ).loc Cert.AdamWFfnInIdeal.main_arg0)
      ∧ r.2.mem ((c.tc : Thread Cert.AdamWFfnInIdeal.nD Cert.AdamWFfnInIdeal.τ).loc Cert.AdamWFfnInIdeal.main_arg1) = m ((c.tc : Thread Cert.AdamWFfnInIdeal.nD Cert.AdamWFfnInIdeal.τ).loc Cert.AdamWFfnInIdeal.main_arg1)
      ∧ r.2.mem ((c.tc : Thread Cert.AdamWFfnInIdeal.nD Cert.AdamWFfnInIdeal.τ).loc Cert.AdamWFfnInIdeal.main_arg2) = m ((c.tc : Thread Cert.AdamWFfnInIdeal.nD Cert.AdamWFfnInIdeal.τ).loc Cert.AdamWFfnInIdeal.main_arg2)
      ∧ r.2.mem ((c.tc : Thread Cert.AdamWFfnInIdeal.nD Cert.AdamWFfnInIdeal.τ).loc Cert.AdamWFfnInIdeal.main_arg3) = m ((c.tc : Thread Cert.AdamWFfnInIdeal.nD Cert.AdamWFfnInIdeal.τ).loc Cert.AdamWFfnInIdeal.main_arg3))
      ∧ r.2.sem = fun _ => 0)

def quiescent_AdamWFfnInRefIdeal [hAdamWFfnInRefIdeal : Cert.AdamWFfnInRefIdeal.Facts] : Prop :=
  ∀ (m : (ℓ : Loc Cert.AdamWFfnInRefIdeal.nD Cert.AdamWFfnInRefIdeal.τ Cert.AdamWFfnInRefIdeal.sig) → Buf (Elt Ideal) ℓ) (g : Dev Cert.AdamWFfnInRefIdeal.nD → PrngReg), Pre_AdamWFfnInRefIdeal m →
    θ_run (Cert.AdamWFfnInRefIdeal.defs (F := Ideal)) (onTc (τ := Cert.AdamWFfnInRefIdeal.τ) (Cert.AdamWFfnInRefIdeal.main (F := Ideal))) ⟨m, fun _ => 0, g⟩ (fun r => (∀ c : Dev Cert.AdamWFfnInRefIdeal.nD,
      r.2.mem ((c.tc : Thread Cert.AdamWFfnInRefIdeal.nD Cert.AdamWFfnInRefIdeal.τ).loc Cert.AdamWFfnInRefIdeal.main_arg0) = m ((c.tc : Thread Cert.AdamWFfnInRefIdeal.nD Cert.AdamWFfnInRefIdeal.τ).loc Cert.AdamWFfnInRefIdeal.main_arg0)
      ∧ r.2.mem ((c.tc : Thread Cert.AdamWFfnInRefIdeal.nD Cert.AdamWFfnInRefIdeal.τ).loc Cert.AdamWFfnInRefIdeal.main_arg1) = m ((c.tc : Thread Cert.AdamWFfnInRefIdeal.nD Cert.AdamWFfnInRefIdeal.τ).loc Cert.AdamWFfnInRefIdeal.main_arg1)
      ∧ r.2.mem ((c.tc : Thread Cert.AdamWFfnInRefIdeal.nD Cert.AdamWFfnInRefIdeal.τ).loc Cert.AdamWFfnInRefIdeal.main_arg2) = m ((c.tc : Thread Cert.AdamWFfnInRefIdeal.nD Cert.AdamWFfnInRefIdeal.τ).loc Cert.AdamWFfnInRefIdeal.main_arg2)
      ∧ r.2.mem ((c.tc : Thread Cert.AdamWFfnInRefIdeal.nD Cert.AdamWFfnInRefIdeal.τ).loc Cert.AdamWFfnInRefIdeal.main_arg3) = m ((c.tc : Thread Cert.AdamWFfnInRefIdeal.nD Cert.AdamWFfnInRefIdeal.τ).loc Cert.AdamWFfnInRefIdeal.main_arg3))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v71)) (v3 : (c : Dev Cert.KernelIdeal.nD) → Buf (Elt Ideal) ((c.tc : Thread Cert.KernelIdeal.nD Cert.KernelIdeal.τ).loc Cert.KernelIdeal.main_v73)) (v4 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_v73) = v3 c
          ∧ r.2.mem ((c.tc : Thread Cert.KernelIdeal.nD Cert.KernelIdeal.τ).loc Cert.KernelIdeal.main_v68) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v3) = v0 c
          ∧ r.2.mem ((c.tc : Thread Cert.FfnInRefIdeal.nD Cert.FfnInRefIdeal.τ).loc Cert.FfnInRefIdeal.main_v4) = v1 c
          ∧ r.2.mem ((c.tc : Thread Cert.FfnInRefIdeal.nD Cert.FfnInRefIdeal.τ).loc Cert.FfnInRefIdeal.main_v7) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)
      ∧ m' ((c.tc : Thread Cert.DH2RefIdeal.nD Cert.DH2RefIdeal.τ).loc Cert.DH2RefIdeal.main_arg3) = m ((c.tc : Thread Cert.DH2Ideal.nD Cert.DH2Ideal.τ).loc Cert.DH2Ideal.main_arg3)) →
    ∃ (v0 : (c : Dev Cert.DH2Ideal.nD) → Buf (Elt Ideal) ((c.tc : Thread Cert.DH2Ideal.nD Cert.DH2Ideal.τ).loc Cert.DH2Ideal.main_v4)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v4) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
          ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v7) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2)
          ∧ r.2.mem ((c.tc : Thread Cert.DH2RefIdeal.nD Cert.DH2RefIdeal.τ).loc Cert.DH2RefIdeal.main_arg3) = m' ((c.tc : Thread Cert.DH2RefIdeal.nD Cert.DH2RefIdeal.τ).loc Cert.DH2RefIdeal.main_arg3))

def preserves_GwFfnIn_GwFfnInIdeal : Prop :=
  True

def algebraic_GwFfnInIdeal_GwFfnInRefIdeal [hGwFfnInIdeal : Cert.GwFfnInIdeal.Facts] [hGwFfnInRefIdeal : Cert.GwFfnInRefIdeal.Facts] : Prop :=
  ∀ (m : (ℓ : Loc Cert.GwFfnInIdeal.nD Cert.GwFfnInIdeal.τ Cert.GwFfnInIdeal.sig) → Buf (Elt Ideal) ℓ) (g : Dev Cert.GwFfnInIdeal.nD → PrngReg)
    (m' : (ℓ : Loc Cert.GwFfnInRefIdeal.nD Cert.GwFfnInRefIdeal.τ Cert.GwFfnInRefIdeal.sig) → Buf (Elt Ideal) ℓ) (g' : Dev Cert.GwFfnInRefIdeal.nD → PrngReg), Pre_GwFfnInIdeal m →
    (∀ c : Dev Cert.GwFfnInIdeal.nD,
      m' ((c.tc : Thread Cert.GwFfnInRefIdeal.nD Cert.GwFfnInRefIdeal.τ).loc Cert.GwFfnInRefIdeal.main_arg0) = m ((c.tc : Thread Cert.GwFfnInIdeal.nD Cert.GwFfnInIdeal.τ).loc Cert.GwFfnInIdeal.main_arg0)
      ∧ m' ((c.tc : Thread Cert.GwFfnInRefIdeal.nD Cert.GwFfnInRefIdeal.τ).loc Cert.GwFfnInRefIdeal.main_arg1) = m ((c.tc : Thread Cert.GwFfnInIdeal.nD Cert.GwFfnInIdeal.τ).loc Cert.GwFfnInIdeal.main_arg1)
      ∧ m' ((c.tc : Thread Cert.GwFfnInRefIdeal.nD Cert.GwFfnInRefIdeal.τ).loc Cert.GwFfnInRefIdeal.main_arg2) = m ((c.tc : Thread Cert.GwFfnInIdeal.nD Cert.GwFfnInIdeal.τ).loc Cert.GwFfnInIdeal.main_arg2)
      ∧ m' ((c.tc : Thread Cert.GwFfnInRefIdeal.nD Cert.GwFfnInRefIdeal.τ).loc Cert.GwFfnInRefIdeal.main_arg3) = m ((c.tc : Thread Cert.GwFfnInIdeal.nD Cert.GwFfnInIdeal.τ).loc Cert.GwFfnInIdeal.main_arg3)) →
    ∃ (v0 : (c : Dev Cert.GwFfnInIdeal.nD) → Buf (Elt Ideal) ((c.tc : Thread Cert.GwFfnInIdeal.nD Cert.GwFfnInIdeal.τ).loc Cert.GwFfnInIdeal.main_v3)),
      θ_run (Cert.GwFfnInIdeal.defs (F := Ideal)) (onTc (τ := Cert.GwFfnInIdeal.τ) (Cert.GwFfnInIdeal.main (F := Ideal))) ⟨m, fun _ => 0, g⟩ (fun r => ∀ c : Dev Cert.GwFfnInIdeal.nD,
          r.2.mem ((c.tc : Thread Cert.GwFfnInIdeal.nD Cert.GwFfnInIdeal.τ).loc Cert.GwFfnInIdeal.main_v3) = v0 c
          ∧ r.2.mem ((c.tc : Thread Cert.GwFfnInIdeal.nD Cert.GwFfnInIdeal.τ).loc Cert.GwFfnInIdeal.main_arg0) = m ((c.tc : Thread Cert.GwFfnInIdeal.nD Cert.GwFfnInIdeal.τ).loc Cert.GwFfnInIdeal.main_arg0)
          ∧ r.2.mem ((c.tc : Thread Cert.GwFfnInIdeal.nD Cert.GwFfnInIdeal.τ).loc Cert.GwFfnInIdeal.main_arg1) = m ((c.tc : Thread Cert.GwFfnInIdeal.nD Cert.GwFfnInIdeal.τ).loc Cert.GwFfnInIdeal.main_arg1)
          ∧ r.2.mem ((c.tc : Thread Cert.GwFfnInIdeal.nD Cert.GwFfnInIdeal.τ).loc Cert.GwFfnInIdeal.main_arg2) = m ((c.tc : Thread Cert.GwFfnInIdeal.nD Cert.GwFfnInIdeal.τ).loc Cert.GwFfnInIdeal.main_arg2)
          ∧ r.2.mem ((c.tc : Thread Cert.GwFfnInIdeal.nD Cert.GwFfnInIdeal.τ).loc Cert.GwFfnInIdeal.main_arg3) = m ((c.tc : Thread Cert.GwFfnInIdeal.nD Cert.GwFfnInIdeal.τ).loc Cert.GwFfnInIdeal.main_arg3))
      ∧ θ_run (Cert.GwFfnInRefIdeal.defs (F := Ideal)) (onTc (τ := Cert.GwFfnInRefIdeal.τ) (Cert.GwFfnInRefIdeal.main (F := Ideal))) ⟨m', fun _ => 0, g'⟩ (fun r => ∀ c : Dev Cert.GwFfnInRefIdeal.nD,
          r.2.mem ((c.tc : Thread Cert.GwFfnInRefIdeal.nD Cert.GwFfnInRefIdeal.τ).loc Cert.GwFfnInRefIdeal.main_v8) = v0 c
          ∧ r.2.mem ((c.tc : Thread Cert.GwFfnInRefIdeal.nD Cert.GwFfnInRefIdeal.τ).loc Cert.GwFfnInRefIdeal.main_arg0) = m' ((c.tc : Thread Cert.GwFfnInRefIdeal.nD Cert.GwFfnInRefIdeal.τ).loc Cert.GwFfnInRefIdeal.main_arg0)
          ∧ r.2.mem ((c.tc : Thread Cert.GwFfnInRefIdeal.nD Cert.GwFfnInRefIdeal.τ).loc Cert.GwFfnInRefIdeal.main_arg1) = m' ((c.tc : Thread Cert.GwFfnInRefIdeal.nD Cert.GwFfnInRefIdeal.τ).loc Cert.GwFfnInRefIdeal.main_arg1)
          ∧ r.2.mem ((c.tc : Thread Cert.GwFfnInRefIdeal.nD Cert.GwFfnInRefIdeal.τ).loc Cert.GwFfnInRefIdeal.main_arg2) = m' ((c.tc : Thread Cert.GwFfnInRefIdeal.nD Cert.GwFfnInRefIdeal.τ).loc Cert.GwFfnInRefIdeal.main_arg2)
          ∧ r.2.mem ((c.tc : Thread Cert.GwFfnInRefIdeal.nD Cert.GwFfnInRefIdeal.τ).loc Cert.GwFfnInRefIdeal.main_arg3) = m' ((c.tc : Thread Cert.GwFfnInRefIdeal.nD Cert.GwFfnInRefIdeal.τ).loc Cert.GwFfnInRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v1) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_GwFfnOut_GwFfnOutIdeal : Prop :=
  True

def algebraic_GwFfnOutIdeal_GwFfnOutRefIdeal [hGwFfnOutIdeal : Cert.GwFfnOutIdeal.Facts] [hGwFfnOutRefIdeal : Cert.GwFfnOutRefIdeal.Facts] : Prop :=
  ∀ (m : (ℓ : Loc Cert.GwFfnOutIdeal.nD Cert.GwFfnOutIdeal.τ Cert.GwFfnOutIdeal.sig) → Buf (Elt Ideal) ℓ) (g : Dev Cert.GwFfnOutIdeal.nD → PrngReg)
    (m' : (ℓ : Loc Cert.GwFfnOutRefIdeal.nD Cert.GwFfnOutRefIdeal.τ Cert.GwFfnOutRefIdeal.sig) → Buf (Elt Ideal) ℓ) (g' : Dev Cert.GwFfnOutRefIdeal.nD → PrngReg), Pre_GwFfnOutIdeal m →
    (∀ c : Dev Cert.GwFfnOutIdeal.nD,
      m' ((c.tc : Thread Cert.GwFfnOutRefIdeal.nD Cert.GwFfnOutRefIdeal.τ).loc Cert.GwFfnOutRefIdeal.main_arg0) = m ((c.tc : Thread Cert.GwFfnOutIdeal.nD Cert.GwFfnOutIdeal.τ).loc Cert.GwFfnOutIdeal.main_arg0)
      ∧ m' ((c.tc : Thread Cert.GwFfnOutRefIdeal.nD Cert.GwFfnOutRefIdeal.τ).loc Cert.GwFfnOutRefIdeal.main_arg1) = m ((c.tc : Thread Cert.GwFfnOutIdeal.nD Cert.GwFfnOutIdeal.τ).loc Cert.GwFfnOutIdeal.main_arg1)
      ∧ m' ((c.tc : Thread Cert.GwFfnOutRefIdeal.nD Cert.GwFfnOutRefIdeal.τ).loc Cert.GwFfnOutRefIdeal.main_arg2) = m ((c.tc : Thread Cert.GwFfnOutIdeal.nD Cert.GwFfnOutIdeal.τ).loc Cert.GwFfnOutIdeal.main_arg2)) →
    ∃ (v0 : (c : Dev Cert.GwFfnOutIdeal.nD) → Buf (Elt Ideal) ((c.tc : Thread Cert.GwFfnOutIdeal.nD Cert.GwFfnOutIdeal.τ).loc Cert.GwFfnOutIdeal.main_v2)),
      θ_run (Cert.GwFfnOutIdeal.defs (F := Ideal)) (onTc (τ := Cert.GwFfnOutIdeal.τ) (Cert.GwFfnOutIdeal.main (F := Ideal))) ⟨m, fun _ => 0, g⟩ (fun r => ∀ c : Dev Cert.GwFfnOutIdeal.nD,
          r.2.mem ((c.tc : Thread Cert.GwFfnOutIdeal.nD Cert.GwFfnOutIdeal.τ).loc Cert.GwFfnOutIdeal.main_v2) = v0 c
          ∧ r.2.mem ((c.tc : Thread Cert.GwFfnOutIdeal.nD Cert.GwFfnOutIdeal.τ).loc Cert.GwFfnOutIdeal.main_arg0) = m ((c.tc : Thread Cert.GwFfnOutIdeal.nD Cert.GwFfnOutIdeal.τ).loc Cert.GwFfnOutIdeal.main_arg0)
          ∧ r.2.mem ((c.tc : Thread Cert.GwFfnOutIdeal.nD Cert.GwFfnOutIdeal.τ).loc Cert.GwFfnOutIdeal.main_arg1) = m ((c.tc : Thread Cert.GwFfnOutIdeal.nD Cert.GwFfnOutIdeal.τ).loc Cert.GwFfnOutIdeal.main_arg1)
          ∧ r.2.mem ((c.tc : Thread Cert.GwFfnOutIdeal.nD Cert.GwFfnOutIdeal.τ).loc Cert.GwFfnOutIdeal.main_arg2) = m ((c.tc : Thread Cert.GwFfnOutIdeal.nD Cert.GwFfnOutIdeal.τ).loc Cert.GwFfnOutIdeal.main_arg2))
      ∧ θ_run (Cert.GwFfnOutRefIdeal.defs (F := Ideal)) (onTc (τ := Cert.GwFfnOutRefIdeal.τ) (Cert.GwFfnOutRefIdeal.main (F := Ideal))) ⟨m', fun _ => 0, g'⟩ (fun r => ∀ c : Dev Cert.GwFfnOutRefIdeal.nD,
          r.2.mem ((c.tc : Thread Cert.GwFfnOutRefIdeal.nD Cert.GwFfnOutRefIdeal.τ).loc Cert.GwFfnOutRefIdeal.main_v4) = v0 c
          ∧ r.2.mem ((c.tc : Thread Cert.GwFfnOutRefIdeal.nD Cert.GwFfnOutRefIdeal.τ).loc Cert.GwFfnOutRefIdeal.main_arg0) = m' ((c.tc : Thread Cert.GwFfnOutRefIdeal.nD Cert.GwFfnOutRefIdeal.τ).loc Cert.GwFfnOutRefIdeal.main_arg0)
          ∧ r.2.mem ((c.tc : Thread Cert.GwFfnOutRefIdeal.nD Cert.GwFfnOutRefIdeal.τ).loc Cert.GwFfnOutRefIdeal.main_arg1) = m' ((c.tc : Thread Cert.GwFfnOutRefIdeal.nD Cert.GwFfnOutRefIdeal.τ).loc Cert.GwFfnOutRefIdeal.main_arg1)
          ∧ r.2.mem ((c.tc : Thread Cert.GwFfnOutRefIdeal.nD Cert.GwFfnOutRefIdeal.τ).loc Cert.GwFfnOutRefIdeal.main_arg2) = m' ((c.tc : Thread Cert.GwFfnOutRefIdeal.nD Cert.GwFfnOutRefIdeal.τ).loc Cert.GwFfnOutRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v1) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_DY_DYIdeal : Prop :=
  True

def algebraic_DYIdeal_DYRefIdeal [hDYIdeal : Cert.DYIdeal.Facts] [hDYRefIdeal : Cert.DYRefIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYRefIdeal.nD Cert.DYRefIdeal.τ Cert.DYRefIdeal.sig) → Buf (Elt Ideal) ℓ) (g' : Dev Cert.DYRefIdeal.nD → PrngReg), Pre_DYIdeal m →
    (∀ c : Dev Cert.DYIdeal.nD,
      m' ((c.tc : Thread Cert.DYRefIdeal.nD Cert.DYRefIdeal.τ).loc Cert.DYRefIdeal.main_arg0) = m ((c.tc : Thread Cert.DYIdeal.nD Cert.DYIdeal.τ).loc Cert.DYIdeal.main_arg0)
      ∧ m' ((c.tc : Thread Cert.DYRefIdeal.nD Cert.DYRefIdeal.τ).loc Cert.DYRefIdeal.main_arg1) = m ((c.tc : Thread Cert.DYIdeal.nD Cert.DYIdeal.τ).loc Cert.DYIdeal.main_arg1)
      ∧ m' ((c.tc : Thread Cert.DYRefIdeal.nD Cert.DYRefIdeal.τ).loc Cert.DYRefIdeal.main_arg2) = m ((c.tc : Thread Cert.DYIdeal.nD Cert.DYIdeal.τ).loc Cert.DYIdeal.main_arg2)) →
    ∃ (v0 : (c : Dev Cert.DYIdeal.nD) → Buf (Elt Ideal) ((c.tc : Thread Cert.DYIdeal.nD Cert.DYIdeal.τ).loc Cert.DYIdeal.main_v2)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v2) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1)
          ∧ r.2.mem ((c.tc : Thread Cert.DYIdeal.nD Cert.DYIdeal.τ).loc Cert.DYIdeal.main_arg2) = m ((c.tc : Thread Cert.DYIdeal.nD Cert.DYIdeal.τ).loc Cert.DYIdeal.main_arg2))
      ∧ θ_run (Cert.DYRefIdeal.defs (F := Ideal)) (onTc (τ := Cert.DYRefIdeal.τ) (Cert.DYRefIdeal.main (F := Ideal))) ⟨m', fun _ => 0, g'⟩ (fun r => ∀ c : Dev Cert.DYRefIdeal.nD,
          r.2.mem ((c.tc : Thread Cert.DYRefIdeal.nD Cert.DYRefIdeal.τ).loc Cert.DYRefIdeal.main_v4) = v0 c
          ∧ r.2.mem ((c.tc : Thread Cert.DYRefIdeal.nD Cert.DYRefIdeal.τ).loc Cert.DYRefIdeal.main_arg0) = m' ((c.tc : Thread Cert.DYRefIdeal.nD Cert.DYRefIdeal.τ).loc Cert.DYRefIdeal.main_arg0)
          ∧ r.2.mem ((c.tc : Thread Cert.DYRefIdeal.nD Cert.DYRefIdeal.τ).loc Cert.DYRefIdeal.main_arg1) = m' ((c.tc : Thread Cert.DYRefIdeal.nD Cert.DYRefIdeal.τ).loc Cert.DYRefIdeal.main_arg1)
          ∧ r.2.mem ((c.tc : Thread Cert.DYRefIdeal.nD Cert.DYRefIdeal.τ).loc Cert.DYRefIdeal.main_arg2) = m' ((c.tc : Thread Cert.DYRefIdeal.nD Cert.DYRefIdeal.τ).loc Cert.DYRefIdeal.main_arg2))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)
      ∧ m' ((c.tc : Thread Cert.GwOutRefIdeal.nD Cert.GwOutRefIdeal.τ).loc Cert.GwOutRefIdeal.main_arg2) = m ((c.tc : Thread Cert.GwOutIdeal.nD Cert.GwOutIdeal.τ).loc Cert.GwOutIdeal.main_arg2)) →
    ∃ (v0 : (c : Dev Cert.GwOutIdeal.nD) → Buf (Elt Ideal) ((c.tc : Thread Cert.GwOutIdeal.nD Cert.GwOutIdeal.τ).loc Cert.GwOutIdeal.main_v2)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v2) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1)
          ∧ r.2.mem ((c.tc : Thread Cert.GwOutIdeal.nD Cert.GwOutIdeal.τ).loc Cert.GwOutIdeal.main_arg2) = m ((c.tc : Thread Cert.GwOutIdeal.nD Cert.GwOutIdeal.τ).loc Cert.GwOutIdeal.main_arg2))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v4) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1)
          ∧ r.2.mem ((c.tc : Thread Cert.GwOutRefIdeal.nD Cert.GwOutRefIdeal.τ).loc Cert.GwOutRefIdeal.main_arg2) = m' ((c.tc : Thread Cert.GwOutRefIdeal.nD Cert.GwOutRefIdeal.τ).loc Cert.GwOutRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v13)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)) →
    ∃ (v0 : (c : Dev Cert.DH1Ideal.nD) → Buf (Elt Ideal) ((c.tc : Thread Cert.DH1Ideal.nD Cert.DH1Ideal.τ).loc Cert.DH1Ideal.main_v15)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v15) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v4) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)
      ∧ m' ((c.tc : Thread Cert.GwInRefIdeal.nD Cert.GwInRefIdeal.τ).loc Cert.GwInRefIdeal.main_arg2) = m ((c.tc : Thread Cert.GwInIdeal.nD Cert.GwInIdeal.τ).loc Cert.GwInIdeal.main_arg2)) →
    ∃ (v0 : (c : Dev Cert.GwInIdeal.nD) → Buf (Elt Ideal) ((c.tc : Thread Cert.GwInIdeal.nD Cert.GwInIdeal.τ).loc Cert.GwInIdeal.main_v12)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v12) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1)
          ∧ r.2.mem ((c.tc : Thread Cert.GwInIdeal.nD Cert.GwInIdeal.τ).loc Cert.GwInIdeal.main_arg2) = m ((c.tc : Thread Cert.GwInIdeal.nD Cert.GwInIdeal.τ).loc Cert.GwInIdeal.main_arg2))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v5) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1)
          ∧ r.2.mem ((c.tc : Thread Cert.GwInRefIdeal.nD Cert.GwInRefIdeal.τ).loc Cert.GwInRefIdeal.main_arg2) = m' ((c.tc : Thread Cert.GwInRefIdeal.nD Cert.GwInRefIdeal.τ).loc Cert.GwInRefIdeal.main_arg2))

def preserves_AdamWAda_AdamWAdaIdeal : Prop :=
  True

def algebraic_AdamWAdaIdeal_AdamWAdaRefIdeal [hAdamWAdaIdeal : Cert.AdamWAdaIdeal.Facts] [hAdamWAdaRefIdeal : Cert.AdamWAdaRefIdeal.Facts] : Prop :=
  ∀ (m : (ℓ : Loc Cert.AdamWAdaIdeal.nD Cert.AdamWAdaIdeal.τ Cert.AdamWAdaIdeal.sig) → Buf (Elt Ideal) ℓ) (g : Dev Cert.AdamWAdaIdeal.nD → PrngReg)
    (m' : (ℓ : Loc Cert.AdamWAdaRefIdeal.nD Cert.AdamWAdaRefIdeal.τ Cert.AdamWAdaRefIdeal.sig) → Buf (Elt Ideal) ℓ) (g' : Dev Cert.AdamWAdaRefIdeal.nD → PrngReg), Pre_AdamWAdaIdeal m →
    (∀ c : Dev Cert.AdamWAdaIdeal.nD,
      m' ((c.tc : Thread Cert.AdamWAdaRefIdeal.nD Cert.AdamWAdaRefIdeal.τ).loc Cert.AdamWAdaRefIdeal.main_arg0) = m ((c.tc : Thread Cert.AdamWAdaIdeal.nD Cert.AdamWAdaIdeal.τ).loc Cert.AdamWAdaIdeal.main_arg0)
      ∧ m' ((c.tc : Thread Cert.AdamWAdaRefIdeal.nD Cert.AdamWAdaRefIdeal.τ).loc Cert.AdamWAdaRefIdeal.main_arg1) = m ((c.tc : Thread Cert.AdamWAdaIdeal.nD Cert.AdamWAdaIdeal.τ).loc Cert.AdamWAdaIdeal.main_arg1)
      ∧ m' ((c.tc : Thread Cert.AdamWAdaRefIdeal.nD Cert.AdamWAdaRefIdeal.τ).loc Cert.AdamWAdaRefIdeal.main_arg2) = m ((c.tc : Thread Cert.AdamWAdaIdeal.nD Cert.AdamWAdaIdeal.τ).loc Cert.AdamWAdaIdeal.main_arg2)
      ∧ m' ((c.tc : Thread Cert.AdamWAdaRefIdeal.nD Cert.AdamWAdaRefIdeal.τ).loc Cert.AdamWAdaRefIdeal.main_arg3) = m ((c.tc : Thread Cert.AdamWAdaIdeal.nD Cert.AdamWAdaIdeal.τ).loc Cert.AdamWAdaIdeal.main_arg3)) →
    ∃ (v0 : (c : Dev Cert.AdamWAdaIdeal.nD) → Buf (Elt Ideal) ((c.tc : Thread Cert.AdamWAdaIdeal.nD Cert.AdamWAdaIdeal.τ).loc Cert.AdamWAdaIdeal.main_v0_0)) (v1 : (c : Dev Cert.AdamWAdaIdeal.nD) → Buf (Elt Ideal) ((c.tc : Thread Cert.AdamWAdaIdeal.nD Cert.AdamWAdaIdeal.τ).loc Cert.AdamWAdaIdeal.main_v0_1)) (v2 : (c : Dev Cert.AdamWAdaIdeal.nD) → Buf (Elt Ideal) ((c.tc : Thread Cert.AdamWAdaIdeal.nD Cert.AdamWAdaIdeal.τ).loc Cert.AdamWAdaIdeal.main_v0_2)) (v3 : (c : Dev Cert.AdamWAdaIdeal.nD) → Buf (Elt Ideal) ((c.tc : Thread Cert.AdamWAdaIdeal.nD Cert.AdamWAdaIdeal.τ).loc Cert.AdamWAdaIdeal.main_v0_3)),
      θ_run (Cert.AdamWAdaIdeal.defs (F := Ideal)) (onTc (τ := Cert.AdamWAdaIdeal.τ) (Cert.AdamWAdaIdeal.main (F := Ideal))) ⟨m, fun _ => 0, g⟩ (fun r => ∀ c : Dev Cert.AdamWAdaIdeal.nD,
          r.2.mem ((c.tc : Thread Cert.AdamWAdaIdeal.nD Cert.AdamWAdaIdeal.τ).loc Cert.AdamWAdaIdeal.main_v0_0) = v0 c
          ∧ r.2.mem ((c.tc : Thread Cert.AdamWAdaIdeal.nD Cert.AdamWAdaIdeal.τ).loc Cert.AdamWAdaIdeal.main_v0_1) = v1 c
          ∧ r.2.mem ((c.tc : Thread Cert.AdamWAdaIdeal.nD Cert.AdamWAdaIdeal.τ).loc Cert.AdamWAdaIdeal.main_v0_2) = v2 c
          ∧ r.2.mem ((c.tc : Thread Cert.AdamWAdaIdeal.nD Cert.AdamWAdaIdeal.τ).loc Cert.AdamWAdaIdeal.main_v0_3) = v3 c
          ∧ r.2.mem ((c.tc : Thread Cert.AdamWAdaIdeal.nD Cert.AdamWAdaIdeal.τ).loc Cert.AdamWAdaIdeal.main_arg0) = m ((c.tc : Thread Cert.AdamWAdaIdeal.nD Cert.AdamWAdaIdeal.τ).loc Cert.AdamWAdaIdeal.main_arg0)
          ∧ r.2.mem ((c.tc : Thread Cert.AdamWAdaIdeal.nD Cert.AdamWAdaIdeal.τ).loc Cert.AdamWAdaIdeal.main_arg1) = m ((c.tc : Thread Cert.AdamWAdaIdeal.nD Cert.AdamWAdaIdeal.τ).loc Cert.AdamWAdaIdeal.main_arg1)
          ∧ r.2.mem ((c.tc : Thread Cert.AdamWAdaIdeal.nD Cert.AdamWAdaIdeal.τ).loc Cert.AdamWAdaIdeal.main_arg2) = m ((c.tc : Thread Cert.AdamWAdaIdeal.nD Cert.AdamWAdaIdeal.τ).loc Cert.AdamWAdaIdeal.main_arg2)
          ∧ r.2.mem ((c.tc : Thread Cert.AdamWAdaIdeal.nD Cert.AdamWAdaIdeal.τ).loc Cert.AdamWAdaIdeal.main_arg3) = m ((c.tc : Thread Cert.AdamWAdaIdeal.nD Cert.AdamWAdaIdeal.τ).loc Cert.AdamWAdaIdeal.main_arg3))
      ∧ θ_run (Cert.AdamWAdaRefIdeal.defs (F := Ideal)) (onTc (τ := Cert.AdamWAdaRefIdeal.τ) (Cert.AdamWAdaRefIdeal.main (F := Ideal))) ⟨m', fun _ => 0, g'⟩ (fun r => ∀ c : Dev Cert.AdamWAdaRefIdeal.nD,
          r.2.mem ((c.tc : Thread Cert.AdamWAdaRefIdeal.nD Cert.AdamWAdaRefIdeal.τ).loc Cert.AdamWAdaRefIdeal.main_v1) = v0 c
          ∧ r.2.mem ((c.tc : Thread Cert.AdamWAdaRefIdeal.nD Cert.AdamWAdaRefIdeal.τ).loc Cert.AdamWAdaRefIdeal.main_v25) = v1 c
          ∧ r.2.mem ((c.tc : Thread Cert.AdamWAdaRefIdeal.nD Cert.AdamWAdaRefIdeal.τ).loc Cert.AdamWAdaRefIdeal.main_v6) = v2 c
          ∧ r.2.mem ((c.tc : Thread Cert.AdamWAdaRefIdeal.nD Cert.AdamWAdaRefIdeal.τ).loc Cert.AdamWAdaRefIdeal.main_v12) = v3 c
          ∧ r.2.mem ((c.tc : Thread Cert.AdamWAdaRefIdeal.nD Cert.AdamWAdaRefIdeal.τ).loc Cert.AdamWAdaRefIdeal.main_arg0) = m' ((c.tc : Thread Cert.AdamWAdaRefIdeal.nD Cert.AdamWAdaRefIdeal.τ).loc Cert.AdamWAdaRefIdeal.main_arg0)
          ∧ r.2.mem ((c.tc : Thread Cert.AdamWAdaRefIdeal.nD Cert.AdamWAdaRefIdeal.τ).loc Cert.AdamWAdaRefIdeal.main_arg1) = m' ((c.tc : Thread Cert.AdamWAdaRefIdeal.nD Cert.AdamWAdaRefIdeal.τ).loc Cert.AdamWAdaRefIdeal.main_arg1)
          ∧ r.2.mem ((c.tc : Thread Cert.AdamWAdaRefIdeal.nD Cert.AdamWAdaRefIdeal.τ).loc Cert.AdamWAdaRefIdeal.main_arg2) = m' ((c.tc : Thread Cert.AdamWAdaRefIdeal.nD Cert.AdamWAdaRefIdeal.τ).loc Cert.AdamWAdaRefIdeal.main_arg2)
          ∧ r.2.mem ((c.tc : Thread Cert.AdamWAdaRefIdeal.nD Cert.AdamWAdaRefIdeal.τ).loc Cert.AdamWAdaRefIdeal.main_arg3) = m' ((c.tc : Thread Cert.AdamWAdaRefIdeal.nD Cert.AdamWAdaRefIdeal.τ).loc Cert.AdamWAdaRefIdeal.main_arg3))

def preserves_AdamWUkv_AdamWUkvIdeal : Prop :=
  True

def algebraic_AdamWUkvIdeal_AdamWUkvRefIdeal [hAdamWUkvIdeal : Cert.AdamWUkvIdeal.Facts] [hAdamWUkvRefIdeal : Cert.AdamWUkvRefIdeal.Facts] : Prop :=
  ∀ (m : (ℓ : Loc Cert.AdamWUkvIdeal.nD Cert.AdamWUkvIdeal.τ Cert.AdamWUkvIdeal.sig) → Buf (Elt Ideal) ℓ) (g : Dev Cert.AdamWUkvIdeal.nD → PrngReg)
    (m' : (ℓ : Loc Cert.AdamWUkvRefIdeal.nD Cert.AdamWUkvRefIdeal.τ Cert.AdamWUkvRefIdeal.sig) → Buf (Elt Ideal) ℓ) (g' : Dev Cert.AdamWUkvRefIdeal.nD → PrngReg), Pre_AdamWUkvIdeal m →
    (∀ c : Dev Cert.AdamWUkvIdeal.nD,
      m' ((c.tc : Thread Cert.AdamWUkvRefIdeal.nD Cert.AdamWUkvRefIdeal.τ).loc Cert.AdamWUkvRefIdeal.main_arg0) = m ((c.tc : Thread Cert.AdamWUkvIdeal.nD Cert.AdamWUkvIdeal.τ).loc Cert.AdamWUkvIdeal.main_arg0)
      ∧ m' ((c.tc : Thread Cert.AdamWUkvRefIdeal.nD Cert.AdamWUkvRefIdeal.τ).loc Cert.AdamWUkvRefIdeal.main_arg1) = m ((c.tc : Thread Cert.AdamWUkvIdeal.nD Cert.AdamWUkvIdeal.τ).loc Cert.AdamWUkvIdeal.main_arg1)
      ∧ m' ((c.tc : Thread Cert.AdamWUkvRefIdeal.nD Cert.AdamWUkvRefIdeal.τ).loc Cert.AdamWUkvRefIdeal.main_arg2) = m ((c.tc : Thread Cert.AdamWUkvIdeal.nD Cert.AdamWUkvIdeal.τ).loc Cert.AdamWUkvIdeal.main_arg2)
      ∧ m' ((c.tc : Thread Cert.AdamWUkvRefIdeal.nD Cert.AdamWUkvRefIdeal.τ).loc Cert.AdamWUkvRefIdeal.main_arg3) = m ((c.tc : Thread Cert.AdamWUkvIdeal.nD Cert.AdamWUkvIdeal.τ).loc Cert.AdamWUkvIdeal.main_arg3)) →
    ∃ (v0 : (c : Dev Cert.AdamWUkvIdeal.nD) → Buf (Elt Ideal) ((c.tc : Thread Cert.AdamWUkvIdeal.nD Cert.AdamWUkvIdeal.τ).loc Cert.AdamWUkvIdeal.main_v0_0)) (v1 : (c : Dev Cert.AdamWUkvIdeal.nD) → Buf (Elt Ideal) ((c.tc : Thread Cert.AdamWUkvIdeal.nD Cert.AdamWUkvIdeal.τ).loc Cert.AdamWUkvIdeal.main_v0_1)) (v2 : (c : Dev Cert.AdamWUkvIdeal.nD) → Buf (Elt Ideal) ((c.tc : Thread Cert.AdamWUkvIdeal.nD Cert.AdamWUkvIdeal.τ).loc Cert.AdamWUkvIdeal.main_v0_2)) (v3 : (c : Dev Cert.AdamWUkvIdeal.nD) → Buf (Elt Ideal) ((c.tc : Thread Cert.AdamWUkvIdeal.nD Cert.AdamWUkvIdeal.τ).loc Cert.AdamWUkvIdeal.main_v0_3)),
      θ_run (Cert.AdamWUkvIdeal.defs (F := Ideal)) (onTc (τ := Cert.AdamWUkvIdeal.τ) (Cert.AdamWUkvIdeal.main (F := Ideal))) ⟨m, fun _ => 0, g⟩ (fun r => ∀ c : Dev Cert.AdamWUkvIdeal.nD,
          r.2.mem ((c.tc : Thread Cert.AdamWUkvIdeal.nD Cert.AdamWUkvIdeal.τ).loc Cert.AdamWUkvIdeal.main_v0_0) = v0 c
          ∧ r.2.mem ((c.tc : Thread Cert.AdamWUkvIdeal.nD Cert.AdamWUkvIdeal.τ).loc Cert.AdamWUkvIdeal.main_v0_1) = v1 c
          ∧ r.2.mem ((c.tc : Thread Cert.AdamWUkvIdeal.nD Cert.AdamWUkvIdeal.τ).loc Cert.AdamWUkvIdeal.main_v0_2) = v2 c
          ∧ r.2.mem ((c.tc : Thread Cert.AdamWUkvIdeal.nD Cert.AdamWUkvIdeal.τ).loc Cert.AdamWUkvIdeal.main_v0_3) = v3 c
          ∧ r.2.mem ((c.tc : Thread Cert.AdamWUkvIdeal.nD Cert.AdamWUkvIdeal.τ).loc Cert.AdamWUkvIdeal.main_arg0) = m ((c.tc : Thread Cert.AdamWUkvIdeal.nD Cert.AdamWUkvIdeal.τ).loc Cert.AdamWUkvIdeal.main_arg0)
          ∧ r.2.mem ((c.tc : Thread Cert.AdamWUkvIdeal.nD Cert.AdamWUkvIdeal.τ).loc Cert.AdamWUkvIdeal.main_arg1) = m ((c.tc : Thread Cert.AdamWUkvIdeal.nD Cert.AdamWUkvIdeal.τ).loc Cert.AdamWUkvIdeal.main_arg1)
          ∧ r.2.mem ((c.tc : Thread Cert.AdamWUkvIdeal.nD Cert.AdamWUkvIdeal.τ).loc Cert.AdamWUkvIdeal.main_arg2) = m ((c.tc : Thread Cert.AdamWUkvIdeal.nD Cert.AdamWUkvIdeal.τ).loc Cert.AdamWUkvIdeal.main_arg2)
          ∧ r.2.mem ((c.tc : Thread Cert.AdamWUkvIdeal.nD Cert.AdamWUkvIdeal.τ).loc Cert.AdamWUkvIdeal.main_arg3) = m ((c.tc : Thread Cert.AdamWUkvIdeal.nD Cert.AdamWUkvIdeal.τ).loc Cert.AdamWUkvIdeal.main_arg3))
      ∧ θ_run (Cert.AdamWUkvRefIdeal.defs (F := Ideal)) (onTc (τ := Cert.AdamWUkvRefIdeal.τ) (Cert.AdamWUkvRefIdeal.main (F := Ideal))) ⟨m', fun _ => 0, g'⟩ (fun r => ∀ c : Dev Cert.AdamWUkvRefIdeal.nD,
          r.2.mem ((c.tc : Thread Cert.AdamWUkvRefIdeal.nD Cert.AdamWUkvRefIdeal.τ).loc Cert.AdamWUkvRefIdeal.main_v2) = v0 c
          ∧ r.2.mem ((c.tc : Thread Cert.AdamWUkvRefIdeal.nD Cert.AdamWUkvRefIdeal.τ).loc Cert.AdamWUkvRefIdeal.main_v26) = v1 c
          ∧ r.2.mem ((c.tc : Thread Cert.AdamWUkvRefIdeal.nD Cert.AdamWUkvRefIdeal.τ).loc Cert.AdamWUkvRefIdeal.main_v7) = v2 c
          ∧ r.2.mem ((c.tc : Thread Cert.AdamWUkvRefIdeal.nD Cert.AdamWUkvRefIdeal.τ).loc Cert.AdamWUkvRefIdeal.main_v13) = v3 c
          ∧ r.2.mem ((c.tc : Thread Cert.AdamWUkvRefIdeal.nD Cert.AdamWUkvRefIdeal.τ).loc Cert.AdamWUkvRefIdeal.main_arg0) = m' ((c.tc : Thread Cert.AdamWUkvRefIdeal.nD Cert.AdamWUkvRefIdeal.τ).loc Cert.AdamWUkvRefIdeal.main_arg0)
          ∧ r.2.mem ((c.tc : Thread Cert.AdamWUkvRefIdeal.nD Cert.AdamWUkvRefIdeal.τ).loc Cert.AdamWUkvRefIdeal.main_arg1) = m' ((c.tc : Thread Cert.AdamWUkvRefIdeal.nD Cert.AdamWUkvRefIdeal.τ).loc Cert.AdamWUkvRefIdeal.main_arg1)
          ∧ r.2.mem ((c.tc : Thread Cert.AdamWUkvRefIdeal.nD Cert.AdamWUkvRefIdeal.τ).loc Cert.AdamWUkvRefIdeal.main_arg2) = m' ((c.tc : Thread Cert.AdamWUkvRefIdeal.nD Cert.AdamWUkvRefIdeal.τ).loc Cert.AdamWUkvRefIdeal.main_arg2)
          ∧ r.2.mem ((c.tc : Thread Cert.AdamWUkvRefIdeal.nD Cert.AdamWUkvRefIdeal.τ).loc Cert.AdamWUkvRefIdeal.main_arg3) = m' ((c.tc : Thread Cert.AdamWUkvRefIdeal.nD Cert.AdamWUkvRefIdeal.τ).loc Cert.AdamWUkvRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v2) = v0 c
          ∧ r.2.mem ((c.tc : Thread Cert.AdamWOutRefIdeal.nD Cert.AdamWOutRefIdeal.τ).loc Cert.AdamWOutRefIdeal.main_v26) = v1 c
          ∧ r.2.mem ((c.tc : Thread Cert.AdamWOutRefIdeal.nD Cert.AdamWOutRefIdeal.τ).loc Cert.AdamWOutRefIdeal.main_v7) = v2 c
          ∧ r.2.mem ((c.tc : Thread Cert.AdamWOutRefIdeal.nD Cert.AdamWOutRefIdeal.τ).loc Cert.AdamWOutRefIdeal.main_v13) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWFfnOut_AdamWFfnOutIdeal : Prop :=
  True

def algebraic_AdamWFfnOutIdeal_AdamWFfnOutRefIdeal [hAdamWFfnOutIdeal : Cert.AdamWFfnOutIdeal.Facts] [hAdamWFfnOutRefIdeal : Cert.AdamWFfnOutRefIdeal.Facts] : Prop :=
  ∀ (m : (ℓ : Loc Cert.AdamWFfnOutIdeal.nD Cert.AdamWFfnOutIdeal.τ Cert.AdamWFfnOutIdeal.sig) → Buf (Elt Ideal) ℓ) (g : Dev Cert.AdamWFfnOutIdeal.nD → PrngReg)
    (m' : (ℓ : Loc Cert.AdamWFfnOutRefIdeal.nD Cert.AdamWFfnOutRefIdeal.τ Cert.AdamWFfnOutRefIdeal.sig) → Buf (Elt Ideal) ℓ) (g' : Dev Cert.AdamWFfnOutRefIdeal.nD → PrngReg), Pre_AdamWFfnOutIdeal m →
    (∀ c : Dev Cert.AdamWFfnOutIdeal.nD,
      m' ((c.tc : Thread Cert.AdamWFfnOutRefIdeal.nD Cert.AdamWFfnOutRefIdeal.τ).loc Cert.AdamWFfnOutRefIdeal.main_arg0) = m ((c.tc : Thread Cert.AdamWFfnOutIdeal.nD Cert.AdamWFfnOutIdeal.τ).loc Cert.AdamWFfnOutIdeal.main_arg0)
      ∧ m' ((c.tc : Thread Cert.AdamWFfnOutRefIdeal.nD Cert.AdamWFfnOutRefIdeal.τ).loc Cert.AdamWFfnOutRefIdeal.main_arg1) = m ((c.tc : Thread Cert.AdamWFfnOutIdeal.nD Cert.AdamWFfnOutIdeal.τ).loc Cert.AdamWFfnOutIdeal.main_arg1)
      ∧ m' ((c.tc : Thread Cert.AdamWFfnOutRefIdeal.nD Cert.AdamWFfnOutRefIdeal.τ).loc Cert.AdamWFfnOutRefIdeal.main_arg2) = m ((c.tc : Thread Cert.AdamWFfnOutIdeal.nD Cert.AdamWFfnOutIdeal.τ).loc Cert.AdamWFfnOutIdeal.main_arg2)
      ∧ m' ((c.tc : Thread Cert.AdamWFfnOutRefIdeal.nD Cert.AdamWFfnOutRefIdeal.τ).loc Cert.AdamWFfnOutRefIdeal.main_arg3) = m ((c.tc : Thread Cert.AdamWFfnOutIdeal.nD Cert.AdamWFfnOutIdeal.τ).loc Cert.AdamWFfnOutIdeal.main_arg3)) →
    ∃ (v0 : (c : Dev Cert.AdamWFfnOutIdeal.nD) → Buf (Elt Ideal) ((c.tc : Thread Cert.AdamWFfnOutIdeal.nD Cert.AdamWFfnOutIdeal.τ).loc Cert.AdamWFfnOutIdeal.main_v0_0)) (v1 : (c : Dev Cert.AdamWFfnOutIdeal.nD) → Buf (Elt Ideal) ((c.tc : Thread Cert.AdamWFfnOutIdeal.nD Cert.AdamWFfnOutIdeal.τ).loc Cert.AdamWFfnOutIdeal.main_v0_1)) (v2 : (c : Dev Cert.AdamWFfnOutIdeal.nD) → Buf (Elt Ideal) ((c.tc : Thread Cert.AdamWFfnOutIdeal.nD Cert.AdamWFfnOutIdeal.τ).loc Cert.AdamWFfnOutIdeal.main_v0_2)) (v3 : (c : Dev Cert.AdamWFfnOutIdeal.nD) → Buf (Elt Ideal) ((c.tc : Thread Cert.AdamWFfnOutIdeal.nD Cert.AdamWFfnOutIdeal.τ).loc Cert.AdamWFfnOutIdeal.main_v0_3)),
      θ_run (Cert.AdamWFfnOutIdeal.defs (F := Ideal)) (onTc (τ := Cert.AdamWFfnOutIdeal.τ) (Cert.AdamWFfnOutIdeal.main (F := Ideal))) ⟨m, fun _ => 0, g⟩ (fun r => ∀ c : Dev Cert.AdamWFfnOutIdeal.nD,
          r.2.mem ((c.tc : Thread Cert.AdamWFfnOutIdeal.nD Cert.AdamWFfnOutIdeal.τ).loc Cert.AdamWFfnOutIdeal.main_v0_0) = v0 c
          ∧ r.2.mem ((c.tc : Thread Cert.AdamWFfnOutIdeal.nD Cert.AdamWFfnOutIdeal.τ).loc Cert.AdamWFfnOutIdeal.main_v0_1) = v1 c
          ∧ r.2.mem ((c.tc : Thread Cert.AdamWFfnOutIdeal.nD Cert.AdamWFfnOutIdeal.τ).loc Cert.AdamWFfnOutIdeal.main_v0_2) = v2 c
          ∧ r.2.mem ((c.tc : Thread Cert.AdamWFfnOutIdeal.nD Cert.AdamWFfnOutIdeal.τ).loc Cert.AdamWFfnOutIdeal.main_v0_3) = v3 c
          ∧ r.2.mem ((c.tc : Thread Cert.AdamWFfnOutIdeal.nD Cert.AdamWFfnOutIdeal.τ).loc Cert.AdamWFfnOutIdeal.main_arg0) = m ((c.tc : Thread Cert.AdamWFfnOutIdeal.nD Cert.AdamWFfnOutIdeal.τ).loc Cert.AdamWFfnOutIdeal.main_arg0)
          ∧ r.2.mem ((c.tc : Thread Cert.AdamWFfnOutIdeal.nD Cert.AdamWFfnOutIdeal.τ).loc Cert.AdamWFfnOutIdeal.main_arg1) = m ((c.tc : Thread Cert.AdamWFfnOutIdeal.nD Cert.AdamWFfnOutIdeal.τ).loc Cert.AdamWFfnOutIdeal.main_arg1)
          ∧ r.2.mem ((c.tc : Thread Cert.AdamWFfnOutIdeal.nD Cert.AdamWFfnOutIdeal.τ).loc Cert.AdamWFfnOutIdeal.main_arg2) = m ((c.tc : Thread Cert.AdamWFfnOutIdeal.nD Cert.AdamWFfnOutIdeal.τ).loc Cert.AdamWFfnOutIdeal.main_arg2)
          ∧ r.2.mem ((c.tc : Thread Cert.AdamWFfnOutIdeal.nD Cert.AdamWFfnOutIdeal.τ).loc Cert.AdamWFfnOutIdeal.main_arg3) = m ((c.tc : Thread Cert.AdamWFfnOutIdeal.nD Cert.AdamWFfnOutIdeal.τ).loc Cert.AdamWFfnOutIdeal.main_arg3))
      ∧ θ_run (Cert.AdamWFfnOutRefIdeal.defs (F := Ideal)) (onTc (τ := Cert.AdamWFfnOutRefIdeal.τ) (Cert.AdamWFfnOutRefIdeal.main (F := Ideal))) ⟨m', fun _ => 0, g'⟩ (fun r => ∀ c : Dev Cert.AdamWFfnOutRefIdeal.nD,
          r.2.mem ((c.tc : Thread Cert.AdamWFfnOutRefIdeal.nD Cert.AdamWFfnOutRefIdeal.τ).loc Cert.AdamWFfnOutRefIdeal.main_v2) = v0 c
          ∧ r.2.mem ((c.tc : Thread Cert.AdamWFfnOutRefIdeal.nD Cert.AdamWFfnOutRefIdeal.τ).loc Cert.AdamWFfnOutRefIdeal.main_v26) = v1 c
          ∧ r.2.mem ((c.tc : Thread Cert.AdamWFfnOutRefIdeal.nD Cert.AdamWFfnOutRefIdeal.τ).loc Cert.AdamWFfnOutRefIdeal.main_v7) = v2 c
          ∧ r.2.mem ((c.tc : Thread Cert.AdamWFfnOutRefIdeal.nD Cert.AdamWFfnOutRefIdeal.τ).loc Cert.AdamWFfnOutRefIdeal.main_v13) = v3 c
          ∧ r.2.mem ((c.tc : Thread Cert.AdamWFfnOutRefIdeal.nD Cert.AdamWFfnOutRefIdeal.τ).loc Cert.AdamWFfnOutRefIdeal.main_arg0) = m' ((c.tc : Thread Cert.AdamWFfnOutRefIdeal.nD Cert.AdamWFfnOutRefIdeal.τ).loc Cert.AdamWFfnOutRefIdeal.main_arg0)
          ∧ r.2.mem ((c.tc : Thread Cert.AdamWFfnOutRefIdeal.nD Cert.AdamWFfnOutRefIdeal.τ).loc Cert.AdamWFfnOutRefIdeal.main_arg1) = m' ((c.tc : Thread Cert.AdamWFfnOutRefIdeal.nD Cert.AdamWFfnOutRefIdeal.τ).loc Cert.AdamWFfnOutRefIdeal.main_arg1)
          ∧ r.2.mem ((c.tc : Thread Cert.AdamWFfnOutRefIdeal.nD Cert.AdamWFfnOutRefIdeal.τ).loc Cert.AdamWFfnOutRefIdeal.main_arg2) = m' ((c.tc : Thread Cert.AdamWFfnOutRefIdeal.nD Cert.AdamWFfnOutRefIdeal.τ).loc Cert.AdamWFfnOutRefIdeal.main_arg2)
          ∧ r.2.mem ((c.tc : Thread Cert.AdamWFfnOutRefIdeal.nD Cert.AdamWFfnOutRefIdeal.τ).loc Cert.AdamWFfnOutRefIdeal.main_arg3) = m' ((c.tc : Thread Cert.AdamWFfnOutRefIdeal.nD Cert.AdamWFfnOutRefIdeal.τ).loc Cert.AdamWFfnOutRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4)) (v1 : (c : Dev Cert.AdamWInIdeal.nD) → Buf (Elt Ideal) ((c.tc : Thread Cert.AdamWInIdeal.nD Cert.AdamWInIdeal.τ).loc Cert.AdamWInIdeal.main_v5)) (v2 : (c : Dev Cert.AdamWInIdeal.nD) → Buf (Elt Ideal) ((c.tc : Thread Cert.AdamWInIdeal.nD Cert.AdamWInIdeal.τ).loc Cert.AdamWInIdeal.main_v6)) (v3 : (c : Dev Cert.AdamWInIdeal.nD) → Buf (Elt Ideal) ((c.tc : Thread Cert.AdamWInIdeal.nD Cert.AdamWInIdeal.τ).loc Cert.AdamWInIdeal.main_v7)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4) = v0 c
          ∧ r.2.mem ((c.tc : Thread Cert.AdamWInIdeal.nD Cert.AdamWInIdeal.τ).loc Cert.AdamWInIdeal.main_v5) = v1 c
          ∧ r.2.mem ((c.tc : Thread Cert.AdamWInIdeal.nD Cert.AdamWInIdeal.τ).loc Cert.AdamWInIdeal.main_v6) = v2 c
          ∧ r.2.mem ((c.tc : Thread Cert.AdamWInIdeal.nD Cert.AdamWInIdeal.τ).loc Cert.AdamWInIdeal.main_v7) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v3) = v0 c
          ∧ r.2.mem ((c.tc : Thread Cert.AdamWInRefIdeal.nD Cert.AdamWInRefIdeal.τ).loc Cert.AdamWInRefIdeal.main_v27) = v1 c
          ∧ r.2.mem ((c.tc : Thread Cert.AdamWInRefIdeal.nD Cert.AdamWInRefIdeal.τ).loc Cert.AdamWInRefIdeal.main_v8) = v2 c
          ∧ r.2.mem ((c.tc : Thread Cert.AdamWInRefIdeal.nD Cert.AdamWInRefIdeal.τ).loc Cert.AdamWInRefIdeal.main_v14) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWUq_AdamWUqIdeal : Prop :=
  True

def algebraic_AdamWUqIdeal_AdamWUqRefIdeal [hAdamWUqIdeal : Cert.AdamWUqIdeal.Facts] [hAdamWUqRefIdeal : Cert.AdamWUqRefIdeal.Facts] : Prop :=
  ∀ (m : (ℓ : Loc Cert.AdamWUqIdeal.nD Cert.AdamWUqIdeal.τ Cert.AdamWUqIdeal.sig) → Buf (Elt Ideal) ℓ) (g : Dev Cert.AdamWUqIdeal.nD → PrngReg)
    (m' : (ℓ : Loc Cert.AdamWUqRefIdeal.nD Cert.AdamWUqRefIdeal.τ Cert.AdamWUqRefIdeal.sig) → Buf (Elt Ideal) ℓ) (g' : Dev Cert.AdamWUqRefIdeal.nD → PrngReg), Pre_AdamWUqIdeal m →
    (∀ c : Dev Cert.AdamWUqIdeal.nD,
      m' ((c.tc : Thread Cert.AdamWUqRefIdeal.nD Cert.AdamWUqRefIdeal.τ).loc Cert.AdamWUqRefIdeal.main_arg0) = m ((c.tc : Thread Cert.AdamWUqIdeal.nD Cert.AdamWUqIdeal.τ).loc Cert.AdamWUqIdeal.main_arg0)
      ∧ m' ((c.tc : Thread Cert.AdamWUqRefIdeal.nD Cert.AdamWUqRefIdeal.τ).loc Cert.AdamWUqRefIdeal.main_arg1) = m ((c.tc : Thread Cert.AdamWUqIdeal.nD Cert.AdamWUqIdeal.τ).loc Cert.AdamWUqIdeal.main_arg1)
      ∧ m' ((c.tc : Thread Cert.AdamWUqRefIdeal.nD Cert.AdamWUqRefIdeal.τ).loc Cert.AdamWUqRefIdeal.main_arg2) = m ((c.tc : Thread Cert.AdamWUqIdeal.nD Cert.AdamWUqIdeal.τ).loc Cert.AdamWUqIdeal.main_arg2)
      ∧ m' ((c.tc : Thread Cert.AdamWUqRefIdeal.nD Cert.AdamWUqRefIdeal.τ).loc Cert.AdamWUqRefIdeal.main_arg3) = m ((c.tc : Thread Cert.AdamWUqIdeal.nD Cert.AdamWUqIdeal.τ).loc Cert.AdamWUqIdeal.main_arg3)) →
    ∃ (v0 : (c : Dev Cert.AdamWUqIdeal.nD) → Buf (Elt Ideal) ((c.tc : Thread Cert.AdamWUqIdeal.nD Cert.AdamWUqIdeal.τ).loc Cert.AdamWUqIdeal.main_v4)) (v1 : (c : Dev Cert.AdamWUqIdeal.nD) → Buf (Elt Ideal) ((c.tc : Thread Cert.AdamWUqIdeal.nD Cert.AdamWUqIdeal.τ).loc Cert.AdamWUqIdeal.main_v5)) (v2 : (c : Dev Cert.AdamWUqIdeal.nD) → Buf (Elt Ideal) ((c.tc : Thread Cert.AdamWUqIdeal.nD Cert.AdamWUqIdeal.τ).loc Cert.AdamWUqIdeal.main_v6)) (v3 : (c : Dev Cert.AdamWUqIdeal.nD) → Buf (Elt Ideal) ((c.tc : Thread Cert.AdamWUqIdeal.nD Cert.AdamWUqIdeal.τ).loc Cert.AdamWUqIdeal.main_v7)),
      θ_run (Cert.AdamWUqIdeal.defs (F := Ideal)) (onTc (τ := Cert.AdamWUqIdeal.τ) (Cert.AdamWUqIdeal.main (F := Ideal))) ⟨m, fun _ => 0, g⟩ (fun r => ∀ c : Dev Cert.AdamWUqIdeal.nD,
          r.2.mem ((c.tc : Thread Cert.AdamWUqIdeal.nD Cert.AdamWUqIdeal.τ).loc Cert.AdamWUqIdeal.main_v4) = v0 c
          ∧ r.2.mem ((c.tc : Thread Cert.AdamWUqIdeal.nD Cert.AdamWUqIdeal.τ).loc Cert.AdamWUqIdeal.main_v5) = v1 c
          ∧ r.2.mem ((c.tc : Thread Cert.AdamWUqIdeal.nD Cert.AdamWUqIdeal.τ).loc Cert.AdamWUqIdeal.main_v6) = v2 c
          ∧ r.2.mem ((c.tc : Thread Cert.AdamWUqIdeal.nD Cert.AdamWUqIdeal.τ).loc Cert.AdamWUqIdeal.main_v7) = v3 c
          ∧ r.2.mem ((c.tc : Thread Cert.AdamWUqIdeal.nD Cert.AdamWUqIdeal.τ).loc Cert.AdamWUqIdeal.main_arg0) = m ((c.tc : Thread Cert.AdamWUqIdeal.nD Cert.AdamWUqIdeal.τ).loc Cert.AdamWUqIdeal.main_arg0)
          ∧ r.2.mem ((c.tc : Thread Cert.AdamWUqIdeal.nD Cert.AdamWUqIdeal.τ).loc Cert.AdamWUqIdeal.main_arg1) = m ((c.tc : Thread Cert.AdamWUqIdeal.nD Cert.AdamWUqIdeal.τ).loc Cert.AdamWUqIdeal.main_arg1)
          ∧ r.2.mem ((c.tc : Thread Cert.AdamWUqIdeal.nD Cert.AdamWUqIdeal.τ).loc Cert.AdamWUqIdeal.main_arg2) = m ((c.tc : Thread Cert.AdamWUqIdeal.nD Cert.AdamWUqIdeal.τ).loc Cert.AdamWUqIdeal.main_arg2)
          ∧ r.2.mem ((c.tc : Thread Cert.AdamWUqIdeal.nD Cert.AdamWUqIdeal.τ).loc Cert.AdamWUqIdeal.main_arg3) = m ((c.tc : Thread Cert.AdamWUqIdeal.nD Cert.AdamWUqIdeal.τ).loc Cert.AdamWUqIdeal.main_arg3))
      ∧ θ_run (Cert.AdamWUqRefIdeal.defs (F := Ideal)) (onTc (τ := Cert.AdamWUqRefIdeal.τ) (Cert.AdamWUqRefIdeal.main (F := Ideal))) ⟨m', fun _ => 0, g'⟩ (fun r => ∀ c : Dev Cert.AdamWUqRefIdeal.nD,
          r.2.mem ((c.tc : Thread Cert.AdamWUqRefIdeal.nD Cert.AdamWUqRefIdeal.τ).loc Cert.AdamWUqRefIdeal.main_v3) = v0 c
          ∧ r.2.mem ((c.tc : Thread Cert.AdamWUqRefIdeal.nD Cert.AdamWUqRefIdeal.τ).loc Cert.AdamWUqRefIdeal.main_v27) = v1 c
          ∧ r.2.mem ((c.tc : Thread Cert.AdamWUqRefIdeal.nD Cert.AdamWUqRefIdeal.τ).loc Cert.AdamWUqRefIdeal.main_v8) = v2 c
          ∧ r.2.mem ((c.tc : Thread Cert.AdamWUqRefIdeal.nD Cert.AdamWUqRefIdeal.τ).loc Cert.AdamWUqRefIdeal.main_v14) = v3 c
          ∧ r.2.mem ((c.tc : Thread Cert.AdamWUqRefIdeal.nD Cert.AdamWUqRefIdeal.τ).loc Cert.AdamWUqRefIdeal.main_arg0) = m' ((c.tc : Thread Cert.AdamWUqRefIdeal.nD Cert.AdamWUqRefIdeal.τ).loc Cert.AdamWUqRefIdeal.main_arg0)
          ∧ r.2.mem ((c.tc : Thread Cert.AdamWUqRefIdeal.nD Cert.AdamWUqRefIdeal.τ).loc Cert.AdamWUqRefIdeal.main_arg1) = m' ((c.tc : Thread Cert.AdamWUqRefIdeal.nD Cert.AdamWUqRefIdeal.τ).loc Cert.AdamWUqRefIdeal.main_arg1)
          ∧ r.2.mem ((c.tc : Thread Cert.AdamWUqRefIdeal.nD Cert.AdamWUqRefIdeal.τ).loc Cert.AdamWUqRefIdeal.main_arg2) = m' ((c.tc : Thread Cert.AdamWUqRefIdeal.nD Cert.AdamWUqRefIdeal.τ).loc Cert.AdamWUqRefIdeal.main_arg2)
          ∧ r.2.mem ((c.tc : Thread Cert.AdamWUqRefIdeal.nD Cert.AdamWUqRefIdeal.τ).loc Cert.AdamWUqRefIdeal.main_arg3) = m' ((c.tc : Thread Cert.AdamWUqRefIdeal.nD Cert.AdamWUqRefIdeal.τ).loc Cert.AdamWUqRefIdeal.main_arg3))

def preserves_AdamWFfnIn_AdamWFfnInIdeal : Prop :=
  True

def algebraic_AdamWFfnInIdeal_AdamWFfnInRefIdeal [hAdamWFfnInIdeal : Cert.AdamWFfnInIdeal.Facts] [hAdamWFfnInRefIdeal : Cert.AdamWFfnInRefIdeal.Facts] : Prop :=
  ∀ (m : (ℓ : Loc Cert.AdamWFfnInIdeal.nD Cert.AdamWFfnInIdeal.τ Cert.AdamWFfnInIdeal.sig) → Buf (Elt Ideal) ℓ) (g : Dev Cert.AdamWFfnInIdeal.nD → PrngReg)
    (m' : (ℓ : Loc Cert.AdamWFfnInRefIdeal.nD Cert.AdamWFfnInRefIdeal.τ Cert.AdamWFfnInRefIdeal.sig) → Buf (Elt Ideal) ℓ) (g' : Dev Cert.AdamWFfnInRefIdeal.nD → PrngReg), Pre_AdamWFfnInIdeal m →
    (∀ c : Dev Cert.AdamWFfnInIdeal.nD,
      m' ((c.tc : Thread Cert.AdamWFfnInRefIdeal.nD Cert.AdamWFfnInRefIdeal.τ).loc Cert.AdamWFfnInRefIdeal.main_arg0) = m ((c.tc : Thread Cert.AdamWFfnInIdeal.nD Cert.AdamWFfnInIdeal.τ).loc Cert.AdamWFfnInIdeal.main_arg0)
      ∧ m' ((c.tc : Thread Cert.AdamWFfnInRefIdeal.nD Cert.AdamWFfnInRefIdeal.τ).loc Cert.AdamWFfnInRefIdeal.main_arg1) = m ((c.tc : Thread Cert.AdamWFfnInIdeal.nD Cert.AdamWFfnInIdeal.τ).loc Cert.AdamWFfnInIdeal.main_arg1)
      ∧ m' ((c.tc : Thread Cert.AdamWFfnInRefIdeal.nD Cert.AdamWFfnInRefIdeal.τ).loc Cert.AdamWFfnInRefIdeal.main_arg2) = m ((c.tc : Thread Cert.AdamWFfnInIdeal.nD Cert.AdamWFfnInIdeal.τ).loc Cert.AdamWFfnInIdeal.main_arg2)
      ∧ m' ((c.tc : Thread Cert.AdamWFfnInRefIdeal.nD Cert.AdamWFfnInRefIdeal.τ).loc Cert.AdamWFfnInRefIdeal.main_arg3) = m ((c.tc : Thread Cert.AdamWFfnInIdeal.nD Cert.AdamWFfnInIdeal.τ).loc Cert.AdamWFfnInIdeal.main_arg3)) →
    ∃ (v0 : (c : Dev Cert.AdamWFfnInIdeal.nD) → Buf (Elt Ideal) ((c.tc : Thread Cert.AdamWFfnInIdeal.nD Cert.AdamWFfnInIdeal.τ).loc Cert.AdamWFfnInIdeal.main_v4)) (v1 : (c : Dev Cert.AdamWFfnInIdeal.nD) → Buf (Elt Ideal) ((c.tc : Thread Cert.AdamWFfnInIdeal.nD Cert.AdamWFfnInIdeal.τ).loc Cert.AdamWFfnInIdeal.main_v5)) (v2 : (c : Dev Cert.AdamWFfnInIdeal.nD) → Buf (Elt Ideal) ((c.tc : Thread Cert.AdamWFfnInIdeal.nD Cert.AdamWFfnInIdeal.τ).loc Cert.AdamWFfnInIdeal.main_v6)) (v3 : (c : Dev Cert.AdamWFfnInIdeal.nD) → Buf (Elt Ideal) ((c.tc : Thread Cert.AdamWFfnInIdeal.nD Cert.AdamWFfnInIdeal.τ).loc Cert.AdamWFfnInIdeal.main_v7)),
      θ_run (Cert.AdamWFfnInIdeal.defs (F := Ideal)) (onTc (τ := Cert.AdamWFfnInIdeal.τ) (Cert.AdamWFfnInIdeal.main (F := Ideal))) ⟨m, fun _ => 0, g⟩ (fun r => ∀ c : Dev Cert.AdamWFfnInIdeal.nD,
          r.2.mem ((c.tc : Thread Cert.AdamWFfnInIdeal.nD Cert.AdamWFfnInIdeal.τ).loc Cert.AdamWFfnInIdeal.main_v4) = v0 c
          ∧ r.2.mem ((c.tc : Thread Cert.AdamWFfnInIdeal.nD Cert.AdamWFfnInIdeal.τ).loc Cert.AdamWFfnInIdeal.main_v5) = v1 c
          ∧ r.2.mem ((c.tc : Thread Cert.AdamWFfnInIdeal.nD Cert.AdamWFfnInIdeal.τ).loc Cert.AdamWFfnInIdeal.main_v6) = v2 c
          ∧ r.2.mem ((c.tc : Thread Cert.AdamWFfnInIdeal.nD Cert.AdamWFfnInIdeal.τ).loc Cert.AdamWFfnInIdeal.main_v7) = v3 c
          ∧ r.2.mem ((c.tc : Thread Cert.AdamWFfnInIdeal.nD Cert.AdamWFfnInIdeal.τ).loc Cert.AdamWFfnInIdeal.main_arg0) = m ((c.tc : Thread Cert.AdamWFfnInIdeal.nD Cert.AdamWFfnInIdeal.τ).loc Cert.AdamWFfnInIdeal.main_arg0)
          ∧ r.2.mem ((c.tc : Thread Cert.AdamWFfnInIdeal.nD Cert.AdamWFfnInIdeal.τ).loc Cert.AdamWFfnInIdeal.main_arg1) = m ((c.tc : Thread Cert.AdamWFfnInIdeal.nD Cert.AdamWFfnInIdeal.τ).loc Cert.AdamWFfnInIdeal.main_arg1)
          ∧ r.2.mem ((c.tc : Thread Cert.AdamWFfnInIdeal.nD Cert.AdamWFfnInIdeal.τ).loc Cert.AdamWFfnInIdeal.main_arg2) = m ((c.tc : Thread Cert.AdamWFfnInIdeal.nD Cert.AdamWFfnInIdeal.τ).loc Cert.AdamWFfnInIdeal.main_arg2)
          ∧ r.2.mem ((c.tc : Thread Cert.AdamWFfnInIdeal.nD Cert.AdamWFfnInIdeal.τ).loc Cert.AdamWFfnInIdeal.main_arg3) = m ((c.tc : Thread Cert.AdamWFfnInIdeal.nD Cert.AdamWFfnInIdeal.τ).loc Cert.AdamWFfnInIdeal.main_arg3))
      ∧ θ_run (Cert.AdamWFfnInRefIdeal.defs (F := Ideal)) (onTc (τ := Cert.AdamWFfnInRefIdeal.τ) (Cert.AdamWFfnInRefIdeal.main (F := Ideal))) ⟨m', fun _ => 0, g'⟩ (fun r => ∀ c : Dev Cert.AdamWFfnInRefIdeal.nD,
          r.2.mem ((c.tc : Thread Cert.AdamWFfnInRefIdeal.nD Cert.AdamWFfnInRefIdeal.τ).loc Cert.AdamWFfnInRefIdeal.main_v3) = v0 c
          ∧ r.2.mem ((c.tc : Thread Cert.AdamWFfnInRefIdeal.nD Cert.AdamWFfnInRefIdeal.τ).loc Cert.AdamWFfnInRefIdeal.main_v27) = v1 c
          ∧ r.2.mem ((c.tc : Thread Cert.AdamWFfnInRefIdeal.nD Cert.AdamWFfnInRefIdeal.τ).loc Cert.AdamWFfnInRefIdeal.main_v8) = v2 c
          ∧ r.2.mem ((c.tc : Thread Cert.AdamWFfnInRefIdeal.nD Cert.AdamWFfnInRefIdeal.τ).loc Cert.AdamWFfnInRefIdeal.main_v14) = v3 c
          ∧ r.2.mem ((c.tc : Thread Cert.AdamWFfnInRefIdeal.nD Cert.AdamWFfnInRefIdeal.τ).loc Cert.AdamWFfnInRefIdeal.main_arg0) = m' ((c.tc : Thread Cert.AdamWFfnInRefIdeal.nD Cert.AdamWFfnInRefIdeal.τ).loc Cert.AdamWFfnInRefIdeal.main_arg0)
          ∧ r.2.mem ((c.tc : Thread Cert.AdamWFfnInRefIdeal.nD Cert.AdamWFfnInRefIdeal.τ).loc Cert.AdamWFfnInRefIdeal.main_arg1) = m' ((c.tc : Thread Cert.AdamWFfnInRefIdeal.nD Cert.AdamWFfnInRefIdeal.τ).loc Cert.AdamWFfnInRefIdeal.main_arg1)
          ∧ r.2.mem ((c.tc : Thread Cert.AdamWFfnInRefIdeal.nD Cert.AdamWFfnInRefIdeal.τ).loc Cert.AdamWFfnInRefIdeal.main_arg2) = m' ((c.tc : Thread Cert.AdamWFfnInRefIdeal.nD Cert.AdamWFfnInRefIdeal.τ).loc Cert.AdamWFfnInRefIdeal.main_arg2)
          ∧ r.2.mem ((c.tc : Thread Cert.AdamWFfnInRefIdeal.nD Cert.AdamWFfnInRefIdeal.τ).loc Cert.AdamWFfnInRefIdeal.main_arg3) = m' ((c.tc : Thread Cert.AdamWFfnInRefIdeal.nD Cert.AdamWFfnInRefIdeal.τ).loc Cert.AdamWFfnInRefIdeal.main_arg3))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v3) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hDH2 : Cert.DH2.Facts) (hDH2Ideal : Cert.DH2Ideal.Facts) (hDH2RefIdeal : Cert.DH2RefIdeal.Facts) (hGwFfnIn : Cert.GwFfnIn.Facts) (hGwFfnInIdeal : Cert.GwFfnInIdeal.Facts) (hGwFfnInRefIdeal : Cert.GwFfnInRefIdeal.Facts) (hFfnOut : Cert.FfnOut.Facts) (hFfnOutIdeal : Cert.FfnOutIdeal.Facts) (hFfnOutRefIdeal : Cert.FfnOutRefIdeal.Facts) (hGwFfnOut : Cert.GwFfnOut.Facts) (hGwFfnOutIdeal : Cert.GwFfnOutIdeal.Facts) (hGwFfnOutRefIdeal : Cert.GwFfnOutRefIdeal.Facts) (hMix : Cert.Mix.Facts) (hMixIdeal : Cert.MixIdeal.Facts) (hMixRefIdeal : Cert.MixRefIdeal.Facts) (hDY : Cert.DY.Facts) (hDYIdeal : Cert.DYIdeal.Facts) (hDYRefIdeal : Cert.DYRefIdeal.Facts) (hGwOut : Cert.GwOut.Facts) (hGwOutIdeal : Cert.GwOutIdeal.Facts) (hGwOutRefIdeal : Cert.GwOutRefIdeal.Facts) (hProj : Cert.Proj.Facts) (hProjIdeal : Cert.ProjIdeal.Facts) (hProjRefIdeal : Cert.ProjRefIdeal.Facts) (hDH1 : Cert.DH1.Facts) (hDH1Ideal : Cert.DH1Ideal.Facts) (hDH1RefIdeal : Cert.DH1RefIdeal.Facts) (hGwIn : Cert.GwIn.Facts) (hGwInIdeal : Cert.GwInIdeal.Facts) (hGwInRefIdeal : Cert.GwInRefIdeal.Facts) (hAdamWAda : Cert.AdamWAda.Facts) (hAdamWAdaIdeal : Cert.AdamWAdaIdeal.Facts) (hAdamWAdaRefIdeal : Cert.AdamWAdaRefIdeal.Facts) (hAdamWUkv : Cert.AdamWUkv.Facts) (hAdamWUkvIdeal : Cert.AdamWUkvIdeal.Facts) (hAdamWUkvRefIdeal : Cert.AdamWUkvRefIdeal.Facts) (hAdamWOut : Cert.AdamWOut.Facts) (hAdamWOutIdeal : Cert.AdamWOutIdeal.Facts) (hAdamWOutRefIdeal : Cert.AdamWOutRefIdeal.Facts) (hAdamWFfnOut : Cert.AdamWFfnOut.Facts) (hAdamWFfnOutIdeal : Cert.AdamWFfnOutIdeal.Facts) (hAdamWFfnOutRefIdeal : Cert.AdamWFfnOutRefIdeal.Facts) (hAdamWIn : Cert.AdamWIn.Facts) (hAdamWInIdeal : Cert.AdamWInIdeal.Facts) (hAdamWInRefIdeal : Cert.AdamWInRefIdeal.Facts) (hAdamWUq : Cert.AdamWUq.Facts) (hAdamWUqIdeal : Cert.AdamWUqIdeal.Facts) (hAdamWUqRefIdeal : Cert.AdamWUqRefIdeal.Facts) (hAdamWFfnIn : Cert.AdamWFfnIn.Facts) (hAdamWFfnInIdeal : Cert.AdamWFfnInIdeal.Facts) (hAdamWFfnInRefIdeal : Cert.AdamWFfnInRefIdeal.Facts) (hAdaGrad : Cert.AdaGrad.Facts) (hAdaGradIdeal : Cert.AdaGradIdeal.Facts) (hAdaGradRefIdeal : Cert.AdaGradRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_GwFfnIn (hGwFfnIn := hGwFfnIn)
    ∧ quiescent_GwFfnInIdeal (hGwFfnInIdeal := hGwFfnInIdeal)
    ∧ quiescent_GwFfnInRefIdeal (hGwFfnInRefIdeal := hGwFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_GwFfnOut (hGwFfnOut := hGwFfnOut)
    ∧ quiescent_GwFfnOutIdeal (hGwFfnOutIdeal := hGwFfnOutIdeal)
    ∧ quiescent_GwFfnOutRefIdeal (hGwFfnOutRefIdeal := hGwFfnOutRefIdeal)
    ∧ quiescent_Mix (hMix := hMix)
    ∧ quiescent_MixIdeal (hMixIdeal := hMixIdeal)
    ∧ quiescent_MixRefIdeal (hMixRefIdeal := hMixRefIdeal)
    ∧ quiescent_DY (hDY := hDY)
    ∧ quiescent_DYIdeal (hDYIdeal := hDYIdeal)
    ∧ quiescent_DYRefIdeal (hDYRefIdeal := hDYRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_Proj (hProj := hProj)
    ∧ quiescent_ProjIdeal (hProjIdeal := hProjIdeal)
    ∧ quiescent_ProjRefIdeal (hProjRefIdeal := hProjRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_AdamWAda (hAdamWAda := hAdamWAda)
    ∧ quiescent_AdamWAdaIdeal (hAdamWAdaIdeal := hAdamWAdaIdeal)
    ∧ quiescent_AdamWAdaRefIdeal (hAdamWAdaRefIdeal := hAdamWAdaRefIdeal)
    ∧ quiescent_AdamWUkv (hAdamWUkv := hAdamWUkv)
    ∧ quiescent_AdamWUkvIdeal (hAdamWUkvIdeal := hAdamWUkvIdeal)
    ∧ quiescent_AdamWUkvRefIdeal (hAdamWUkvRefIdeal := hAdamWUkvRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWFfnOut (hAdamWFfnOut := hAdamWFfnOut)
    ∧ quiescent_AdamWFfnOutIdeal (hAdamWFfnOutIdeal := hAdamWFfnOutIdeal)
    ∧ quiescent_AdamWFfnOutRefIdeal (hAdamWFfnOutRefIdeal := hAdamWFfnOutRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWUq (hAdamWUq := hAdamWUq)
    ∧ quiescent_AdamWUqIdeal (hAdamWUqIdeal := hAdamWUqIdeal)
    ∧ quiescent_AdamWUqRefIdeal (hAdamWUqRefIdeal := hAdamWUqRefIdeal)
    ∧ quiescent_AdamWFfnIn (hAdamWFfnIn := hAdamWFfnIn)
    ∧ quiescent_AdamWFfnInIdeal (hAdamWFfnInIdeal := hAdamWFfnInIdeal)
    ∧ quiescent_AdamWFfnInRefIdeal (hAdamWFfnInRefIdeal := hAdamWFfnInRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_DH2_DH2Ideal
    ∧ algebraic_DH2Ideal_DH2RefIdeal (hDH2Ideal := hDH2Ideal) (hDH2RefIdeal := hDH2RefIdeal)
    ∧ preserves_GwFfnIn_GwFfnInIdeal
    ∧ algebraic_GwFfnInIdeal_GwFfnInRefIdeal (hGwFfnInIdeal := hGwFfnInIdeal) (hGwFfnInRefIdeal := hGwFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_GwFfnOut_GwFfnOutIdeal
    ∧ algebraic_GwFfnOutIdeal_GwFfnOutRefIdeal (hGwFfnOutIdeal := hGwFfnOutIdeal) (hGwFfnOutRefIdeal := hGwFfnOutRefIdeal)
    ∧ preserves_Mix_MixIdeal
    ∧ algebraic_MixIdeal_MixRefIdeal (hMixIdeal := hMixIdeal) (hMixRefIdeal := hMixRefIdeal)
    ∧ preserves_DY_DYIdeal
    ∧ algebraic_DYIdeal_DYRefIdeal (hDYIdeal := hDYIdeal) (hDYRefIdeal := hDYRefIdeal)
    ∧ preserves_GwOut_GwOutIdeal
    ∧ algebraic_GwOutIdeal_GwOutRefIdeal (hGwOutIdeal := hGwOutIdeal) (hGwOutRefIdeal := hGwOutRefIdeal)
    ∧ preserves_Proj_ProjIdeal
    ∧ algebraic_ProjIdeal_ProjRefIdeal (hProjIdeal := hProjIdeal) (hProjRefIdeal := hProjRefIdeal)
    ∧ preserves_DH1_DH1Ideal
    ∧ algebraic_DH1Ideal_DH1RefIdeal (hDH1Ideal := hDH1Ideal) (hDH1RefIdeal := hDH1RefIdeal)
    ∧ preserves_GwIn_GwInIdeal
    ∧ algebraic_GwInIdeal_GwInRefIdeal (hGwInIdeal := hGwInIdeal) (hGwInRefIdeal := hGwInRefIdeal)
    ∧ preserves_AdamWAda_AdamWAdaIdeal
    ∧ algebraic_AdamWAdaIdeal_AdamWAdaRefIdeal (hAdamWAdaIdeal := hAdamWAdaIdeal) (hAdamWAdaRefIdeal := hAdamWAdaRefIdeal)
    ∧ preserves_AdamWUkv_AdamWUkvIdeal
    ∧ algebraic_AdamWUkvIdeal_AdamWUkvRefIdeal (hAdamWUkvIdeal := hAdamWUkvIdeal) (hAdamWUkvRefIdeal := hAdamWUkvRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWFfnOut_AdamWFfnOutIdeal
    ∧ algebraic_AdamWFfnOutIdeal_AdamWFfnOutRefIdeal (hAdamWFfnOutIdeal := hAdamWFfnOutIdeal) (hAdamWFfnOutRefIdeal := hAdamWFfnOutRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWUq_AdamWUqIdeal
    ∧ algebraic_AdamWUqIdeal_AdamWUqRefIdeal (hAdamWUqIdeal := hAdamWUqIdeal) (hAdamWUqRefIdeal := hAdamWUqRefIdeal)
    ∧ preserves_AdamWFfnIn_AdamWFfnInIdeal
    ∧ algebraic_AdamWFfnInIdeal_AdamWFfnInRefIdeal (hAdamWFfnInIdeal := hAdamWFfnInIdeal) (hAdamWFfnInRefIdeal := hAdamWFfnInRefIdeal)
    ∧ preserves_AdaGrad_AdaGradIdeal
    ∧ algebraic_AdaGradIdeal_AdaGradRefIdeal (hAdaGradIdeal := hAdaGradIdeal) (hAdaGradRefIdeal := hAdaGradRefIdeal)
-- ==== Pre_finite.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8x32 : S_.BroadcastsInDim S2x2048x8x32 (![] : Fin 0 → Fin S2x2048x8x32.rank)
  reducesTo_S2x2048x8x32_S_d0_1_2_3 : S2x2048x8x32.ReducesTo [0, 1, 2, 3] S_
  bcast_S_S2x2048x32 : S_.BroadcastsInDim S2x2048x32 (![] : Fin 0 → Fin S2x2048x32.rank)
  reducesTo_S2x2048x32_S_d0_1_2 : S2x2048x32.ReducesTo [0, 1, 2] S_

variable [Facts]

def fn_part1 {F : FTy → Type} [FloatOps F] (main_arg4 : FVec F S2x2048x8x64 .f32) (main_arg5 : FVec F S2x2048x8x64 .f32) (main_v13 : IVec S_ 1) (main_v16 : IVec S2x2048x32 1) : IVec S_ 1 :=
  let main_c_5 : IVec S_ 1 := constantI S_ 1 1#1
  let main_v17 : IVec S_ 1 := (fun x v => Host.reduce IntOp.andi x v reducesTo_S2x2048x32_S_d0_1_2 h_S_) main_v16 main_c_5
  let main_v18 : IVec S_ 1 := andi main_v13 main_v17
  let main_v19 : FVec F S2x2048x8x64 .f32 := Host.absf main_arg4
  let main_cst_6 : FVec F S_ .f32 := constant S_ .f32 0x7F800000#32
  let main_v20 : FVec F S2x2048x8x64 .f32 := broadcastInDim S2x2048x8x64 ![] bcast_S_S2x2048x8x64 main_cst_6
  let main_v21 : IVec S2x2048x8x64 1 := cmpf .olt main_v19 main_v20
  let main_c_7 : IVec S_ 1 := constantI S_ 1 1#1
  let main_v22 : IVec S_ 1 := (fun x v => Host.reduce IntOp.andi x v reducesTo_S2x2048x8x64_S_d0_1_2_3 h_S_) main_v21 main_c_7
  let main_v23 : IVec S_ 1 := andi main_v18 main_v22
  let main_v24 : FVec F S2x2048x8x64 .f32 := Host.absf main_arg5
  let main_cst_8 : FVec F S_ .f32 := constant S_ .f32 0x7F800000#32
  let main_v25 : FVec F S2x2048x8x64 .f32 := broadcastInDim S2x2048x8x64 ![] bcast_S_S2x2048x8x64 main_cst_8
  let main_v26 : IVec S2x2048x8x64 1 := cmpf .olt main_v24 main_v25
  let main_c_9 : IVec S_ 1 := constantI S_ 1 1#1
  let main_v27 : IVec S_ 1 := (fun x v => Host.reduce IntOp.andi x v reducesTo_S2x2048x8x64_S_d0_1_2_3 h_S_) main_v26 main_c_9
  let main_v28 : IVec S_ 1 := andi main_v23 main_v27
  main_v28

def fn {F : FTy → Type} [FloatOps F] (main_arg0 : FVec F S2x2048x8x64 .f32) (main_arg1 : FVec F S2x2048x8x32 .f32) (main_arg2 : FVec F S2x2048x8x64 .f32) (main_arg3 : FVec F S2x2048x32 .f32) (main_arg4 : FVec F S2x2048x8x64 .f32) (main_arg5 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x32 .f32 := Host.absf main_arg1
  let main_cst_0 : FVec F S_ .f32 := constant S_ .f32 0x7F800000#32
  let main_v5 : FVec F S2x2048x8x32 .f32 := broadcastInDim S2x2048x8x32 ![] bcast_S_S2x2048x8x32 main_cst_0
  let main_v6 : IVec S2x2048x8x32 1 := cmpf .olt main_v4 main_v5
  let main_c_1 : IVec S_ 1 := constantI S_ 1 1#1
  let main_v7 : IVec S_ 1 := (fun x v => Host.reduce IntOp.andi x v reducesTo_S2x2048x8x32_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x32 .f32 := Host.absf main_arg3
  let main_cst_4 : FVec F S_ .f32 := constant S_ .f32 0x7F800000#32
  let main_v15 : FVec F S2x2048x32 .f32 := broadcastInDim S2x2048x32 ![] bcast_S_S2x2048x32 main_cst_4
  let main_v16 : IVec S2x2048x32 1 := cmpf .olt main_v14 main_v15
  fn_part1 (F := F) main_arg4 main_arg5 main_v13 main_v16
-- ==== Kernel.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S2x8x2048x2048 : Shape := ⟨4, ![2, 8, 2048, 2048]⟩
abbrev S2x2048x2048x8 : Shape := ⟨4, ![2, 2048, 2048, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S4096x512 : Shape := ⟨2, ![4096, 512]⟩
abbrev S2x2048x8x1 : Shape := ⟨4, ![2, 2048, 8, 1]⟩
abbrev S2x2048x8x128 : Shape := ⟨4, ![2, 2048, 8, 128]⟩
abbrev S4096x1024 : Shape := ⟨2, ![4096, 1024]⟩
abbrev S2x2048x1x32 : Shape := ⟨4, ![2, 2048, 1, 32]⟩
abbrev S2x2048x4x2x64 : Shape := ⟨5, ![2, 2048, 4, 2, 64]⟩
abbrev S2x2048x4x64 : Shape := ⟨4, ![2, 2048, 4, 64]⟩
abbrev S2x2048x4x1x64 : Shape := ⟨5, ![2, 2048, 4, 1, 64]⟩
abbrev S2x2048x4x128 : Shape := ⟨4, ![2, 2048, 4, 128]⟩
abbrev S2x2048x4x1x128 : Shape := ⟨5, ![2, 2048, 4, 1, 128]⟩
abbrev S2x2048x4x2x128 : Shape := ⟨5, ![2, 2048, 4, 2, 128]⟩
abbrev S2048x256 : Shape := ⟨2, ![2048, 256]⟩
abbrev S2048x128 : Shape := ⟨2, ![2048, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1536x128 : Shape := ⟨2, ![1536, 128]⟩
abbrev S512x1536 : Shape := ⟨2, ![512, 1536]⟩
abbrev S1024x128 : Shape := ⟨2, ![1024, 128]⟩
abbrev S512x1024 : Shape := ⟨2, ![512, 1024]⟩

abbrev nBuf : Space → Nat
  | .hbm => 93
  | .vmem => 21
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x32, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S2x2048x2048x8, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x8x2048x2048, .i1⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .f32⟩
  | .hbm, ⟨35, _⟩ => ⟨S2x8x64x2048, .f32⟩
  | .hbm, ⟨36, _⟩ => ⟨S2x2048x8x64, .f32⟩
  | .hbm, ⟨37, _⟩ => ⟨S4096x512, .f32⟩
  | .hbm, ⟨38, _⟩ => ⟨S2x8x2048x1, .f32⟩
  | .hbm, ⟨39, _⟩ => ⟨S2x8x2048x1, .f32⟩
  | .hbm, ⟨40, _⟩ => ⟨S2x2048x8x1, .f32⟩
  | .hbm, ⟨41, _⟩ => ⟨S2x2048x8x128, .f32⟩
  | .hbm, ⟨42, _⟩ => ⟨S4096x1024, .f32⟩
  | .hbm, ⟨43, _⟩ => ⟨S2x2048x1x32, .f32⟩
  | .hbm, ⟨44, _⟩ => ⟨S2x2048x8x32, .f32⟩
  | .hbm, ⟨45, _⟩ => ⟨S_, .f32⟩
  | .hbm, ⟨46, _⟩ => ⟨S2x2048x8x32, .f32⟩
  | .hbm, ⟨47, _⟩ => ⟨S2x2048x8x128, .f32⟩
  | .hbm, ⟨48, _⟩ => ⟨S2x2048x8x128, .bf16⟩
  | .hbm, ⟨49, _⟩ => ⟨S4096x1024, .bf16⟩
  | .hbm, ⟨50, _⟩ => ⟨S_, .f32⟩
  | .hbm, ⟨51, _⟩ => ⟨S2x2048x8x32, .f32⟩
  | .hbm, ⟨52, _⟩ => ⟨S2x2048x8x128, .f32⟩
  | .hbm, ⟨53, _⟩ => ⟨S2x2048x8x128, .bf16⟩
  | .hbm, ⟨54, _⟩ => ⟨S4096x1024, .bf16⟩
  | .hbm, ⟨55, _⟩ => ⟨S2x2048x4x2x64, .f32⟩
  | .hbm, ⟨56, _⟩ => ⟨S_, .f32⟩
  | .hbm, ⟨57, _⟩ => ⟨S2x2048x4x64, .f32⟩
  | .hbm, ⟨58, _⟩ => ⟨S2x2048x4x1x64, .f32⟩
  | .hbm, ⟨59, _⟩ => ⟨S2x2048x4x64, .f32⟩
  | .hbm, ⟨60, _⟩ => ⟨S2x2048x4x128, .f32⟩
  | .hbm, ⟨61, _⟩ => ⟨S2x2048x4x1x64, .f32⟩
  | .hbm, ⟨62, _⟩ => ⟨S2x2048x4x64, .f32⟩
  | .hbm, ⟨63, _⟩ => ⟨S2x2048x4x128, .f32⟩
  | .hbm, ⟨64, _⟩ => ⟨S2x2048x4x1x128, .f32⟩
  | .hbm, ⟨65, _⟩ => ⟨S2x2048x4x1x128, .f32⟩
  | .hbm, ⟨66, _⟩ => ⟨S2x2048x4x2x128, .f32⟩
  | .hbm, ⟨67, _⟩ => ⟨S2x2048x4x2x128, .bf16⟩
  | .hbm, ⟨68, _⟩ => ⟨S4096x1024, .bf16⟩
  | .hbm, ⟨69, _⟩ => ⟨S4096x512, .f32⟩
  | .hbm, ⟨70, _⟩ => ⟨S4096x1024, .bf16⟩
  | .hbm, ⟨71, _⟩ => ⟨S4096x1024, .bf16⟩
  | .hbm, ⟨72, _⟩ => ⟨S4096x1024, .bf16⟩
  | .hbm, ⟨73, _⟩ => ⟨S2x2048x8x128, .bf16⟩
  | .hbm, ⟨74, _⟩ => ⟨S2x2048x8x128, .f32⟩
  | .hbm, ⟨75, _⟩ => ⟨S2x2048x8x128, .bf16⟩
  | .hbm, ⟨76, _⟩ => ⟨S2x2048x8x128, .f32⟩
  | .hbm, ⟨77, _⟩ => ⟨S2x2048x4x2x128, .bf16⟩
  | .hbm, ⟨78, _⟩ => ⟨S2x2048x4x2x128, .f32⟩
  | .hbm, ⟨79, _⟩ => ⟨S2x2048x4x1x64, .f32⟩
  | .hbm, ⟨80, _⟩ => ⟨S2x2048x4x64, .f32⟩
  | .hbm, ⟨81, _⟩ => ⟨S2x2048x4x1x64, .f32⟩
  | .hbm, ⟨82, _⟩ => ⟨S2x2048x4x64, .f32⟩
  | .hbm, ⟨83, _⟩ => ⟨S2x2048x4x1x64, .f32⟩
  | .hbm, ⟨84, _⟩ => ⟨S2x2048x4x1x64, .f32⟩
  | .hbm, ⟨85, _⟩ => ⟨S2x2048x4x2x64, .f32⟩
  | .hbm, ⟨86, _⟩ => ⟨S2x2048x8x64, .f32⟩
  | .hbm, ⟨87, _⟩ => ⟨S2x2048x8x64, .f32⟩
  | .hbm, ⟨88, _⟩ => ⟨S2x2048x8x32, .f32⟩
  | .hbm, ⟨89, _⟩ => ⟨S2x2048x8x64, .f32⟩
  | .hbm, ⟨90, _⟩ => ⟨S2x2048x8x32, .f32⟩
  | .hbm, ⟨91, _⟩ => ⟨S_, .f32⟩
  | .hbm, ⟨92, _⟩ => ⟨S2x2048x32, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54_0 : Ref sig .tc := ⟨.hbm, 70, rfl⟩
abbrev main_v54_1 : Ref sig .tc := ⟨.hbm, 71, rfl⟩
abbrev main_v54_2 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x2048x8x64 : Shape := ⟨4, ![2, 2048, 8, 64]⟩
abbrev S2x2048x8x32 : Shape := ⟨4, ![2, 2048, 8, 32]⟩
abbrev S2x2048x32 : Shape := ⟨3, ![2, 2048, 32]⟩
abbrev S2x8x2048x2048 : Shape := ⟨4, ![2, 8, 2048, 2048]⟩
abbrev S2x2048x2048x8 : Shape := ⟨4, ![2, 2048, 2048, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x64 : Shape := ⟨4, ![2, 8, 2048, 64]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x32, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S2x2048x2048x8, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x8x2048x2048, .i1⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048x2048, .f32⟩
  | .hbm, ⟨26, _⟩ => ⟨S_, .f32⟩
  | .hbm, ⟨27, _⟩ => ⟨S2x8x2048, .f32⟩
  | .hbm, ⟨28, _⟩ => ⟨S2x8x2048x1, .f32⟩
  | .hbm, ⟨29, _⟩ => ⟨S2x8x2048x2048, .f32⟩
  | .hbm, ⟨30, _⟩ => ⟨S2x8x2048x2048, .i1⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S_, .f32⟩
  | .hbm, ⟨35, _⟩ => ⟨S2x8x2048, .f32⟩
  | .hbm, ⟨36, _⟩ => ⟨S2x8x2048, .f32⟩
  | .hbm, ⟨37, _⟩ => ⟨S_, .f32⟩
  | .hbm, ⟨38, _⟩ => ⟨S2x8x2048, .f32⟩
  | .hbm, ⟨39, _⟩ => ⟨S2x8x2048, .i1⟩
  | .hbm, ⟨40, _⟩ => ⟨S_, .f32⟩
  | .hbm, ⟨41, _⟩ => ⟨S2x8x2048, .f32⟩
  | .hbm, ⟨42, _⟩ => ⟨S2x8x2048, .i1⟩
  | .hbm, ⟨43, _⟩ => ⟨S_, .f32⟩
  | .hbm, ⟨44, _⟩ => ⟨S2x8x2048, .f32⟩
  | .hbm, ⟨45, _⟩ => ⟨S_, .f32⟩
  | .hbm, ⟨46, _⟩ => ⟨S2x8x2048, .f32⟩
  | .hbm, ⟨47, _⟩ => ⟨S_, .f32⟩
  | .hbm, ⟨48, _⟩ => ⟨S2x8x2048, .f32⟩
  | .hbm, ⟨49, _⟩ => ⟨S2x8x2048, .f32⟩
  | .hbm, ⟨50, _⟩ => ⟨S2x8x2048, .f32⟩
  | .hbm, ⟨51, _⟩ => ⟨S2x8x2048x1, .f32⟩
  | .hbm, ⟨52, _⟩ => ⟨S2x8x2048x2048, .f32⟩
  | .hbm, ⟨53, _⟩ => ⟨S2x8x2048x2048, .f32⟩
  | .hbm, ⟨54, _⟩ => ⟨S2x8x2048x2048, .f32⟩
  | .hbm, ⟨55, _⟩ => ⟨S_, .f32⟩
  | .hbm, ⟨56, _⟩ => ⟨S2x8x2048, .f32⟩
  | .hbm, ⟨57, _⟩ => ⟨S2x8x2048x1, .f32⟩
  | .hbm, ⟨58, _⟩ => ⟨S2x8x2048x2048, .f32⟩
  | .hbm, ⟨59, _⟩ => ⟨S2x8x2048x2048, .f32⟩
  | .hbm, ⟨60, _⟩ => ⟨S2x8x2048x1, .f32⟩
  | .hbm, ⟨61, _⟩ => ⟨S_, .f32⟩
  | .hbm, ⟨62, _⟩ => ⟨S2x8x2048x1, .f32⟩
  | .hbm, ⟨63, _⟩ => ⟨S2x8x2048x1, .f32⟩
  | .hbm, ⟨64, _⟩ => ⟨S2x8x64x2048, .f32⟩
  | .hbm, ⟨65, _⟩ => ⟨S2x2048x8x64, .f32⟩
  | .hbm, ⟨66, _⟩ => ⟨S2x8x64x2048, .f32⟩
  | .hbm, ⟨67, _⟩ => ⟨S2x8x2048x2048, .f32⟩
  | .hbm, ⟨68, _⟩ => ⟨S2x8x64x2048, .f32⟩
  | .hbm, ⟨69, _⟩ => ⟨S2x2048x8x64, .f32⟩
  | .hbm, ⟨70, _⟩ => ⟨S2x8x2048x2048, .f32⟩
  | .hbm, ⟨71, _⟩ => ⟨S2x8x2048x2048, .f32⟩
  | .hbm, ⟨72, _⟩ => ⟨S2x8x2048x2048, .f32⟩
  | .hbm, ⟨73, _⟩ => ⟨S_, .f32⟩
  | .hbm, ⟨74, _⟩ => ⟨S2x8x2048, .f32⟩
  | .hbm, ⟨75, _⟩ => ⟨S2x8x2048x1, .f32⟩
  | .hbm, ⟨76, _⟩ => ⟨S2x8x2048x1, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048, .f32⟩
  | .hbm, ⟨81, _⟩ => ⟨S2x8x2048x2048, .f32⟩
  | .hbm, ⟨82, _⟩ => ⟨S2x8x2048x2048, .f32⟩
  | .hbm, ⟨83, _⟩ => ⟨S2x8x2048x2048, .f32⟩
  | .hbm, ⟨84, _⟩ => ⟨S_, .f32⟩
  | .hbm, ⟨85, _⟩ => ⟨S2x8x2048x2048, .f32⟩
  | .hbm, ⟨86, _⟩ => ⟨S2x8x2048x2048, .f32⟩
  | .hbm, ⟨87, _⟩ => ⟨S_, .f32⟩
  | .hbm, ⟨88, _⟩ => ⟨S2x8x2048x2048, .f32⟩
  | .hbm, ⟨89, _⟩ => ⟨S2x8x2048x2048, .f32⟩
  | .hbm, ⟨90, _⟩ => ⟨S2x2048x2048x8, .f32⟩
  | .hbm, ⟨91, _⟩ => ⟨S2x2048x8x32, .f32⟩
  | .hbm, ⟨92, _⟩ => ⟨S2x2048x32, .f32⟩
  | .hbm, ⟨93, _⟩ => ⟨S2x8x2048x64, .f32⟩
  | .hbm, ⟨94, _⟩ => ⟨S2x2048x8x64, .f32⟩
  | .hbm, ⟨95, _⟩ => ⟨S2x8x2048x64, .f32⟩
  | .hbm, ⟨96, _⟩ => ⟨S2x2048x8x64, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S256x1024 : Shape := ⟨2, ![256, 1024]⟩
abbrev S4096x256 : Shape := ⟨2, ![4096, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== DH2.lean ====
abbrev S4096x1024 : Shape := ⟨2, ![4096, 1024]⟩
abbrev S1024x5632 : Shape := ⟨2, ![1024, 5632]⟩
abbrev S4096x2816 : Shape := ⟨2, ![4096, 2816]⟩
abbrev S5632x1024 : Shape := ⟨2, ![5632, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x2816, .bf16⟩
  | .hbm, ⟨5, _⟩ => ⟨S4096x2816, .bf16⟩
  | .hbm, ⟨6, _⟩ => ⟨S5632x1024, .f32⟩
  | .hbm, ⟨7, _⟩ => ⟨S5632x1024, .bf16⟩
  | .hbm, ⟨8, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .bf16⟩
  | .local _ .vmem, ⟨9, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DH2RefIdeal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S4096x1024, .f32⟩
  | .hbm, ⟨11, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GwFfnIn.lean ====
abbrev S4096x1024 : Shape := ⟨2, ![4096, 1024]⟩
abbrev S1024x5632 : Shape := ⟨2, ![1024, 5632]⟩
abbrev S4096x2816 : Shape := ⟨2, ![4096, 2816]⟩
abbrev S5632x1024 : Shape := ⟨2, ![5632, 1024]⟩
abbrev S4096x256 : Shape := ⟨2, ![4096, 256]⟩
abbrev S256x1024 : Shape := ⟨2, ![256, 1024]⟩
abbrev S1024x4096 : Shape := ⟨2, ![1024, 4096]⟩
abbrev S1024x256 : Shape := ⟨2, ![1024, 256]⟩
abbrev S512x1024 : Shape := ⟨2, ![512, 1024]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x2816, .bf16⟩
  | .hbm, ⟨5, _⟩ => ⟨S4096x2816, .bf16⟩
  | .hbm, ⟨6, _⟩ => ⟨S4096x1024, .bf16⟩
  | .hbm, ⟨7, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x4096, .bf16⟩
  | .local _ .vmem, ⟨8, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c8_i32 : BitVec 32 := 8#32
  let v13 : BitVec 32 := Scalar.addi c0_i32_5 c8_i32
  let c1_i32 : BitVec 32 := 1#32
  ⟨c0_i32_5, v13, c1_i32⟩
def k0_mult1 (k0_t1 : Fin k0_t1_loop.trips) : BitVec 32 :=
  let c0_i32_5 : BitVec 32 := 0#32
  let c1_i32 : BitVec 32 := 1#32
  let arg7 : BitVec 32 := Scf.iv c0_i32_5 c1_i32 k0_t1
  let c512_i32 : BitVec 32 := 512#32
  let v14 : BitVec 32 := Scalar.muli arg7 c512_i32
  v14
def k0_off1 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let c512_i32 : BitVec 32 := 512#32
  let v14 : BitVec 32 := Scalar.muli arg7 c512_i32
  let v15 : BitVec 32 := v14
  let v16 : Index := Scalar.indexCast v15
  let c0 : Index := 0#32
  ![v16.toNat, 0]
def k0_off2 (k0_t1 : Fin k0_t1_loop.trips) : Fin 2 → Nat :=
  let c0_7 : Index := 0#32
  let c0_i32_5 : BitVec 32 := 0#32
  let c1_i32 : BitVec 32 := 1#32
  let arg7 : BitVec 32 := Scf.iv c0_i32_5 c1_i32 k0_t1
  let c512_i32 : BitVec 32 := 512#32
  let v14 : BitVec 32 := Scalar.muli arg7 c512_i32
  let v15 : BitVec 32 := v14
  let v20 : Index := Scalar.indexCast v15
  ![0, v20.toNat]
def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c11_i32 : BitVec 32 := 11#32
  let v4 : BitVec 1 := Scalar.cmpi .slt arg0 c11_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c11_i32_3 : BitVec 32 := 11#32
  let v8 : BitVec 1 := Scalar.cmpi .sge arg0 c11_i32_3
  let c22_i32 : BitVec 32 := 22#32
  let v9 : BitVec 1 := Scalar.cmpi .slt arg0 c22_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GwFfnInRefIdeal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S4096x1024, .f32⟩
  | .hbm, ⟨11, _⟩ => ⟨S5632x1024, .f32⟩
  | .hbm, ⟨12, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S2048x2816 : Shape := ⟨2, ![2048, 2816]⟩
abbrev S2816x512 : Shape := ⟨2, ![2816, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2816x512, .bf16⟩
  | .local _ .vmem, ⟨3, _⟩ => ⟨S2816x512, .bf16⟩
  | .local _ .vmem, ⟨4, _⟩ => ⟨S2048x512, .bf16⟩
  | .local _ .vmem, ⟨5, _⟩ => ⟨S2048x512, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GwFfnOut.lean ====
abbrev S4096x2816 : Shape := ⟨2, ![4096, 2816]⟩
abbrev S2816x1024 : Shape := ⟨2, ![2816, 1024]⟩
abbrev S4096x1024 : Shape := ⟨2, ![4096, 1024]⟩
abbrev S4096x256 : Shape := ⟨2, ![4096, 256]⟩
abbrev S256x1024 : Shape := ⟨2, ![256, 1024]⟩
abbrev S1024x4096 : Shape := ⟨2, ![1024, 4096]⟩
abbrev S1024x256 : Shape := ⟨2, ![1024, 256]⟩
abbrev S512x1024 : Shape := ⟨2, ![512, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S1024x4096, .bf16⟩
  | .local _ .vmem, ⟨6, _⟩ => ⟨S1024x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c8_i32 : BitVec 32 := 8#32
  let v8 : BitVec 32 := Scalar.addi c0_i32_3 c8_i32
  let c1_i32 : BitVec 32 := 1#32
  ⟨c0_i32_3, v8, c1_i32⟩
def k0_mult1 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c512_i32 : BitVec 32 := 512#32
  let v9 : BitVec 32 := Scalar.muli arg6 c512_i32
  v9
def k0_off1 (k0_t1 : Fin k0_t1_loop.trips) : Fin 2 → Nat :=
  let c0_i32_3 : BitVec 32 := 0#32
  let c1_i32 : BitVec 32 := 1#32
  let arg6 : BitVec 32 := Scf.iv c0_i32_3 c1_i32 k0_t1
  let c512_i32 : BitVec 32 := 512#32
  let v9 : BitVec 32 := Scalar.muli arg6 c512_i32
  let v10 : BitVec 32 := v9
  let v11 : Index := Scalar.indexCast v10
  let c0 : Index := 0#32
  ![v11.toNat, 0]
def k0_off2 (k0_t1 : Fin k0_t1_loop.trips) : Fin 2 → Nat :=
  let c0_5 : Index := 0#32
  let c0_i32_3 : BitVec 32 := 0#32
  let c1_i32 : BitVec 32 := 1#32
  let arg6 : BitVec 32 := Scf.iv c0_i32_3 c1_i32 k0_t1
  let c512_i32 : BitVec 32 := 512#32
  let v9 : BitVec 32 := Scalar.muli arg6 c512_i32
  let v10 : BitVec 32 := v9
  let v15 : Index := Scalar.indexCast v10
  ![0, v15.toNat]
def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c11_i32 : BitVec 32 := 11#32
  let v4 : BitVec 1 := Scalar.cmpi .slt arg0 c11_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GwFfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩
abbrev S1024x512 : Shape := ⟨2, ![1024, 512]⟩
abbrev S4096x512 : Shape := ⟨2, ![4096, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DY.lean ====
abbrev S4096x1024 : Shape := ⟨2, ![4096, 1024]⟩
abbrev S1024x1024 : Shape := ⟨2, ![1024, 1024]⟩
abbrev S512x1024 : Shape := ⟨2, ![512, 1024]⟩
abbrev S4096x512 : Shape := ⟨2, ![4096, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DYRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwOut.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S1024x4096 : Shape := ⟨2, ![1024, 4096]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg6 : BitVec 32 := Scf.iv c0_i32_6 c1_i32 k0_t1
  let c512_i32 : BitVec 32 := 512#32
  let v10 : BitVec 32 := Scalar.muli arg6 c512_i32
  v10
def k0_off1 (k0_t1 : Fin k0_t1_loop.trips) : Fin 2 → Nat :=
  let c0_i32_6 : BitVec 32 := 0#32
  let c1_i32 : BitVec 32 := 1#32
  let arg6 : BitVec 32 := Scf.iv c0_i32_6 c1_i32 k0_t1
  let c512_i32 : BitVec 32 := 512#32
  let v10 : BitVec 32 := Scalar.muli arg6 c512_i32
  let v11 : BitVec 32 := v10
  let v12 : Index := Scalar.indexCast v11
  let c0_8 : Index := 0#32
  ![v12.toNat, 0]
def k0_off2 (k0_t1 : Fin k0_t1_loop.trips) : Fin 2 → Nat :=
  let c0_9 : Index := 0#32
  let c0_i32_6 : BitVec 32 := 0#32
  let c1_i32 : BitVec 32 := 1#32
  let arg6 : BitVec 32 := Scf.iv c0_i32_6 c1_i32 k0_t1
  let c512_i32 : BitVec 32 := 512#32
  let v10 : BitVec 32 := Scalar.muli arg6 c512_i32
  let v11 : BitVec 32 := v10
  let v16 : Index := Scalar.indexCast v11
  ![0, v16.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwOutRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1024x2208 : Shape := ⟨2, ![1024, 2208]⟩
abbrev S2208x1024 : Shape := ⟨2, ![2208, 1024]⟩
abbrev S_ : Shape := ⟨0, ![]⟩
abbrev S64x1024 : Shape := ⟨2, ![64, 1024]⟩
abbrev S2176x1024 : Shape := ⟨2, ![2176, 1024]⟩
abbrev S32x1024 : Shape := ⟨2, ![32, 1024]⟩
abbrev S2304x1024 : Shape := ⟨2, ![2304, 1024]⟩
abbrev S4096x2304 : Shape := ⟨2, ![4096, 2304]⟩
abbrev S256x1024 : Shape := ⟨2, ![256, 1024]⟩
abbrev S4096x256 : Shape := ⟨2, ![4096, 256]⟩
abbrev S2304x4096 : Shape := ⟨2, ![2304, 4096]⟩
abbrev S2176x4096 : Shape := ⟨2, ![2176, 4096]⟩
abbrev S32x4096 : Shape := ⟨2, ![32, 4096]⟩
abbrev S2208x4096 : Shape := ⟨2, ![2208, 4096]⟩
abbrev S4096x2208 : Shape := ⟨2, ![4096, 2208]⟩

abbrev nBuf : Space → Nat
  | .hbm => 17
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S4096x1024, .bf16⟩
  | .hbm, ⟨3, _⟩ => ⟨S2208x1024, .f32⟩
  | .hbm, ⟨4, _⟩ => ⟨S2208x1024, .bf16⟩
  | .hbm, ⟨5, _⟩ => ⟨S_, .bf16⟩
  | .hbm, ⟨6, _⟩ => ⟨S64x1024, .bf16⟩
  | .hbm, ⟨7, _⟩ => ⟨S2176x1024, .bf16⟩
  | .hbm, ⟨8, _⟩ => ⟨S32x1024, .bf16⟩
  | .hbm, ⟨9, _⟩ => ⟨S32x1024, .bf16⟩
  | .hbm, ⟨10, _⟩ => ⟨S2304x1024, .bf16⟩
  | .hbm, ⟨11, _⟩ => ⟨S4096x2304, .f32⟩
  | .hbm, ⟨12, _⟩ => ⟨S2304x4096, .f32⟩
  | .hbm, ⟨13, _⟩ => ⟨S2176x4096, .f32⟩
  | .hbm, ⟨14, _⟩ => ⟨S32x4096, .f32⟩
  | .hbm, ⟨15, _⟩ => ⟨S2208x4096, .f32⟩
  | .hbm, ⟨16, _⟩ => ⟨S4096x2208, .f32⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S4096x256, .f32⟩
  | .local _ .vmem, ⟨4, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4096x1024 : Shape := ⟨2, ![4096, 1024]⟩
abbrev S1024x2208 : Shape := ⟨2, ![1024, 2208]⟩
abbrev S4096x2208 : Shape := ⟨2, ![4096, 2208]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S4096x2208, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DH1.lean ====
abbrev S4096x1024 : Shape := ⟨2, ![4096, 1024]⟩
abbrev S1024x2208 : Shape := ⟨2, ![1024, 2208]⟩
abbrev S4096x2208 : Shape := ⟨2, ![4096, 2208]⟩
abbrev S2208x4096 : Shape := ⟨2, ![2208, 4096]⟩
abbrev S_ : Shape := ⟨0, ![]⟩
abbrev S64x4096 : Shape := ⟨2, ![64, 4096]⟩
abbrev S2176x4096 : Shape := ⟨2, ![2176, 4096]⟩
abbrev S32x4096 : Shape := ⟨2, ![32, 4096]⟩
abbrev S2304x4096 : Shape := ⟨2, ![2304, 4096]⟩
abbrev S4096x2304 : Shape := ⟨2, ![4096, 2304]⟩
abbrev S2208x1024 : Shape := ⟨2, ![2208, 1024]⟩
abbrev S64x1024 : Shape := ⟨2, ![64, 1024]⟩
abbrev S2176x1024 : Shape := ⟨2, ![2176, 1024]⟩
abbrev S32x1024 : Shape := ⟨2, ![32, 1024]⟩
abbrev S2304x1024 : Shape := ⟨2, ![2304, 1024]⟩
abbrev S2048x2304 : Shape := ⟨2, ![2048, 2304]⟩
abbrev S2304x512 : Shape := ⟨2, ![2304, 512]⟩
abbrev S2048x512 : Shape := ⟨2, ![2048, 512]⟩

abbrev nBuf : Space → Nat
  | .hbm => 21
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S4096x2208, .f32⟩
  | .hbm, ⟨3, _⟩ => ⟨S2208x4096, .f32⟩
  | .hbm, ⟨4, _⟩ => ⟨S2208x4096, .bf16⟩
  | .hbm, ⟨5, _⟩ => ⟨S_, .bf16⟩
  | .hbm, ⟨6, _⟩ => ⟨S64x4096, .bf16⟩
  | .hbm, ⟨7, _⟩ => ⟨S2176x4096, .bf16⟩
  | .hbm, ⟨8, _⟩ => ⟨S32x4096, .bf16⟩
  | .hbm, ⟨9, _⟩ => ⟨S32x4096, .bf16⟩
  | .hbm, ⟨10, _⟩ => ⟨S2304x4096, .bf16⟩
  | .hbm, ⟨11, _⟩ => ⟨S4096x2304, .bf16⟩
  | .hbm, ⟨12, _⟩ => ⟨S2208x1024, .f32⟩
  | .hbm, ⟨13, _⟩ => ⟨S2208x1024, .bf16⟩
  | .hbm, ⟨14, _⟩ => ⟨S_, .bf16⟩
  | .hbm, ⟨15, _⟩ => ⟨S64x1024, .bf16⟩
  | .hbm, ⟨16, _⟩ => ⟨S2176x1024, .bf16⟩
  | .hbm, ⟨17, _⟩ => ⟨S32x1024, .bf16⟩
  | .hbm, ⟨18, _⟩ => ⟨S32x1024, .bf16⟩
  | .hbm, ⟨19, _⟩ => ⟨S2304x1024, .bf16⟩
  | .hbm, ⟨20, _⟩ => ⟨S4096x1024, .bf16⟩
  | .local _ .vmem, ⟨0, _⟩ => ⟨S2048x2304, .bf16⟩
  | .local _ .vmem, ⟨1, _⟩ => ⟨S2048x2304, .bf16⟩
  | .local _ .vmem, ⟨2, _⟩ => ⟨S2304x512, .bf16⟩
  | .local _ .vmem, ⟨3, _⟩ => ⟨S2304x512, .bf16⟩
  | .local _ .vmem, ⟨4, _⟩ => ⟨S2048x512, .bf16⟩
  | .local _ .vmem, ⟨5, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DH1RefIdeal.lean ====
abbrev S4096x1024 : Shape := ⟨2, ![4096, 1024]⟩
abbrev S1024x2208 : Shape := ⟨2, ![1024, 2208]⟩
abbrev S4096x2208 : Shape := ⟨2, ![4096, 2208]⟩
abbrev S2208x1024 : Shape := ⟨2, ![2208, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S4096x2208, .f32⟩
  | .hbm, ⟨3, _⟩ => ⟨S4096x2208, .f32⟩
  | .hbm, ⟨4, _⟩ => ⟨S2208x1024, .f32⟩
  | .hbm, ⟨5, _⟩ => ⟨S1024x2208, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwIn.lean ====
abbrev S4096x1024 : Shape := ⟨2, ![4096, 1024]⟩
abbrev S1024x2208 : Shape := ⟨2, ![1024, 2208]⟩
abbrev S4096x2208 : Shape := ⟨2, ![4096, 2208]⟩
abbrev S2208x4096 : Shape := ⟨2, ![2208, 4096]⟩
abbrev S_ : Shape := ⟨0, ![]⟩
abbrev S64x4096 : Shape := ⟨2, ![64, 4096]⟩
abbrev S2176x4096 : Shape := ⟨2, ![2176, 4096]⟩
abbrev S32x4096 : Shape := ⟨2, ![32, 4096]⟩
abbrev S2304x4096 : Shape := ⟨2, ![2304, 4096]⟩
abbrev S4096x2304 : Shape := ⟨2, ![4096, 2304]⟩
abbrev S2304x1024 : Shape := ⟨2, ![2304, 1024]⟩
abbrev S4096x256 : Shape := ⟨2, ![4096, 256]⟩
abbrev S256x1024 : Shape := ⟨2, ![256, 1024]⟩
abbrev S1024x4096 : Shape := ⟨2, ![1024, 4096]⟩
abbrev S1024x256 : Shape := ⟨2, ![1024, 256]⟩
abbrev S512x1024 : Shape := ⟨2, ![512, 1024]⟩
abbrev S1024x512 : Shape := ⟨2, ![1024, 512]⟩
abbrev S2176x1024 : Shape := ⟨2, ![2176, 1024]⟩
abbrev S32x1024 : Shape := ⟨2, ![32, 1024]⟩
abbrev S2208x1024 : Shape := ⟨2, ![2208, 1024]⟩

abbrev nBuf : Space → Nat
  | .hbm => 17
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S4096x2208, .f32⟩
  | .hbm, ⟨3, _⟩ => ⟨S2208x4096, .f32⟩
  | .hbm, ⟨4, _⟩ => ⟨S2208x4096, .bf16⟩
  | .hbm, ⟨5, _⟩ => ⟨S_, .bf16⟩
  | .hbm, ⟨6, _⟩ => ⟨S64x4096, .bf16⟩
  | .hbm, ⟨7, _⟩ => ⟨S2176x4096, .bf16⟩
  | .hbm, ⟨8, _⟩ => ⟨S32x4096, .bf16⟩
  | .hbm, ⟨9, _⟩ => ⟨S32x4096, .bf16⟩
  | .hbm, ⟨10, _⟩ => ⟨S2304x4096, .bf16⟩
  | .hbm, ⟨11, _⟩ => ⟨S4096x2304, .bf16⟩
  | .hbm, ⟨12, _⟩ => ⟨S4096x1024, .bf16⟩
  | .hbm, ⟨13, _⟩ => ⟨S2304x1024, .bf16⟩
  | .hbm, ⟨14, _⟩ => ⟨S2176x1024, .bf16⟩
  | .hbm, ⟨15, _⟩ => ⟨S32x1024, .bf16⟩
  | .hbm, ⟨16, _⟩ => ⟨S2208x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S1024x4096, .bf16⟩
  | .local _ .vmem, ⟨6, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c8_i32 : BitVec 32 := 8#32
  let v8 : BitVec 32 := Scalar.addi c0_i32_3 c8_i32
  let c1_i32 : BitVec 32 := 1#32
  ⟨c0_i32_3, v8, c1_i32⟩
def k0_mult1 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c512_i32 : BitVec 32 := 512#32
  let v9 : BitVec 32 := Scalar.muli arg6 c512_i32
  v9
def k0_off1 (k0_t1 : Fin k0_t1_loop.trips) : Fin 2 → Nat :=
  let c0_i32_3 : BitVec 32 := 0#32
  let c1_i32 : BitVec 32 := 1#32
  let arg6 : BitVec 32 := Scf.iv c0_i32_3 c1_i32 k0_t1
  let c512_i32 : BitVec 32 := 512#32
  let v9 : BitVec 32 := Scalar.muli arg6 c512_i32
  let v10 : BitVec 32 := v9
  let v11 : Index := Scalar.indexCast v10
  let c0 : Index := 0#32
  ![v11.toNat, 0]
def k0_off2 (k0_t1 : Fin k0_t1_loop.trips) : Fin 2 → Nat :=
  let c0_5 : Index := 0#32
  let c0_i32_3 : BitVec 32 := 0#32
  let c1_i32 : BitVec 32 := 1#32
  let arg6 : BitVec 32 := Scf.iv c0_i32_3 c1_i32 k0_t1
  let c512_i32 : BitVec 32 := 512#32
  let v9 : BitVec 32 := Scalar.muli arg6 c512_i32
  let v10 : BitVec 32 := v9
  let v15 : Index := Scalar.indexCast v10
  ![0, v15.toNat]
def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c9_i32 : BitVec 32 := 9#32
  let v4 : BitVec 1 := Scalar.cmpi .slt arg0 c9_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GwInRefIdeal.lean ====
abbrev S4096x1024 : Shape := ⟨2, ![4096, 1024]⟩
abbrev S1024x2208 : Shape := ⟨2, ![1024, 2208]⟩
abbrev S4096x2208 : Shape := ⟨2, ![4096, 2208]⟩
abbrev S2208x1024 : Shape := ⟨2, ![2208, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2208, .f32⟩
  | .hbm, ⟨2, _⟩ => ⟨S4096x2208, .f32⟩
  | .hbm, ⟨3, _⟩ => ⟨S4096x2208, .f32⟩
  | .hbm, ⟨4, _⟩ => ⟨S2208x1024, .f32⟩
  | .hbm, ⟨5, _⟩ => ⟨S1024x2208, .f32⟩
  | .hbm, ⟨6, _⟩ => ⟨S4096x1024, .f32⟩
  | .hbm, ⟨7, _⟩ => ⟨S2208x1024, .f32⟩
  | .hbm, ⟨8, _⟩ => ⟨S2208x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamWAda.lean ====
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWAdaRefIdeal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWUkv.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWUkvRefIdeal.lean ====
abbrev S8x256x128 : Shape := ⟨3, ![8, 256, 128]⟩
abbrev S1x256x128 : Shape := ⟨3, ![1, 256, 128]⟩
abbrev S_ : Shape := ⟨0, ![]⟩
abbrev S256x128 : Shape := ⟨2, ![256, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S1x256x128, .f32⟩
  | .hbm, ⟨8, _⟩ => ⟨S_, .f32⟩
  | .hbm, ⟨9, _⟩ => ⟨S1x256x128, .f32⟩
  | .hbm, ⟨10, _⟩ => ⟨S1x256x128, .f32⟩
  | .hbm, ⟨11, _⟩ => ⟨S_, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S_, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S_, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S_, .f32⟩
  | .hbm, ⟨24, _⟩ => ⟨S1x256x128, .f32⟩
  | .hbm, ⟨25, _⟩ => ⟨S1x256x128, .f32⟩
  | .hbm, ⟨26, _⟩ => ⟨S_, .f32⟩
  | .hbm, ⟨27, _⟩ => ⟨S1x256x128, .f32⟩
  | .hbm, ⟨28, _⟩ => ⟨S1x256x128, .f32⟩
  | .hbm, ⟨29, _⟩ => ⟨S1x256x128, .f32⟩
  | .hbm, ⟨30, _⟩ => ⟨S_, .f32⟩
  | .hbm, ⟨31, _⟩ => ⟨S1x256x128, .f32⟩
  | .hbm, ⟨32, _⟩ => ⟨S1x256x128, .f32⟩
  | .hbm, ⟨33, _⟩ => ⟨S1x256x128, .f32⟩
  | .hbm, ⟨34, _⟩ => ⟨S_, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S_, .f32⟩
  | .hbm, ⟨39, _⟩ => ⟨S1x256x128, .f32⟩
  | .hbm, ⟨40, _⟩ => ⟨S1x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWFfnOut.lean ====
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWFfnOutRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWIn.lean ====
abbrev S8x276x1024 : Shape := ⟨3, ![8, 276, 1024]⟩
abbrev S1x1024x276 : Shape := ⟨3, ![1, 1024, 276]⟩
abbrev S1x276x1024 : Shape := ⟨3, ![1, 276, 1024]⟩
abbrev S276x1024 : Shape := ⟨2, ![276, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x276x1024, .bf16⟩
  | .hbm, ⟨1, _⟩ => ⟨S1x1024x276, .f32⟩
  | .hbm, ⟨2, _⟩ => ⟨S1x1024x276, .f32⟩
  | .hbm, ⟨3, _⟩ => ⟨S1x1024x276, .f32⟩
  | .hbm, ⟨4, _⟩ => ⟨S1x276x1024, .f32⟩
  | .hbm, ⟨5, _⟩ => ⟨S1x276x1024, .f32⟩
  | .hbm, ⟨6, _⟩ => ⟨S1x276x1024, .f32⟩
  | .hbm, ⟨7, _⟩ => ⟨S1x276x1024, .f32⟩
  | .hbm, ⟨8, _⟩ => ⟨S1x276x1024, .f32⟩
  | .hbm, ⟨9, _⟩ => ⟨S1x276x1024, .f32⟩
  | .hbm, ⟨10, _⟩ => ⟨S1x276x1024, .f32⟩
  | .hbm, ⟨11, _⟩ => ⟨S1x1024x276, .f32⟩
  | .hbm, ⟨12, _⟩ => ⟨S1x1024x276, .f32⟩
  | .hbm, ⟨13, _⟩ => ⟨S1x1024x276, .f32⟩
  | .hbm, ⟨14, _⟩ => ⟨S1x1024x276, .f32⟩
  | .local _ .vmem, ⟨0, _⟩ => ⟨S8x276x1024, .bf16⟩
  | .local _ .vmem, ⟨1, _⟩ => ⟨S1x276x1024, .f32⟩
  | .local _ .vmem, ⟨2, _⟩ => ⟨S1x276x1024, .f32⟩
  | .local _ .vmem, ⟨3, _⟩ => ⟨S1x276x1024, .f32⟩
  | .local _ .vmem, ⟨4, _⟩ => ⟨S1x276x1024, .f32⟩
  | .local _ .vmem, ⟨5, _⟩ => ⟨S1x276x1024, .f32⟩
  | .local _ .vmem, ⟨6, _⟩ => ⟨S1x276x1024, .f32⟩
  | .local _ .vmem, ⟨7, _⟩ => ⟨S1x276x1024, .f32⟩
  | _, _ => ⟨S8x276x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x276x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x276x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x276x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x276x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x276x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x276x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x276x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x276x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWInRefIdeal.lean ====
abbrev S8x276x1024 : Shape := ⟨3, ![8, 276, 1024]⟩
abbrev S1x1024x276 : Shape := ⟨3, ![1, 1024, 276]⟩
abbrev S8x1024x276 : Shape := ⟨3, ![8, 1024, 276]⟩
abbrev S_ : Shape := ⟨0, ![]⟩
abbrev S1024x276 : Shape := ⟨2, ![1024, 276]⟩

abbrev nBuf : Space → Nat
  | .hbm => 42
  | .vmem => 0
  | .smem => 0
  | _ => 0

abbrev bufTy : (tb : Table) → Fin (tcTables nBuf tb) → BufTy
  | .hbm, ⟨0, _⟩ => ⟨S8x276x1024, .bf16⟩
  | .hbm, ⟨1, _⟩ => ⟨S1x1024x276, .f32⟩
  | .hbm, ⟨2, _⟩ => ⟨S1x1024x276, .f32⟩
  | .hbm, ⟨3, _⟩ => ⟨S1x1024x276, .f32⟩
  | .hbm, ⟨4, _⟩ => ⟨S8x1024x276, .bf16⟩
  | .hbm, ⟨5, _⟩ => ⟨S8x1024x276, .f32⟩
  | .hbm, ⟨6, _⟩ => ⟨S_, .f32⟩
  | .hbm, ⟨7, _⟩ => ⟨S1024x276, .f32⟩
  | .hbm, ⟨8, _⟩ => ⟨S1x1024x276, .f32⟩
  | .hbm, ⟨9, _⟩ => ⟨S_, .f32⟩
  | .hbm, ⟨10, _⟩ => ⟨S1x1024x276, .f32⟩
  | .hbm, ⟨11, _⟩ => ⟨S1x1024x276, .f32⟩
  | .hbm, ⟨12, _⟩ => ⟨S_, .f32⟩
  | .hbm, ⟨13, _⟩ => ⟨S1x1024x276, .f32⟩
  | .hbm, ⟨14, _⟩ => ⟨S1x1024x276, .f32⟩
  | .hbm, ⟨15, _⟩ => ⟨S1x1024x276, .f32⟩
  | .hbm, ⟨16, _⟩ => ⟨S_, .f32⟩
  | .hbm, ⟨17, _⟩ => ⟨S1x1024x276, .f32⟩
  | .hbm, ⟨18, _⟩ => ⟨S1x1024x276, .f32⟩
  | .hbm, ⟨19, _⟩ => ⟨S1x1024x276, .f32⟩
  | .hbm, ⟨20, _⟩ => ⟨S_, .f32⟩
  | .hbm, ⟨21, _⟩ => ⟨S1x1024x276, .f32⟩
  | .hbm, ⟨22, _⟩ => ⟨S1x1024x276, .f32⟩
  | .hbm, ⟨23, _⟩ => ⟨S1x1024x276, .f32⟩
  | .hbm, ⟨24, _⟩ => ⟨S_, .f32⟩
  | .hbm, ⟨25, _⟩ => ⟨S1x1024x276, .f32⟩
  | .hbm, ⟨26, _⟩ => ⟨S1x1024x276, .f32⟩
  | .hbm, ⟨27, _⟩ => ⟨S_, .f32⟩
  | .hbm, ⟨28, _⟩ => ⟨S1x1024x276, .f32⟩
  | .hbm, ⟨29, _⟩ => ⟨S1x1024x276, .f32⟩
  | .hbm, ⟨30, _⟩ => ⟨S1x1024x276, .f32⟩
  | .hbm, ⟨31, _⟩ => ⟨S_, .f32⟩
  | .hbm, ⟨32, _⟩ => ⟨S1x1024x276, .f32⟩
  | .hbm, ⟨33, _⟩ => ⟨S1x1024x276, .f32⟩
  | .hbm, ⟨34, _⟩ => ⟨S1x1024x276, .f32⟩
  | .hbm, ⟨35, _⟩ => ⟨S_, .f32⟩
  | .hbm, ⟨36, _⟩ => ⟨S1x1024x276, .f32⟩
  | .hbm, ⟨37, _⟩ => ⟨S1x1024x276, .f32⟩
  | .hbm, ⟨38, _⟩ => ⟨S1x1024x276, .f32⟩
  | .hbm, ⟨39, _⟩ => ⟨S_, .f32⟩
  | .hbm, ⟨40, _⟩ => ⟨S1x1024x276, .f32⟩
  | .hbm, ⟨41, _⟩ => ⟨S1x1024x276, .f32⟩
  | _, _ => ⟨S8x276x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamWUq.lean ====
abbrev S8x96x384 : Shape := ⟨3, ![8, 96, 384]⟩
abbrev S1x384x96 : Shape := ⟨3, ![1, 384, 96]⟩
abbrev S1x96x384 : Shape := ⟨3, ![1, 96, 384]⟩
abbrev S96x384 : Shape := ⟨2, ![96, 384]⟩

abbrev nBuf : Space → Nat
  | .hbm => 15
  | .vmem => 8
  | .smem => 0
  | _ => 0

abbrev bufTy : (tb : Table) → Fin (tcTables nBuf tb) → BufTy
  | .hbm, ⟨0, _⟩ => ⟨S8x96x384, .bf16⟩
  | .hbm, ⟨1, _⟩ => ⟨S1x384x96, .f32⟩
  | .hbm, ⟨2, _⟩ => ⟨S1x384x96, .f32⟩
  | .hbm, ⟨3, _⟩ => ⟨S1x384x96, .f32⟩
  | .hbm, ⟨4, _⟩ => ⟨S1x96x384, .f32⟩
  | .hbm, ⟨5, _⟩ => ⟨S1x96x384, .f32⟩
  | .hbm, ⟨6, _⟩ => ⟨S1x96x384, .f32⟩
  | .hbm, ⟨7, _⟩ => ⟨S1x96x384, .f32⟩
  | .hbm, ⟨8, _⟩ => ⟨S1x96x384, .f32⟩
  | .hbm, ⟨9, _⟩ => ⟨S1x96x384, .f32⟩
  | .hbm, ⟨10, _⟩ => ⟨S1x96x384, .f32⟩
  | .hbm, ⟨11, _⟩ => ⟨S1x384x96, .f32⟩
  | .hbm, ⟨12, _⟩ => ⟨S1x384x96, .f32⟩
  | .hbm, ⟨13, _⟩ => ⟨S1x384x96, .f32⟩
  | .hbm, ⟨14, _⟩ => ⟨S1x384x96, .f32⟩
  | .local _ .vmem, ⟨0, _⟩ => ⟨S8x96x384, .bf16⟩
  | .local _ .vmem, ⟨1, _⟩ => ⟨S1x96x384, .f32⟩
  | .local _ .vmem, ⟨2, _⟩ => ⟨S1x96x384, .f32⟩
  | .local _ .vmem, ⟨3, _⟩ => ⟨S1x96x384, .f32⟩
  | .local _ .vmem, ⟨4, _⟩ => ⟨S1x96x384, .f32⟩
  | .local _ .vmem, ⟨5, _⟩ => ⟨S1x96x384, .f32⟩
  | .local _ .vmem, ⟨6, _⟩ => ⟨S1x96x384, .f32⟩
  | .local _ .vmem, ⟨7, _⟩ => ⟨S1x96x384, .f32⟩
  | _, _ => ⟨S8x96x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x96x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x96x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x96x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x96x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x96x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x96x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWUqRefIdeal.lean ====
abbrev S8x96x384 : Shape := ⟨3, ![8, 96, 384]⟩
abbrev S1x384x96 : Shape := ⟨3, ![1, 384, 96]⟩
abbrev S8x384x96 : Shape := ⟨3, ![8, 384, 96]⟩
abbrev S_ : Shape := ⟨0, ![]⟩
abbrev S384x96 : Shape := ⟨2, ![384, 96]⟩

abbrev nBuf : Space → Nat
  | .hbm => 42
  | .vmem => 0
  | .smem => 0
  | _ => 0

abbrev bufTy : (tb : Table) → Fin (tcTables nBuf tb) → BufTy
  | .hbm, ⟨0, _⟩ => ⟨S8x96x384, .bf16⟩
  | .hbm, ⟨1, _⟩ => ⟨S1x384x96, .f32⟩
  | .hbm, ⟨2, _⟩ => ⟨S1x384x96, .f32⟩
  | .hbm, ⟨3, _⟩ => ⟨S1x384x96, .f32⟩
  | .hbm, ⟨4, _⟩ => ⟨S8x384x96, .bf16⟩
  | .hbm, ⟨5, _⟩ => ⟨S8x384x96, .f32⟩
  | .hbm, ⟨6, _⟩ => ⟨S_, .f32⟩
  | .hbm, ⟨7, _⟩ => ⟨S384x96, .f32⟩
  | .hbm, ⟨8, _⟩ => ⟨S1x384x96, .f32⟩
  | .hbm, ⟨9, _⟩ => ⟨S_, .f32⟩
  | .hbm, ⟨10, _⟩ => ⟨S1x384x96, .f32⟩
  | .hbm, ⟨11, _⟩ => ⟨S1x384x96, .f32⟩
  | .hbm, ⟨12, _⟩ => ⟨S_, .f32⟩
  | .hbm, ⟨13, _⟩ => ⟨S1x384x96, .f32⟩
  | .hbm, ⟨14, _⟩ => ⟨S1x384x96, .f32⟩
  | .hbm, ⟨15, _⟩ => ⟨S1x384x96, .f32⟩
  | .hbm, ⟨16, _⟩ => ⟨S_, .f32⟩
  | .hbm, ⟨17, _⟩ => ⟨S1x384x96, .f32⟩
  | .hbm, ⟨18, _⟩ => ⟨S1x384x96, .f32⟩
  | .hbm, ⟨19, _⟩ => ⟨S1x384x96, .f32⟩
  | .hbm, ⟨20, _⟩ => ⟨S_, .f32⟩
  | .hbm, ⟨21, _⟩ => ⟨S1x384x96, .f32⟩
  | .hbm, ⟨22, _⟩ => ⟨S1x384x96, .f32⟩
  | .hbm, ⟨23, _⟩ => ⟨S1x384x96, .f32⟩
  | .hbm, ⟨24, _⟩ => ⟨S_, .f32⟩
  | .hbm, ⟨25, _⟩ => ⟨S1x384x96, .f32⟩
  | .hbm, ⟨26, _⟩ => ⟨S1x384x96, .f32⟩
  | .hbm, ⟨27, _⟩ => ⟨S_, .f32⟩
  | .hbm, ⟨28, _⟩ => ⟨S1x384x96, .f32⟩
  | .hbm, ⟨29, _⟩ => ⟨S1x384x96, .f32⟩
  | .hbm, ⟨30, _⟩ => ⟨S1x384x96, .f32⟩
  | .hbm, ⟨31, _⟩ => ⟨S_, .f32⟩
  | .hbm, ⟨32, _⟩ => ⟨S1x384x96, .f32⟩
  | .hbm, ⟨33, _⟩ => ⟨S1x384x96, .f32⟩
  | .hbm, ⟨34, _⟩ => ⟨S1x384x96, .f32⟩
  | .hbm, ⟨35, _⟩ => ⟨S_, .f32⟩
  | .hbm, ⟨36, _⟩ => ⟨S1x384x96, .f32⟩
  | .hbm, ⟨37, _⟩ => ⟨S1x384x96, .f32⟩
  | .hbm, ⟨38, _⟩ => ⟨S1x384x96, .f32⟩
  | .hbm, ⟨39, _⟩ => ⟨S_, .f32⟩
  | .hbm, ⟨40, _⟩ => ⟨S1x384x96, .f32⟩
  | .hbm, ⟨41, _⟩ => ⟨S1x384x96, .f32⟩
  | _, _ => ⟨S8x96x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamWFfnIn.lean ====
abbrev S8x704x1024 : Shape := ⟨3, ![8, 704, 1024]⟩
abbrev S1x1024x704 : Shape := ⟨3, ![1, 1024, 704]⟩
abbrev S1x704x1024 : Shape := ⟨3, ![1, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x1024x704, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWFfnInRefIdeal.lean ====
abbrev S8x704x1024 : Shape := ⟨3, ![8, 704, 1024]⟩
abbrev S1x1024x704 : Shape := ⟨3, ![1, 1024, 704]⟩
abbrev S8x1024x704 : Shape := ⟨3, ![8, 1024, 704]⟩
abbrev S_ : Shape := ⟨0, ![]⟩
abbrev S1024x704 : Shape := ⟨2, ![1024, 704]⟩

abbrev nBuf : Space → Nat
  | .hbm => 42
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x1024x704, .bf16⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x1024x704, .f32⟩
  | .hbm, ⟨39, _⟩ => ⟨S_, .f32⟩
  | .hbm, ⟨40, _⟩ => ⟨S1x1024x704, .f32⟩
  | .hbm, ⟨41, _⟩ => ⟨S1x1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdaGrad.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradRefIdeal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x768, .f32⟩
  | .hbm, ⟨5, _⟩ => ⟨S768x1024, .f32⟩
  | .hbm, ⟨6, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Dense.lean ====
module
public import proofs.«01_k».proof.Proof.Gen.KernelIdeal.Frame
public import Idealize.ShloMosaic.Lib.Pointwise
public import Idealize.ShloMosaic.Lib.Pipeline.ValueKit

/-!
What one grid point of the backward call computes, written over whole blocks: the probabilities of two heads,
the gradient of the scores, and the three products, as sums over all 2048 rows or columns with the masked terms zero.
Also the lemmas that read a tile of a scratch array written tile by tile.
-/

@[expose] public section
set_option maxRecDepth 16384

namespace Cert.Mla
open Idealize.ShloMosaic Idealize.SL.Sem

/-- A block of 2048 rows and two heads' tiles of 128 lanes. -/
abbrev B2 := (⟨2, ![2048, 256]⟩ : Shape).Idx → EReal
/-- A block of 2048 rows and 128 lanes, two heads of 64. -/
abbrev B1 := (⟨2, ![2048, 128]⟩ : Shape).Idx → EReal

/-- Lane `e` of the tile of head `h`. -/
def ln (h : Fin 2) (e : Fin 128) : Fin 256 := ⟨128 * h.val + e.val, by omega⟩
theorem ln_zero (e : Fin 128) : ln 0 e = ⟨e.val, by omega⟩ := by ext; simp [ln]
theorem ln_one (e : Fin 128) : ln 1 e = ⟨128 + e.val, by omega⟩ := by ext; simp [ln]

/-- The scale of the scores, as the program holds it. -/
noncomputable def SC : EReal := Ideal.ofBits .f32 0x3DD105EC#32

/-- The exponential of a score less its row's saved logarithm. -/
noncomputable def PE (q k l : B2) (h : Fin 2) (r c : Fin 2048) : EReal :=
  Ideal.exp ((∑ e : Fin 128, q (ix2 r (ln h e)) * k (ix2 c (ln h e))) * SC - l (ix2 r (ln h 0)))

/-- The probability of column `c` in row `r`: zero past the diagonal. -/
noncomputable def PP (q k l : B2) (h : Fin 2) (r c : Fin 2048) : EReal := if c.val ≤ r.val then PE q k l h r c else 0

/-- The row sum of the output times its gradient, over the head's own half of the lanes. -/
noncomputable def DD (o d : B1) (h : Fin 2) (r : Fin 2048) : EReal :=
  ∑ e : Fin 128, if (e.val < 64 ↔ h = 0) then d (ix2 r e) * o (ix2 r e) else 0

/-- The gradient of the probability. -/
noncomputable def DP (v : B2) (d : B1) (h : Fin 2) (r c : Fin 2048) : EReal :=
  ∑ e : Fin 128, d (ix2 r e) * v (ix2 c (ln h e))

/-- The gradient of the score. -/
noncomputable def DS (q k v l : B2) (o d : B1) (h : Fin 2) (r c : Fin 2048) : EReal :=
  PP q k l h r c * (DP v d h r c - DD o d h r) * SC

/-- The part of the query gradient of row `r` that the columns `s, …, s + n - 1` give. -/
noncomputable def CQ (q k v l : B2) (o d : B1) (s n : ℕ) (hs : s + n ≤ 2048) (h : Fin 2) (r : Fin 2048) (e : Fin 128) : EReal :=
  ∑ c : Fin n, DS q k v l o d h r ⟨s + c.val, by omega⟩ * k (ix2 ⟨s + c.val, by omega⟩ (ln h e))

/-- The part of the key gradient of column `c` that the 512 rows from `s` on give. -/
noncomputable def CK (q k v l : B2) (o d : B1) (s : ℕ) (hs : s + 512 ≤ 2048) (h : Fin 2) (c : Fin 2048) (e : Fin 128) : EReal :=
  ∑ a : Fin 512, DS q k v l o d h ⟨s + a.val, by omega⟩ c * q (ix2 ⟨s + a.val, by omega⟩ (ln h e))

/-- The part of the value gradient of column `c` that the 512 rows from `s` on give. -/
noncomputable def CV (q k l : B2) (d : B1) (s : ℕ) (hs : s + 512 ≤ 2048) (h : Fin 2) (c : Fin 2048) (e : Fin 128) : EReal :=
  ∑ a : Fin 512, PP q k l h ⟨s + a.val, by omega⟩ c * d (ix2 ⟨s + a.val, by omega⟩ e)

/-- The query gradient of a block. -/
noncomputable def GQ (q k v l : B2) (o d : B1) (h : Fin 2) (r : Fin 2048) (e : Fin 128) : EReal :=
  ∑ c : Fin 2048, DS q k v l o d h r c * k (ix2 c (ln h e))
/-- The key gradient of a block. -/
noncomputable def GK (q k v l : B2) (o d : B1) (h : Fin 2) (c : Fin 2048) (e : Fin 128) : EReal :=
  ∑ r : Fin 2048, DS q k v l o d h r c * q (ix2 r (ln h e))
/-- The value gradient of a block. -/
noncomputable def GV (q k l : B2) (d : B1) (h : Fin 2) (c : Fin 2048) (e : Fin 128) : EReal :=
  ∑ r : Fin 2048, PP q k l h r c * d (ix2 r e)

theorem PP_past {q k l : B2} {h : Fin 2} {r c : Fin 2048} (hc : c.val ≤ r.val) : PP q k l h r c = PE q k l h r c := if_pos hc
theorem PP_masked {q k l : B2} {h : Fin 2} {r c : Fin 2048} (hc : r.val < c.val) : PP q k l h r c = 0 := if_neg (by omega)
theorem DS_masked {q k v l : B2} {o d : B1} {h : Fin 2} {r c : Fin 2048} (hc : r.val < c.val) : DS q k v l o d h r c = 0 := by
  rw [DS, PP_masked hc, zero_mul, zero_mul]
theorem DD_zero (o d : B1) (r : Fin 2048) :
    DD o d 0 r = ∑ e : Fin 128, if e.val < 64 then d (ix2 r e) * o (ix2 r e) else 0 := by simp [DD]
theorem DD_one (o d : B1) (r : Fin 2048) :
    DD o d 1 r = ∑ e : Fin 128, if e.val < 64 then 0 else d (ix2 r e) * o (ix2 r e) := by
  simp only [DD, Fin.reduceEq, iff_false, ite_not]

/-- A causal select of a tile, on the numbers of its row and column. -/
theorem sel_sge (a x : Fin 512) (u w : EReal) :
    Scalar.select (IntOp.cmpi .sge (BitVec.ofNat 32 a.val) (BitVec.ofNat 32 x.val)) u w = if x.val ≤ a.val then u else w := by
  have ha := a.isLt
  have hx := x.isLt
  have key : ∀ n : ℕ, n < 512 → (BitVec.ofNat 32 n).toInt = n := fun n hn => by
    rw [BitVec.toInt_eq_toNat_of_lt (by simp; omega)]; simp; omega
  have h : IntOp.cmpi .sge (BitVec.ofNat 32 a.val) (BitVec.ofNat 32 x.val) = if x.val ≤ a.val then 1#1 else 0#1 := by
    simp only [IntOp.cmpi, BitVec.sle, key a.val ha, key x.val hx, Nat.cast_le]
    by_cases hc : x.val ≤ a.val
    · rw [if_pos hc, decide_eq_true hc]; rfl
    · rw [if_neg hc, decide_eq_false hc]; rfl
  rw [h]
  split <;> rfl

/-- The select of the even head's lanes. -/
theorem sel_lane (x : Fin 128) (u w : EReal) :
    Scalar.select (IntOp.cmpi .slt (BitVec.ofNat 32 x.val) 64#32) u w = if x.val < 64 then u else w := by
  have : ∀ x : Fin 128, IntOp.cmpi .slt (BitVec.ofNat 32 x.val) 64#32 = if x.val < 64 then 1#1 else 0#1 := by decide +kernel
  rw [this]
  split <;> rfl

/-- The select of the odd head's lanes. -/
theorem sel_lane' (x : Fin 128) (u w : EReal) :
    Scalar.select (IntOp.cmpi .sge (BitVec.ofNat 32 x.val) 64#32) u w = if x.val < 64 then w else u := by
  have : ∀ x : Fin 128, IntOp.cmpi .sge (BitVec.ofNat 32 x.val) 64#32 = if x.val < 64 then 0#1 else 1#1 := by decide +kernel
  rw [this]
  split <;> rfl

section Canon
variable {n r0 l0 : ℕ} {h0 : Fin 2} {inb : ∀ a, (![r0, l0] : Fin 2 → ℕ) a + (![n, 128] : Fin 2 → ℕ) a ≤ (![2048, 256] : Fin 2 → ℕ) a}
  {w : (⟨2, ![n, 128]⟩ : Shape).Idx → EReal}
  {L : List (View.Piece (Elt Ideal) (⟨2, ![2048, 256]⟩ : Shape) .f32)}

/-- Inside the tile stored last, its payload. -/
theorem canon_hit (hl : l0 = 128 * h0.val) (hr : r0 + n ≤ 2048) (a : Fin n) (e : Fin 128) :
    View.canon (Val := Elt Ideal) (s := ⟨2, ![2048, 256]⟩) (e := .f32) (⟨Rect.unit (s := ⟨2, ![2048, 256]⟩) ![r0, l0] ![n, 128] inb, w⟩ :: L) (ix2 ⟨r0 + a.val, by omega⟩ (ln h0 e)) = w (ix2 a e) := by
  have : (ix2 ⟨r0 + a.val, by omega⟩ (ln h0 e) : (⟨2, ![2048, 256]⟩ : Shape).Idx) =
      (Rect.unit (s := ⟨2, ![2048, 256]⟩) ![r0, l0] ![n, 128] inb).emb (ix2 a e) := by
    funext b
    apply Fin.ext
    rw [Rect.emb_apply]
    fin_cases b
    · show r0 + a.val = r0 + 1 * a.val; omega
    · show 128 * h0.val + e.val = l0 + 1 * e.val
      rw [hl]; omega
  rw [this]
  exact View.canon_cons_emb (Rect.unit (s := ⟨2, ![2048, 256]⟩) ![r0, l0] ![n, 128] inb) w L _

/-- Outside the tile stored last, the earlier contents. -/
theorem canon_miss (hl : l0 = 128 * h0.val) (r : Fin 2048) (h : Fin 2) (e : Fin 128)
    (hh : ¬(r0 ≤ r.val ∧ r.val < r0 + n ∧ h = h0)) :
    View.canon (Val := Elt Ideal) (s := ⟨2, ![2048, 256]⟩) (e := .f32) (⟨Rect.unit (s := ⟨2, ![2048, 256]⟩) ![r0, l0] ![n, 128] inb, w⟩ :: L) (ix2 r (ln h e)) = View.canon L (ix2 r (ln h e)) := by
  refine View.canon_cons_of_not_mem _ L fun hm => hh ?_
  rw [Rect.mem_set_unit] at hm
  have h0' := hm 0
  have h1' := hm 1
  have e0 : ((ix2 r (ln h e) : (⟨2, ![2048, 256]⟩ : Shape).Idx) 0).val = r.val := rfl
  have e1 : ((ix2 r (ln h e) : (⟨2, ![2048, 256]⟩ : Shape).Idx) 1).val = 128 * h.val + e.val := rfl
  rw [e0] at h0'
  rw [e1] at h1'
  simp only [Matrix.cons_val_zero, Matrix.cons_val_one] at h0' h1'
  refine ⟨h0'.1, h0'.2, Fin.ext ?_⟩
  omega

/-- A tile stored without looking at the earlier contents. -/
theorem canon_set (h0 : Fin 2) (hl : l0 = 128 * h0.val) (hr : r0 + n ≤ 2048) (f : Fin 2 → Fin 2048 → Fin 128 → EReal)
    (hw : ∀ (a : Fin n) (e : Fin 128), w (ix2 a e) = f h0 ⟨r0 + a.val, by omega⟩ e) (r : Fin 2048) (h : Fin 2) (e : Fin 128) :
    View.canon (Val := Elt Ideal) (s := ⟨2, ![2048, 256]⟩) (e := .f32) (⟨Rect.unit (s := ⟨2, ![2048, 256]⟩) ![r0, l0] ![n, 128] inb, w⟩ :: L) (ix2 r (ln h e)) =
      if r0 ≤ r.val ∧ r.val < r0 + n ∧ h = h0 then f h r e else View.canon L (ix2 r (ln h e)) := by
  split
  · next hh =>
    obtain ⟨h1, h2, rfl⟩ := hh
    obtain ⟨a, hlt, rfl⟩ : ∃ (a : Fin n) (hlt : r0 + a.val < 2048), r = ⟨r0 + a.val, hlt⟩ :=
      ⟨⟨r.val - r0, by omega⟩, by show r0 + (r.val - r0) < 2048; omega, Fin.ext (by show r.val = r0 + (r.val - r0); omega)⟩
    rw [canon_hit hl hr, hw]
  · next hh => exact canon_miss hl r h e hh

/-- A tile that is the earlier contents of its place plus a term. -/
theorem canon_acc (h0 : Fin 2) (hl : l0 = 128 * h0.val) (hr : r0 + n ≤ 2048) (f : Fin 2 → Fin 2048 → Fin 128 → EReal)
    {sig : RefSig} {κ : Kind} {sp : Space} (v : View sig κ sp (⟨2, ![2048, 256]⟩ : Shape) .f32)
    (hw : ∀ (a : Fin n) (e : Fin 128), w (ix2 a e) =
      HAdd.hAdd (α := EReal) (β := EReal) (v.readCov (Val := Elt Ideal) L (Rect.unit (s := ⟨2, ![2048, 256]⟩) ![r0, l0] ![n, 128] inb).toLoadRect (ix2 a e))
        (f h0 ⟨r0 + a.val, by omega⟩ e))
    (r : Fin 2048) (h : Fin 2) (e : Fin 128) :
    View.canon (Val := Elt Ideal) (s := ⟨2, ![2048, 256]⟩) (e := .f32) (⟨Rect.unit (s := ⟨2, ![2048, 256]⟩) ![r0, l0] ![n, 128] inb, w⟩ :: L) (ix2 r (ln h e)) =
      if r0 ≤ r.val ∧ r.val < r0 + n ∧ h = h0 then HAdd.hAdd (α := EReal) (β := EReal) (View.canon L (ix2 r (ln h e))) (f h r e)
      else View.canon L (ix2 r (ln h e)) := by
  split
  · next hh =>
    obtain ⟨h1, h2, rfl⟩ := hh
    obtain ⟨a, hlt, rfl⟩ : ∃ (a : Fin n) (hlt : r0 + a.val < 2048), r = ⟨r0 + a.val, hlt⟩ :=
      ⟨⟨r.val - r0, by omega⟩, by show r0 + (r.val - r0) < 2048; omega, Fin.ext (by show r.val = r0 + (r.val - r0); omega)⟩
    rw [canon_hit hl hr, hw, View.readCov_eq_canon']
    have e1 : (Rect.unit (s := ⟨2, ![2048, 256]⟩) ![r0, l0] ![n, 128] inb).toLoadRect.idx (ix2 a e) =
        (ix2 ⟨r0 + a.val, by omega⟩ (ln h e) : (⟨2, ![2048, 256]⟩ : Shape).Idx) := by
      funext b
      apply Fin.ext
      fin_cases b
      · show r0 + 1 * a.val = r0 + a.val; omega
      · show l0 + 1 * e.val = 128 * h.val + e.val
        rw [hl]; omega
    exact congrArg (fun z => HAdd.hAdd (α := EReal) (β := EReal) z _) (congrArg (View.canon L) e1)
  · next hh => exact canon_miss hl r h e hh
end Canon

end Cert.Mla
-- ==== Proof.PiecesQ.lean ====
module
public import proofs.«01_k».proof.Proof.Dense

/-!
The tiles of the query gradient that one grid point stores into its scratch array, each as a sum over its rows or columns.
-/

@[expose] public section
set_option maxRecDepth 16384

namespace Cert.Mla
open Idealize.ShloMosaic Idealize.SL.Sem Cert.KernelIdeal Cert.KernelIdeal.Gen

section
variable (c : Dev nD) (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (arg11 : Memref sig .tc .vmem S2048x256 .f32)
  (x0 x1 x2 : Vec Ideal S2048x256 .bf16) (x3 x4 : Vec Ideal S2048x128 .f32) (x5 : Vec Ideal S2048x256 .f32)

/-- The query tile of row block 3 at the diagonal, head 1. -/
theorem q3_d1 (a : Fin 512) (e : Fin 128) :
    (k0_pay25 (kernelRun0_A.sl.r_9 (F := Ideal) c arg2 harg2 arg3 harg3 arg4 harg4 arg5 harg5 arg6 harg6 arg7 harg7 x0 x1 x2 x3 x4 x5) (View.readAt (Elt Ideal) arg3.view (Rect.unit (s := S2048x256) ![1536, 128] S512x128.size inb_S2048x256_S512x128_1536_128).toLoadRect (harg3.unread x1))) (ix2 a e) =
      CQ x0 x1 x2 x5 x3 x4 1536 512 (by decide) 1 ⟨1536 + a.val, by omega⟩ e := by
  simp only [kernelRun0_A.sl.r_9, kernelRun0_A.sl.r, kernelRun0_A.sl.r_2, kernelRun0_A.sl.r_4, kernelRun0_A.sl.r_6, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_one, ln_one, zero_add, add_le_add_iff_left, ite_mul, zero_mul]
  rfl

/-- The query tile of row block 3 at the diagonal, head 0. -/
theorem q3_d0 (a : Fin 512) (e : Fin 128) :
    (k0_pay22 (kernelRun0_A.sl.r_10 (F := Ideal) c arg2 harg2 arg3 harg3 arg4 harg4 arg5 harg5 arg6 harg6 arg7 harg7 x0 x1 x2 x3 x4 x5)) (ix2 a e) =
      CQ x0 x1 x2 x5 x3 x4 1536 512 (by decide) 0 ⟨1536 + a.val, by omega⟩ e := by
  simp only [kernelRun0_A.sl.r_10, kernelRun0_A.sl.r, kernelRun0_A.sl.r_1, kernelRun0_A.sl.r_5, kernelRun0_A.sl.r_7, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_zero, ln_zero, zero_add, add_le_add_iff_left, ite_mul, zero_mul]
  rfl

/-- The query tile of row block 3 at the earlier columns, head 0. -/
theorem q3_p0 (a : Fin 512) (e : Fin 128) :
    (k0_pay34 (kernelRun0_A.sl.r (F := Ideal) c arg6 harg6 x4) (kernelRun0_A.sl.r_1 (F := Ideal) c arg5 harg5 arg6 harg6 x3 x4) (kernelRun0_A.sl.r_13 (F := Ideal) c arg2 harg2 arg3 harg3 arg7 harg7 x0 x1 x5) (View.readAt (Elt Ideal) arg4.view (Rect.unit (s := S2048x256) ![0, 0] S1536x128.size inb_S2048x256_S1536x128_0_0).toLoadRect (harg4.unread x2)) (View.readAt (Elt Ideal) arg3.view (Rect.unit (s := S2048x256) ![0, 0] S1536x128.size inb_S2048x256_S1536x128_0_0).toLoadRect (harg3.unread x1)) (kernelRun0_A.sl.v140 (F := Ideal) c arg2 harg2 arg3 harg3 arg4 harg4 arg5 harg5 arg6 harg6 arg7 harg7 arg11 x0 x1 x2 x3 x4 x5)) (ix2 a e) =
      HAdd.hAdd (α := EReal) (β := EReal) ((kernelRun0_A.sl.v140 (F := Ideal) c arg2 harg2 arg3 harg3 arg4 harg4 arg5 harg5 arg6 harg6 arg7 harg7 arg11 x0 x1 x2 x3 x4 x5) (ix2 a e)) (CQ x0 x1 x2 x5 x3 x4 0 1536 (by decide) 0 ⟨1536 + a.val, by omega⟩ e) := by
  simp only [kernelRun0_A.sl.r, kernelRun0_A.sl.r_1, kernelRun0_A.sl.r_13, kernelRun0_A.sl.r_3, kernelRun0_A.sl.r_5, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CQ, DS, DP, PE, SC, PP_past, DD_zero, ln_zero, zero_add]
  rfl

/-- The query tile of row block 2 at the diagonal, head 1. -/
theorem q2_d1 (a : Fin 512) (e : Fin 128) :
    (k0_pay57 (kernelRun0_A.sl.r_29 (F := Ideal) c arg2 harg2 arg3 harg3 arg4 harg4 arg5 harg5 arg6 harg6 arg7 harg7 x0 x1 x2 x3 x4 x5) (View.readAt (Elt Ideal) arg3.view (Rect.unit (s := S2048x256) ![1024, 128] S512x128.size inb_S2048x256_S512x128_1024_128).toLoadRect (harg3.unread x1))) (ix2 a e) =
      CQ x0 x1 x2 x5 x3 x4 1024 512 (by decide) 1 ⟨1024 + a.val, by omega⟩ e := by
  simp only [kernelRun0_A.sl.r_29, kernelRun0_A.sl.r_19, kernelRun0_A.sl.r_22, kernelRun0_A.sl.v0, kernelRun0_A.sl.r_18, kernelRun0_A.sl.r_28, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_one, ln_one, zero_add, add_le_add_iff_left, ite_mul, zero_mul]
  rfl

/-- The query tile of row block 2 at the diagonal, head 0. -/
theorem q2_d0 (a : Fin 512) (e : Fin 128) :
    (k0_pay54 (kernelRun0_A.sl.r_19 (F := Ideal) c arg6 harg6 x4) (kernelRun0_A.sl.r_21 (F := Ideal) c arg5 harg5 arg6 harg6 x3 x4) (kernelRun0_A.sl.r_27 (F := Ideal) c arg2 harg2 arg3 harg3 arg7 harg7 x0 x1 x5) (View.readAt (Elt Ideal) arg4.view (Rect.unit (s := S2048x256) ![1024, 0] S512x128.size inb_S2048x256_S512x128_1024_0).toLoadRect (harg4.unread x2)) (View.readAt (Elt Ideal) arg3.view (Rect.unit (s := S2048x256) ![1024, 0] S512x128.size inb_S2048x256_S512x128_1024_0).toLoadRect (harg3.unread x1))) (ix2 a e) =
      CQ x0 x1 x2 x5 x3 x4 1024 512 (by decide) 0 ⟨1024 + a.val, by omega⟩ e := by
  simp only [kernelRun0_A.sl.r_19, kernelRun0_A.sl.r_21, kernelRun0_A.sl.r_20, kernelRun0_A.sl.v0, kernelRun0_A.sl.r_27, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_zero, ln_zero, zero_add, add_le_add_iff_left, ite_mul, zero_mul]
  rfl

/-- The query tile of row block 3 at the earlier columns, head 1. -/
theorem q3_p1 (a : Fin 512) (e : Fin 128) :
    (k0_pay37 (kernelRun0_A.sl.r_15 (F := Ideal) c arg2 harg2 arg3 harg3 arg4 harg4 arg5 harg5 arg6 harg6 arg7 harg7 x0 x1 x2 x3 x4 x5) (View.readAt (Elt Ideal) arg3.view (Rect.unit (s := S2048x256) ![0, 128] S1536x128.size inb_S2048x256_S1536x128_0_128).toLoadRect (harg3.unread x1)) (kernelRun0_A.sl.v157 (F := Ideal) c arg2 harg2 arg3 harg3 arg4 harg4 arg5 harg5 arg6 harg6 arg7 harg7 arg11 x0 x1 x2 x3 x4 x5)) (ix2 a e) =
      HAdd.hAdd (α := EReal) (β := EReal) ((kernelRun0_A.sl.v157 (F := Ideal) c arg2 harg2 arg3 harg3 arg4 harg4 arg5 harg5 arg6 harg6 arg7 harg7 arg11 x0 x1 x2 x3 x4 x5) (ix2 a e)) (CQ x0 x1 x2 x5 x3 x4 0 1536 (by decide) 1 ⟨1536 + a.val, by omega⟩ e) := by
  simp only [kernelRun0_A.sl.r_15, kernelRun0_A.sl.r, kernelRun0_A.sl.r_2, kernelRun0_A.sl.r_4, kernelRun0_A.sl.r_6, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CQ, DS, DP, PE, SC, PP_past, DD_one, ln_one, zero_add]
  rfl

/-- The query tile of row block 2 at the earlier columns, head 0. -/
theorem q2_p0 (a : Fin 512) (e : Fin 128) :
    (k0_pay67 (kernelRun0_A.sl.r_19 (F := Ideal) c arg6 harg6 x4) (kernelRun0_A.sl.r_21 (F := Ideal) c arg5 harg5 arg6 harg6 x3 x4) (kernelRun0_A.sl.r_31 (F := Ideal) c arg2 harg2 arg3 harg3 arg7 harg7 x0 x1 x5) (View.readAt (Elt Ideal) arg4.view (Rect.unit (s := S2048x256) ![0, 0] S1024x128.size inb_S2048x256_S1024x128_0_0).toLoadRect (harg4.unread x2)) (View.readAt (Elt Ideal) arg3.view (Rect.unit (s := S2048x256) ![0, 0] S1024x128.size inb_S2048x256_S1024x128_0_0).toLoadRect (harg3.unread x1)) (kernelRun0_A.sl.v312 (F := Ideal) c arg2 harg2 arg3 harg3 arg4 harg4 arg5 harg5 arg6 harg6 arg7 harg7 arg11 x0 x1 x2 x3 x4 x5)) (ix2 a e) =
      HAdd.hAdd (α := EReal) (β := EReal) ((kernelRun0_A.sl.v312 (F := Ideal) c arg2 harg2 arg3 harg3 arg4 harg4 arg5 harg5 arg6 harg6 arg7 harg7 arg11 x0 x1 x2 x3 x4 x5) (ix2 a e)) (CQ x0 x1 x2 x5 x3 x4 0 1024 (by decide) 0 ⟨1024 + a.val, by omega⟩ e) := by
  simp only [kernelRun0_A.sl.r_19, kernelRun0_A.sl.r_21, kernelRun0_A.sl.r_20, kernelRun0_A.sl.v0, kernelRun0_A.sl.r_31, kernelRun0_A.sl.r_23, kernelRun0_A.sl.r_25, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CQ, DS, DP, PE, SC, PP_past, DD_zero, ln_zero, zero_add]
  rfl

/-- The query tile of row block 1 at the diagonal, head 1. -/
theorem q1_d1 (a : Fin 512) (e : Fin 128) :
    (k0_pay92 (kernelRun0_A.sl.r_48 (F := Ideal) c arg2 harg2 arg3 harg3 arg4 harg4 arg5 harg5 arg6 harg6 arg7 harg7 x0 x1 x2 x3 x4 x5) (View.readAt (Elt Ideal) arg3.view (Rect.unit (s := S2048x256) ![512, 128] S512x128.size inb_S2048x256_S512x128_512_128).toLoadRect (harg3.unread x1))) (ix2 a e) =
      CQ x0 x1 x2 x5 x3 x4 512 512 (by decide) 1 ⟨512 + a.val, by omega⟩ e := by
  simp only [kernelRun0_A.sl.r_48, kernelRun0_A.sl.r_38, kernelRun0_A.sl.r_40, kernelRun0_A.sl.v0, kernelRun0_A.sl.r_37, kernelRun0_A.sl.r_46, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_one, ln_one, zero_add, add_le_add_iff_left, ite_mul, zero_mul]
  rfl

/-- The query tile of row block 1 at the diagonal, head 0. -/
theorem q1_d0 (a : Fin 512) (e : Fin 128) :
    (k0_pay89 k0_pay3 (kernelRun0_A.sl.r_38 (F := Ideal) c arg6 harg6 x4) (kernelRun0_A.sl.r_39 (F := Ideal) c arg5 harg5 arg6 harg6 x3 x4) (kernelRun0_A.sl.r_45 (F := Ideal) c arg2 harg2 arg3 harg3 arg7 harg7 x0 x1 x5) (View.readAt (Elt Ideal) arg4.view (Rect.unit (s := S2048x256) ![512, 0] S512x128.size inb_S2048x256_S512x128_512_0).toLoadRect (harg4.unread x2)) (View.readAt (Elt Ideal) arg3.view (Rect.unit (s := S2048x256) ![512, 0] S512x128.size inb_S2048x256_S512x128_512_0).toLoadRect (harg3.unread x1))) (ix2 a e) =
      CQ x0 x1 x2 x5 x3 x4 512 512 (by decide) 0 ⟨512 + a.val, by omega⟩ e := by
  simp only [kernelRun0_A.sl.r_38, kernelRun0_A.sl.r_39, kernelRun0_A.sl.v0, kernelRun0_A.sl.r_37, kernelRun0_A.sl.r_45, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_zero, ln_zero, zero_add, add_le_add_iff_left, ite_mul, zero_mul]
  rfl

/-- The query tile of row block 2 at the earlier columns, head 1. -/
theorem q2_p1 (a : Fin 512) (e : Fin 128) :
    (k0_pay70 (kernelRun0_A.sl.r_35 (F := Ideal) c arg2 harg2 arg3 harg3 arg4 harg4 arg5 harg5 arg6 harg6 arg7 harg7 x0 x1 x2 x3 x4 x5) (View.readAt (Elt Ideal) arg3.view (Rect.unit (s := S2048x256) ![0, 128] S1024x128.size inb_S2048x256_S1024x128_0_128).toLoadRect (harg3.unread x1)) (kernelRun0_A.sl.v333 (F := Ideal) c arg2 harg2 arg3 harg3 arg4 harg4 arg5 harg5 arg6 harg6 arg7 harg7 arg11 x0 x1 x2 x3 x4 x5)) (ix2 a e) =
      HAdd.hAdd (α := EReal) (β := EReal) ((kernelRun0_A.sl.v333 (F := Ideal) c arg2 harg2 arg3 harg3 arg4 harg4 arg5 harg5 arg6 harg6 arg7 harg7 arg11 x0 x1 x2 x3 x4 x5) (ix2 a e)) (CQ x0 x1 x2 x5 x3 x4 0 1024 (by decide) 1 ⟨1024 + a.val, by omega⟩ e) := by
  simp only [kernelRun0_A.sl.r_35, kernelRun0_A.sl.r_19, kernelRun0_A.sl.r_22, kernelRun0_A.sl.v0, kernelRun0_A.sl.r_18, kernelRun0_A.sl.r_32, kernelRun0_A.sl.r_24, kernelRun0_A.sl.r_33, kernelRun0_A.sl.r_26, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CQ, DS, DP, PE, SC, PP_past, DD_one, ln_one, zero_add]
  rfl

/-- The query tile of row block 1 at the earlier columns, head 0. -/
theorem q1_p0 (a : Fin 512) (e : Fin 128) :
    (k0_pay101 (kernelRun0_A.sl.r_38 (F := Ideal) c arg6 harg6 x4) (kernelRun0_A.sl.r_39 (F := Ideal) c arg5 harg5 arg6 harg6 x3 x4) (kernelRun0_A.sl.r_50 (F := Ideal) c arg2 harg2 arg3 harg3 arg7 harg7 x0 x1 x5) (View.readAt (Elt Ideal) arg4.view (Rect.unit (s := S2048x256) ![0, 0] S512x128.size inb_S2048x256_S512x128_0_0).toLoadRect (harg4.unread x2)) (View.readAt (Elt Ideal) arg3.view (Rect.unit (s := S2048x256) ![0, 0] S512x128.size inb_S2048x256_S512x128_0_0).toLoadRect (harg3.unread x1)) (kernelRun0_A.sl.v492 (F := Ideal) c arg2 harg2 arg3 harg3 arg4 harg4 arg5 harg5 arg6 harg6 arg7 harg7 arg11 x0 x1 x2 x3 x4 x5)) (ix2 a e) =
      HAdd.hAdd (α := EReal) (β := EReal) ((kernelRun0_A.sl.v492 (F := Ideal) c arg2 harg2 arg3 harg3 arg4 harg4 arg5 harg5 arg6 harg6 arg7 harg7 arg11 x0 x1 x2 x3 x4 x5) (ix2 a e)) (CQ x0 x1 x2 x5 x3 x4 0 512 (by decide) 0 ⟨512 + a.val, by omega⟩ e) := by
  simp only [kernelRun0_A.sl.r_38, kernelRun0_A.sl.r_39, kernelRun0_A.sl.v0, kernelRun0_A.sl.r_37, kernelRun0_A.sl.r_50, kernelRun0_A.sl.r_41, kernelRun0_A.sl.r_43, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CQ, DS, DP, PE, SC, PP_past, DD_zero, ln_zero, zero_add]
  rfl

/-- The query tile of row block 0 at the diagonal, head 1. -/
theorem q0_d1 (a : Fin 512) (e : Fin 128) :
    (k0_pay126 (kernelRun0_A.sl.r_64 (F := Ideal) c arg2 harg2 arg3 harg3 arg4 harg4 arg5 harg5 arg6 harg6 arg7 harg7 x0 x1 x2 x3 x4 x5) (View.readAt (Elt Ideal) arg3.view (Rect.unit (s := S2048x256) ![0, 128] S512x128.size inb_S2048x256_S512x128_0_128).toLoadRect (harg3.unread x1))) (ix2 a e) =
      CQ x0 x1 x2 x5 x3 x4 0 512 (by decide) 1 ⟨0 + a.val, by omega⟩ e := by
  simp only [kernelRun0_A.sl.r_64, kernelRun0_A.sl.r_55, kernelRun0_A.sl.r_57, kernelRun0_A.sl.v0, kernelRun0_A.sl.r_59, kernelRun0_A.sl.r_60, kernelRun0_A.sl.r_62, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_one, ln_one, zero_add, add_le_add_iff_left, ite_mul, zero_mul]
  rfl

/-- The query tile of row block 0 at the diagonal, head 0. -/
theorem q0_d0 (a : Fin 512) (e : Fin 128) :
    (k0_pay123 k0_pay3 (kernelRun0_A.sl.r_55 (F := Ideal) c arg6 harg6 x4) (kernelRun0_A.sl.r_56 (F := Ideal) c arg5 harg5 arg6 harg6 x3 x4) (kernelRun0_A.sl.r_61 (F := Ideal) c arg2 harg2 arg3 harg3 arg7 harg7 x0 x1 x5) (View.readAt (Elt Ideal) arg4.view (Rect.unit (s := S2048x256) ![0, 0] S512x128.size inb_S2048x256_S512x128_0_0).toLoadRect (harg4.unread x2)) (View.readAt (Elt Ideal) arg3.view (Rect.unit (s := S2048x256) ![0, 0] S512x128.size inb_S2048x256_S512x128_0_0).toLoadRect (harg3.unread x1))) (ix2 a e) =
      CQ x0 x1 x2 x5 x3 x4 0 512 (by decide) 0 ⟨0 + a.val, by omega⟩ e := by
  simp only [kernelRun0_A.sl.r_55, kernelRun0_A.sl.r_56, kernelRun0_A.sl.v0, kernelRun0_A.sl.r_61, View.readAt_eq_ld, harg2.read_unread, harg3.read_unread, harg4.read_unread, harg5.read_unread, harg6.read_unread, harg7.read_unread]
  unfold_payloads
  pointwise
  try simp only [sel_sge, sel_lane, sel_lane']
  simp only [CQ, DS, DP, PP, PE, SC, DD_zero, ln_zero, zero_add, add_le_add_iff_left, ite_mul, zero_mul]
  rfl

/-- The query tile of row block 1 at the earlier columns, head 1. -/
theorem q1_p1 (a : Fin 512) (e : Fin 128) :
    (k0_pay104 (kernelRun0_A.sl.r_52 (F := Ideal) c arg2 harg2 arg3 harg3 arg4 harg4 arg5 harg5 arg6 harg6 arg7 harg7 x0 x1 x2 x3 x4 x5) (View.readAt (Elt Ideal) arg3.view (Rect.unit (s := S2048x256) ![0, 128] S512x128.size inb_S2048x256_S512x128_0_128).toLoadRect (harg3.unread x1)) (kernelRun0_A.sl.v513 (F := Ideal) c arg2 harg2 arg3 harg3 arg4 harg4 arg5 harg5 arg6 harg6 arg7 harg7 arg11 x0 x1 x2 x3 x4 x5)) (ix2 a e) =
      HAdd.hAdd (α := EReal) (β := EReal) ((kernelRun0_A.sl.v513 (F := Ideal) c arg2 harg2 arg3 harg3 arg4 harg4 arg5 harg5 arg6 harg6 arg7 harg7 arg11 x0 x1 x2 x3 x4 x5) (ix2 a e)) (CQ x0 x1 x2 x5 x3 x4 0 512 (by decide) 1 ⟨512 + a.val, by omega⟩ e) := by
  simp only [kernelRun0_A.sl.r_52, kernelRun0_A.sl.r_38, kernelRun0_A.sl.r_40, kernelRun0_A.sl.v0, kernelRun0_A.sl.r_37, kernelRun0_A.sl.r_42, kernelRun0_A.sl.r_44, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CQ, DS, DP, PE, SC, PP_past, DD_one, ln_one, zero_add]
  rfl

end
end Cert.Mla
-- ==== Proof.PiecesK.lean ====
module
public import proofs.«01_k».proof.Proof.Dense

/-!
The tiles of the key gradient that one grid point stores into its scratch array, each as a sum over its rows or columns.
-/

@[expose] public section
set_option maxRecDepth 16384

namespace Cert.Mla
open Idealize.ShloMosaic Idealize.SL.Sem Cert.KernelIdeal Cert.KernelIdeal.Gen

section
variable (c : Dev nD) (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (arg12 : Memref sig .tc .vmem S2048x256 .f32)
  (x0 x1 x2 : Vec Ideal S2048x256 .bf16) (x3 x4 : Vec Ideal S2048x128 .f32) (x5 : Vec Ideal S2048x256 .f32)

/-- The key tile of row block 3 at the earlier columns, head 1. -/
theorem k3_p1 (a : Fin 1536) (e : Fin 128) :
    (k0_pay38 (kernelRun0_A.sl.r_4 (F := Ideal) c arg2 harg2 x0) (kernelRun0_A.sl.r_15 (F := Ideal) c arg2 harg2 arg3 harg3 arg4 harg4 arg5 harg5 arg6 harg6 arg7 harg7 x0 x1 x2 x3 x4 x5)) (ix2 a e) =
      CK x0 x1 x2 x5 x3 x4 1536 (by decide) 1 ⟨0 + a.val, by omega⟩ e := by
  simp only [kernelRun0_A.sl.r_4, kernelRun0_A.sl.r_15, kernelRun0_A.sl.r, kernelRun0_A.sl.r_2, kernelRun0_A.sl.r_6, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CK, DS, DP, PE, SC, PP_past, DD_one, ln_one, zero_add]
  rfl

/-- The key tile of row block 3 at the earlier columns, head 0. -/
theorem k3_p0 (a : Fin 1536) (e : Fin 128) :
    (k0_pay35 (kernelRun0_A.sl.r_16 (F := Ideal) c arg2 harg2 arg3 harg3 arg4 harg4 arg5 harg5 arg6 harg6 arg7 harg7 x0 x1 x2 x3 x4 x5)) (ix2 a e) =
      CK x0 x1 x2 x5 x3 x4 1536 (by decide) 0 ⟨0 + a.val, by omega⟩ e := by
  simp only [kernelRun0_A.sl.r_16, kernelRun0_A.sl.r, kernelRun0_A.sl.r_1, kernelRun0_A.sl.r_3, kernelRun0_A.sl.r_13, kernelRun0_A.sl.r_5, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CK, DS, DP, PE, SC, PP_past, DD_zero, ln_zero, zero_add]
  rfl

/-- The key tile of row block 3 at the diagonal, head 1. -/
theorem k3_d1 (a : Fin 512) (e : Fin 128) :
    (k0_pay26 (kernelRun0_A.sl.r_4 (F := Ideal) c arg2 harg2 x0) (kernelRun0_A.sl.r_9 (F := Ideal) c arg2 harg2 arg3 harg3 arg4 harg4 arg5 harg5 arg6 harg6 arg7 harg7 x0 x1 x2 x3 x4 x5)) (ix2 a e) =
      CK x0 x1 x2 x5 x3 x4 1536 (by decide) 1 ⟨1536 + a.val, by omega⟩ e := by
  simp only [kernelRun0_A.sl.r_4, kernelRun0_A.sl.r_9, kernelRun0_A.sl.r, kernelRun0_A.sl.r_2, kernelRun0_A.sl.r_6, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_one, ln_one, zero_add, add_le_add_iff_left, ite_mul, zero_mul]
  rfl

/-- The key tile of row block 3 at the diagonal, head 0. -/
theorem k3_d0 (a : Fin 512) (e : Fin 128) :
    (k0_pay23 (kernelRun0_A.sl.r_11 (F := Ideal) c arg2 harg2 arg3 harg3 arg4 harg4 arg5 harg5 arg6 harg6 arg7 harg7 x0 x1 x2 x3 x4 x5)) (ix2 a e) =
      CK x0 x1 x2 x5 x3 x4 1536 (by decide) 0 ⟨1536 + a.val, by omega⟩ e := by
  simp only [kernelRun0_A.sl.r_11, kernelRun0_A.sl.r, kernelRun0_A.sl.r_1, kernelRun0_A.sl.r_3, kernelRun0_A.sl.r_5, kernelRun0_A.sl.r_7, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_zero, ln_zero, zero_add, add_le_add_iff_left, ite_mul, zero_mul]
  rfl

/-- The key tile of row block 2 at the diagonal, head 0. -/
theorem k2_d0 (a : Fin 512) (e : Fin 128) :
    (k0_pay55 (kernelRun0_A.sl.r_19 (F := Ideal) c arg6 harg6 x4) (kernelRun0_A.sl.r_21 (F := Ideal) c arg5 harg5 arg6 harg6 x3 x4) (kernelRun0_A.sl.r_23 (F := Ideal) c arg2 harg2 x0) (kernelRun0_A.sl.r_27 (F := Ideal) c arg2 harg2 arg3 harg3 arg7 harg7 x0 x1 x5) (View.readAt (Elt Ideal) arg4.view (Rect.unit (s := S2048x256) ![1024, 0] S512x128.size inb_S2048x256_S512x128_1024_0).toLoadRect (harg4.unread x2)) (kernelRun0_A.sl.v243 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v243 (F := Ideal) c arg2 harg2 arg3 harg3 arg4 harg4 arg5 harg5 arg6 harg6 arg7 harg7 arg12 x0 x1 x2 x3 x4 x5) (ix2 a e)) (CK x0 x1 x2 x5 x3 x4 1024 (by decide) 0 ⟨1024 + a.val, by omega⟩ e) := by
  simp only [kernelRun0_A.sl.r_19, kernelRun0_A.sl.r_21, kernelRun0_A.sl.r_20, kernelRun0_A.sl.v0, kernelRun0_A.sl.r_23, kernelRun0_A.sl.r_27, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_zero, ln_zero, zero_add, add_le_add_iff_left, ite_mul, zero_mul]
  rfl

/-- The key tile of row block 2 at the diagonal, head 1. -/
theorem k2_d1 (a : Fin 512) (e : Fin 128) :
    (k0_pay58 (kernelRun0_A.sl.r_24 (F := Ideal) c arg2 harg2 x0) (kernelRun0_A.sl.r_29 (F := Ideal) c arg2 harg2 arg3 harg3 arg4 harg4 arg5 harg5 arg6 harg6 arg7 harg7 x0 x1 x2 x3 x4 x5) (kernelRun0_A.sl.v262 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v262 (F := Ideal) c arg2 harg2 arg3 harg3 arg4 harg4 arg5 harg5 arg6 harg6 arg7 harg7 arg12 x0 x1 x2 x3 x4 x5) (ix2 a e)) (CK x0 x1 x2 x5 x3 x4 1024 (by decide) 1 ⟨1024 + a.val, by omega⟩ e) := by
  simp only [kernelRun0_A.sl.r_24, kernelRun0_A.sl.r_29, kernelRun0_A.sl.r_19, kernelRun0_A.sl.r_22, kernelRun0_A.sl.v0, kernelRun0_A.sl.r_18, kernelRun0_A.sl.r_28, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_one, ln_one, zero_add, add_le_add_iff_left, ite_mul, zero_mul]
  rfl

/-- The key tile of row block 2 at the earlier columns, head 0. -/
theorem k2_p0 (a : Fin 1024) (e : Fin 128) :
    (k0_pay68 (kernelRun0_A.sl.r_19 (F := Ideal) c arg6 harg6 x4) (kernelRun0_A.sl.r_21 (F := Ideal) c arg5 harg5 arg6 harg6 x3 x4) (kernelRun0_A.sl.r_23 (F := Ideal) c arg2 harg2 x0) (kernelRun0_A.sl.r_31 (F := Ideal) c arg2 harg2 arg3 harg3 arg7 harg7 x0 x1 x5) (View.readAt (Elt Ideal) arg4.view (Rect.unit (s := S2048x256) ![0, 0] S1024x128.size inb_S2048x256_S1024x128_0_0).toLoadRect (harg4.unread x2)) (kernelRun0_A.sl.v317 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v317 (F := Ideal) c arg2 harg2 arg3 harg3 arg4 harg4 arg5 harg5 arg6 harg6 arg7 harg7 arg12 x0 x1 x2 x3 x4 x5) (ix2 a e)) (CK x0 x1 x2 x5 x3 x4 1024 (by decide) 0 ⟨0 + a.val, by omega⟩ e) := by
  simp only [kernelRun0_A.sl.r_19, kernelRun0_A.sl.r_21, kernelRun0_A.sl.r_20, kernelRun0_A.sl.v0, kernelRun0_A.sl.r_23, kernelRun0_A.sl.r_31, kernelRun0_A.sl.r_25, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CK, DS, DP, PE, SC, PP_past, DD_zero, ln_zero, zero_add]
  rfl

/-- The key tile of row block 2 at the earlier columns, head 1. -/
theorem k2_p1 (a : Fin 1024) (e : Fin 128) :
    (k0_pay71 (kernelRun0_A.sl.r_24 (F := Ideal) c arg2 harg2 x0) (kernelRun0_A.sl.r_35 (F := Ideal) c arg2 harg2 arg3 harg3 arg4 harg4 arg5 harg5 arg6 harg6 arg7 harg7 x0 x1 x2 x3 x4 x5) (kernelRun0_A.sl.v338 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v338 (F := Ideal) c arg2 harg2 arg3 harg3 arg4 harg4 arg5 harg5 arg6 harg6 arg7 harg7 arg12 x0 x1 x2 x3 x4 x5) (ix2 a e)) (CK x0 x1 x2 x5 x3 x4 1024 (by decide) 1 ⟨0 + a.val, by omega⟩ e) := by
  simp only [kernelRun0_A.sl.r_24, kernelRun0_A.sl.r_35, kernelRun0_A.sl.r_19, kernelRun0_A.sl.r_22, kernelRun0_A.sl.v0, kernelRun0_A.sl.r_18, kernelRun0_A.sl.r_32, kernelRun0_A.sl.r_33, kernelRun0_A.sl.r_26, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CK, DS, DP, PE, SC, PP_past, DD_one, ln_one, zero_add]
  rfl

/-- The key tile of row block 1 at the diagonal, head 0. -/
theorem k1_d0 (a : Fin 512) (e : Fin 128) :
    (k0_pay90 k0_pay3 (kernelRun0_A.sl.r_38 (F := Ideal) c arg6 harg6 x4) (kernelRun0_A.sl.r_39 (F := Ideal) c arg5 harg5 arg6 harg6 x3 x4) (kernelRun0_A.sl.r_41 (F := Ideal) c arg2 harg2 x0) (kernelRun0_A.sl.r_45 (F := Ideal) c arg2 harg2 arg3 harg3 arg7 harg7 x0 x1 x5) (View.readAt (Elt Ideal) arg4.view (Rect.unit (s := S2048x256) ![512, 0] S512x128.size inb_S2048x256_S512x128_512_0).toLoadRect (harg4.unread x2)) (kernelRun0_A.sl.v423 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v423 (F := Ideal) c arg2 harg2 arg3 harg3 arg4 harg4 arg5 harg5 arg6 harg6 arg7 harg7 arg12 x0 x1 x2 x3 x4 x5) (ix2 a e)) (CK x0 x1 x2 x5 x3 x4 512 (by decide) 0 ⟨512 + a.val, by omega⟩ e) := by
  simp only [kernelRun0_A.sl.r_38, kernelRun0_A.sl.r_39, kernelRun0_A.sl.v0, kernelRun0_A.sl.r_37, kernelRun0_A.sl.r_41, kernelRun0_A.sl.r_45, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_zero, ln_zero, zero_add, add_le_add_iff_left, ite_mul, zero_mul]
  rfl

/-- The key tile of row block 1 at the diagonal, head 1. -/
theorem k1_d1 (a : Fin 512) (e : Fin 128) :
    (k0_pay93 (kernelRun0_A.sl.r_42 (F := Ideal) c arg2 harg2 x0) (kernelRun0_A.sl.r_48 (F := Ideal) c arg2 harg2 arg3 harg3 arg4 harg4 arg5 harg5 arg6 harg6 arg7 harg7 x0 x1 x2 x3 x4 x5) (kernelRun0_A.sl.v442 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v442 (F := Ideal) c arg2 harg2 arg3 harg3 arg4 harg4 arg5 harg5 arg6 harg6 arg7 harg7 arg12 x0 x1 x2 x3 x4 x5) (ix2 a e)) (CK x0 x1 x2 x5 x3 x4 512 (by decide) 1 ⟨512 + a.val, by omega⟩ e) := by
  simp only [kernelRun0_A.sl.r_42, kernelRun0_A.sl.r_48, kernelRun0_A.sl.r_38, kernelRun0_A.sl.r_40, kernelRun0_A.sl.v0, kernelRun0_A.sl.r_37, kernelRun0_A.sl.r_46, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_one, ln_one, zero_add, add_le_add_iff_left, ite_mul, zero_mul]
  rfl

/-- The key tile of row block 1 at the earlier columns, head 0. -/
theorem k1_p0 (a : Fin 512) (e : Fin 128) :
    (k0_pay102 (kernelRun0_A.sl.r_53 (F := Ideal) c arg2 harg2 arg3 harg3 arg4 harg4 arg5 harg5 arg6 harg6 arg7 harg7 x0 x1 x2 x3 x4 x5) (kernelRun0_A.sl.v497 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v497 (F := Ideal) c arg2 harg2 arg3 harg3 arg4 harg4 arg5 harg5 arg6 harg6 arg7 harg7 arg12 x0 x1 x2 x3 x4 x5) (ix2 a e)) (CK x0 x1 x2 x5 x3 x4 512 (by decide) 0 ⟨0 + a.val, by omega⟩ e) := by
  simp only [kernelRun0_A.sl.r_53, kernelRun0_A.sl.r_38, kernelRun0_A.sl.r_39, kernelRun0_A.sl.v0, kernelRun0_A.sl.r_37, kernelRun0_A.sl.r_41, kernelRun0_A.sl.r_50, kernelRun0_A.sl.r_43, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CK, DS, DP, PE, SC, PP_past, DD_zero, ln_zero, zero_add]
  rfl

/-- The key tile of row block 1 at the earlier columns, head 1. -/
theorem k1_p1 (a : Fin 512) (e : Fin 128) :
    (k0_pay105 (kernelRun0_A.sl.r_42 (F := Ideal) c arg2 harg2 x0) (kernelRun0_A.sl.r_52 (F := Ideal) c arg2 harg2 arg3 harg3 arg4 harg4 arg5 harg5 arg6 harg6 arg7 harg7 x0 x1 x2 x3 x4 x5) (kernelRun0_A.sl.v518 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v518 (F := Ideal) c arg2 harg2 arg3 harg3 arg4 harg4 arg5 harg5 arg6 harg6 arg7 harg7 arg12 x0 x1 x2 x3 x4 x5) (ix2 a e)) (CK x0 x1 x2 x5 x3 x4 512 (by decide) 1 ⟨0 + a.val, by omega⟩ e) := by
  simp only [kernelRun0_A.sl.r_42, kernelRun0_A.sl.r_52, kernelRun0_A.sl.r_38, kernelRun0_A.sl.r_40, kernelRun0_A.sl.v0, kernelRun0_A.sl.r_37, kernelRun0_A.sl.r_44, View.readAt_eq_ld, harg2.read_unread, harg3.read_unread, harg4.read_unread, harg5.read_unread, harg6.read_unread, harg7.read_unread]
  unfold_payloads
  pointwise
  try simp only [sel_sge, sel_lane, sel_lane']
  simp (disch := (dsimp only; omega)) only [CK, DS, DP, PE, SC, PP_past, DD_one, ln_one, zero_add]
  rfl

/-- The key tile of row block 0 at the diagonal, head 0. -/
theorem k0_d0 (a : Fin 512) (e : Fin 128) :
    (k0_pay124 (kernelRun0_A.sl.r_65 (F := Ideal) c arg2 harg2 arg3 harg3 arg4 harg4 arg5 harg5 arg6 harg6 arg7 harg7 x0 x1 x2 x3 x4 x5) (kernelRun0_A.sl.v603 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v603 (F := Ideal) c arg2 harg2 arg3 harg3 arg4 harg4 arg5 harg5 arg6 harg6 arg7 harg7 arg12 x0 x1 x2 x3 x4 x5) (ix2 a e)) (CK x0 x1 x2 x5 x3 x4 0 (by decide) 0 ⟨0 + a.val, by omega⟩ e) := by
  simp only [kernelRun0_A.sl.r_65, kernelRun0_A.sl.r_55, kernelRun0_A.sl.r_56, kernelRun0_A.sl.v0, kernelRun0_A.sl.r_58, kernelRun0_A.sl.r_61, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_zero, ln_zero, zero_add, add_le_add_iff_left, ite_mul, zero_mul]
  rfl

/-- The key tile of row block 0 at the diagonal, head 1. -/
theorem k0_d1 (a : Fin 512) (e : Fin 128) :
    (k0_pay127 (kernelRun0_A.sl.r_59 (F := Ideal) c arg2 harg2 x0) (kernelRun0_A.sl.r_64 (F := Ideal) c arg2 harg2 arg3 harg3 arg4 harg4 arg5 harg5 arg6 harg6 arg7 harg7 x0 x1 x2 x3 x4 x5) (kernelRun0_A.sl.v622 (F := Ideal) c arg2 harg2 arg3 harg3 arg4 harg4 arg5 harg5 arg6 harg6 arg7 harg7 arg12 x0 x1 x2 x3 x4 x5)) (ix2 a e) =
      HAdd.hAdd (α := EReal) (β := EReal) ((kernelRun0_A.sl.v622 (F := Ideal) c arg2 harg2 arg3 harg3 arg4 harg4 arg5 harg5 arg6 harg6 arg7 harg7 arg12 x0 x1 x2 x3 x4 x5) (ix2 a e)) (CK x0 x1 x2 x5 x3 x4 0 (by decide) 1 ⟨0 + a.val, by omega⟩ e) := by
  simp only [kernelRun0_A.sl.r_59, kernelRun0_A.sl.r_64, kernelRun0_A.sl.r_55, kernelRun0_A.sl.r_57, kernelRun0_A.sl.v0, kernelRun0_A.sl.r_60, kernelRun0_A.sl.r_62, View.readAt_eq_ld, harg2.read_unread, harg3.read_unread, harg4.read_unread, harg5.read_unread, harg6.read_unread, harg7.read_unread]
  unfold_payloads
  pointwise
  try simp only [sel_sge, sel_lane, sel_lane']
  simp only [CK, DS, DP, PP, PE, SC, DD_one, ln_one, zero_add, add_le_add_iff_left, ite_mul, zero_mul]
  rfl

end
end Cert.Mla
-- ==== Proof.PiecesV.lean ====
module
public import proofs.«01_k».proof.Proof.Dense

/-!
The tiles of the value gradient that one grid point stores into its scratch array, each as a sum over its rows or columns.
-/

@[expose] public section
set_option maxRecDepth 16384

namespace Cert.Mla
open Idealize.ShloMosaic Idealize.SL.Sem Cert.KernelIdeal Cert.KernelIdeal.Gen

section
variable (c : Dev nD) (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (arg13 : Memref sig .tc .vmem S2048x256 .f32)
  (x0 x1 x2 : Vec Ideal S2048x256 .bf16) (x3 x4 : Vec Ideal S2048x128 .f32) (x5 : Vec Ideal S2048x256 .f32)

/-- The value tile of row block 3 at the earlier columns, head 1. -/
theorem v3_p1 (a : Fin 1536) (e : Fin 128) :
    (k0_pay39 (kernelRun0_A.sl.r (F := Ideal) c arg6 harg6 x4) (kernelRun0_A.sl.r_14 (F := Ideal) c arg2 harg2 arg3 harg3 arg7 harg7 x0 x1 x5)) (ix2 a e) =
      CV x0 x1 x5 x4 1536 (by decide) 1 ⟨0 + a.val, by omega⟩ e := by
  simp only [kernelRun0_A.sl.r, kernelRun0_A.sl.r_14, kernelRun0_A.sl.r_4, kernelRun0_A.sl.r_6, View.readAt_eq_ld, harg2.read_unread, harg3.read_unread, harg6.read_unread, harg7.read_unread]
  unfold_payloads
  pointwise
  try simp only [sel_sge, sel_lane, sel_lane']
  simp (disch := (dsimp only; omega)) only [CV, PE, SC, PP_past, ln_one, zero_add]
  rfl

/-- The value tile of row block 3 at the earlier columns, head 0. -/
theorem v3_p0 (a : Fin 1536) (e : Fin 128) :
    (k0_pay36 (kernelRun0_A.sl.r_17 (F := Ideal) c arg2 harg2 arg3 harg3 arg6 harg6 arg7 harg7 x0 x1 x4 x5)) (ix2 a e) =
      CV x0 x1 x5 x4 1536 (by decide) 0 ⟨0 + a.val, by omega⟩ e := by
  simp only [kernelRun0_A.sl.r_17, kernelRun0_A.sl.r, kernelRun0_A.sl.r_13, kernelRun0_A.sl.r_3, kernelRun0_A.sl.r_5, View.readAt_eq_ld, harg2.read_unread, harg3.read_unread, harg6.read_unread, harg7.read_unread]
  unfold_payloads
  pointwise
  try simp only [sel_sge, sel_lane, sel_lane']
  simp (disch := (dsimp only; omega)) only [CV, PE, SC, PP_past, ln_zero, zero_add]
  rfl

/-- The value tile of row block 3 at the diagonal, head 1. -/
theorem v3_d1 (a : Fin 512) (e : Fin 128) :
    (k0_pay27 (kernelRun0_A.sl.r (F := Ideal) c arg6 harg6 x4) (kernelRun0_A.sl.r_8 (F := Ideal) c arg2 harg2 arg3 harg3 arg7 harg7 x0 x1 x5)) (ix2 a e) =
      CV x0 x1 x5 x4 1536 (by decide) 1 ⟨1536 + a.val, by omega⟩ e := by
  simp only [kernelRun0_A.sl.r, kernelRun0_A.sl.r_8, kernelRun0_A.sl.r_4, kernelRun0_A.sl.r_6, View.readAt_eq_ld, harg2.read_unread, harg3.read_unread, harg6.read_unread, harg7.read_unread]
  unfold_payloads
  pointwise
  try simp only [sel_sge, sel_lane, sel_lane']
  simp only [CV, PP, PE, SC, ln_one, zero_add, add_le_add_iff_left, ite_mul, zero_mul]
  rfl

/-- The value tile of row block 3 at the diagonal, head 0. -/
theorem v3_d0 (a : Fin 512) (e : Fin 128) :
    (k0_pay24 (kernelRun0_A.sl.r_12 (F := Ideal) c arg2 harg2 arg3 harg3 arg6 harg6 arg7 harg7 x0 x1 x4 x5)) (ix2 a e) =
      CV x0 x1 x5 x4 1536 (by decide) 0 ⟨1536 + a.val, by omega⟩ e := by
  simp only [kernelRun0_A.sl.r_12, kernelRun0_A.sl.r, kernelRun0_A.sl.r_5, kernelRun0_A.sl.r_7, View.readAt_eq_ld, harg2.read_unread, harg3.read_unread, harg6.read_unread, harg7.read_unread]
  unfold_payloads
  pointwise
  try simp only [sel_sge, sel_lane, sel_lane']
  simp only [CV, PP, PE, SC, ln_zero, zero_add, add_le_add_iff_left, ite_mul, zero_mul]
  rfl

/-- The value tile of row block 2 at the diagonal, head 0. -/
theorem v2_d0 (a : Fin 512) (e : Fin 128) :
    (kernelRun0_A.sl.r_30 (F := Ideal) c arg2 harg2 arg3 harg3 arg6 harg6 arg7 harg7 arg13 x0 x1 x4 x5) (ix2 a e) =
      HAdd.hAdd (α := EReal) (β := EReal) ((kernelRun0_A.sl.v248 (F := Ideal) c arg2 harg2 arg3 harg3 arg6 harg6 arg7 harg7 arg13 x0 x1 x4 x5) (ix2 a e)) (CV x0 x1 x5 x4 1024 (by decide) 0 ⟨1024 + a.val, by omega⟩ e) := by
  simp only [kernelRun0_A.sl.r_30, kernelRun0_A.sl.r_19, kernelRun0_A.sl.r_27, View.readAt_eq_ld, harg2.read_unread, harg3.read_unread, harg6.read_unread, harg7.read_unread]
  unfold_payloads
  pointwise
  try simp only [sel_sge, sel_lane, sel_lane']
  simp only [CV, PP, PE, SC, ln_zero, zero_add, add_le_add_iff_left, ite_mul, zero_mul]
  rfl

/-- The value tile of row block 2 at the diagonal, head 1. -/
theorem v2_d1 (a : Fin 512) (e : Fin 128) :
    (k0_pay59 (kernelRun0_A.sl.r_19 (F := Ideal) c arg6 harg6 x4) (kernelRun0_A.sl.r_28 (F := Ideal) c arg2 harg2 arg3 harg3 arg7 harg7 x0 x1 x5) (kernelRun0_A.sl.v267 (F := Ideal) c arg2 harg2 arg3 harg3 arg6 harg6 arg7 harg7 arg13 x0 x1 x4 x5)) (ix2 a e) =
      HAdd.hAdd (α := EReal) (β := EReal) ((kernelRun0_A.sl.v267 (F := Ideal) c arg2 harg2 arg3 harg3 arg6 harg6 arg7 harg7 arg13 x0 x1 x4 x5) (ix2 a e)) (CV x0 x1 x5 x4 1024 (by decide) 1 ⟨1024 + a.val, by omega⟩ e) := by
  simp only [kernelRun0_A.sl.r_19, kernelRun0_A.sl.r_28, View.readAt_eq_ld, harg2.read_unread, harg3.read_unread, harg6.read_unread, harg7.read_unread]
  unfold_payloads
  pointwise
  try simp only [sel_sge, sel_lane, sel_lane']
  simp only [CV, PP, PE, SC, ln_one, zero_add, add_le_add_iff_left, ite_mul, zero_mul]
  rfl

/-- The value tile of row block 2 at the earlier columns, head 0. -/
theorem v2_p0 (a : Fin 1024) (e : Fin 128) :
    (k0_pay69 (kernelRun0_A.sl.r_36 (F := Ideal) c arg2 harg2 arg3 harg3 arg6 harg6 arg7 harg7 x0 x1 x4 x5) (kernelRun0_A.sl.v322 (F := Ideal) c arg2 harg2 arg3 harg3 arg6 harg6 arg7 harg7 arg13 x0 x1 x4 x5)) (ix2 a e) =
      HAdd.hAdd (α := EReal) (β := EReal) ((kernelRun0_A.sl.v322 (F := Ideal) c arg2 harg2 arg3 harg3 arg6 harg6 arg7 harg7 arg13 x0 x1 x4 x5) (ix2 a e)) (CV x0 x1 x5 x4 1024 (by decide) 0 ⟨0 + a.val, by omega⟩ e) := by
  simp only [kernelRun0_A.sl.r_36, kernelRun0_A.sl.r_19, kernelRun0_A.sl.r_31, kernelRun0_A.sl.r_23, kernelRun0_A.sl.r_25, View.readAt_eq_ld, harg2.read_unread, harg3.read_unread, harg6.read_unread, harg7.read_unread]
  unfold_payloads
  pointwise
  try simp only [sel_sge, sel_lane, sel_lane']
  simp (disch := (dsimp only; omega)) only [CV, PE, SC, PP_past, ln_zero, zero_add]
  rfl

/-- The value tile of row block 2 at the earlier columns, head 1. -/
theorem v2_p1 (a : Fin 1024) (e : Fin 128) :
    (k0_pay72 (kernelRun0_A.sl.r_19 (F := Ideal) c arg6 harg6 x4) (kernelRun0_A.sl.r_34 (F := Ideal) c arg2 harg2 arg3 harg3 arg7 harg7 x0 x1 x5) (kernelRun0_A.sl.v343 (F := Ideal) c arg2 harg2 arg3 harg3 arg6 harg6 arg7 harg7 arg13 x0 x1 x4 x5)) (ix2 a e) =
      HAdd.hAdd (α := EReal) (β := EReal) ((kernelRun0_A.sl.v343 (F := Ideal) c arg2 harg2 arg3 harg3 arg6 harg6 arg7 harg7 arg13 x0 x1 x4 x5) (ix2 a e)) (CV x0 x1 x5 x4 1024 (by decide) 1 ⟨0 + a.val, by omega⟩ e) := by
  simp only [kernelRun0_A.sl.r_19, kernelRun0_A.sl.r_34, kernelRun0_A.sl.r_32, kernelRun0_A.sl.r_24, kernelRun0_A.sl.r_33, kernelRun0_A.sl.r_26, View.readAt_eq_ld, harg2.read_unread, harg3.read_unread, harg6.read_unread, harg7.read_unread]
  unfold_payloads
  pointwise
  try simp only [sel_sge, sel_lane, sel_lane']
  simp (disch := (dsimp only; omega)) only [CV, PE, SC, PP_past, ln_one, zero_add]
  rfl

/-- The value tile of row block 1 at the diagonal, head 0. -/
theorem v1_d0 (a : Fin 512) (e : Fin 128) :
    (k0_pay91 (kernelRun0_A.sl.r_49 (F := Ideal) c arg2 harg2 arg3 harg3 arg6 harg6 arg7 harg7 x0 x1 x4 x5) (kernelRun0_A.sl.v428 (F := Ideal) c arg2 harg2 arg3 harg3 arg6 harg6 arg7 harg7 arg13 x0 x1 x4 x5)) (ix2 a e) =
      HAdd.hAdd (α := EReal) (β := EReal) ((kernelRun0_A.sl.v428 (F := Ideal) c arg2 harg2 arg3 harg3 arg6 harg6 arg7 harg7 arg13 x0 x1 x4 x5) (ix2 a e)) (CV x0 x1 x5 x4 512 (by decide) 0 ⟨512 + a.val, by omega⟩ e) := by
  simp only [kernelRun0_A.sl.r_49, kernelRun0_A.sl.r_38, kernelRun0_A.sl.r_45, View.readAt_eq_ld, harg2.read_unread, harg3.read_unread, harg6.read_unread, harg7.read_unread]
  unfold_payloads
  pointwise
  try simp only [sel_sge, sel_lane, sel_lane']
  simp only [CV, PP, PE, SC, ln_zero, zero_add, add_le_add_iff_left, ite_mul, zero_mul]
  rfl

/-- The value tile of row block 1 at the diagonal, head 1. -/
theorem v1_d1 (a : Fin 512) (e : Fin 128) :
    (k0_pay94 (kernelRun0_A.sl.r_38 (F := Ideal) c arg6 harg6 x4) (kernelRun0_A.sl.r_47 (F := Ideal) c arg2 harg2 arg3 harg3 arg7 harg7 x0 x1 x5) (kernelRun0_A.sl.v447 (F := Ideal) c arg2 harg2 arg3 harg3 arg6 harg6 arg7 harg7 arg13 x0 x1 x4 x5)) (ix2 a e) =
      HAdd.hAdd (α := EReal) (β := EReal) ((kernelRun0_A.sl.v447 (F := Ideal) c arg2 harg2 arg3 harg3 arg6 harg6 arg7 harg7 arg13 x0 x1 x4 x5) (ix2 a e)) (CV x0 x1 x5 x4 512 (by decide) 1 ⟨512 + a.val, by omega⟩ e) := by
  simp only [kernelRun0_A.sl.r_38, kernelRun0_A.sl.r_47, kernelRun0_A.sl.r_46, View.readAt_eq_ld, harg2.read_unread, harg3.read_unread, harg6.read_unread, harg7.read_unread]
  unfold_payloads
  pointwise
  try simp only [sel_sge, sel_lane, sel_lane']
  simp only [CV, PP, PE, SC, ln_one, zero_add, add_le_add_iff_left, ite_mul, zero_mul]
  rfl

/-- The value tile of row block 1 at the earlier columns, head 0. -/
theorem v1_p0 (a : Fin 512) (e : Fin 128) :
    (k0_pay103 (kernelRun0_A.sl.r_54 (F := Ideal) c arg2 harg2 arg3 harg3 arg6 harg6 arg7 harg7 x0 x1 x4 x5) (kernelRun0_A.sl.v502 (F := Ideal) c arg2 harg2 arg3 harg3 arg6 harg6 arg7 harg7 arg13 x0 x1 x4 x5)) (ix2 a e) =
      HAdd.hAdd (α := EReal) (β := EReal) ((kernelRun0_A.sl.v502 (F := Ideal) c arg2 harg2 arg3 harg3 arg6 harg6 arg7 harg7 arg13 x0 x1 x4 x5) (ix2 a e)) (CV x0 x1 x5 x4 512 (by decide) 0 ⟨0 + a.val, by omega⟩ e) := by
  simp only [kernelRun0_A.sl.r_54, kernelRun0_A.sl.r_38, kernelRun0_A.sl.r_50, kernelRun0_A.sl.r_41, kernelRun0_A.sl.r_43, View.readAt_eq_ld, harg2.read_unread, harg3.read_unread, harg6.read_unread, harg7.read_unread]
  unfold_payloads
  pointwise
  try simp only [sel_sge, sel_lane, sel_lane']
  simp (disch := (dsimp only; omega)) only [CV, PE, SC, PP_past, ln_zero, zero_add]
  rfl

/-- The value tile of row block 1 at the earlier columns, head 1. -/
theorem v1_p1 (a : Fin 512) (e : Fin 128) :
    (k0_pay106 (kernelRun0_A.sl.r_38 (F := Ideal) c arg6 harg6 x4) (kernelRun0_A.sl.r_51 (F := Ideal) c arg2 harg2 arg3 harg3 arg7 harg7 x0 x1 x5) (kernelRun0_A.sl.v523 (F := Ideal) c arg2 harg2 arg3 harg3 arg6 harg6 arg7 harg7 arg13 x0 x1 x4 x5)) (ix2 a e) =
      HAdd.hAdd (α := EReal) (β := EReal) ((kernelRun0_A.sl.v523 (F := Ideal) c arg2 harg2 arg3 harg3 arg6 harg6 arg7 harg7 arg13 x0 x1 x4 x5) (ix2 a e)) (CV x0 x1 x5 x4 512 (by decide) 1 ⟨0 + a.val, by omega⟩ e) := by
  simp only [kernelRun0_A.sl.r_38, kernelRun0_A.sl.r_51, kernelRun0_A.sl.r_42, kernelRun0_A.sl.r_44, View.readAt_eq_ld, harg2.read_unread, harg3.read_unread, harg6.read_unread, harg7.read_unread]
  unfold_payloads
  pointwise
  try simp only [sel_sge, sel_lane, sel_lane']
  simp (disch := (dsimp only; omega)) only [CV, PE, SC, PP_past, ln_one, zero_add]
  rfl

/-- The value tile of row block 0 at the diagonal, head 0. -/
theorem v0_d0 (a : Fin 512) (e : Fin 128) :
    (k0_pay125 (kernelRun0_A.sl.r_66 (F := Ideal) c arg2 harg2 arg3 harg3 arg6 harg6 arg7 harg7 x0 x1 x4 x5) (kernelRun0_A.sl.v608 (F := Ideal) c arg2 harg2 arg3 harg3 arg6 harg6 arg7 harg7 arg13 x0 x1 x4 x5)) (ix2 a e) =
      HAdd.hAdd (α := EReal) (β := EReal) ((kernelRun0_A.sl.v608 (F := Ideal) c arg2 harg2 arg3 harg3 arg6 harg6 arg7 harg7 arg13 x0 x1 x4 x5) (ix2 a e)) (CV x0 x1 x5 x4 0 (by decide) 0 ⟨0 + a.val, by omega⟩ e) := by
  simp only [kernelRun0_A.sl.r_66, kernelRun0_A.sl.r_55, kernelRun0_A.sl.r_61, View.readAt_eq_ld, harg2.read_unread, harg3.read_unread, harg6.read_unread, harg7.read_unread]
  unfold_payloads
  pointwise
  try simp only [sel_sge, sel_lane, sel_lane']
  simp only [CV, PP, PE, SC, ln_zero, zero_add, add_le_add_iff_left, ite_mul, zero_mul]
  rfl

/-- The value tile of row block 0 at the diagonal, head 1. -/
theorem v0_d1 (a : Fin 512) (e : Fin 128) :
    (k0_pay128 (kernelRun0_A.sl.r_55 (F := Ideal) c arg6 harg6 x4) (kernelRun0_A.sl.r_63 (F := Ideal) c arg2 harg2 arg3 harg3 arg7 harg7 x0 x1 x5) (kernelRun0_A.sl.v627 (F := Ideal) c arg2 harg2 arg3 harg3 arg6 harg6 arg7 harg7 arg13 x0 x1 x4 x5)) (ix2 a e) =
      HAdd.hAdd (α := EReal) (β := EReal) ((kernelRun0_A.sl.v627 (F := Ideal) c arg2 harg2 arg3 harg3 arg6 harg6 arg7 harg7 arg13 x0 x1 x4 x5) (ix2 a e)) (CV x0 x1 x5 x4 0 (by decide) 1 ⟨0 + a.val, by omega⟩ e) := by
  simp only [kernelRun0_A.sl.r_55, kernelRun0_A.sl.r_63, kernelRun0_A.sl.r_59, kernelRun0_A.sl.r_60, kernelRun0_A.sl.r_62, View.readAt_eq_ld, harg2.read_unread, harg3.read_unread, harg6.read_unread, harg7.read_unread]
  unfold_payloads
  pointwise
  try simp only [sel_sge, sel_lane, sel_lane']
  simp only [CV, PP, PE, SC, ln_one, zero_add, add_le_add_iff_left, ite_mul, zero_mul]
  rfl

end
end Cert.Mla
-- ==== Proof.Block.lean ====
module
public import proofs.«01_k».proof.Proof.PiecesQ
public import proofs.«01_k».proof.Proof.PiecesK
public import proofs.«01_k».proof.Proof.PiecesV

/-!
The three scratch arrays of one grid point at its end, and so the three blocks it writes back: the gradients of the
queries, keys and values of two heads, as sums over all rows or columns.
-/

@[expose] public section
set_option maxRecDepth 16384

namespace Cert.Mla
open Idealize.ShloMosaic Idealize.SL.Sem Cert.KernelIdeal Cert.KernelIdeal.Gen

/-- A sum over all 2048 places of a function that vanishes from `s + w` on, in two parts. -/
theorem sum_two (s w : ℕ) (hs : s + w ≤ 2048) (F : Fin 2048 → EReal) (hF : ∀ c : Fin 2048, s + w ≤ c.val → F c = 0) :
    ∑ c : Fin 2048, F c = (∑ c : Fin w, F ⟨s + c.val, by omega⟩) + ∑ c : Fin s, F ⟨c.val, by omega⟩ := by
  let g : ℕ → EReal := fun n => if h : n < 2048 then F ⟨n, h⟩ else 0
  have e1 : ∑ c : Fin 2048, F c = ∑ n ∈ Finset.range 2048, g n := by
    rw [← Fin.sum_univ_eq_sum_range g 2048]
    refine Finset.sum_congr rfl fun c _ => ?_
    simp only [g, c.isLt, dif_pos]
  have e2 : ∑ c : Fin w, F ⟨s + c.val, by omega⟩ = ∑ n ∈ Finset.range w, g (s + n) := by
    rw [← Fin.sum_univ_eq_sum_range (fun n => g (s + n)) w]
    refine Finset.sum_congr rfl fun c _ => ?_
    have hc : s + c.val < 2048 := by omega
    simp only [g, hc, dif_pos]
  have e3 : ∑ c : Fin s, F ⟨c.val, by omega⟩ = ∑ n ∈ Finset.range s, g n := by
    rw [← Fin.sum_univ_eq_sum_range g s]
    refine Finset.sum_congr rfl fun c _ => ?_
    have hc : c.val < 2048 := by omega
    simp only [g, hc, dif_pos]
  rw [e1, e2, e3, show (2048 : ℕ) = (s + w) + (2048 - (s + w)) by omega, Finset.sum_range_add, Finset.sum_range_add,
    Finset.sum_eq_zero (s := Finset.range (2048 - (s + w))), add_zero, add_comm]
  intro n _
  simp only [g]
  split
  · exact hF _ (by show s + w ≤ s + w + n; omega)
  · rfl

/-- A sum over all 2048 places, in four blocks from the last. -/
theorem sum_four (F : Fin 2048 → EReal) :
    ∑ c : Fin 2048, F c = (((∑ a : Fin 512, F ⟨1536 + a.val, by omega⟩) + ∑ a : Fin 512, F ⟨1024 + a.val, by omega⟩)
      + ∑ a : Fin 512, F ⟨512 + a.val, by omega⟩) + ∑ a : Fin 512, F ⟨0 + a.val, by omega⟩ := by
  let g : ℕ → EReal := fun n => if h : n < 2048 then F ⟨n, h⟩ else 0
  have e1 : ∑ c : Fin 2048, F c = ∑ n ∈ Finset.range 2048, g n := by
    rw [← Fin.sum_univ_eq_sum_range g 2048]
    refine Finset.sum_congr rfl fun c _ => ?_
    simp only [g, c.isLt, dif_pos]
  have e2 : ∀ (s : ℕ) (hs : s + 512 ≤ 2048), ∑ c : Fin 512, F ⟨s + c.val, by omega⟩ = ∑ n ∈ Finset.range 512, g (s + n) := by
    intro s hs
    rw [← Fin.sum_univ_eq_sum_range (fun n => g (s + n)) 512]
    refine Finset.sum_congr rfl fun c _ => ?_
    have hc : s + c.val < 2048 := by omega
    simp only [g, hc, dif_pos]
  rw [e1, e2 1536 (by decide), e2 1024 (by decide), e2 512 (by decide), e2 0 (by decide),
    show (2048 : ℕ) = 512 + 512 + 512 + 512 from rfl, Finset.sum_range_add, Finset.sum_range_add, Finset.sum_range_add]
  simp only [zero_add]
  ac_rfl

theorem GQ_split (q k v l : B2) (o d : B1) (s w : ℕ) (hs : s + w ≤ 2048) (h : Fin 2) (r : Fin 2048) (e : Fin 128) (hr : r.val < s + w) :
    GQ q k v l o d h r e = CQ q k v l o d s w hs h r e + CQ q k v l o d 0 s (by omega) h r e := by
  rw [GQ, sum_two s w hs, CQ, CQ]
  · simp only [zero_add]
  · intro c hc
    rw [DS_masked (by omega), zero_mul]

theorem CK_zero {q k v l : B2} {o d : B1} {s : ℕ} {hs : s + 512 ≤ 2048} {h : Fin 2} {c : Fin 2048} {e : Fin 128} (hc : s + 512 ≤ c.val) :
    CK q k v l o d s hs h c e = 0 := by
  rw [CK]
  refine Finset.sum_eq_zero fun a _ => ?_
  rw [DS_masked (by show s + a.val < c.val; omega), zero_mul]

theorem CV_zero {q k l : B2} {d : B1} {s : ℕ} {hs : s + 512 ≤ 2048} {h : Fin 2} {c : Fin 2048} {e : Fin 128} (hc : s + 512 ≤ c.val) :
    CV q k l d s hs h c e = 0 := by
  rw [CV]
  refine Finset.sum_eq_zero fun a _ => ?_
  rw [PP_masked (by show s + a.val < c.val; omega), zero_mul]

theorem GK_split (q k v l : B2) (o d : B1) (h : Fin 2) (c : Fin 2048) (e : Fin 128) :
    GK q k v l o d h c e = ((CK q k v l o d 1536 (by decide) h c e + CK q k v l o d 1024 (by decide) h c e)
      + CK q k v l o d 512 (by decide) h c e) + CK q k v l o d 0 (by decide) h c e := sum_four _

theorem GV_split (q k l : B2) (d : B1) (h : Fin 2) (c : Fin 2048) (e : Fin 128) :
    GV q k l d h c e = ((CV q k l d 1536 (by decide) h c e + CV q k l d 1024 (by decide) h c e)
      + CV q k l d 512 (by decide) h c e) + CV q k l d 0 (by decide) h c e := sum_four _

section
variable (c : Dev nD) (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (arg11 arg12 arg13 : Memref sig .tc .vmem S2048x256 .f32)
  (x0 x1 x2 : Vec Ideal S2048x256 .bf16) (x3 x4 : Vec Ideal S2048x128 .f32) (x5 : Vec Ideal S2048x256 .f32)

theorem ch0_2 (r : Fin 2048) (h : Fin 2) (e : Fin 128) :
    (show EReal from View.canon (Val := Elt Ideal) (kernelRun0_A.sl.HS0_2 (F := Ideal) c arg2 harg2 arg3 harg3 arg4 harg4 arg5 harg5 arg6 harg6 arg7 harg7 x0 x1 x2 x3 x4 x5) (ix2 r (ln h e))) =
      (if 1536 ≤ r.val ∧ r.val < 1536 + 512 ∧ h = 1 then CQ x0 x1 x2 x5 x3 x4 1536 512 (by decide) h r e else (if 1536 ≤ r.val ∧ r.val < 1536 + 512 ∧ h = 0 then CQ x0 x1 x2 x5 x3 x4 1536 512 (by decide) h r e else (show EReal from View.canon (Val := Elt Ideal) (s := S2048x256) (e := .f32) [] (ix2 r (ln h e))))) := by
  unfold kernelRun0_A.sl.HS0_2
  refine (canon_set 1 rfl (by decide) (CQ x0 x1 x2 x5 x3 x4 1536 512 (by decide)) (fun a e => by apply q3_d1) r h e).trans ?_
  split
  · rfl
  exact canon_set 0 rfl (by decide) (CQ x0 x1 x2 x5 x3 x4 1536 512 (by decide)) (fun a e => by apply q3_d0) r h e

theorem ch0_3 (r : Fin 2048) (h : Fin 2) (e : Fin 128) :
    (show EReal from View.canon (Val := Elt Ideal) (kernelRun0_A.sl.HS0_3 (F := Ideal) c arg2 harg2 arg3 harg3 arg4 harg4 arg5 harg5 arg6 harg6 arg7 harg7 arg11 x0 x1 x2 x3 x4 x5) (ix2 r (ln h e))) =
      (if 1536 ≤ r.val ∧ r.val < 1536 + 512 ∧ h = 0 then (show EReal from View.canon (Val := Elt Ideal) (kernelRun0_A.sl.HS0_2 (F := Ideal) c arg2 harg2 arg3 harg3 arg4 harg4 arg5 harg5 arg6 harg6 arg7 harg7 x0 x1 x2 x3 x4 x5) (ix2 r (ln h e))) + CQ x0 x1 x2 x5 x3 x4 0 1536 (by decide) h r e else (show EReal from View.canon (Val := Elt Ideal) (kernelRun0_A.sl.HS0_2 (F := Ideal) c arg2 harg2 arg3 harg3 arg4 harg4 arg5 harg5 arg6 harg6 arg7 harg7 x0 x1 x2 x3 x4 x5) (ix2 r (ln h e)))) := by
  unfold kernelRun0_A.sl.HS0_3
  exact canon_acc 0 rfl (by decide) (CQ x0 x1 x2 x5 x3 x4 0 1536 (by decide)) arg11.view (fun a e => by apply q3_p0) r h e

theorem ch0_6 (r : Fin 2048) (h : Fin 2) (e : Fin 128) :
    (show EReal from View.canon (Val := Elt Ideal) (kernelRun0_A.sl.HS0_6 (F := Ideal) c arg2 harg2 arg3 harg3 arg4 harg4 arg5 harg5 arg6 harg6 arg7 harg7 arg11 x0 x1 x2 x3 x4 x5) (ix2 r (ln h e))) =
      (if 1024 ≤ r.val ∧ r.val < 1024 + 512 ∧ h = 1 then CQ x0 x1 x2 x5 x3 x4 1024 512 (by decide) h r e else (if 1024 ≤ r.val ∧ r.val < 1024 + 512 ∧ h = 0 then CQ x0 x1 x2 x5 x3 x4 1024 512 (by decide) h r e else (if 1536 ≤ r.val ∧ r.val < 1536 + 512 ∧ h = 1 then (show EReal from View.canon (Val := Elt Ideal) (kernelRun0_A.sl.HS0_3 (F := Ideal) c arg2 harg2 arg3 harg3 arg4 harg4 arg5 harg5 arg6 harg6 arg7 harg7 arg11 x0 x1 x2 x3 x4 x5) (ix2 r (ln h e))) + CQ x0 x1 x2 x5 x3 x4 0 1536 (by decide) h r e else (show EReal from View.canon (Val := Elt Ideal) (kernelRun0_A.sl.HS0_3 (F := Ideal) c arg2 harg2 arg3 harg3 arg4 harg4 arg5 harg5 arg6 harg6 arg7 harg7 arg11 x0 x1 x2 x3 x4 x5) (ix2 r (ln h e)))))) := by
  unfold kernelRun0_A.sl.HS0_6
  refine (canon_set 1 rfl (by decide) (CQ x0 x1 x2 x5 x3 x4 1024 512 (by decide)) (fun a e => by apply q2_d1) r h e).trans ?_
  split
  · rfl
  refine (canon_set 0 rfl (by decide) (CQ x0 x1 x2 x5 x3 x4 1024 512 (by decide)) (fun a e => by apply q2_d0) r h e).trans ?_
  split
  · rfl
  exact canon_acc 1 rfl (by decide) (CQ x0 x1 x2 x5 x3 x4 0 1536 (by decide)) arg11.view (fun a e => by apply q3_p1) r h e

theorem ch0_7 (r : Fin 2048) (h : Fin 2) (e : Fin 128) :
    (show EReal from View.canon (Val := Elt Ideal) (kernelRun0_A.sl.HS0_7 (F := Ideal) c arg2 harg2 arg3 harg3 arg4 harg4 arg5 harg5 arg6 harg6 arg7 harg7 arg11 x0 x1 x2 x3 x4 x5) (ix2 r (ln h e))) =
      (if 1024 ≤ r.val ∧ r.val < 1024 + 512 ∧ h = 0 then (show EReal from View.canon (Val := Elt Ideal) (kernelRun0_A.sl.HS0_6 (F := Ideal) c arg2 harg2 arg3 harg3 arg4 harg4 arg5 harg5 arg6 harg6 arg7 harg7 arg11 x0 x1 x2 x3 x4 x5) (ix2 r (ln h e))) + CQ x0 x1 x2 x5 x3 x4 0 1024 (by decide) h r e else (show EReal from View.canon (Val := Elt Ideal) (kernelRun0_A.sl.HS0_6 (F := Ideal) c arg2 harg2 arg3 harg3 arg4 harg4 arg5 harg5 arg6 harg6 arg7 harg7 arg11 x0 x1 x2 x3 x4 x5) (ix2 r (ln h e)))) := by
  unfold kernelRun0_A.sl.HS0_7
  exact canon_acc 0 rfl (by decide) (CQ x0 x1 x2 x5 x3 x4 0 1024 (by decide)) arg11.view (fun a e => by apply q2_p0) r h e

theorem ch0_10 (r : Fin 2048) (h : Fin 2) (e : Fin 128) :
    (show EReal from View.canon (Val := Elt Ideal) (kernelRun0_A.sl.HS0_10 (F := Ideal) c arg2 harg2 arg3 harg3 arg4 harg4 arg5 harg5 arg6 harg6 arg7 harg7 arg11 x0 x1 x2 x3 x4 x5) (ix2 r (ln h e))) =
      (if 512 ≤ r.val ∧ r.val < 512 + 512 ∧ h = 1 then CQ x0 x1 x2 x5 x3 x4 512 512 (by decide) h r e else (if 512 ≤ r.val ∧ r.val < 512 + 512 ∧ h = 0 then CQ x0 x1 x2 x5 x3 x4 512 512 (by decide) h r e else (if 1024 ≤ r.val ∧ r.val < 1024 + 512 ∧ h = 1 then (show EReal from View.canon (Val := Elt Ideal) (kernelRun0_A.sl.HS0_7 (F := Ideal) c arg2 harg2 arg3 harg3 arg4 harg4 arg5 harg5 arg6 harg6 arg7 harg7 arg11 x0 x1 x2 x3 x4 x5) (ix2 r (ln h e))) + CQ x0 x1 x2 x5 x3 x4 0 1024 (by decide) h r e else (show EReal from View.canon (Val := Elt Ideal) (kernelRun0_A.sl.HS0_7 (F := Ideal) c arg2 harg2 arg3 harg3 arg4 harg4 arg5 harg5 arg6 harg6 arg7 harg7 arg11 x0 x1 x2 x3 x4 x5) (ix2 r (ln h e)))))) := by
  unfold kernelRun0_A.sl.HS0_10
  refine (canon_set 1 rfl (by decide) (CQ x0 x1 x2 x5 x3 x4 512 512 (by decide)) (fun a e => by apply q1_d1) r h e).trans ?_
  split
  · rfl
  refine (canon_set 0 rfl (by decide) (CQ x0 x1 x2 x5 x3 x4 512 512 (by decide)) (fun a e => by apply q1_d0) r h e).trans ?_
  split
  · rfl
  exact canon_acc 1 rfl (by decide) (CQ x0 x1 x2 x5 x3 x4 0 1024 (by decide)) arg11.view (fun a e => by apply q2_p1) r h e

theorem ch0_11 (r : Fin 2048) (h : Fin 2) (e : Fin 128) :
    (show EReal from View.canon (Val := Elt Ideal) (kernelRun0_A.sl.HS0_11 (F := Ideal) c arg2 harg2 arg3 harg3 arg4 harg4 arg5 harg5 arg6 harg6 arg7 harg7 arg11 x0 x1 x2 x3 x4 x5) (ix2 r (ln h e))) =
      (if 512 ≤ r.val ∧ r.val < 512 + 512 ∧ h = 0 then (show EReal from View.canon (Val := Elt Ideal) (kernelRun0_A.sl.HS0_10 (F := Ideal) c arg2 harg2 arg3 harg3 arg4 harg4 arg5 harg5 arg6 harg6 arg7 harg7 arg11 x0 x1 x2 x3 x4 x5) (ix2 r (ln h e))) + CQ x0 x1 x2 x5 x3 x4 0 512 (by decide) h r e else (show EReal from View.canon (Val := Elt Ideal) (kernelRun0_A.sl.HS0_10 (F := Ideal) c arg2 harg2 arg3 harg3 arg4 harg4 arg5 harg5 arg6 harg6 arg7 harg7 arg11 x0 x1 x2 x3 x4 x5) (ix2 r (ln h e)))) := by
  unfold kernelRun0_A.sl.HS0_11
  exact canon_acc 0 rfl (by decide) (CQ x0 x1 x2 x5 x3 x4 0 512 (by decide)) arg11.view (fun a e => by apply q1_p0) r h e

theorem ch0_14 (r : Fin 2048) (h : Fin 2) (e : Fin 128) :
    (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) =
      (if 0 ≤ r.val ∧ r.val < 0 + 512 ∧ h = 1 then CQ x0 x1 x2 x5 x3 x4 0 512 (by decide) h r e else (if 0 ≤ r.val ∧ r.val < 0 + 512 ∧ h = 0 then CQ x0 x1 x2 x5 x3 x4 0 512 (by decide) h r e else (if 512 ≤ r.val ∧ r.val < 512 + 512 ∧ h = 1 then (show EReal from View.canon (Val := Elt Ideal) (kernelRun0_A.sl.HS0_11 (F := Ideal) c arg2 harg2 arg3 harg3 arg4 harg4 arg5 harg5 arg6 harg6 arg7 harg7 arg11 x0 x1 x2 x3 x4 x5) (ix2 r (ln h e))) + CQ x0 x1 x2 x5 x3 x4 0 512 (by decide) h r e else (show EReal from View.canon (Val := Elt Ideal) (kernelRun0_A.sl.HS0_11 (F := Ideal) c arg2 harg2 arg3 harg3 arg4 harg4 arg5 harg5 arg6 harg6 arg7 harg7 arg11 x0 x1 x2 x3 x4 x5) (ix2 r (ln h e)))))) := by
  unfold kernelRun0_A.sl.HS0_14
  refine (canon_set 1 rfl (by decide) (CQ x0 x1 x2 x5 x3 x4 0 512 (by decide)) (fun a e => by apply q0_d1) r h e).trans ?_
  split
  · rfl
  refine (canon_set 0 rfl (by decide) (CQ x0 x1 x2 x5 x3 x4 0 512 (by decide)) (fun a e => by apply q0_d0) r h e).trans ?_
  split
  · rfl
  exact canon_acc 1 rfl (by decide) (CQ x0 x1 x2 x5 x3 x4 0 512 (by decide)) arg11.view (fun a e => by apply q1_p1) r h e

theorem ch1_4 (r : Fin 2048) (h : Fin 2) (e : Fin 128) :
    (show EReal from View.canon (Val := Elt Ideal) (kernelRun0_A.sl.HS1_4 (F := Ideal) c arg2 harg2 arg3 harg3 arg4 harg4 arg5 harg5 arg6 harg6 arg7 harg7 x0 x1 x2 x3 x4 x5) (ix2 r (ln h e))) =
      (if 0 ≤ r.val ∧ r.val < 0 + 1536 ∧ h = 1 then CK x0 x1 x2 x5 x3 x4 1536 (by decide) h r e else (if 0 ≤ r.val ∧ r.val < 0 + 1536 ∧ h = 0 then CK x0 x1 x2 x5 x3 x4 1536 (by decide) h r e else (if 1536 ≤ r.val ∧ r.val < 1536 + 512 ∧ h = 1 then CK x0 x1 x2 x5 x3 x4 1536 (by decide) h r e else (if 1536 ≤ r.val ∧ r.val < 1536 + 512 ∧ h = 0 then CK x0 x1 x2 x5 x3 x4 1536 (by decide) h r e else (show EReal from View.canon (Val := Elt Ideal) (s := S2048x256) (e := .f32) [] (ix2 r (ln h e))))))) := by
  unfold kernelRun0_A.sl.HS1_4
  refine (canon_set 1 rfl (by decide) (CK x0 x1 x2 x5 x3 x4 1536 (by decide)) (fun a e => by apply k3_p1) r h e).trans ?_
  split
  · rfl
  refine (canon_set 0 rfl (by decide) (CK x0 x1 x2 x5 x3 x4 1536 (by decide)) (fun a e => by apply k3_p0) r h e).trans ?_
  split
  · rfl
  refine (canon_set 1 rfl (by decide) (CK x0 x1 x2 x5 x3 x4 1536 (by decide)) (fun a e => by apply k3_d1) r h e).trans ?_
  split
  · rfl
  exact canon_set 0 rfl (by decide) (CK x0 x1 x2 x5 x3 x4 1536 (by decide)) (fun a e => by apply k3_d0) r h e

theorem ch1_5 (r : Fin 2048) (h : Fin 2) (e : Fin 128) :
    (show EReal from View.canon (Val := Elt Ideal) (kernelRun0_A.sl.HS1_5 (F := Ideal) c arg2 harg2 arg3 harg3 arg4 harg4 arg5 harg5 arg6 harg6 arg7 harg7 arg12 x0 x1 x2 x3 x4 x5) (ix2 r (ln h e))) =
      (if 1024 ≤ r.val ∧ r.val < 1024 + 512 ∧ h = 0 then (show EReal from View.canon (Val := Elt Ideal) (kernelRun0_A.sl.HS1_4 (F := Ideal) c arg2 harg2 arg3 harg3 arg4 harg4 arg5 harg5 arg6 harg6 arg7 harg7 x0 x1 x2 x3 x4 x5) (ix2 r (ln h e))) + CK x0 x1 x2 x5 x3 x4 1024 (by decide) h r e else (show EReal from View.canon (Val := Elt Ideal) (kernelRun0_A.sl.HS1_4 (F := Ideal) c arg2 harg2 arg3 harg3 arg4 harg4 arg5 harg5 arg6 harg6 arg7 harg7 x0 x1 x2 x3 x4 x5) (ix2 r (ln h e)))) := by
  unfold kernelRun0_A.sl.HS1_5
  exact canon_acc 0 rfl (by decide) (CK x0 x1 x2 x5 x3 x4 1024 (by decide)) arg12.view (fun a e => by apply k2_d0) r h e

theorem ch1_6 (r : Fin 2048) (h : Fin 2) (e : Fin 128) :
    (show EReal from View.canon (Val := Elt Ideal) (kernelRun0_A.sl.HS1_6 (F := Ideal) c arg2 harg2 arg3 harg3 arg4 harg4 arg5 harg5 arg6 harg6 arg7 harg7 arg12 x0 x1 x2 x3 x4 x5) (ix2 r (ln h e))) =
      (if 1024 ≤ r.val ∧ r.val < 1024 + 512 ∧ h = 1 then (show EReal from View.canon (Val := Elt Ideal) (kernelRun0_A.sl.HS1_5 (F := Ideal) c arg2 harg2 arg3 harg3 arg4 harg4 arg5 harg5 arg6 harg6 arg7 harg7 arg12 x0 x1 x2 x3 x4 x5) (ix2 r (ln h e))) + CK x0 x1 x2 x5 x3 x4 1024 (by decide) h r e else (show EReal from View.canon (Val := Elt Ideal) (kernelRun0_A.sl.HS1_5 (F := Ideal) c arg2 harg2 arg3 harg3 arg4 harg4 arg5 harg5 arg6 harg6 arg7 harg7 arg12 x0 x1 x2 x3 x4 x5) (ix2 r (ln h e)))) := by
  unfold kernelRun0_A.sl.HS1_6
  exact canon_acc 1 rfl (by decide) (CK x0 x1 x2 x5 x3 x4 1024 (by decide)) arg12.view (fun a e => by apply k2_d1) r h e

theorem ch1_7 (r : Fin 2048) (h : Fin 2) (e : Fin 128) :
    (show EReal from View.canon (Val := Elt Ideal) (kernelRun0_A.sl.HS1_7 (F := Ideal) c arg2 harg2 arg3 harg3 arg4 harg4 arg5 harg5 arg6 harg6 arg7 harg7 arg12 x0 x1 x2 x3 x4 x5) (ix2 r (ln h e))) =
      (if 0 ≤ r.val ∧ r.val < 0 + 1024 ∧ h = 0 then (show EReal from View.canon (Val := Elt Ideal) (kernelRun0_A.sl.HS1_6 (F := Ideal) c arg2 harg2 arg3 harg3 arg4 harg4 arg5 harg5 arg6 harg6 arg7 harg7 arg12 x0 x1 x2 x3 x4 x5) (ix2 r (ln h e))) + CK x0 x1 x2 x5 x3 x4 1024 (by decide) h r e else (show EReal from View.canon (Val := Elt Ideal) (kernelRun0_A.sl.HS1_6 (F := Ideal) c arg2 harg2 arg3 harg3 arg4 harg4 arg5 harg5 arg6 harg6 arg7 harg7 arg12 x0 x1 x2 x3 x4 x5) (ix2 r (ln h e)))) := by
  unfold kernelRun0_A.sl.HS1_7
  exact canon_acc 0 rfl (by decide) (CK x0 x1 x2 x5 x3 x4 1024 (by decide)) arg12.view (fun a e => by apply k2_p0) r h e

theorem ch1_8 (r : Fin 2048) (h : Fin 2) (e : Fin 128) :
    (show EReal from View.canon (Val := Elt Ideal) (kernelRun0_A.sl.HS1_8 (F := Ideal) c arg2 harg2 arg3 harg3 arg4 harg4 arg5 harg5 arg6 harg6 arg7 harg7 arg12 x0 x1 x2 x3 x4 x5) (ix2 r (ln h e))) =
      (if 0 ≤ r.val ∧ r.val < 0 + 1024 ∧ h = 1 then (show EReal from View.canon (Val := Elt Ideal) (kernelRun0_A.sl.HS1_7 (F := Ideal) c arg2 harg2 arg3 harg3 arg4 harg4 arg5 harg5 arg6 harg6 arg7 harg7 arg12 x0 x1 x2 x3 x4 x5) (ix2 r (ln h e))) + CK x0 x1 x2 x5 x3 x4 1024 (by decide) h r e else (show EReal from View.canon (Val := Elt Ideal) (kernelRun0_A.sl.HS1_7 (F := Ideal) c arg2 harg2 arg3 harg3 arg4 harg4 arg5 harg5 arg6 harg6 arg7 harg7 arg12 x0 x1 x2 x3 x4 x5) (ix2 r (ln h e)))) := by
  unfold kernelRun0_A.sl.HS1_8
  exact canon_acc 1 rfl (by decide) (CK x0 x1 x2 x5 x3 x4 1024 (by decide)) arg12.view (fun a e => by apply k2_p1) r h e

theorem ch1_9 (r : Fin 2048) (h : Fin 2) (e : Fin 128) :
    (show EReal from View.canon (Val := Elt Ideal) (kernelRun0_A.sl.HS1_9 (F := Ideal) c arg2 harg2 arg3 harg3 arg4 harg4 arg5 harg5 arg6 harg6 arg7 harg7 arg12 x0 x1 x2 x3 x4 x5) (ix2 r (ln h e))) =
      (if 512 ≤ r.val ∧ r.val < 512 + 512 ∧ h = 0 then (show EReal from View.canon (Val := Elt Ideal) (kernelRun0_A.sl.HS1_8 (F := Ideal) c arg2 harg2 arg3 harg3 arg4 harg4 arg5 harg5 arg6 harg6 arg7 harg7 arg12 x0 x1 x2 x3 x4 x5) (ix2 r (ln h e))) + CK x0 x1 x2 x5 x3 x4 512 (by decide) h r e else (show EReal from View.canon (Val := Elt Ideal) (kernelRun0_A.sl.HS1_8 (F := Ideal) c arg2 harg2 arg3 harg3 arg4 harg4 arg5 harg5 arg6 harg6 arg7 harg7 arg12 x0 x1 x2 x3 x4 x5) (ix2 r (ln h e)))) := by
  unfold kernelRun0_A.sl.HS1_9
  exact canon_acc 0 rfl (by decide) (CK x0 x1 x2 x5 x3 x4 512 (by decide)) arg12.view (fun a e => by apply k1_d0) r h e

theorem ch1_10 (r : Fin 2048) (h : Fin 2) (e : Fin 128) :
    (show EReal from View.canon (Val := Elt Ideal) (kernelRun0_A.sl.HS1_10 (F := Ideal) c arg2 harg2 arg3 harg3 arg4 harg4 arg5 harg5 arg6 harg6 arg7 harg7 arg12 x0 x1 x2 x3 x4 x5) (ix2 r (ln h e))) =
      (if 512 ≤ r.val ∧ r.val < 512 + 512 ∧ h = 1 then (show EReal from View.canon (Val := Elt Ideal) (kernelRun0_A.sl.HS1_9 (F := Ideal) c arg2 harg2 arg3 harg3 arg4 harg4 arg5 harg5 arg6 harg6 arg7 harg7 arg12 x0 x1 x2 x3 x4 x5) (ix2 r (ln h e))) + CK x0 x1 x2 x5 x3 x4 512 (by decide) h r e else (show EReal from View.canon (Val := Elt Ideal) (kernelRun0_A.sl.HS1_9 (F := Ideal) c arg2 harg2 arg3 harg3 arg4 harg4 arg5 harg5 arg6 harg6 arg7 harg7 arg12 x0 x1 x2 x3 x4 x5) (ix2 r (ln h e)))) := by
  unfold kernelRun0_A.sl.HS1_10
  exact canon_acc 1 rfl (by decide) (CK x0 x1 x2 x5 x3 x4 512 (by decide)) arg12.view (fun a e => by apply k1_d1) r h e

theorem ch1_11 (r : Fin 2048) (h : Fin 2) (e : Fin 128) :
    (show EReal from View.canon (Val := Elt Ideal) (kernelRun0_A.sl.HS1_11 (F := Ideal) c arg2 harg2 arg3 harg3 arg4 harg4 arg5 harg5 arg6 harg6 arg7 harg7 arg12 x0 x1 x2 x3 x4 x5) (ix2 r (ln h e))) =
      (if 0 ≤ r.val ∧ r.val < 0 + 512 ∧ h = 0 then (show EReal from View.canon (Val := Elt Ideal) (kernelRun0_A.sl.HS1_10 (F := Ideal) c arg2 harg2 arg3 harg3 arg4 harg4 arg5 harg5 arg6 harg6 arg7 harg7 arg12 x0 x1 x2 x3 x4 x5) (ix2 r (ln h e))) + CK x0 x1 x2 x5 x3 x4 512 (by decide) h r e else (show EReal from View.canon (Val := Elt Ideal) (kernelRun0_A.sl.HS1_10 (F := Ideal) c arg2 harg2 arg3 harg3 arg4 harg4 arg5 harg5 arg6 harg6 arg7 harg7 arg12 x0 x1 x2 x3 x4 x5) (ix2 r (ln h e)))) := by
  unfold kernelRun0_A.sl.HS1_11
  exact canon_acc 0 rfl (by decide) (CK x0 x1 x2 x5 x3 x4 512 (by decide)) arg12.view (fun a e => by apply k1_p0) r h e

theorem ch1_12 (r : Fin 2048) (h : Fin 2) (e : Fin 128) :
    (show EReal from View.canon (Val := Elt Ideal) (kernelRun0_A.sl.HS1_12 (F := Ideal) c arg2 harg2 arg3 harg3 arg4 harg4 arg5 harg5 arg6 harg6 arg7 harg7 arg12 x0 x1 x2 x3 x4 x5) (ix2 r (ln h e))) =
      (if 0 ≤ r.val ∧ r.val < 0 + 512 ∧ h = 1 then (show EReal from View.canon (Val := Elt Ideal) (kernelRun0_A.sl.HS1_11 (F := Ideal) c arg2 harg2 arg3 harg3 arg4 harg4 arg5 harg5 arg6 harg6 arg7 harg7 arg12 x0 x1 x2 x3 x4 x5) (ix2 r (ln h e))) + CK x0 x1 x2 x5 x3 x4 512 (by decide) h r e else (show EReal from View.canon (Val := Elt Ideal) (kernelRun0_A.sl.HS1_11 (F := Ideal) c arg2 harg2 arg3 harg3 arg4 harg4 arg5 harg5 arg6 harg6 arg7 harg7 arg12 x0 x1 x2 x3 x4 x5) (ix2 r (ln h e)))) := by
  unfold kernelRun0_A.sl.HS1_12
  exact canon_acc 1 rfl (by decide) (CK x0 x1 x2 x5 x3 x4 512 (by decide)) arg12.view (fun a e => by apply k1_p1) r h e

theorem ch1_13 (r : Fin 2048) (h : Fin 2) (e : Fin 128) :
    (show EReal from View.canon (Val := Elt Ideal) (kernelRun0_A.sl.HS1_13 (F := Ideal) c arg2 harg2 arg3 harg3 arg4 harg4 arg5 harg5 arg6 harg6 arg7 harg7 arg12 x0 x1 x2 x3 x4 x5) (ix2 r (ln h e))) =
      (if 0 ≤ r.val ∧ r.val < 0 + 512 ∧ h = 0 then (show EReal from View.canon (Val := Elt Ideal) (kernelRun0_A.sl.HS1_12 (F := Ideal) c arg2 harg2 arg3 harg3 arg4 harg4 arg5 harg5 arg6 harg6 arg7 harg7 arg12 x0 x1 x2 x3 x4 x5) (ix2 r (ln h e))) + CK x0 x1 x2 x5 x3 x4 0 (by decide) h r e else (show EReal from View.canon (Val := Elt Ideal) (kernelRun0_A.sl.HS1_12 (F := Ideal) c arg2 harg2 arg3 harg3 arg4 harg4 arg5 harg5 arg6 harg6 arg7 harg7 arg12 x0 x1 x2 x3 x4 x5) (ix2 r (ln h e)))) := by
  unfold kernelRun0_A.sl.HS1_13
  exact canon_acc 0 rfl (by decide) (CK x0 x1 x2 x5 x3 x4 0 (by decide)) arg12.view (fun a e => by apply k0_d0) r h e

theorem ch1_14 (r : Fin 2048) (h : Fin 2) (e : Fin 128) :
    (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) =
      (if 0 ≤ r.val ∧ r.val < 0 + 512 ∧ h = 1 then (show EReal from View.canon (Val := Elt Ideal) (kernelRun0_A.sl.HS1_13 (F := Ideal) c arg2 harg2 arg3 harg3 arg4 harg4 arg5 harg5 arg6 harg6 arg7 harg7 arg12 x0 x1 x2 x3 x4 x5) (ix2 r (ln h e))) + CK x0 x1 x2 x5 x3 x4 0 (by decide) h r e else (show EReal from View.canon (Val := Elt Ideal) (kernelRun0_A.sl.HS1_13 (F := Ideal) c arg2 harg2 arg3 harg3 arg4 harg4 arg5 harg5 arg6 harg6 arg7 harg7 arg12 x0 x1 x2 x3 x4 x5) (ix2 r (ln h e)))) := by
  unfold kernelRun0_A.sl.HS1_14
  exact canon_acc 1 rfl (by decide) (CK x0 x1 x2 x5 x3 x4 0 (by decide)) arg12.view (fun a e => by apply k0_d1) r h e

theorem ch2_4 (r : Fin 2048) (h : Fin 2) (e : Fin 128) :
    (show EReal from View.canon (Val := Elt Ideal) (kernelRun0_A.sl.HS2_4 (F := Ideal) c arg2 harg2 arg3 harg3 arg6 harg6 arg7 harg7 x0 x1 x4 x5) (ix2 r (ln h e))) =
      (if 0 ≤ r.val ∧ r.val < 0 + 1536 ∧ h = 1 then CV x0 x1 x5 x4 1536 (by decide) h r e else (if 0 ≤ r.val ∧ r.val < 0 + 1536 ∧ h = 0 then CV x0 x1 x5 x4 1536 (by decide) h r e else (if 1536 ≤ r.val ∧ r.val < 1536 + 512 ∧ h = 1 then CV x0 x1 x5 x4 1536 (by decide) h r e else (if 1536 ≤ r.val ∧ r.val < 1536 + 512 ∧ h = 0 then CV x0 x1 x5 x4 1536 (by decide) h r e else (show EReal from View.canon (Val := Elt Ideal) (s := S2048x256) (e := .f32) [] (ix2 r (ln h e))))))) := by
  unfold kernelRun0_A.sl.HS2_4
  refine (canon_set 1 rfl (by decide) (CV x0 x1 x5 x4 1536 (by decide)) (fun a e => by apply v3_p1) r h e).trans ?_
  split
  · rfl
  refine (canon_set 0 rfl (by decide) (CV x0 x1 x5 x4 1536 (by decide)) (fun a e => by apply v3_p0) r h e).trans ?_
  split
  · rfl
  refine (canon_set 1 rfl (by decide) (CV x0 x1 x5 x4 1536 (by decide)) (fun a e => by apply v3_d1) r h e).trans ?_
  split
  · rfl
  exact canon_set 0 rfl (by decide) (CV x0 x1 x5 x4 1536 (by decide)) (fun a e => by apply v3_d0) r h e

theorem ch2_5 (r : Fin 2048) (h : Fin 2) (e : Fin 128) :
    (show EReal from View.canon (Val := Elt Ideal) (kernelRun0_A.sl.HS2_5 (F := Ideal) c arg2 harg2 arg3 harg3 arg6 harg6 arg7 harg7 arg13 x0 x1 x4 x5) (ix2 r (ln h e))) =
      (if 1024 ≤ r.val ∧ r.val < 1024 + 512 ∧ h = 0 then (show EReal from View.canon (Val := Elt Ideal) (kernelRun0_A.sl.HS2_4 (F := Ideal) c arg2 harg2 arg3 harg3 arg6 harg6 arg7 harg7 x0 x1 x4 x5) (ix2 r (ln h e))) + CV x0 x1 x5 x4 1024 (by decide) h r e else (show EReal from View.canon (Val := Elt Ideal) (kernelRun0_A.sl.HS2_4 (F := Ideal) c arg2 harg2 arg3 harg3 arg6 harg6 arg7 harg7 x0 x1 x4 x5) (ix2 r (ln h e)))) := by
  unfold kernelRun0_A.sl.HS2_5
  exact canon_acc 0 rfl (by decide) (CV x0 x1 x5 x4 1024 (by decide)) arg13.view (fun a e => by apply v2_d0) r h e

theorem ch2_6 (r : Fin 2048) (h : Fin 2) (e : Fin 128) :
    (show EReal from View.canon (Val := Elt Ideal) (kernelRun0_A.sl.HS2_6 (F := Ideal) c arg2 harg2 arg3 harg3 arg6 harg6 arg7 harg7 arg13 x0 x1 x4 x5) (ix2 r (ln h e))) =
      (if 1024 ≤ r.val ∧ r.val < 1024 + 512 ∧ h = 1 then (show EReal from View.canon (Val := Elt Ideal) (kernelRun0_A.sl.HS2_5 (F := Ideal) c arg2 harg2 arg3 harg3 arg6 harg6 arg7 harg7 arg13 x0 x1 x4 x5) (ix2 r (ln h e))) + CV x0 x1 x5 x4 1024 (by decide) h r e else (show EReal from View.canon (Val := Elt Ideal) (kernelRun0_A.sl.HS2_5 (F := Ideal) c arg2 harg2 arg3 harg3 arg6 harg6 arg7 harg7 arg13 x0 x1 x4 x5) (ix2 r (ln h e)))) := by
  unfold kernelRun0_A.sl.HS2_6
  exact canon_acc 1 rfl (by decide) (CV x0 x1 x5 x4 1024 (by decide)) arg13.view (fun a e => by apply v2_d1) r h e

theorem ch2_7 (r : Fin 2048) (h : Fin 2) (e : Fin 128) :
    (show EReal from View.canon (Val := Elt Ideal) (kernelRun0_A.sl.HS2_7 (F := Ideal) c arg2 harg2 arg3 harg3 arg6 harg6 arg7 harg7 arg13 x0 x1 x4 x5) (ix2 r (ln h e))) =
      (if 0 ≤ r.val ∧ r.val < 0 + 1024 ∧ h = 0 then (show EReal from View.canon (Val := Elt Ideal) (kernelRun0_A.sl.HS2_6 (F := Ideal) c arg2 harg2 arg3 harg3 arg6 harg6 arg7 harg7 arg13 x0 x1 x4 x5) (ix2 r (ln h e))) + CV x0 x1 x5 x4 1024 (by decide) h r e else (show EReal from View.canon (Val := Elt Ideal) (kernelRun0_A.sl.HS2_6 (F := Ideal) c arg2 harg2 arg3 harg3 arg6 harg6 arg7 harg7 arg13 x0 x1 x4 x5) (ix2 r (ln h e)))) := by
  unfold kernelRun0_A.sl.HS2_7
  exact canon_acc 0 rfl (by decide) (CV x0 x1 x5 x4 1024 (by decide)) arg13.view (fun a e => by apply v2_p0) r h e

theorem ch2_8 (r : Fin 2048) (h : Fin 2) (e : Fin 128) :
    (show EReal from View.canon (Val := Elt Ideal) (kernelRun0_A.sl.HS2_8 (F := Ideal) c arg2 harg2 arg3 harg3 arg6 harg6 arg7 harg7 arg13 x0 x1 x4 x5) (ix2 r (ln h e))) =
      (if 0 ≤ r.val ∧ r.val < 0 + 1024 ∧ h = 1 then (show EReal from View.canon (Val := Elt Ideal) (kernelRun0_A.sl.HS2_7 (F := Ideal) c arg2 harg2 arg3 harg3 arg6 harg6 arg7 harg7 arg13 x0 x1 x4 x5) (ix2 r (ln h e))) + CV x0 x1 x5 x4 1024 (by decide) h r e else (show EReal from View.canon (Val := Elt Ideal) (kernelRun0_A.sl.HS2_7 (F := Ideal) c arg2 harg2 arg3 harg3 arg6 harg6 arg7 harg7 arg13 x0 x1 x4 x5) (ix2 r (ln h e)))) := by
  unfold kernelRun0_A.sl.HS2_8
  exact canon_acc 1 rfl (by decide) (CV x0 x1 x5 x4 1024 (by decide)) arg13.view (fun a e => by apply v2_p1) r h e

theorem ch2_9 (r : Fin 2048) (h : Fin 2) (e : Fin 128) :
    (show EReal from View.canon (Val := Elt Ideal) (kernelRun0_A.sl.HS2_9 (F := Ideal) c arg2 harg2 arg3 harg3 arg6 harg6 arg7 harg7 arg13 x0 x1 x4 x5) (ix2 r (ln h e))) =
      (if 512 ≤ r.val ∧ r.val < 512 + 512 ∧ h = 0 then (show EReal from View.canon (Val := Elt Ideal) (kernelRun0_A.sl.HS2_8 (F := Ideal) c arg2 harg2 arg3 harg3 arg6 harg6 arg7 harg7 arg13 x0 x1 x4 x5) (ix2 r (ln h e))) + CV x0 x1 x5 x4 512 (by decide) h r e else (show EReal from View.canon (Val := Elt Ideal) (kernelRun0_A.sl.HS2_8 (F := Ideal) c arg2 harg2 arg3 harg3 arg6 harg6 arg7 harg7 arg13 x0 x1 x4 x5) (ix2 r (ln h e)))) := by
  unfold kernelRun0_A.sl.HS2_9
  exact canon_acc 0 rfl (by decide) (CV x0 x1 x5 x4 512 (by decide)) arg13.view (fun a e => by apply v1_d0) r h e

theorem ch2_10 (r : Fin 2048) (h : Fin 2) (e : Fin 128) :
    (show EReal from View.canon (Val := Elt Ideal) (kernelRun0_A.sl.HS2_10 (F := Ideal) c arg2 harg2 arg3 harg3 arg6 harg6 arg7 harg7 arg13 x0 x1 x4 x5) (ix2 r (ln h e))) =
      (if 512 ≤ r.val ∧ r.val < 512 + 512 ∧ h = 1 then (show EReal from View.canon (Val := Elt Ideal) (kernelRun0_A.sl.HS2_9 (F := Ideal) c arg2 harg2 arg3 harg3 arg6 harg6 arg7 harg7 arg13 x0 x1 x4 x5) (ix2 r (ln h e))) + CV x0 x1 x5 x4 512 (by decide) h r e else (show EReal from View.canon (Val := Elt Ideal) (kernelRun0_A.sl.HS2_9 (F := Ideal) c arg2 harg2 arg3 harg3 arg6 harg6 arg7 harg7 arg13 x0 x1 x4 x5) (ix2 r (ln h e)))) := by
  unfold kernelRun0_A.sl.HS2_10
  exact canon_acc 1 rfl (by decide) (CV x0 x1 x5 x4 512 (by decide)) arg13.view (fun a e => by apply v1_d1) r h e

theorem ch2_11 (r : Fin 2048) (h : Fin 2) (e : Fin 128) :
    (show EReal from View.canon (Val := Elt Ideal) (kernelRun0_A.sl.HS2_11 (F := Ideal) c arg2 harg2 arg3 harg3 arg6 harg6 arg7 harg7 arg13 x0 x1 x4 x5) (ix2 r (ln h e))) =
      (if 0 ≤ r.val ∧ r.val < 0 + 512 ∧ h = 0 then (show EReal from View.canon (Val := Elt Ideal) (kernelRun0_A.sl.HS2_10 (F := Ideal) c arg2 harg2 arg3 harg3 arg6 harg6 arg7 harg7 arg13 x0 x1 x4 x5) (ix2 r (ln h e))) + CV x0 x1 x5 x4 512 (by decide) h r e else (show EReal from View.canon (Val := Elt Ideal) (kernelRun0_A.sl.HS2_10 (F := Ideal) c arg2 harg2 arg3 harg3 arg6 harg6 arg7 harg7 arg13 x0 x1 x4 x5) (ix2 r (ln h e)))) := by
  unfold kernelRun0_A.sl.HS2_11
  exact canon_acc 0 rfl (by decide) (CV x0 x1 x5 x4 512 (by decide)) arg13.view (fun a e => by apply v1_p0) r h e

theorem ch2_12 (r : Fin 2048) (h : Fin 2) (e : Fin 128) :
    (show EReal from View.canon (Val := Elt Ideal) (kernelRun0_A.sl.HS2_12 (F := Ideal) c arg2 harg2 arg3 harg3 arg6 harg6 arg7 harg7 arg13 x0 x1 x4 x5) (ix2 r (ln h e))) =
      (if 0 ≤ r.val ∧ r.val < 0 + 512 ∧ h = 1 then (show EReal from View.canon (Val := Elt Ideal) (kernelRun0_A.sl.HS2_11 (F := Ideal) c arg2 harg2 arg3 harg3 arg6 harg6 arg7 harg7 arg13 x0 x1 x4 x5) (ix2 r (ln h e))) + CV x0 x1 x5 x4 512 (by decide) h r e else (show EReal from View.canon (Val := Elt Ideal) (kernelRun0_A.sl.HS2_11 (F := Ideal) c arg2 harg2 arg3 harg3 arg6 harg6 arg7 harg7 arg13 x0 x1 x4 x5) (ix2 r (ln h e)))) := by
  unfold kernelRun0_A.sl.HS2_12
  exact canon_acc 1 rfl (by decide) (CV x0 x1 x5 x4 512 (by decide)) arg13.view (fun a e => by apply v1_p1) r h e

theorem ch2_13 (r : Fin 2048) (h : Fin 2) (e : Fin 128) :
    (show EReal from View.canon (Val := Elt Ideal) (kernelRun0_A.sl.HS2_13 (F := Ideal) c arg2 harg2 arg3 harg3 arg6 harg6 arg7 harg7 arg13 x0 x1 x4 x5) (ix2 r (ln h e))) =
      (if 0 ≤ r.val ∧ r.val < 0 + 512 ∧ h = 0 then (show EReal from View.canon (Val := Elt Ideal) (kernelRun0_A.sl.HS2_12 (F := Ideal) c arg2 harg2 arg3 harg3 arg6 harg6 arg7 harg7 arg13 x0 x1 x4 x5) (ix2 r (ln h e))) + CV x0 x1 x5 x4 0 (by decide) h r e else (show EReal from View.canon (Val := Elt Ideal) (kernelRun0_A.sl.HS2_12 (F := Ideal) c arg2 harg2 arg3 harg3 arg6 harg6 arg7 harg7 arg13 x0 x1 x4 x5) (ix2 r (ln h e)))) := by
  unfold kernelRun0_A.sl.HS2_13
  exact canon_acc 0 rfl (by decide) (CV x0 x1 x5 x4 0 (by decide)) arg13.view (fun a e => by apply v0_d0) r h e

theorem ch2_14 (r : Fin 2048) (h : Fin 2) (e : Fin 128) :
    (show EReal from View.canon (Val := Elt Ideal) (kernelRun0_A.sl.HS2_14 (F := Ideal) c arg2 harg2 arg3 harg3 arg6 harg6 arg7 harg7 arg13 x0 x1 x4 x5) (ix2 r (ln h e))) =
      (if 0 ≤ r.val ∧ r.val < 0 + 512 ∧ h = 1 then (show EReal from View.canon (Val := Elt Ideal) (kernelRun0_A.sl.HS2_13 (F := Ideal) c arg2 harg2 arg3 harg3 arg6 harg6 arg7 harg7 arg13 x0 x1 x4 x5) (ix2 r (ln h e))) + CV x0 x1 x5 x4 0 (by decide) h r e else (show EReal from View.canon (Val := Elt Ideal) (kernelRun0_A.sl.HS2_13 (F := Ideal) c arg2 harg2 arg3 harg3 arg6 harg6 arg7 harg7 arg13 x0 x1 x4 x5) (ix2 r (ln h e)))) := by
  unfold kernelRun0_A.sl.HS2_14
  exact canon_acc 1 rfl (by decide) (CV x0 x1 x5 x4 0 (by decide)) arg13.view (fun a e => by apply v0_d1) r h e

/-- The scratch array of the query gradient at the end of the point. -/
theorem scratch0 (r : Fin 2048) (h : Fin 2) (e : Fin 128) :
    View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e)) = GQ x0 x1 x2 x5 x3 x4 h r e := by
  have hr := r.isLt
  have case_00 : ∀ (hj : 0 ≤ r.val ∧ r.val < 512) (hh : h = 0), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 0 512 (by decide) h r e (by omega)]
    rw [ch0_14]
    rw [if_neg (fun z => absurd (hh.symm.trans z.2.2) (by decide))]
    rw [if_pos ⟨by omega, by omega, hh⟩]
    simp only [CQ, Finset.univ_eq_empty, Finset.sum_empty, add_zero]
  have case_01 : ∀ (hj : 512 ≤ r.val ∧ r.val < 1024) (hh : h = 0), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 512 512 (by decide) h r e (by omega)]
    rw [ch0_14]
    rw [if_neg (fun z => absurd (hh.symm.trans z.2.2) (by decide))]
    rw [if_neg (fun z => by omega)]
    rw [if_neg (fun z => absurd (hh.symm.trans z.2.2) (by decide))]
    rw [ch0_11]
    rw [if_pos ⟨by omega, by omega, hh⟩]
    rw [ch0_10]
    rw [if_neg (fun z => absurd (hh.symm.trans z.2.2) (by decide))]
    rw [if_pos ⟨by omega, by omega, hh⟩]
  have case_02 : ∀ (hj : 1024 ≤ r.val ∧ r.val < 1536) (hh : h = 0), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 1024 512 (by decide) h r e (by omega)]
    rw [ch0_14]
    rw [if_neg (fun z => absurd (hh.symm.trans z.2.2) (by decide))]
    rw [if_neg (fun z => by omega)]
    rw [if_neg (fun z => absurd (hh.symm.trans z.2.2) (by decide))]
    rw [ch0_11]
    rw [if_neg (fun z => by omega)]
    rw [ch0_10]
    rw [if_neg (fun z => absurd (hh.symm.trans z.2.2) (by decide))]
    rw [if_neg (fun z => by omega)]
    rw [if_neg (fun z => absurd (hh.symm.trans z.2.2) (by decide))]
    rw [ch0_7]
    rw [if_pos ⟨by omega, by omega, hh⟩]
    rw [ch0_6]
    rw [if_neg (fun z => absurd (hh.symm.trans z.2.2) (by decide))]
    rw [if_pos ⟨by omega, by omega, hh⟩]
  have case_03 : ∀ (hj : 1536 ≤ r.val ∧ r.val < 2048) (hh : h = 0), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 1536 512 (by decide) h r e (by omega)]
    rw [ch0_14]
    rw [if_neg (fun z => absurd (hh.symm.trans z.2.2) (by decide))]
    rw [if_neg (fun z => by omega)]
    rw [if_neg (fun z => absurd (hh.symm.trans z.2.2) (by decide))]
    rw [ch0_11]
    rw [if_neg (fun z => by omega)]
    rw [ch0_10]
    rw [if_neg (fun z => absurd (hh.symm.trans z.2.2) (by decide))]
    rw [if_neg (fun z => by omega)]
    rw [if_neg (fun z => absurd (hh.symm.trans z.2.2) (by decide))]
    rw [ch0_7]
    rw [if_neg (fun z => by omega)]
    rw [ch0_6]
    rw [if_neg (fun z => absurd (hh.symm.trans z.2.2) (by decide))]
    rw [if_neg (fun z => by omega)]
    rw [if_neg (fun z => absurd (hh.symm.trans z.2.2) (by decide))]
    rw [ch0_3]
    rw [if_pos ⟨by omega, by omega, hh⟩]
    rw [ch0_2]
    rw [if_neg (fun z => absurd (hh.symm.trans z.2.2) (by decide))]
    rw [if_pos ⟨by omega, by omega, hh⟩]
  have case_10 : ∀ (hj : 0 ≤ r.val ∧ r.val < 512) (hh : h = 1), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 0 512 (by decide) h r e (by omega)]
    rw [ch0_14]
    rw [if_pos ⟨by omega, by omega, hh⟩]
    simp only [CQ, Finset.univ_eq_empty, Finset.sum_empty, add_zero]
  have case_11 : ∀ (hj : 512 ≤ r.val ∧ r.val < 1024) (hh : h = 1), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 512 512 (by decide) h r e (by omega)]
    rw [ch0_14]
    rw [if_neg (fun z => by omega)]
    rw [if_neg (fun z => absurd (hh.symm.trans z.2.2) (by decide))]
    rw [if_pos ⟨by omega, by omega, hh⟩]
    rw [ch0_11]
    rw [if_neg (fun z => absurd (hh.symm.trans z.2.2) (by decide))]
    rw [ch0_10]
    rw [if_pos ⟨by omega, by omega, hh⟩]
  have case_12 : ∀ (hj : 1024 ≤ r.val ∧ r.val < 1536) (hh : h = 1), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 1024 512 (by decide) h r e (by omega)]
    rw [ch0_14]
    rw [if_neg (fun z => by omega)]
    rw [if_neg (fun z => absurd (hh.symm.trans z.2.2) (by decide))]
    rw [if_neg (fun z => by omega)]
    rw [ch0_11]
    rw [if_neg (fun z => absurd (hh.symm.trans z.2.2) (by decide))]
    rw [ch0_10]
    rw [if_neg (fun z => by omega)]
    rw [if_neg (fun z => absurd (hh.symm.trans z.2.2) (by decide))]
    rw [if_pos ⟨by omega, by omega, hh⟩]
    rw [ch0_7]
    rw [if_neg (fun z => absurd (hh.symm.trans z.2.2) (by decide))]
    rw [ch0_6]
    rw [if_pos ⟨by omega, by omega, hh⟩]
  have case_13 : ∀ (hj : 1536 ≤ r.val ∧ r.val < 2048) (hh : h = 1), (show EReal from View.canon (Val := Elt Ideal) (kernelRun0_A.sl.HS0_14 (F := Ideal) c arg2 harg2 arg3 harg3 arg4 harg4 arg5 harg5 arg6 harg6 arg7 harg7 arg11 x0 x1 x2 x3 x4 x5) (ix2 r (ln h e))) = GQ x0 x1 x2 x5 x3 x4 h r e := by
    intro hj hh
    rw [GQ_split x0 x1 x2 x5 x3 x4 1536 512 (by decide) h r e (by omega)]
    rw [ch0_14]
    rw [if_neg (fun z => by omega)]
    rw [if_neg (fun z => absurd (hh.symm.trans z.2.2) (by decide))]
    rw [if_neg (fun z => by omega)]
    rw [ch0_11]
    rw [if_neg (fun z => absurd (hh.symm.trans z.2.2) (by decide))]
    rw [ch0_10]
    rw [if_neg (fun z => by omega)]
    rw [if_neg (fun z => absurd (hh.symm.trans z.2.2) (by decide))]
    rw [if_neg (fun z => by omega)]
    rw [ch0_7]
    rw [if_neg (fun z => absurd (hh.symm.trans z.2.2) (by decide))]
    rw [ch0_6]
    rw [if_neg (fun z => by omega)]
    rw [if_neg (fun z => absurd (hh.symm.trans z.2.2) (by decide))]
    rw [if_pos ⟨by omega, by omega, hh⟩]
    rw [ch0_3]
    rw [if_neg (fun z => absurd (hh.symm.trans z.2.2) (by decide))]
    rw [ch0_2]
    rw [if_pos ⟨by omega, by omega, hh⟩]
  have hh : h = 0 ∨ h = 1 := by omega
  have hj : r.val < 512 ∨ (512 ≤ r.val ∧ r.val < 1024) ∨ (1024 ≤ r.val ∧ r.val < 1536) ∨ 1536 ≤ r.val := by omega
  rcases hh with hh | hh <;> rcases hj with hj | hj | hj | hj
  · exact case_00 (by omega) hh
  · exact case_01 (by omega) hh
  · exact case_02 (by omega) hh
  · exact case_03 (by omega) hh
  · exact case_10 (by omega) hh
  · exact case_11 (by omega) hh
  · exact case_12 (by omega) hh
  · exact case_13 (by omega) hh

/-- The scratch array of the key gradient at the end of the point. -/
theorem scratch1 (r : Fin 2048) (h : Fin 2) (e : Fin 128) :
    View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e)) = GK x0 x1 x2 x5 x3 x4 h r e := by
  have hr := r.isLt
  rw [GK_split]
  have case_00 : ∀ (hj : 0 ≤ r.val ∧ r.val < 512) (hh : h = 0), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => absurd (hh.symm.trans z.2.2) (by decide))]
    rw [ch1_13]
    rw [if_pos ⟨by omega, by omega, hh⟩]
    rw [ch1_12]
    rw [if_neg (fun z => absurd (hh.symm.trans z.2.2) (by decide))]
    rw [ch1_11]
    rw [if_pos ⟨by omega, by omega, hh⟩]
    rw [ch1_10]
    rw [if_neg (fun z => absurd (hh.symm.trans z.2.2) (by decide))]
    rw [ch1_9]
    rw [if_neg (fun z => by omega)]
    rw [ch1_8]
    rw [if_neg (fun z => absurd (hh.symm.trans z.2.2) (by decide))]
    rw [ch1_7]
    rw [if_pos ⟨by omega, by omega, hh⟩]
    rw [ch1_6]
    rw [if_neg (fun z => absurd (hh.symm.trans z.2.2) (by decide))]
    rw [ch1_5]
    rw [if_neg (fun z => by omega)]
    rw [ch1_4]
    rw [if_neg (fun z => absurd (hh.symm.trans z.2.2) (by decide))]
    rw [if_pos ⟨by omega, by omega, hh⟩]
  have case_01 : ∀ (hj : 512 ≤ r.val ∧ r.val < 1024) (hh : h = 0), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => absurd (hh.symm.trans z.2.2) (by decide))]
    rw [ch1_13]
    rw [if_neg (fun z => by omega)]
    rw [ch1_12]
    rw [if_neg (fun z => absurd (hh.symm.trans z.2.2) (by decide))]
    rw [ch1_11]
    rw [if_neg (fun z => by omega)]
    rw [ch1_10]
    rw [if_neg (fun z => absurd (hh.symm.trans z.2.2) (by decide))]
    rw [ch1_9]
    rw [if_pos ⟨by omega, by omega, hh⟩]
    rw [ch1_8]
    rw [if_neg (fun z => absurd (hh.symm.trans z.2.2) (by decide))]
    rw [ch1_7]
    rw [if_pos ⟨by omega, by omega, hh⟩]
    rw [ch1_6]
    rw [if_neg (fun z => absurd (hh.symm.trans z.2.2) (by decide))]
    rw [ch1_5]
    rw [if_neg (fun z => by omega)]
    rw [ch1_4]
    rw [if_neg (fun z => absurd (hh.symm.trans z.2.2) (by decide))]
    rw [if_pos ⟨by omega, by omega, hh⟩]
    rw [CK_zero (q := x0) (k := x1) (v := x2) (l := x5) (o := x3) (d := x4) (s := 0) (c := r) (by omega)]
    simp only [add_zero]
  have case_02 : ∀ (hj : 1024 ≤ r.val ∧ r.val < 1536) (hh : h = 0), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => absurd (hh.symm.trans z.2.2) (by decide))]
    rw [ch1_13]
    rw [if_neg (fun z => by omega)]
    rw [ch1_12]
    rw [if_neg (fun z => absurd (hh.symm.trans z.2.2) (by decide))]
    rw [ch1_11]
    rw [if_neg (fun z => by omega)]
    rw [ch1_10]
    rw [if_neg (fun z => absurd (hh.symm.trans z.2.2) (by decide))]
    rw [ch1_9]
    rw [if_neg (fun z => by omega)]
    rw [ch1_8]
    rw [if_neg (fun z => absurd (hh.symm.trans z.2.2) (by decide))]
    rw [ch1_7]
    rw [if_neg (fun z => by omega)]
    rw [ch1_6]
    rw [if_neg (fun z => absurd (hh.symm.trans z.2.2) (by decide))]
    rw [ch1_5]
    rw [if_pos ⟨by omega, by omega, hh⟩]
    rw [ch1_4]
    rw [if_neg (fun z => absurd (hh.symm.trans z.2.2) (by decide))]
    rw [if_pos ⟨by omega, by omega, hh⟩]
    rw [CK_zero (q := x0) (k := x1) (v := x2) (l := x5) (o := x3) (d := x4) (s := 0) (c := r) (by omega), CK_zero (q := x0) (k := x1) (v := x2) (l := x5) (o := x3) (d := x4) (s := 512) (c := r) (by omega)]
    simp only [add_zero]
  have case_03 : ∀ (hj : 1536 ≤ r.val ∧ r.val < 2048) (hh : h = 0), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => absurd (hh.symm.trans z.2.2) (by decide))]
    rw [ch1_13]
    rw [if_neg (fun z => by omega)]
    rw [ch1_12]
    rw [if_neg (fun z => absurd (hh.symm.trans z.2.2) (by decide))]
    rw [ch1_11]
    rw [if_neg (fun z => by omega)]
    rw [ch1_10]
    rw [if_neg (fun z => absurd (hh.symm.trans z.2.2) (by decide))]
    rw [ch1_9]
    rw [if_neg (fun z => by omega)]
    rw [ch1_8]
    rw [if_neg (fun z => absurd (hh.symm.trans z.2.2) (by decide))]
    rw [ch1_7]
    rw [if_neg (fun z => by omega)]
    rw [ch1_6]
    rw [if_neg (fun z => absurd (hh.symm.trans z.2.2) (by decide))]
    rw [ch1_5]
    rw [if_neg (fun z => by omega)]
    rw [ch1_4]
    rw [if_neg (fun z => absurd (hh.symm.trans z.2.2) (by decide))]
    rw [if_neg (fun z => by omega)]
    rw [if_neg (fun z => absurd (hh.symm.trans z.2.2) (by decide))]
    rw [if_pos ⟨by omega, by omega, hh⟩]
    rw [CK_zero (q := x0) (k := x1) (v := x2) (l := x5) (o := x3) (d := x4) (s := 0) (c := r) (by omega), CK_zero (q := x0) (k := x1) (v := x2) (l := x5) (o := x3) (d := x4) (s := 512) (c := r) (by omega), CK_zero (q := x0) (k := x1) (v := x2) (l := x5) (o := x3) (d := x4) (s := 1024) (c := r) (by omega)]
    simp only [add_zero]
  have case_10 : ∀ (hj : 0 ≤ r.val ∧ r.val < 512) (hh : h = 1), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_pos ⟨by omega, by omega, hh⟩]
    rw [ch1_13]
    rw [if_neg (fun z => absurd (hh.symm.trans z.2.2) (by decide))]
    rw [ch1_12]
    rw [if_pos ⟨by omega, by omega, hh⟩]
    rw [ch1_11]
    rw [if_neg (fun z => absurd (hh.symm.trans z.2.2) (by decide))]
    rw [ch1_10]
    rw [if_neg (fun z => by omega)]
    rw [ch1_9]
    rw [if_neg (fun z => absurd (hh.symm.trans z.2.2) (by decide))]
    rw [ch1_8]
    rw [if_pos ⟨by omega, by omega, hh⟩]
    rw [ch1_7]
    rw [if_neg (fun z => absurd (hh.symm.trans z.2.2) (by decide))]
    rw [ch1_6]
    rw [if_neg (fun z => by omega)]
    rw [ch1_5]
    rw [if_neg (fun z => absurd (hh.symm.trans z.2.2) (by decide))]
    rw [ch1_4]
    rw [if_pos ⟨by omega, by omega, hh⟩]
  have case_11 : ∀ (hj : 512 ≤ r.val ∧ r.val < 1024) (hh : h = 1), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => by omega)]
    rw [ch1_13]
    rw [if_neg (fun z => absurd (hh.symm.trans z.2.2) (by decide))]
    rw [ch1_12]
    rw [if_neg (fun z => by omega)]
    rw [ch1_11]
    rw [if_neg (fun z => absurd (hh.symm.trans z.2.2) (by decide))]
    rw [ch1_10]
    rw [if_pos ⟨by omega, by omega, hh⟩]
    rw [ch1_9]
    rw [if_neg (fun z => absurd (hh.symm.trans z.2.2) (by decide))]
    rw [ch1_8]
    rw [if_pos ⟨by omega, by omega, hh⟩]
    rw [ch1_7]
    rw [if_neg (fun z => absurd (hh.symm.trans z.2.2) (by decide))]
    rw [ch1_6]
    rw [if_neg (fun z => by omega)]
    rw [ch1_5]
    rw [if_neg (fun z => absurd (hh.symm.trans z.2.2) (by decide))]
    rw [ch1_4]
    rw [if_pos ⟨by omega, by omega, hh⟩]
    rw [CK_zero (q := x0) (k := x1) (v := x2) (l := x5) (o := x3) (d := x4) (s := 0) (c := r) (by omega)]
    simp only [add_zero]
  have case_12 : ∀ (hj : 1024 ≤ r.val ∧ r.val < 1536) (hh : h = 1), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => by omega)]
    rw [ch1_13]
    rw [if_neg (fun z => absurd (hh.symm.trans z.2.2) (by decide))]
    rw [ch1_12]
    rw [if_neg (fun z => by omega)]
    rw [ch1_11]
    rw [if_neg (fun z => absurd (hh.symm.trans z.2.2) (by decide))]
    rw [ch1_10]
    rw [if_neg (fun z => by omega)]
    rw [ch1_9]
    rw [if_neg (fun z => absurd (hh.symm.trans z.2.2) (by decide))]
    rw [ch1_8]
    rw [if_neg (fun z => by omega)]
    rw [ch1_7]
    rw [if_neg (fun z => absurd (hh.symm.trans z.2.2) (by decide))]
    rw [ch1_6]
    rw [if_pos ⟨by omega, by omega, hh⟩]
    rw [ch1_5]
    rw [if_neg (fun z => absurd (hh.symm.trans z.2.2) (by decide))]
    rw [ch1_4]
    rw [if_pos ⟨by omega, by omega, hh⟩]
    rw [CK_zero (q := x0) (k := x1) (v := x2) (l := x5) (o := x3) (d := x4) (s := 0) (c := r) (by omega), CK_zero (q := x0) (k := x1) (v := x2) (l := x5) (o := x3) (d := x4) (s := 512) (c := r) (by omega)]
    simp only [add_zero]
  have case_13 : ∀ (hj : 1536 ≤ r.val ∧ r.val < 2048) (hh : h = 1), (show EReal from View.canon (Val := Elt Ideal) (kernelRun0_A.sl.HS1_14 (F := Ideal) c arg2 harg2 arg3 harg3 arg4 harg4 arg5 harg5 arg6 harg6 arg7 harg7 arg12 x0 x1 x2 x3 x4 x5) (ix2 r (ln h e))) = ((CK x0 x1 x2 x5 x3 x4 1536 (by decide) h r e + CK x0 x1 x2 x5 x3 x4 1024 (by decide) h r e) + CK x0 x1 x2 x5 x3 x4 512 (by decide) h r e) + CK x0 x1 x2 x5 x3 x4 0 (by decide) h r e := by
    intro hj hh
    rw [ch1_14]
    rw [if_neg (fun z => by omega)]
    rw [ch1_13]
    rw [if_neg (fun z => absurd (hh.symm.trans z.2.2) (by decide))]
    rw [ch1_12]
    rw [if_neg (fun z => by omega)]
    rw [ch1_11]
    rw [if_neg (fun z => absurd (hh.symm.trans z.2.2) (by decide))]
    rw [ch1_10]
    rw [if_neg (fun z => by omega)]
    rw [ch1_9]
    rw [if_neg (fun z => absurd (hh.symm.trans z.2.2) (by decide))]
    rw [ch1_8]
    rw [if_neg (fun z => by omega)]
    rw [ch1_7]
    rw [if_neg (fun z => absurd (hh.symm.trans z.2.2) (by decide))]
    rw [ch1_6]
    rw [if_neg (fun z => by omega)]
    rw [ch1_5]
    rw [if_neg (fun z => absurd (hh.symm.trans z.2.2) (by decide))]
    rw [ch1_4]
    rw [if_neg (fun z => by omega)]
    rw [if_neg (fun z => absurd (hh.symm.trans z.2.2) (by decide))]
    rw [if_pos ⟨by omega, by omega, hh⟩]
    rw [CK_zero (q := x0) (k := x1) (v := x2) (l := x5) (o := x3) (d := x4) (s := 0) (c := r) (by omega), CK_zero (q := x0) (k := x1) (v := x2) (l := x5) (o := x3) (d := x4) (s := 512) (c := r) (by omega), CK_zero (q := x0) (k := x1) (v := x2) (l := x5) (o := x3) (d := x4) (s := 1024) (c := r) (by omega)]
    simp only [add_zero]
  have hh : h = 0 ∨ h = 1 := by omega
  have hj : r.val < 512 ∨ (512 ≤ r.val ∧ r.val < 1024) ∨ (1024 ≤ r.val ∧ r.val < 1536) ∨ 1536 ≤ r.val := by omega
  rcases hh with hh | hh <;> rcases hj with hj | hj | hj | hj
  · exact case_00 (by omega) hh
  · exact case_01 (by omega) hh
  · exact case_02 (by omega) hh
  · exact case_03 (by omega) hh
  · exact case_10 (by omega) hh
  · exact case_11 (by omega) hh
  · exact case_12 (by omega) hh
  · exact case_13 (by omega) hh

/-- The scratch array of the value gradient at the end of the point. -/
theorem scratch2 (r : Fin 2048) (h : Fin 2) (e : Fin 128) :
    View.canon (Val := Elt Ideal) (kernelRun0_A.sl.HS2_14 (F := Ideal) c arg2 harg2 arg3 harg3 arg6 harg6 arg7 harg7 arg13 x0 x1 x4 x5) (ix2 r (ln h e)) = GV x0 x1 x5 x4 h r e := by
  have hr := r.isLt
  rw [GV_split]
  have case_00 : ∀ (hj : 0 ≤ r.val ∧ r.val < 512) (hh : h = 0), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => absurd (hh.symm.trans z.2.2) (by decide))]
    rw [ch2_13]
    rw [if_pos ⟨by omega, by omega, hh⟩]
    rw [ch2_12]
    rw [if_neg (fun z => absurd (hh.symm.trans z.2.2) (by decide))]
    rw [ch2_11]
    rw [if_pos ⟨by omega, by omega, hh⟩]
    rw [ch2_10]
    rw [if_neg (fun z => absurd (hh.symm.trans z.2.2) (by decide))]
    rw [ch2_9]
    rw [if_neg (fun z => by omega)]
    rw [ch2_8]
    rw [if_neg (fun z => absurd (hh.symm.trans z.2.2) (by decide))]
    rw [ch2_7]
    rw [if_pos ⟨by omega, by omega, hh⟩]
    rw [ch2_6]
    rw [if_neg (fun z => absurd (hh.symm.trans z.2.2) (by decide))]
    rw [ch2_5]
    rw [if_neg (fun z => by omega)]
    rw [ch2_4]
    rw [if_neg (fun z => absurd (hh.symm.trans z.2.2) (by decide))]
    rw [if_pos ⟨by omega, by omega, hh⟩]
  have case_01 : ∀ (hj : 512 ≤ r.val ∧ r.val < 1024) (hh : h = 0), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => absurd (hh.symm.trans z.2.2) (by decide))]
    rw [ch2_13]
    rw [if_neg (fun z => by omega)]
    rw [ch2_12]
    rw [if_neg (fun z => absurd (hh.symm.trans z.2.2) (by decide))]
    rw [ch2_11]
    rw [if_neg (fun z => by omega)]
    rw [ch2_10]
    rw [if_neg (fun z => absurd (hh.symm.trans z.2.2) (by decide))]
    rw [ch2_9]
    rw [if_pos ⟨by omega, by omega, hh⟩]
    rw [ch2_8]
    rw [if_neg (fun z => absurd (hh.symm.trans z.2.2) (by decide))]
    rw [ch2_7]
    rw [if_pos ⟨by omega, by omega, hh⟩]
    rw [ch2_6]
    rw [if_neg (fun z => absurd (hh.symm.trans z.2.2) (by decide))]
    rw [ch2_5]
    rw [if_neg (fun z => by omega)]
    rw [ch2_4]
    rw [if_neg (fun z => absurd (hh.symm.trans z.2.2) (by decide))]
    rw [if_pos ⟨by omega, by omega, hh⟩]
    rw [CV_zero (q := x0) (k := x1) (l := x5) (d := x4) (s := 0) (c := r) (by omega)]
    simp only [add_zero]
  have case_02 : ∀ (hj : 1024 ≤ r.val ∧ r.val < 1536) (hh : h = 0), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => absurd (hh.symm.trans z.2.2) (by decide))]
    rw [ch2_13]
    rw [if_neg (fun z => by omega)]
    rw [ch2_12]
    rw [if_neg (fun z => absurd (hh.symm.trans z.2.2) (by decide))]
    rw [ch2_11]
    rw [if_neg (fun z => by omega)]
    rw [ch2_10]
    rw [if_neg (fun z => absurd (hh.symm.trans z.2.2) (by decide))]
    rw [ch2_9]
    rw [if_neg (fun z => by omega)]
    rw [ch2_8]
    rw [if_neg (fun z => absurd (hh.symm.trans z.2.2) (by decide))]
    rw [ch2_7]
    rw [if_neg (fun z => by omega)]
    rw [ch2_6]
    rw [if_neg (fun z => absurd (hh.symm.trans z.2.2) (by decide))]
    rw [ch2_5]
    rw [if_pos ⟨by omega, by omega, hh⟩]
    rw [ch2_4]
    rw [if_neg (fun z => absurd (hh.symm.trans z.2.2) (by decide))]
    rw [if_pos ⟨by omega, by omega, hh⟩]
    rw [CV_zero (q := x0) (k := x1) (l := x5) (d := x4) (s := 0) (c := r) (by omega), CV_zero (q := x0) (k := x1) (l := x5) (d := x4) (s := 512) (c := r) (by omega)]
    simp only [add_zero]
  have case_03 : ∀ (hj : 1536 ≤ r.val ∧ r.val < 2048) (hh : h = 0), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => absurd (hh.symm.trans z.2.2) (by decide))]
    rw [ch2_13]
    rw [if_neg (fun z => by omega)]
    rw [ch2_12]
    rw [if_neg (fun z => absurd (hh.symm.trans z.2.2) (by decide))]
    rw [ch2_11]
    rw [if_neg (fun z => by omega)]
    rw [ch2_10]
    rw [if_neg (fun z => absurd (hh.symm.trans z.2.2) (by decide))]
    rw [ch2_9]
    rw [if_neg (fun z => by omega)]
    rw [ch2_8]
    rw [if_neg (fun z => absurd (hh.symm.trans z.2.2) (by decide))]
    rw [ch2_7]
    rw [if_neg (fun z => by omega)]
    rw [ch2_6]
    rw [if_neg (fun z => absurd (hh.symm.trans z.2.2) (by decide))]
    rw [ch2_5]
    rw [if_neg (fun z => by omega)]
    rw [ch2_4]
    rw [if_neg (fun z => absurd (hh.symm.trans z.2.2) (by decide))]
    rw [if_neg (fun z => by omega)]
    rw [if_neg (fun z => absurd (hh.symm.trans z.2.2) (by decide))]
    rw [if_pos ⟨by omega, by omega, hh⟩]
    rw [CV_zero (q := x0) (k := x1) (l := x5) (d := x4) (s := 0) (c := r) (by omega), CV_zero (q := x0) (k := x1) (l := x5) (d := x4) (s := 512) (c := r) (by omega), CV_zero (q := x0) (k := x1) (l := x5) (d := x4) (s := 1024) (c := r) (by omega)]
    simp only [add_zero]
  have case_10 : ∀ (hj : 0 ≤ r.val ∧ r.val < 512) (hh : h = 1), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_pos ⟨by omega, by omega, hh⟩]
    rw [ch2_13]
    rw [if_neg (fun z => absurd (hh.symm.trans z.2.2) (by decide))]
    rw [ch2_12]
    rw [if_pos ⟨by omega, by omega, hh⟩]
    rw [ch2_11]
    rw [if_neg (fun z => absurd (hh.symm.trans z.2.2) (by decide))]
    rw [ch2_10]
    rw [if_neg (fun z => by omega)]
    rw [ch2_9]
    rw [if_neg (fun z => absurd (hh.symm.trans z.2.2) (by decide))]
    rw [ch2_8]
    rw [if_pos ⟨by omega, by omega, hh⟩]
    rw [ch2_7]
    rw [if_neg (fun z => absurd (hh.symm.trans z.2.2) (by decide))]
    rw [ch2_6]
    rw [if_neg (fun z => by omega)]
    rw [ch2_5]
    rw [if_neg (fun z => absurd (hh.symm.trans z.2.2) (by decide))]
    rw [ch2_4]
    rw [if_pos ⟨by omega, by omega, hh⟩]
  have case_11 : ∀ (hj : 512 ≤ r.val ∧ r.val < 1024) (hh : h = 1), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => by omega)]
    rw [ch2_13]
    rw [if_neg (fun z => absurd (hh.symm.trans z.2.2) (by decide))]
    rw [ch2_12]
    rw [if_neg (fun z => by omega)]
    rw [ch2_11]
    rw [if_neg (fun z => absurd (hh.symm.trans z.2.2) (by decide))]
    rw [ch2_10]
    rw [if_pos ⟨by omega, by omega, hh⟩]
    rw [ch2_9]
    rw [if_neg (fun z => absurd (hh.symm.trans z.2.2) (by decide))]
    rw [ch2_8]
    rw [if_pos ⟨by omega, by omega, hh⟩]
    rw [ch2_7]
    rw [if_neg (fun z => absurd (hh.symm.trans z.2.2) (by decide))]
    rw [ch2_6]
    rw [if_neg (fun z => by omega)]
    rw [ch2_5]
    rw [if_neg (fun z => absurd (hh.symm.trans z.2.2) (by decide))]
    rw [ch2_4]
    rw [if_pos ⟨by omega, by omega, hh⟩]
    rw [CV_zero (q := x0) (k := x1) (l := x5) (d := x4) (s := 0) (c := r) (by omega)]
    simp only [add_zero]
  have case_12 : ∀ (hj : 1024 ≤ r.val ∧ r.val < 1536) (hh : h = 1), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => by omega)]
    rw [ch2_13]
    rw [if_neg (fun z => absurd (hh.symm.trans z.2.2) (by decide))]
    rw [ch2_12]
    rw [if_neg (fun z => by omega)]
    rw [ch2_11]
    rw [if_neg (fun z => absurd (hh.symm.trans z.2.2) (by decide))]
    rw [ch2_10]
    rw [if_neg (fun z => by omega)]
    rw [ch2_9]
    rw [if_neg (fun z => absurd (hh.symm.trans z.2.2) (by decide))]
    rw [ch2_8]
    rw [if_neg (fun z => by omega)]
    rw [ch2_7]
    rw [if_neg (fun z => absurd (hh.symm.trans z.2.2) (by decide))]
    rw [ch2_6]
    rw [if_pos ⟨by omega, by omega, hh⟩]
    rw [ch2_5]
    rw [if_neg (fun z => absurd (hh.symm.trans z.2.2) (by decide))]
    rw [ch2_4]
    rw [if_pos ⟨by omega, by omega, hh⟩]
    rw [CV_zero (q := x0) (k := x1) (l := x5) (d := x4) (s := 0) (c := r) (by omega), CV_zero (q := x0) (k := x1) (l := x5) (d := x4) (s := 512) (c := r) (by omega)]
    simp only [add_zero]
  have case_13 : ∀ (hj : 1536 ≤ r.val ∧ r.val < 2048) (hh : h = 1), (show EReal from View.canon (Val := Elt Ideal) (kernelRun0_A.sl.HS2_14 (F := Ideal) c arg2 harg2 arg3 harg3 arg6 harg6 arg7 harg7 arg13 x0 x1 x4 x5) (ix2 r (ln h e))) = ((CV x0 x1 x5 x4 1536 (by decide) h r e + CV x0 x1 x5 x4 1024 (by decide) h r e) + CV x0 x1 x5 x4 512 (by decide) h r e) + CV x0 x1 x5 x4 0 (by decide) h r e := by
    intro hj hh
    rw [ch2_14]
    rw [if_neg (fun z => by omega)]
    rw [ch2_13]
    rw [if_neg (fun z => absurd (hh.symm.trans z.2.2) (by decide))]
    rw [ch2_12]
    rw [if_neg (fun z => by omega)]
    rw [ch2_11]
    rw [if_neg (fun z => absurd (hh.symm.trans z.2.2) (by decide))]
    rw [ch2_10]
    rw [if_neg (fun z => by omega)]
    rw [ch2_9]
    rw [if_neg (fun z => absurd (hh.symm.trans z.2.2) (by decide))]
    rw [ch2_8]
    rw [if_neg (fun z => by omega)]
    rw [ch2_7]
    rw [if_neg (fun z => absurd (hh.symm.trans z.2.2) (by decide))]
    rw [ch2_6]
    rw [if_neg (fun z => by omega)]
    rw [ch2_5]
    rw [if_neg (fun z => absurd (hh.symm.trans z.2.2) (by decide))]
    rw [ch2_4]
    rw [if_neg (fun z => by omega)]
    rw [if_neg (fun z => absurd (hh.symm.trans z.2.2) (by decide))]
    rw [if_pos ⟨by omega, by omega, hh⟩]
    rw [CV_zero (q := x0) (k := x1) (l := x5) (d := x4) (s := 0) (c := r) (by omega), CV_zero (q := x0) (k := x1) (l := x5) (d := x4) (s := 512) (c := r) (by omega), CV_zero (q := x0) (k := x1) (l := x5) (d := x4) (s := 1024) (c := r) (by omega)]
    simp only [add_zero]
  have hh : h = 0 ∨ h = 1 := by omega
  have hj : r.val < 512 ∨ (512 ≤ r.val ∧ r.val < 1024) ∨ (1024 ≤ r.val ∧ r.val < 1536) ∨ 1536 ≤ r.val := by omega
  rcases hh with hh | hh <;> rcases hj with hj | hj | hj | hj
  · exact case_00 (by omega) hh
  · exact case_01 (by omega) hh
  · exact case_02 (by omega) hh
  · exact case_03 (by omega) hh
  · exact case_10 (by omega) hh
  · exact case_11 (by omega) hh
  · exact case_12 (by omega) hh
  · exact case_13 (by omega) hh

end
end Cert.Mla
-- ==== Proof.Out.lean ====
module
public import proofs.«01_k».proof.Proof.Block

/-!
The three blocks that a grid point of the backward call writes back.
-/

@[expose] public section
set_option maxRecDepth 16384

namespace Cert.Mla
open Idealize.ShloMosaic Idealize.SL.Sem Cert.KernelIdeal Cert.KernelIdeal.Gen

section
variable (c : Dev nD) (i : grid0.Coords) (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (arg8 : Memref sig .tc .vmem S2048x256 .bf16) (harg8 : arg8.IsWhole) (arg9 : Memref sig .tc .vmem S2048x256 .bf16) (harg9 : arg9.IsWhole)
  (arg10 : Memref sig .tc .vmem S2048x256 .bf16) (harg10 : arg10.IsWhole)
  (arg11 : Memref sig .tc .vmem S2048x256 .f32) (harg11 : arg11.IsWhole) (arg12 : Memref sig .tc .vmem S2048x256 .f32) (harg12 : arg12.IsWhole)
  (arg13 : Memref sig .tc .vmem S2048x256 .f32) (harg13 : arg13.IsWhole)
  (x0 x1 x2 : Vec Ideal S2048x256 .bf16) (x3 x4 : Vec Ideal S2048x128 .f32) (x5 : Vec Ideal S2048x256 .f32)

/-- Reading the whole of a scratch array back. -/
theorem read_whole {sig : RefSig} {κ : Kind} {sp : Space} (v : View sig κ sp (⟨2, ![2048, 256]⟩ : Shape) .f32)
    (L : List (View.Piece (Elt Ideal) (⟨2, ![2048, 256]⟩ : Shape) .f32))
    (inb : ∀ a, (![0, 0] : Fin 2 → ℕ) a + (![2048, 256] : Fin 2 → ℕ) a ≤ (![2048, 256] : Fin 2 → ℕ) a) (j : (⟨2, ![2048, 256]⟩ : Shape).Idx) :
    v.readCov L (Rect.unit (s := ⟨2, ![2048, 256]⟩) ![0, 0] ![2048, 256] inb).toLoadRect j = View.canon L j := by
  rw [View.readCov_eq_canon']
  refine congrArg (View.canon L) (funext fun a => Fin.ext ?_)
  fin_cases a
  · show 0 + 1 * (j 0).val = (j 0).val; omega
  · show 0 + 1 * (j 1).val = (j 1).val; omega

/-- The block of the query gradient. -/
theorem out6 (r : Fin 2048) (h : Fin 2) (e : Fin 128) :
    out0_A_6 c i arg2 harg2 arg3 harg3 arg4 harg4 arg5 harg5 arg6 harg6 arg7 harg7 arg8 harg8 arg9 harg9 arg10 harg10 arg11 harg11 arg12 harg12 arg13 harg13 x0 x1 x2 x3 x4 x5 (ix2 r (ln h e)) = GQ x0 x1 x2 x5 x3 x4 h r e := by
  unfold out0_A_6
  rw [View.read_writes_junk_eq_canon]
  unfold kernelRun0_A
  dsimp only
  rw [View.canon_cons_unit_lit _ _ _ (by decide)]
  unfold kernelRun0_A.sl.r_67
  unfold_payloads
  pointwise
  refine (read_whole _ _ _ _).trans ?_
  apply scratch0

/-- The block of the key gradient. -/
theorem out7 (r : Fin 2048) (h : Fin 2) (e : Fin 128) :
    out0_A_7 c i arg2 harg2 arg3 harg3 arg4 harg4 arg5 harg5 arg6 harg6 arg7 harg7 arg8 harg8 arg9 harg9 arg10 harg10 arg11 harg11 arg12 harg12 arg13 harg13 x0 x1 x2 x3 x4 x5 (ix2 r (ln h e)) = GK x0 x1 x2 x5 x3 x4 h r e := by
  unfold out0_A_7
  rw [View.read_writes_junk_eq_canon]
  unfold kernelRun0_A
  dsimp only
  rw [View.canon_cons_unit_lit _ _ _ (by decide)]
  skip
  unfold_payloads
  pointwise
  refine (read_whole _ _ _ _).trans ?_
  apply scratch1

/-- The block of the value gradient. -/
theorem out8 (r : Fin 2048) (h : Fin 2) (e : Fin 128) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 (ix2 r (ln h e)) = GV x0 x1 x5 x4 h r e := by
  unfold out0_A_8
  rw [View.read_writes_junk_eq_canon]
  unfold kernelRun0_A
  dsimp only
  rw [View.canon_cons_unit_lit _ _ _ (by decide)]
  skip
  unfold_payloads
  pointwise
  refine (read_whole _ _ _ _).trans ?_
  apply scratch2

end
end Cert.Mla
-- ==== Proof.Soft.lean ====
module
public import proofs.«01_k».proof.Proof.Dense
@[expose] public section
noncomputable section
namespace Cert.Mla
open Idealize.ShloMosaic

/-- Arrays per batch, position, head and lane, of 64 lanes. -/
abbrev A64 := (⟨4, ![2, 2048, 8, 64]⟩ : Shape).Idx → EReal
/-- Arrays per batch, position, head and lane, of 32 lanes. -/
abbrev A32 := (⟨4, ![2, 2048, 8, 32]⟩ : Shape).Idx → EReal
/-- Arrays per batch, position and lane, of 32 lanes. -/
abbrev A3 := (⟨3, ![2, 2048, 32]⟩ : Shape).Idx → EReal

/-- The scaled attention logit of query row `r` and key row `k` for batch `b` and head `h`. -/
def LG (q0 : A64) (q1 : A32) (k0 : A64) (k1 : A3) (b : Fin 2) (h : Fin 8) (r k : Fin 2048) : EReal :=
  ((∑ x : Fin 64, q0 (ix4 b r h x) * k0 (ix4 b k h x)) + ∑ x : Fin 32, k1 (ix3 b k x) * q1 (ix4 b r h x)) * SC
/-- The logit under the causal mask. -/
def ML (q0 : A64) (q1 : A32) (k0 : A64) (k1 : A3) (b : Fin 2) (h : Fin 8) (r k : Fin 2048) : EReal :=
  if k ≤ r then LG q0 q1 k0 k1 b h r k else ⊥
/-- The largest entry of a row of masked logits. -/
def RM (z : Fin 2048 → EReal) : EReal := Finset.univ.fold max ⊥ z
/-- The exponential of an entry of a row, the row's largest entry taken off first. -/
def RE (z : Fin 2048 → EReal) (k : Fin 2048) : EReal := Ideal.exp (z k - RM z)
/-- The sum of a row's exponentials. -/
def RL (z : Fin 2048 → EReal) : EReal := ∑ x, RE z x
/-- The softmax of a row. -/
def RP (z : Fin 2048 → EReal) (k : Fin 2048) : EReal := Ideal.div (RE z k) (RL z)
/-- The row's log-sum-exp. -/
def RS (z : Fin 2048 → EReal) : EReal := RM z + Ideal.log (RL z)
/-- The gradient at the softmax: the product of the cotangent's row and the value's row. -/
def DPF (v ct : A64) (b : Fin 2) (h : Fin 8) (r k : Fin 2048) : EReal :=
  ∑ e : Fin 64, ct (ix4 b r h e) * v (ix4 b k h e)
/-- The reference's gradient at the logits, from a row of masked logits `z` and of gradients `dp`. -/
def RD (z dp : Fin 2048 → EReal) (r k : Fin 2048) : EReal :=
  (if k ≤ r then (Ideal.div (dp k) (RL z) + -(∑ x, dp x * Ideal.div 1 (RL z * RL z) * RE z x)) * RE z k else 0) * SC
/-- The softmax as the call remakes it from the saved log-sum-exp. -/
def KP (z : Fin 2048 → EReal) (r k : Fin 2048) : EReal := if k ≤ r then Ideal.exp (z k - RS z) else 0
/-- The gradient at the logits as the call makes it, `dd` the product of the cotangent's row and the output's row. -/
def KD (z dp : Fin 2048 → EReal) (dd : EReal) (r k : Fin 2048) : EReal := KP z r k * (dp k - dd) * SC
/-- The attention's output. -/
def OO (z : Fin 2048 → Fin 2048 → EReal) (v : A64) (b : Fin 2) (r : Fin 2048) (h : Fin 8) (e : Fin 64) : EReal :=
  ∑ x, v (ix4 b x h e) * RP (z r) x
/-- The product of the cotangent's row and the output's row. -/
def DDF (z : Fin 2048 → Fin 2048 → EReal) (v ct : A64) (b : Fin 2) (r : Fin 2048) (h : Fin 8) : EReal :=
  ∑ e : Fin 64, ct (ix4 b r h e) * OO z v b r h e

/-- The word of the mask is minus infinity. -/
theorem ofBits_mask : Ideal.ofBits .f32 4286578688#32 = ⊥ := by simp [Ideal.ofBits, Ideal.ieee]
/-- The word of one. -/
theorem ofBits_one : Ideal.ofBits .f32 1065353216#32 = 1 := by
  simp [Ideal.ofBits, Ideal.ieee]
  rw [← EReal.coe_mul, ← EReal.coe_one]
  congr 1
  norm_num
/-- The causal mask's comparison: the row is not before the column. -/
theorem sge_ite {α : Type} (r k : Fin 2048) (x y : α) :
    Scalar.select (IntOp.cmpi CmpIPredicate.sge (BitVec.ofNat 32 r.val) (BitVec.ofNat 32 k.val)) x y = if k ≤ r then x else y := by
  have key : ∀ n : ℕ, n < 2048 → (BitVec.ofNat 32 n).toInt = (n : ℤ) := by
    intro n hn
    rw [BitVec.toInt_eq_toNat_of_lt (by rw [BitVec.toNat_ofNat]; omega), BitVec.toNat_ofNat]
    omega
  have h : IntOp.cmpi .sge (BitVec.ofNat 32 r.val) (BitVec.ofNat 32 k.val) = if k.val ≤ r.val then 1#1 else 0#1 := by
    simp only [IntOp.cmpi, BitVec.sle, key r.val r.isLt, key k.val k.isLt, Nat.cast_le]
    by_cases hk : k.val ≤ r.val <;> simp [hk]
  rw [h]
  by_cases hk : k.val ≤ r.val
  · rw [if_pos hk, if_pos (Fin.le_def.2 hk)]; rfl
  · rw [if_neg hk, if_neg (fun hh => hk (Fin.le_def.1 hh))]; rfl
/-- The scale is a real number. -/
theorem SC_real : ∃ s : ℝ, SC = (s : EReal) := by
  refine ⟨_, by simp [SC, Ideal.ofBits, Ideal.ieee]; rfl⟩
/-- A sum of real numbers in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
/-- The exponential of a real number. -/
theorem exp_coe (x : ℝ) : Ideal.exp (x : EReal) = (Real.exp x : EReal) := rfl
/-- The exponential of minus infinity. -/
theorem exp_bot : Ideal.exp ⊥ = 0 := rfl
/-- The quotient of two real numbers, the second positive. -/
theorem div_coe (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]
/-- The logarithm of a positive real number. -/
theorem log_coe (x : ℝ) (hx : 0 < x) : Ideal.log (x : EReal) = (Real.log x : EReal) := by
  show (if x ≤ 0 then (⊥ : EReal) else (Real.log x : EReal)) = _
  rw [if_neg (not_le.2 hx)]

/-- A row of masked logits, real up to the diagonal: its largest entry is a real number. -/
theorem RM_real (f : Fin 2048 → ℝ) (r : Fin 2048) :
    ∃ M : ℝ, RM (fun k => if k ≤ r then (f k : EReal) else ⊥) = (M : EReal) := by
  have h : ∀ z : Fin 2048 → EReal, RM z = Finset.univ.sup z := fun z => rfl
  have h1 : RM (fun k => if k ≤ r then (f k : EReal) else ⊥) ≠ ⊥ := by
    rw [h]; intro hb
    have := (Finset.sup_eq_bot_iff _ _).1 hb r (Finset.mem_univ r)
    simp at this
  have h2 : RM (fun k => if k ≤ r then (f k : EReal) else ⊥) ≠ ⊤ := by
    rw [h]; apply ne_of_lt
    rw [Finset.sup_lt_iff (by exact bot_lt_top)]
    intro k _
    split
    · exact EReal.coe_lt_top _
    · exact bot_lt_top
  exact ⟨_, (EReal.coe_toReal h2 h1).symm⟩

/-- A row of masked logits, real up to the diagonal: the softmax is real, and so is what the call remakes, and they agree;
the sum of exponentials is real and positive. -/
theorem row_real (f : Fin 2048 → ℝ) (r : Fin 2048) (z : Fin 2048 → EReal)
    (hz : z = fun k => if k ≤ r then (f k : EReal) else ⊥) :
    ∃ (ε : Fin 2048 → ℝ) (L : ℝ), 0 < L ∧ L = ∑ k, ε k ∧ (∀ k, RE z k = (ε k : EReal)) ∧ RL z = (L : EReal)
      ∧ (∀ k, r < k → ε k = 0) ∧ (∀ k, RP z k = ((ε k / L : ℝ) : EReal)) ∧ (∀ k, KP z r k = ((ε k / L : ℝ) : EReal)) := by
  obtain ⟨M, hM⟩ := RM_real f r
  rw [← hz] at hM
  have he : ∀ k, RE z k = ((if k ≤ r then Real.exp (f k - M) else 0 : ℝ) : EReal) := by
    intro k
    unfold RE
    rw [hM, hz]
    by_cases hk : k ≤ r
    · simp only [if_pos hk]; rw [← EReal.coe_sub, exp_coe]
    · simp only [if_neg hk]; rw [EReal.bot_sub, exp_bot]; rfl
  have hL : RL z = ((∑ k, (if k ≤ r then Real.exp (f k - M) else 0) : ℝ) : EReal) := by
    unfold RL; rw [coe_sum]; exact Finset.sum_congr rfl fun k _ => he k
  have hp : 0 < ∑ k, (if k ≤ r then Real.exp (f k - M) else 0) := by
    refine Finset.sum_pos' (fun k _ => ?_) ⟨r, Finset.mem_univ r, ?_⟩
    · split
      · exact (Real.exp_pos _).le
      · exact le_rfl
    · rw [if_pos le_rfl]; exact Real.exp_pos _
  refine ⟨_, _, hp, rfl, he, hL, fun k hk => if_neg (not_le.2 hk), fun k => ?_, fun k => ?_⟩
  · unfold RP; rw [he, hL, div_coe _ _ hp]
  · unfold KP
    by_cases hk : k ≤ r
    · rw [if_pos hk, if_pos hk]
      unfold RS
      rw [hM, hL, log_coe _ hp, ← EReal.coe_add, hz]
      simp only [if_pos hk]
      rw [← EReal.coe_sub, exp_coe, ← sub_sub, Real.exp_sub, Real.exp_log hp]
    · rw [if_neg hk, if_neg hk, zero_div]; rfl

/-- The two gradients at the logits agree where logits, values and cotangents are real. -/
theorem KD_eq_RD (f : Fin 2048 → Fin 2048 → ℝ) (z : Fin 2048 → Fin 2048 → EReal)
    (hz : ∀ r, z r = fun k => if k ≤ r then (f r k : EReal) else ⊥) (v ct : A64) (v' ct' : (⟨4, ![2, 2048, 8, 64]⟩ : Shape).Idx → ℝ)
    (hv : ∀ i, v i = (v' i : EReal)) (hct : ∀ i, ct i = (ct' i : EReal)) (b : Fin 2) (h : Fin 8) (r k : Fin 2048) :
    KD (z r) (DPF v ct b h r) (DDF z v ct b r h) r k = RD (z r) (DPF v ct b h r) r k := by
  obtain ⟨ε, L, hL, hs, he, hR, hm, hP, hK⟩ := row_real (f r) r (z r) (hz r)
  have hdp : ∀ k, DPF v ct b h r k = ((∑ e : Fin 64, ct' (ix4 b r h e) * v' (ix4 b k h e) : ℝ) : EReal) := by
    intro k; unfold DPF; rw [coe_sum]
    exact Finset.sum_congr rfl fun e _ => by rw [hv, hct, EReal.coe_mul]
  have hdd : DDF z v ct b r h = ((∑ e : Fin 64, ct' (ix4 b r h e) * ∑ x, v' (ix4 b x h e) * (ε x / L) : ℝ) : EReal) := by
    unfold DDF OO; rw [coe_sum]
    refine Finset.sum_congr rfl fun e _ => ?_
    rw [hct, EReal.coe_mul, coe_sum]
    exact congrArg _ (Finset.sum_congr rfl fun x _ => by rw [hv, hP, EReal.coe_mul])
  have hsw : (∑ e : Fin 64, ct' (ix4 b r h e) * ∑ x, v' (ix4 b x h e) * (ε x / L))
      = ∑ x, (∑ e : Fin 64, ct' (ix4 b r h e) * v' (ix4 b x h e)) * (ε x / L) := by
    simp only [Finset.mul_sum, Finset.sum_mul]
    rw [Finset.sum_comm]
    exact Finset.sum_congr rfl fun x _ => Finset.sum_congr rfl fun e _ => by ring
  unfold KD RD
  congr 1
  rw [hK, hdp, hdd, hsw]
  by_cases hk : k ≤ r
  · rw [if_pos hk, hR, he, div_coe _ _ hL, ← EReal.coe_mul, ← EReal.coe_one, div_coe _ _ (mul_pos hL hL)]
    simp only [hdp, he, ← EReal.coe_mul, ← coe_sum, ← EReal.coe_neg, ← EReal.coe_add, ← EReal.coe_sub]
    congr 1
    have e1 : ∀ x, (∑ e : Fin 64, ct' (ix4 b r h e) * v' (ix4 b x h e)) * (1 / (L * L)) * ε x
        = (∑ e : Fin 64, ct' (ix4 b r h e) * v' (ix4 b x h e)) * (ε x / L) * (1 / L) := by
      intro x; field_simp
    simp only [e1, ← Finset.sum_mul]
    field_simp
    ring
  · rw [if_neg hk, hm k (not_le.1 hk), ← EReal.coe_sub, ← EReal.coe_mul, zero_div, zero_mul]; rfl

/-- What the call remakes is the softmax where the logits are real. -/
theorem KP_eq_RP (f : Fin 2048 → ℝ) (r : Fin 2048) (z : Fin 2048 → EReal)
    (hz : z = fun k => if k ≤ r then (f k : EReal) else ⊥) (k : Fin 2048) : KP z r k = RP z k := by
  obtain ⟨ε, L, hL, hs, he, hR, hm, hP, hK⟩ := row_real f r z hz
  rw [hP, hK]

/-- Masked logits of real arguments are real up to the diagonal. -/
theorem ML_real (q0 : A64) (q1 : A32) (k0 : A64) (k1 : A3) (h0 : ∀ i, ∃ x : ℝ, q0 i = x) (h1 : ∀ i, ∃ x : ℝ, q1 i = x)
    (h2 : ∀ i, ∃ x : ℝ, k0 i = x) (h3 : ∀ i, ∃ x : ℝ, k1 i = x) (b : Fin 2) (h : Fin 8) :
    ∃ f : Fin 2048 → Fin 2048 → ℝ, ∀ r, ML q0 q1 k0 k1 b h r = fun k => if k ≤ r then (f r k : EReal) else ⊥ := by
  choose a0 h0 using h0
  choose a1 h1 using h1
  choose a2 h2 using h2
  choose a3 h3 using h3
  obtain ⟨s, hs⟩ := SC_real
  refine ⟨fun r k => ((∑ x : Fin 64, a0 (ix4 b r h x) * a2 (ix4 b k h x)) + ∑ x : Fin 32, a3 (ix3 b k x) * a1 (ix4 b r h x)) * s,
    fun r => funext fun k => ?_⟩
  unfold ML LG
  rw [hs, EReal.coe_mul, EReal.coe_add, coe_sum, coe_sum]
  simp only [h0, h1, h2, h3, EReal.coe_mul]
end Cert.Mla
-- ==== Proof.Entry.lean ====
module
public import proofs.«01_k».proof.Proof.Out
public import proofs.«01_k».proof.Proof.Soft
public import Idealize.ShloMosaic.Lib.Claim
public import Idealize.ShloMosaic.Lib.StableHlo.RunRead
@[expose] public section
set_option maxRecDepth 16384
noncomputable section
namespace Cert.Mla
open Idealize.ShloMosaic Idealize.SL.Sem Cert.KernelIdeal Cert.KernelIdeal.Gen
variable (m : (ℓ : Loc nD τ sig) → Buf (Elt Ideal) ℓ) (c : Dev nD) (X : Valuation τ sig (Elt Ideal))

/-- The arguments on device `c`: the queries' plain part. -/
abbrev a0 : A64 := m (c, Proc.devRef .tc main_arg0)
/-- The queries' rotary part. -/
abbrev a1 : A32 := m (c, Proc.devRef .tc main_arg1)
/-- The keys' plain part. -/
abbrev a2 : A64 := m (c, Proc.devRef .tc main_arg2)
/-- The keys' rotary part. -/
abbrev a3 : A3 := m (c, Proc.devRef .tc main_arg3)
/-- The values. -/
abbrev a4 : A64 := m (c, Proc.devRef .tc main_arg4)
/-- The cotangent. -/
abbrev a5 : A64 := m (c, Proc.devRef .tc main_arg5)
/-- The masked logits of the arguments. -/
abbrev zz (b : Fin 2) (h : Fin 8) : Fin 2048 → Fin 2048 → EReal := ML (a0 m c) (a1 m c) (a2 m c) (a3 m c) b h

/-- The contents before the last of the host's three lines. -/
abbrev W : Valuation τ sig (Elt Ideal) := StableHlo.after hostOps0_1 (StableHlo.after hostOps0 fun b => m (c, b))

/-- The call's operands, from the contents before the last of the host's three lines. -/
theorem V_eq (b : Ref sig .tc) : V m c b = StableHlo.after hostOps0_2 (W m c) (Proc.devRef .tc b) := by
  show StableHlo.after (hostOps0 ++ (hostOps0_1 ++ (hostOps0_2 ++ []))) _ _ = _
  rw [StableHlo.after_append, StableHlo.after_append, List.append_nil]

/-- The first line's logits. -/
theorem e5 (b : Fin 2) (h : Fin 8) (r k : Fin 2048) : StableHlo.after hostOps0 (fun b => m (c, b)) (Proc.devRef .tc main_v5) (ix4 b h r k)
    = LG (a0 m c) (a1 m c) (a2 m c) (a3 m c) b h r k := by
  simp only [hostOps0]
  after_reads_simp
  pointwise
  unfold LG SC
  with_reducible rfl
/-- The first line's mask. -/
theorem e11 (r k : Fin 2048) : StableHlo.after hostOps0 X (Proc.devRef .tc main_v11) (ix2 r k)
    = IntOp.cmpi CmpIPredicate.sge (BitVec.ofNat 32 r.val) (BitVec.ofNat 32 k.val) := by
  simp only [hostOps0]
  after_reads_simp
  pointwise
/-- The first line's mask value. -/
theorem ecst : @Eq EReal (StableHlo.after hostOps0 X (Proc.devRef .tc main_cst_0) ix0) ⊥ := by
  simp only [hostOps0]
  after_reads_simp
  pointwise
  exact ofBits_mask
/-- The masked logits. -/
theorem e12s (b : Fin 2) (h : Fin 8) (r k : Fin 2048) : StableHlo.after hostOps0_1 X (Proc.devRef .tc main_v12) (ix4 b h r k)
    = Scalar.select (X (Proc.devRef .tc main_v11) (ix2 r k)) (X (Proc.devRef .tc main_v5) (ix4 b h r k)) (X (Proc.devRef .tc main_cst_0) ix0) := by
  simp only [hostOps0_1, StableHlo.TRef.nullary, StableHlo.TRef.ternary, StableHlo.TRef.unary, StableHlo.TRef.toBuf, StableHlo.TRef.ofBuf, cast_eq]
  after_reads_simp
  pointwise
  simp only [id_eq]
/-- The masked logits of the arguments. -/
theorem e12 (b : Fin 2) (h : Fin 8) (r k : Fin 2048) : W m c (Proc.devRef .tc main_v12) (ix4 b h r k) = zz m c b h r k := by
  refine (e12s _ b h r k).trans ?_
  rw [e11, e5, ecst, sge_ite]
  unfold zz ML
  with_reducible rfl
/-- The first two lines leave the queries' plain part alone. -/
theorem w0 : W m c (Proc.devRef .tc main_arg0) = a0 m c := by
  simp only [W, hostOps0, hostOps0_1, StableHlo.TRef.nullary, StableHlo.TRef.ternary, StableHlo.TRef.unary]
  after_reads_simp
/-- The first two lines leave the queries' rotary part alone. -/
theorem w1 : W m c (Proc.devRef .tc main_arg1) = a1 m c := by
  simp only [W, hostOps0, hostOps0_1, StableHlo.TRef.nullary, StableHlo.TRef.ternary, StableHlo.TRef.unary]
  after_reads_simp
/-- The first two lines leave the keys' plain part alone. -/
theorem w2 : W m c (Proc.devRef .tc main_arg2) = a2 m c := by
  simp only [W, hostOps0, hostOps0_1, StableHlo.TRef.nullary, StableHlo.TRef.ternary, StableHlo.TRef.unary]
  after_reads_simp
/-- The first two lines leave the keys' rotary part alone. -/
theorem w3 : W m c (Proc.devRef .tc main_arg3) = a3 m c := by
  simp only [W, hostOps0, hostOps0_1, StableHlo.TRef.nullary, StableHlo.TRef.ternary, StableHlo.TRef.unary]
  after_reads_simp
/-- The first two lines leave the values alone. -/
theorem w4 : W m c (Proc.devRef .tc main_arg4) = a4 m c := by
  simp only [W, hostOps0, hostOps0_1, StableHlo.TRef.nullary, StableHlo.TRef.ternary, StableHlo.TRef.unary]
  after_reads_simp
/-- The first two lines leave the cotangent alone. -/
theorem w5 : W m c (Proc.devRef .tc main_arg5) = a5 m c := by
  simp only [W, hostOps0, hostOps0_1, StableHlo.TRef.nullary, StableHlo.TRef.ternary, StableHlo.TRef.unary]
  after_reads_simp

/-- The masked logits as they lie in memory. -/
abbrev X12 (b : Fin 2) (h : Fin 8) (r k : Fin 2048) : EReal := X (Proc.devRef .tc main_v12) (ix4 b h r k)
/-- The row maxima from the masked logits. -/
theorem e14s (b : Fin 2) (h : Fin 8) (r : Fin 2048) : StableHlo.after hostOps0_2 X (Proc.devRef .tc main_v14) (ix4 b h r 0) = RM (X12 X b h r) := by
  simp only [hostOps0_2]
  after_reads_simp
  pointwise
  rw [ofBits_mask]
  unfold RM
  with_reducible rfl
/-- The sums of exponentials from the masked logits. -/
theorem e19s (b : Fin 2) (h : Fin 8) (r : Fin 2048) : StableHlo.after hostOps0_2 X (Proc.devRef .tc main_v19) (ix4 b h r 0) = RL (X12 X b h r) := by
  simp only [hostOps0_2]
  after_reads_simp
  pointwise
  rw [ofBits_mask]
  unfold RL RE RM
  with_reducible rfl
/-- The masked logits' row. -/
theorem x12 (b : Fin 2) (h : Fin 8) (r : Fin 2048) : X12 (W m c) b h r = zz m c b h r := funext fun k => e12 m c b h r k
/-- The row maxima. -/
theorem e14 (b : Fin 2) (h : Fin 8) (r : Fin 2048) : StableHlo.after hostOps0_2 (W m c) (Proc.devRef .tc main_v14) (ix4 b h r 0) = RM (zz m c b h r) := by
  exact (e14s _ b h r).trans (congrArg RM (x12 m c b h r))
/-- The sums of exponentials. -/
theorem e19 (b : Fin 2) (h : Fin 8) (r : Fin 2048) : StableHlo.after hostOps0_2 (W m c) (Proc.devRef .tc main_v19) (ix4 b h r 0) = RL (zz m c b h r) := by
  exact (e19s _ b h r).trans (congrArg RL (x12 m c b h r))
/-- A sum of two columns and its layout over the lanes, at an index. -/
theorem lse_read (Y Z : FVec Ideal S2x8x2048x1 .f32) (R : Fin 4096) (L : Fin 1024) :
    (shapeCast S4096x1024 (broadcastInDim S2x2048x8x128 ![0, 1, 2, 3] bcast_S2x2048x8x1_S2x2048x8x128_0_1_2_3
      (transpose S2x2048x8x1 [0, 2, 1, 3] (addf Y (Host.log Z) : FVec Ideal S2x8x2048x1 .f32) transposes_S2x8x2048x1_S2x2048x8x1_0_2_1_3 : FVec Ideal S2x2048x8x1 .f32) : FVec Ideal S2x2048x8x128 .f32) shapeCasts_S2x2048x8x128_S4096x1024 : FVec Ideal S4096x1024 .f32) (ix2 R L)
    = Y (ix4 ⟨R.val / 2048, by omega⟩ ⟨L.val / 128, by omega⟩ ⟨R.val % 2048, by omega⟩ 0)
      + Ideal.log (Z (ix4 ⟨R.val / 2048, by omega⟩ ⟨L.val / 128, by omega⟩ ⟨R.val % 2048, by omega⟩ 0)) := by
  pointwise
/-- The column of row maxima after the last line. -/
abbrev Y14 : (⟨4, ![2, 8, 2048, 1]⟩ : Shape).Idx → EReal := StableHlo.after hostOps0_2 X (Proc.devRef .tc main_v14)
/-- The column of sums after the last line. -/
abbrev Y19 : (⟨4, ![2, 8, 2048, 1]⟩ : Shape).Idx → EReal := StableHlo.after hostOps0_2 X (Proc.devRef .tc main_v19)
/-- The log-sum-exp operand from the row maxima and the sums. -/
theorem e29s (R : Fin 4096) (L : Fin 1024) : StableHlo.after hostOps0_2 X (Proc.devRef .tc main_v29) (ix2 R L)
    = Y14 X (ix4 ⟨R.val / 2048, by omega⟩ ⟨L.val / 128, by omega⟩ ⟨R.val % 2048, by omega⟩ 0)
      + Ideal.log (Y19 X (ix4 ⟨R.val / 2048, by omega⟩ ⟨L.val / 128, by omega⟩ ⟨R.val % 2048, by omega⟩ 0)) := by
  simp only [Y14, Y19, hostOps0_2]
  after_reads_simp
  exact lse_read _ _ R L
/-- The log-sum-exp operand at an index. -/
theorem V29 (R : Fin 4096) (L : Fin 1024) : V m c main_v29 (ix2 R L)
    = RS (zz m c ⟨R.val / 2048, by omega⟩ ⟨L.val / 128, by omega⟩ ⟨R.val % 2048, by omega⟩) := by
  refine (congrFun (V_eq m c main_v29) _).trans ((e29s _ R L).trans ?_)
  rw [show Y14 (W m c) _ = _ from e14 m c _ _ _, show Y19 (W m c) _ = _ from e19 m c _ _ _]
  unfold RS
  with_reducible rfl
/-- The probabilities after the last line. -/
theorem e21s (b : Fin 2) (h : Fin 8) (r k : Fin 2048) : StableHlo.after hostOps0_2 X (Proc.devRef .tc main_v21) (ix4 b h r k) = RP (X12 X b h r) k := by
  simp only [hostOps0_2]
  after_reads_simp
  pointwise
  rw [ofBits_mask]
  unfold RP RL RE RM
  with_reducible rfl
/-- The weighted sum of the values and its layout, at an index. -/
theorem out_read (Y : FVec Ideal S2x2048x8x64 .f32) (P : FVec Ideal S2x8x2048x2048 .f32) (R : Fin 4096) (L : Fin 512) :
    (shapeCast S4096x512 (transpose S2x2048x8x64 [0, 3, 1, 2] (Host.dotGeneral dot_S2x2048x8x64_S2x8x2048x2048_S2x8x64x2048_1_3_3_2_02_01 none Y P : FVec Ideal S2x8x64x2048 .f32) transposes_S2x8x64x2048_S2x2048x8x64_0_3_1_2 : FVec Ideal S2x2048x8x64 .f32) shapeCasts_S2x2048x8x64_S4096x512 : FVec Ideal S4096x512 .f32) (ix2 R L)
    = ∑ k : Fin 2048, Y (ix4 ⟨R.val / 2048, by omega⟩ k ⟨L.val / 64, by omega⟩ ⟨L.val % 64, by omega⟩) * P (ix4 ⟨R.val / 2048, by omega⟩ ⟨L.val / 64, by omega⟩ ⟨R.val % 2048, by omega⟩ k) := by
  pointwise
/-- The probabilities as they lie in memory after the last line. -/
abbrev Y21 : (⟨4, ![2, 8, 2048, 2048]⟩ : Shape).Idx → EReal := StableHlo.after hostOps0_2 X (Proc.devRef .tc main_v21)
/-- The values before the last line. -/
abbrev Xv : A64 := X (Proc.devRef .tc main_arg4)
/-- The output operand from the values and the probabilities. -/
theorem e24s (R : Fin 4096) (L : Fin 512) : StableHlo.after hostOps0_2 X (Proc.devRef .tc main_v24) (ix2 R L)
    = ∑ k : Fin 2048, Xv X (ix4 ⟨R.val / 2048, by omega⟩ k ⟨L.val / 64, by omega⟩ ⟨L.val % 64, by omega⟩) * Y21 X (ix4 ⟨R.val / 2048, by omega⟩ ⟨L.val / 64, by omega⟩ ⟨R.val % 2048, by omega⟩ k) := by
  simp only [Y21, Xv, hostOps0_2]
  after_reads_simp
  exact out_read _ _ R L
/-- The weighted sum of the values, row by row. -/
theorem oo_eq (b : Fin 2) (h : Fin 8) (r : Fin 2048) (e : Fin 64) :
    (∑ k : Fin 2048, Xv (W m c) (ix4 b k h e) * Y21 (W m c) (ix4 b h r k)) = OO (zz m c b h) (a4 m c) b r h e := by
  unfold OO
  refine Finset.sum_congr rfl fun k _ => ?_
  rw [show Xv (W m c) = a4 m c from w4 m c, show Y21 (W m c) _ = _ from (e21s (W m c) _ _ _ k).trans (congrArg (fun z => RP z k) (x12 m c _ _ _))]
/-- The output operand at an index. -/
theorem V24 (R : Fin 4096) (L : Fin 512) : V m c main_v24 (ix2 R L)
    = OO (zz m c ⟨R.val / 2048, by omega⟩ ⟨L.val / 64, by omega⟩) (a4 m c) ⟨R.val / 2048, by omega⟩ ⟨R.val % 2048, by omega⟩ ⟨L.val / 64, by omega⟩ ⟨L.val % 64, by omega⟩ := by
  exact (congrFun (V_eq m c main_v24) _).trans ((e24s _ R L).trans (oo_eq m c _ _ _ _))
/-- The queries' operand at an index. -/
theorem V39 (R : Fin 4096) (L : Fin 1024) : V m c main_v39 (ix2 R L)
    = if h : L.val % 128 < 64 then a0 m c (ix4 ⟨R.val / 2048, by omega⟩ ⟨R.val % 2048, by omega⟩ ⟨L.val / 128, by omega⟩ ⟨L.val % 128, h⟩)
      else if h : L.val % 128 - 64 < 32 then a1 m c (ix4 ⟨R.val / 2048, by omega⟩ ⟨R.val % 2048, by omega⟩ ⟨L.val / 128, by omega⟩ ⟨L.val % 128 - 64, h⟩) else 0 := by
  rw [V_eq]
  simp only [hostOps0_2]
  after_reads_simp
  pointwise
  after_reads_simp
  try pointwise
/-- The keys' operand at an index. -/
theorem V35 (R : Fin 4096) (L : Fin 1024) : V m c main_v35 (ix2 R L)
    = if h : L.val % 128 < 64 then a2 m c (ix4 ⟨R.val / 2048, by omega⟩ ⟨R.val % 2048, by omega⟩ ⟨L.val / 128, by omega⟩ ⟨L.val % 128, h⟩)
      else if h : L.val % 128 - 64 < 32 then a3 m c (ix3 ⟨R.val / 2048, by omega⟩ ⟨R.val % 2048, by omega⟩ ⟨L.val % 128 - 64, h⟩) else 0 := by
  rw [V_eq]
  simp only [hostOps0_2]
  after_reads_simp
  pointwise
  after_reads_simp
  try pointwise
/-- The values' operand at an index. -/
theorem V52 (R : Fin 4096) (L : Fin 1024) : V m c main_v52 (ix2 R L)
    = if _h : L.val / 128 % 2 < 1 then
        if h : L.val % 128 < 64 then a4 m c (ix4 ⟨R.val / 2048, by omega⟩ ⟨R.val % 2048, by omega⟩ ⟨L.val / 256 * 2, by omega⟩ ⟨L.val % 128, h⟩) else 0
      else if h : L.val % 128 < 64 then 0
        else a4 m c (ix4 ⟨R.val / 2048, by omega⟩ ⟨R.val % 2048, by omega⟩ ⟨L.val / 256 * 2 + 1, by omega⟩ ⟨L.val % 128 - 64, by omega⟩) := by
  rw [V_eq]
  simp only [hostOps0_2]
  after_reads_simp
  pointwise
  after_reads_simp
  try pointwise
  after_reads_simp
  try pointwise
/-- The cotangent operand at an index. -/
theorem V53 (R : Fin 4096) (L : Fin 512) : V m c main_v53 (ix2 R L)
    = a5 m c (ix4 ⟨R.val / 2048, by omega⟩ ⟨R.val % 2048, by omega⟩ ⟨L.val / 64, by omega⟩ ⟨L.val % 64, by omega⟩) := by
  rw [V_eq]
  simp only [hostOps0_2]
  after_reads_simp
  pointwise

/-- The first result, from the call's first result. -/
theorem s69 (b : Fin 2) (r : Fin 2048) (h : Fin 8) (e : Fin 64) : StableHlo.after hostOps1 X (Proc.devRef .tc main_v69) (ix4 b r h e)
    = X (Proc.devRef .tc main_v54_0) (ix2 ⟨b.val * 2048 + r.val, by omega⟩ ⟨h.val * 128 + e.val, by omega⟩) := by
  simp only [hostOps1]
  after_reads_simp
  pointwise
/-- The second result, from the call's first result. -/
theorem s70 (b : Fin 2) (r : Fin 2048) (h : Fin 8) (e : Fin 32) : StableHlo.after hostOps1 X (Proc.devRef .tc main_v70) (ix4 b r h e)
    = X (Proc.devRef .tc main_v54_0) (ix2 ⟨b.val * 2048 + r.val, by omega⟩ ⟨h.val * 128 + (64 + e.val), by omega⟩) := by
  simp only [hostOps1]
  after_reads_simp
  pointwise
/-- The third result, from the call's second result. -/
theorem s71 (b : Fin 2) (r : Fin 2048) (h : Fin 8) (e : Fin 64) : StableHlo.after hostOps1 X (Proc.devRef .tc main_v71) (ix4 b r h e)
    = X (Proc.devRef .tc main_v54_1) (ix2 ⟨b.val * 2048 + r.val, by omega⟩ ⟨h.val * 128 + e.val, by omega⟩) := by
  simp only [hostOps1]
  after_reads_simp
  pointwise
/-- The call's second result, as it lies in memory. -/
abbrev Z541 : (⟨2, ![4096, 1024]⟩ : Shape).Idx → EReal := X (Proc.devRef .tc main_v54_1)
/-- The fourth result, from the call's second result. -/
theorem s73 (b : Fin 2) (r : Fin 2048) (e : Fin 32) : StableHlo.after hostOps1 X (Proc.devRef .tc main_v73) (ix3 b r e)
    = ∑ x : Fin 8, Z541 X (ix2 ⟨b.val * 2048 + r.val, by omega⟩ ⟨x.val * 128 + (64 + e.val), by omega⟩) := by
  simp only [hostOps1]
  after_reads_simp
  pointwise
/-- The fifth result, from the call's third result. -/
theorem s68 (b : Fin 2) (r : Fin 2048) (h : Fin 8) (e : Fin 64) : StableHlo.after hostOps1 X (Proc.devRef .tc main_v68) (ix4 b r h e)
    = if _h : h.val % 2 < 1 then X (Proc.devRef .tc main_v54_2) (ix2 ⟨b.val * 2048 + r.val, by omega⟩ ⟨h.val / 2 * 256 + e.val, by omega⟩)
      else X (Proc.devRef .tc main_v54_2) (ix2 ⟨b.val * 2048 + r.val, by omega⟩ ⟨h.val / 2 * 256 + 128 + (64 + e.val), by omega⟩) := by
  simp only [hostOps1]
  after_reads_simp
  pointwise
  after_reads_simp
  try pointwise
end Cert.Mla
-- ==== Proof.Bridge.lean ====
module
public import proofs.«01_k».proof.Proof.Soft
@[expose] public section
noncomputable section
namespace Cert.Mla
open Idealize.ShloMosaic

/-- The head in half `h` of the pair `p`. -/
def hd (p : Fin 4) (h : Fin 2) : Fin 8 := ⟨2 * p.val + h.val, by omega⟩

/-- A lane of the first 64 of a tile. -/
abbrev la (e : Fin 64) : Fin 128 := ⟨e.val, by omega⟩
/-- A lane of the last 64 of a tile. -/
abbrev lb (e : Fin 64) : Fin 128 := ⟨64 + e.val, by omega⟩
/-- A lane of the third quarter of a tile. -/
abbrev lc (e : Fin 32) : Fin 128 := ⟨64 + e.val, by omega⟩
/-- A lane of the last quarter of a tile. -/
abbrev lz (e : Fin 32) : Fin 128 := ⟨96 + e.val, by omega⟩

/-- A sum over a tile's lanes is the sum over its two halves. -/
theorem sum_half (f : Fin 128 → EReal) : ∑ e, f e = (∑ e : Fin 64, f (la e)) + ∑ e : Fin 64, f (lb e) :=
  Fin.sum_univ_add (a := 64) (b := 64) f
/-- A sum over a tile's second half is the sum over its two quarters. -/
theorem sum_quarter (f : Fin 128 → EReal) : ∑ e : Fin 64, f (lb e) = (∑ e : Fin 32, f (lc e)) + ∑ e : Fin 32, f (lz e) := by
  refine (Fin.sum_univ_add (a := 32) (b := 32) fun e : Fin 64 => f (lb e)).trans ?_
  refine congrArg (fun y => (∑ e : Fin 32, f (lc e)) + y) (Finset.sum_congr rfl fun e _ => congrArg f (Fin.ext ?_))
  show 64 + (32 + e.val) = 96 + e.val
  omega

/-- What the six operand blocks of batch `b` and pair `p` hold, in terms of the arguments. -/
structure Blk (q k v l : B2) (o d : B1) (q0 : A64) (q1 : A32) (k0 : A64) (k1 : A3) (v0 ct : A64) (b : Fin 2) (p : Fin 4) : Prop where
  /-- The queries' plain lanes. -/
  hq0 : ∀ r h e, q (ix2 r (ln h (la e))) = q0 (ix4 b r (hd p h) e)
  /-- The queries' rotary lanes. -/
  hq1 : ∀ r h e, q (ix2 r (ln h (lc e))) = q1 (ix4 b r (hd p h) e)
  /-- The queries' last lanes. -/
  hq2 : ∀ r h e, q (ix2 r (ln h (lz e))) = 0
  /-- The keys' plain lanes. -/
  hk0 : ∀ r h e, k (ix2 r (ln h (la e))) = k0 (ix4 b r (hd p h) e)
  /-- The keys' rotary lanes. -/
  hk1 : ∀ r h e, k (ix2 r (ln h (lc e))) = k1 (ix3 b r e)
  /-- The values of the even head. -/
  hv0 : ∀ r e, v (ix2 r (ln 0 (la e))) = v0 (ix4 b r (hd p 0) e)
  /-- The even head's other lanes. -/
  hv1 : ∀ r e, v (ix2 r (ln 0 (lb e))) = 0
  /-- The odd head's other lanes. -/
  hv2 : ∀ r e, v (ix2 r (ln 1 (la e))) = 0
  /-- The values of the odd head. -/
  hv3 : ∀ r e, v (ix2 r (ln 1 (lb e))) = v0 (ix4 b r (hd p 1) e)
  /-- The saved log-sum-exp. -/
  hl : ∀ r h, l (ix2 r (ln h 0)) = RS (ML q0 q1 k0 k1 b (hd p h) r)
  /-- The even head's output. -/
  ho0 : ∀ r e, o (ix2 r (la e)) = OO (ML q0 q1 k0 k1 b (hd p 0)) v0 b r (hd p 0) e
  /-- The odd head's output. -/
  ho1 : ∀ r e, o (ix2 r (lb e)) = OO (ML q0 q1 k0 k1 b (hd p 1)) v0 b r (hd p 1) e
  /-- The even head's cotangent. -/
  hd0 : ∀ r e, d (ix2 r (la e)) = ct (ix4 b r (hd p 0) e)
  /-- The odd head's cotangent. -/
  hd1 : ∀ r e, d (ix2 r (lb e)) = ct (ix4 b r (hd p 1) e)

section
variable {q k v l : B2} {o d : B1} {q0 : A64} {q1 : A32} {k0 : A64} {k1 : A3} {v0 ct : A64} {b : Fin 2} {p : Fin 4}
  (B : Blk q k v l o d q0 q1 k0 k1 v0 ct b p)
include B

/-- The block's probability. -/
theorem PP_eq (h : Fin 2) (r c : Fin 2048) : PP q k l h r c = KP (ML q0 q1 k0 k1 b (hd p h) r) r c := by
  unfold PP KP
  by_cases hc : c ≤ r
  · rw [if_pos hc, if_pos (Fin.le_def.1 hc)]
    unfold PE
    rw [sum_half, sum_quarter (fun e => q (ix2 r (ln h e)) * k (ix2 c (ln h e))), B.hl]
    simp only [B.hq0, B.hq1, B.hq2, B.hk0, B.hk1, zero_mul, Finset.sum_const_zero, add_zero]
    unfold ML LG
    rw [if_pos hc]
    simp only [mul_comm (k1 _) (q1 _)]
  · rw [if_neg hc, if_neg (fun hh => hc (Fin.le_def.2 hh))]

/-- The block's row sum of the output times the cotangent. -/
theorem DD_eq (h : Fin 2) (r : Fin 2048) : DD o d h r = DDF (ML q0 q1 k0 k1 b (hd p h)) v0 ct b r (hd p h) := by
  have ha : ∀ e : Fin 64, (la e).val < 64 := fun e => e.isLt
  have hb : ∀ e : Fin 64, ¬ (lb e).val < 64 := fun e => by show ¬ 64 + e.val < 64; omega
  unfold DDF
  fin_cases h
  · show DD o d 0 r = _
    rw [DD_zero, sum_half]
    simp only [ha, hb, if_true, if_false, Finset.sum_const_zero, add_zero, B.hd0, B.ho0]
    rfl
  · show DD o d 1 r = _
    rw [DD_one, sum_half]
    simp only [ha, hb, if_true, if_false, Finset.sum_const_zero, zero_add, B.hd1, B.ho1]
    rfl

/-- The block's gradient at the probabilities. -/
theorem DP_eq (h : Fin 2) (r c : Fin 2048) : DP v d h r c = DPF v0 ct b (hd p h) r c := by
  unfold DP DPF
  rw [sum_half]
  fin_cases h
  · show (∑ e : Fin 64, d (ix2 r (la e)) * v (ix2 c (ln 0 (la e)))) + (∑ e : Fin 64, d (ix2 r (lb e)) * v (ix2 c (ln 0 (lb e)))) = _
    simp only [B.hd0, B.hv0, B.hv1, mul_zero, Finset.sum_const_zero, add_zero]
    rfl
  · show (∑ e : Fin 64, d (ix2 r (la e)) * v (ix2 c (ln 1 (la e)))) + (∑ e : Fin 64, d (ix2 r (lb e)) * v (ix2 c (ln 1 (lb e)))) = _
    simp only [B.hd1, B.hv2, B.hv3, mul_zero, Finset.sum_const_zero, zero_add]
    rfl

/-- The block's gradient at the logits. -/
theorem DS_eq (h : Fin 2) (r c : Fin 2048) : DS q k v l o d h r c
    = KD (ML q0 q1 k0 k1 b (hd p h) r) (DPF v0 ct b (hd p h) r) (DDF (ML q0 q1 k0 k1 b (hd p h)) v0 ct b r (hd p h)) r c := by
  unfold DS KD
  rw [PP_eq B, DP_eq B, DD_eq B]

/-- The query gradient's plain lanes. -/
theorem GQ0 (h : Fin 2) (r : Fin 2048) (e : Fin 64) : GQ q k v l o d h r (la e)
    = ∑ c, KD (ML q0 q1 k0 k1 b (hd p h) r) (DPF v0 ct b (hd p h) r) (DDF (ML q0 q1 k0 k1 b (hd p h)) v0 ct b r (hd p h)) r c * k0 (ix4 b c (hd p h) e) := by
  unfold GQ
  simp only [DS_eq B, B.hk0]
/-- The query gradient's rotary lanes. -/
theorem GQ1 (h : Fin 2) (r : Fin 2048) (e : Fin 32) : GQ q k v l o d h r (lc e)
    = ∑ c, KD (ML q0 q1 k0 k1 b (hd p h) r) (DPF v0 ct b (hd p h) r) (DDF (ML q0 q1 k0 k1 b (hd p h)) v0 ct b r (hd p h)) r c * k1 (ix3 b c e) := by
  unfold GQ
  simp only [DS_eq B, B.hk1]
/-- The key gradient's plain lanes. -/
theorem GK0 (h : Fin 2) (c : Fin 2048) (e : Fin 64) : GK q k v l o d h c (la e)
    = ∑ r, KD (ML q0 q1 k0 k1 b (hd p h) r) (DPF v0 ct b (hd p h) r) (DDF (ML q0 q1 k0 k1 b (hd p h)) v0 ct b r (hd p h)) r c * q0 (ix4 b r (hd p h) e) := by
  unfold GK
  simp only [DS_eq B, B.hq0]
/-- The key gradient's rotary lanes. -/
theorem GK1 (h : Fin 2) (c : Fin 2048) (e : Fin 32) : GK q k v l o d h c (lc e)
    = ∑ r, KD (ML q0 q1 k0 k1 b (hd p h) r) (DPF v0 ct b (hd p h) r) (DDF (ML q0 q1 k0 k1 b (hd p h)) v0 ct b r (hd p h)) r c * q1 (ix4 b r (hd p h) e) := by
  unfold GK
  simp only [DS_eq B, B.hq1]
/-- The value gradient of the even head. -/
theorem GV0 (c : Fin 2048) (e : Fin 64) : GV q k l d 0 c (la e)
    = ∑ r, KP (ML q0 q1 k0 k1 b (hd p 0) r) r c * ct (ix4 b r (hd p 0) e) := by
  unfold GV
  simp only [PP_eq B, B.hd0]
/-- The value gradient of the odd head. -/
theorem GV1 (c : Fin 2048) (e : Fin 64) : GV q k l d 1 c (lb e)
    = ∑ r, KP (ML q0 q1 k0 k1 b (hd p 1) r) r c * ct (ix4 b r (hd p 1) e) := by
  unfold GV
  simp only [PP_eq B, B.hd1]
end

end Cert.Mla
-- ==== Proof.Arrays.lean ====
module
public import proofs.«01_k».proof.Proof.Entry
public import proofs.«01_k».proof.Proof.Bridge
@[expose] public section
set_option maxRecDepth 16384
noncomputable section
namespace Cert.Mla
open Idealize.ShloMosaic Idealize.SL.Sem Cert.KernelIdeal Cert.KernelIdeal.Gen
variable (m : (ℓ : Loc nD τ sig) → Buf (Elt Ideal) ℓ) (c : Dev nD)

/-- The queries' block of batch `b` and pair `p`. -/
def bq (b : Fin 2) (p : Fin 4) : B2 := fun y => V m c main_v39 (ix2 ⟨b.val * 2048 + (y 0).val, by have := (y 0).isLt; simp at this; omega⟩ ⟨p.val * 256 + (y 1).val, by have := (y 1).isLt; simp at this; omega⟩)
/-- The keys' block. -/
def bk (b : Fin 2) (p : Fin 4) : B2 := fun y => V m c main_v35 (ix2 ⟨b.val * 2048 + (y 0).val, by have := (y 0).isLt; simp at this; omega⟩ ⟨p.val * 256 + (y 1).val, by have := (y 1).isLt; simp at this; omega⟩)
/-- The values' block. -/
def bv (b : Fin 2) (p : Fin 4) : B2 := fun y => V m c main_v52 (ix2 ⟨b.val * 2048 + (y 0).val, by have := (y 0).isLt; simp at this; omega⟩ ⟨p.val * 256 + (y 1).val, by have := (y 1).isLt; simp at this; omega⟩)
/-- The output's block. -/
def bo (b : Fin 2) (p : Fin 4) : B1 := fun y => V m c main_v24 (ix2 ⟨b.val * 2048 + (y 0).val, by have := (y 0).isLt; simp at this; omega⟩ ⟨p.val * 128 + (y 1).val, by have := (y 1).isLt; simp at this; omega⟩)
/-- The cotangent's block. -/
def bd (b : Fin 2) (p : Fin 4) : B1 := fun y => V m c main_v53 (ix2 ⟨b.val * 2048 + (y 0).val, by have := (y 0).isLt; simp at this; omega⟩ ⟨p.val * 128 + (y 1).val, by have := (y 1).isLt; simp at this; omega⟩)
/-- The log-sum-exp's block. -/
def bl (b : Fin 2) (p : Fin 4) : B2 := fun y => V m c main_v29 (ix2 ⟨b.val * 2048 + (y 0).val, by have := (y 0).isLt; simp at this; omega⟩ ⟨p.val * 256 + (y 1).val, by have := (y 1).isLt; simp at this; omega⟩)

/-- Two multi-indices of four coordinates agree when their coordinates do. -/
theorem ix4_ext {n0 n1 n2 n3 : ℕ} {a a' : Fin n0} {b b' : Fin n1} {d d' : Fin n2} {e e' : Fin n3} (h0 : a.val = a'.val) (h1 : b.val = b'.val) (h2 : d.val = d'.val) (h3 : e.val = e'.val) :
    ix4 a b d e = ix4 a' b' d' e' := by
  rw [Fin.ext h0, Fin.ext h1, Fin.ext h2, Fin.ext h3]
/-- Two multi-indices of three coordinates agree when their coordinates do. -/
theorem ix3_ext {n0 n1 n2 : ℕ} {a a' : Fin n0} {b b' : Fin n1} {d d' : Fin n2} (h0 : a.val = a'.val) (h1 : b.val = b'.val) (h2 : d.val = d'.val) :
    ix3 a b d = ix3 a' b' d' := by
  rw [Fin.ext h0, Fin.ext h1, Fin.ext h2]

/-- The queries' block at the plain lanes. -/
theorem bq0 (b : Fin 2) (p : Fin 4) (r : Fin 2048) (h : Fin 2) (e : Fin 64) : bq m c b p (ix2 r (ln h (la e))) = a0 m c (ix4 b r (hd p h) e) := by
  refine (V39 m c _ _).trans ?_
  rw [dif_pos (by show (p.val * 256 + (128 * h.val + e.val)) % 128 < 64; omega)]
  refine congrArg (a0 m c) (ix4_ext ?_ ?_ ?_ ?_)
  · show (b.val * 2048 + r.val) / 2048 = b.val; omega
  · show (b.val * 2048 + r.val) % 2048 = r.val; omega
  · show (p.val * 256 + (128 * h.val + e.val)) / 128 = 2 * p.val + h.val; omega
  · show (p.val * 256 + (128 * h.val + e.val)) % 128 = e.val; omega
/-- The queries' block at the rotary lanes. -/
theorem bq1 (b : Fin 2) (p : Fin 4) (r : Fin 2048) (h : Fin 2) (e : Fin 32) : bq m c b p (ix2 r (ln h (lc e))) = a1 m c (ix4 b r (hd p h) e) := by
  refine (V39 m c _ _).trans ?_
  rw [dif_neg (by show ¬ (p.val * 256 + (128 * h.val + (64 + e.val))) % 128 < 64; omega), dif_pos (by show (p.val * 256 + (128 * h.val + (64 + e.val))) % 128 - 64 < 32; omega)]
  refine congrArg (a1 m c) (ix4_ext ?_ ?_ ?_ ?_)
  · show (b.val * 2048 + r.val) / 2048 = b.val; omega
  · show (b.val * 2048 + r.val) % 2048 = r.val; omega
  · show (p.val * 256 + (128 * h.val + (64 + e.val))) / 128 = 2 * p.val + h.val; omega
  · show (p.val * 256 + (128 * h.val + (64 + e.val))) % 128 - 64 = e.val; omega
/-- The queries' block at the last lanes. -/
theorem bq2 (b : Fin 2) (p : Fin 4) (r : Fin 2048) (h : Fin 2) (e : Fin 32) : bq m c b p (ix2 r (ln h (lz e))) = 0 := by
  refine (V39 m c _ _).trans ?_
  rw [dif_neg (by show ¬ (p.val * 256 + (128 * h.val + (96 + e.val))) % 128 < 64; omega), dif_neg (by show ¬ (p.val * 256 + (128 * h.val + (96 + e.val))) % 128 - 64 < 32; omega)]
/-- The keys' block at the plain lanes. -/
theorem bk0 (b : Fin 2) (p : Fin 4) (r : Fin 2048) (h : Fin 2) (e : Fin 64) : bk m c b p (ix2 r (ln h (la e))) = a2 m c (ix4 b r (hd p h) e) := by
  refine (V35 m c _ _).trans ?_
  rw [dif_pos (by show (p.val * 256 + (128 * h.val + e.val)) % 128 < 64; omega)]
  refine congrArg (a2 m c) (ix4_ext ?_ ?_ ?_ ?_)
  · show (b.val * 2048 + r.val) / 2048 = b.val; omega
  · show (b.val * 2048 + r.val) % 2048 = r.val; omega
  · show (p.val * 256 + (128 * h.val + e.val)) / 128 = 2 * p.val + h.val; omega
  · show (p.val * 256 + (128 * h.val + e.val)) % 128 = e.val; omega
/-- The keys' block at the rotary lanes. -/
theorem bk1 (b : Fin 2) (p : Fin 4) (r : Fin 2048) (h : Fin 2) (e : Fin 32) : bk m c b p (ix2 r (ln h (lc e))) = a3 m c (ix3 b r e) := by
  refine (V35 m c _ _).trans ?_
  rw [dif_neg (by show ¬ (p.val * 256 + (128 * h.val + (64 + e.val))) % 128 < 64; omega), dif_pos (by show (p.val * 256 + (128 * h.val + (64 + e.val))) % 128 - 64 < 32; omega)]
  refine congrArg (a3 m c) (ix3_ext ?_ ?_ ?_)
  · show (b.val * 2048 + r.val) / 2048 = b.val; omega
  · show (b.val * 2048 + r.val) % 2048 = r.val; omega
  · show (p.val * 256 + (128 * h.val + (64 + e.val))) % 128 - 64 = e.val; omega
/-- The values' block of the even head. -/
theorem bv0 (b : Fin 2) (p : Fin 4) (r : Fin 2048) (e : Fin 64) : bv m c b p (ix2 r (ln 0 (la e))) = a4 m c (ix4 b r (hd p 0) e) := by
  refine (V52 m c _ _).trans ?_
  rw [dif_pos (by show (p.val * 256 + (128 * 0 + e.val)) / 128 % 2 < 1; omega), dif_pos (by show (p.val * 256 + (128 * 0 + e.val)) % 128 < 64; omega)]
  refine congrArg (a4 m c) (ix4_ext ?_ ?_ ?_ ?_)
  · show (b.val * 2048 + r.val) / 2048 = b.val; omega
  · show (b.val * 2048 + r.val) % 2048 = r.val; omega
  · show (p.val * 256 + (128 * 0 + e.val)) / 256 * 2 = 2 * p.val + 0; omega
  · show (p.val * 256 + (128 * 0 + e.val)) % 128 = e.val; omega
/-- The even head's other lanes. -/
theorem bv1 (b : Fin 2) (p : Fin 4) (r : Fin 2048) (e : Fin 64) : bv m c b p (ix2 r (ln 0 (lb e))) = 0 := by
  refine (V52 m c _ _).trans ?_
  rw [dif_pos (by show (p.val * 256 + (128 * 0 + (64 + e.val))) / 128 % 2 < 1; omega), dif_neg (by show ¬ (p.val * 256 + (128 * 0 + (64 + e.val))) % 128 < 64; omega)]
/-- The odd head's other lanes. -/
theorem bv2 (b : Fin 2) (p : Fin 4) (r : Fin 2048) (e : Fin 64) : bv m c b p (ix2 r (ln 1 (la e))) = 0 := by
  refine (V52 m c _ _).trans ?_
  rw [dif_neg (by show ¬ (p.val * 256 + (128 * 1 + e.val)) / 128 % 2 < 1; omega), dif_pos (by show (p.val * 256 + (128 * 1 + e.val)) % 128 < 64; omega)]
/-- The values' block of the odd head. -/
theorem bv3 (b : Fin 2) (p : Fin 4) (r : Fin 2048) (e : Fin 64) : bv m c b p (ix2 r (ln 1 (lb e))) = a4 m c (ix4 b r (hd p 1) e) := by
  refine (V52 m c _ _).trans ?_
  rw [dif_neg (by show ¬ (p.val * 256 + (128 * 1 + (64 + e.val))) / 128 % 2 < 1; omega), dif_neg (by show ¬ (p.val * 256 + (128 * 1 + (64 + e.val))) % 128 < 64; omega)]
  refine congrArg (a4 m c) (ix4_ext ?_ ?_ ?_ ?_)
  · show (b.val * 2048 + r.val) / 2048 = b.val; omega
  · show (b.val * 2048 + r.val) % 2048 = r.val; omega
  · show (p.val * 256 + (128 * 1 + (64 + e.val))) / 256 * 2 + 1 = 2 * p.val + 1; omega
  · show (p.val * 256 + (128 * 1 + (64 + e.val))) % 128 - 64 = e.val; omega
/-- The log-sum-exp's block. -/
theorem bl0 (b : Fin 2) (p : Fin 4) (r : Fin 2048) (h : Fin 2) : bl m c b p (ix2 r (ln h 0)) = RS (zz m c b (hd p h) r) := by
  refine (V29 m c _ _).trans ?_
  congr 1
  refine congr (congrArg₂ (zz m c) (Fin.ext ?_) (Fin.ext ?_)) (Fin.ext ?_)
  · show (b.val * 2048 + r.val) / 2048 = b.val; omega
  · show (p.val * 256 + (128 * h.val + 0)) / 128 = 2 * p.val + h.val; omega
  · show (b.val * 2048 + r.val) % 2048 = r.val; omega
/-- The output depends on its four coordinates. -/
theorem OO_cong {b b' : Fin 2} {h h' : Fin 8} {r r' : Fin 2048} {e e' : Fin 64} (h0 : b.val = b'.val) (h1 : h.val = h'.val) (h2 : r.val = r'.val) (h3 : e.val = e'.val) :
    OO (zz m c b h) (a4 m c) b r h e = OO (zz m c b' h') (a4 m c) b' r' h' e' := by
  rw [Fin.ext h0, Fin.ext h1, Fin.ext h2, Fin.ext h3]
/-- The output's block. -/
theorem bo0 (b : Fin 2) (p : Fin 4) (h : Fin 2) (r : Fin 2048) (e : Fin 64) (l : Fin 128) (hl : l.val = 64 * h.val + e.val) :
    bo m c b p (ix2 r l) = OO (zz m c b (hd p h)) (a4 m c) b r (hd p h) e := by
  refine (V24 m c _ _).trans (OO_cong m c ?_ ?_ ?_ ?_)
  · show (b.val * 2048 + r.val) / 2048 = b.val; omega
  · show (p.val * 128 + l.val) / 64 = 2 * p.val + h.val; omega
  · show (b.val * 2048 + r.val) % 2048 = r.val; omega
  · show (p.val * 128 + l.val) % 64 = e.val; omega
/-- The cotangent's block. -/
theorem bd0 (b : Fin 2) (p : Fin 4) (h : Fin 2) (r : Fin 2048) (e : Fin 64) (l : Fin 128) (hl : l.val = 64 * h.val + e.val) :
    bd m c b p (ix2 r l) = a5 m c (ix4 b r (hd p h) e) := by
  refine (V53 m c _ _).trans ?_
  refine congrArg (a5 m c) (ix4_ext ?_ ?_ ?_ ?_)
  · show (b.val * 2048 + r.val) / 2048 = b.val; omega
  · show (b.val * 2048 + r.val) % 2048 = r.val; omega
  · show (p.val * 128 + l.val) / 64 = 2 * p.val + h.val; omega
  · show (p.val * 128 + l.val) % 64 = e.val; omega

/-- The six blocks of batch `b` and pair `p` hold what `Blk` says. -/
theorem blk (b : Fin 2) (p : Fin 4) : Blk (bq m c b p) (bk m c b p) (bv m c b p) (bl m c b p) (bo m c b p) (bd m c b p)
    (a0 m c) (a1 m c) (a2 m c) (a3 m c) (a4 m c) (a5 m c) b p where
  hq0 := bq0 m c b p
  hq1 := bq1 m c b p
  hq2 := bq2 m c b p
  hk0 := bk0 m c b p
  hk1 := bk1 m c b p
  hv0 := bv0 m c b p
  hv1 := bv1 m c b p
  hv2 := bv2 m c b p
  hv3 := bv3 m c b p
  hl := bl0 m c b p
  ho0 := fun r e => bo0 m c b p 0 r e _ (by show e.val = 64 * 0 + e.val; omega)
  ho1 := fun r e => bo0 m c b p 1 r e _ (by show 64 + e.val = 64 * 1 + e.val; omega)
  hd0 := fun r e => bd0 m c b p 0 r e _ (by show e.val = 64 * 0 + e.val; omega)
  hd1 := fun r e => bd0 m c b p 1 r e _ (by show 64 + e.val = 64 * 1 + e.val; omega)

end Cert.Mla
-- ==== Proof.Final.lean ====
module
public import proofs.«01_k».proof.Proof.Arrays
@[expose] public section
set_option maxRecDepth 16384
noncomputable section
namespace Cert.Mla
open Idealize.ShloMosaic Idealize.SL.Sem Cert.KernelIdeal Cert.KernelIdeal.Gen
variable (m : (ℓ : Loc nD τ sig) → Buf (Elt Ideal) ℓ) (c : Dev nD)

/-- The batch of a grid point. -/
abbrev tb (t : Fin grid0.N) : Fin 2 := grid0.coords t 0
/-- The pair of a grid point. -/
abbrev tp (t : Fin grid0.N) : Fin 4 := grid0.coords t 1
theorem x0 : ∀ t : Fin grid0.N, (cfg0.win 0).index t = ![(grid0.coords t 0).val, (grid0.coords t 1).val] := by decide +kernel
theorem x1 : ∀ t : Fin grid0.N, (cfg0.win 1).index t = ![(grid0.coords t 0).val, (grid0.coords t 1).val] := by decide +kernel
theorem x2 : ∀ t : Fin grid0.N, (cfg0.win 2).index t = ![(grid0.coords t 0).val, (grid0.coords t 1).val] := by decide +kernel
theorem x3 : ∀ t : Fin grid0.N, (cfg0.win 3).index t = ![(grid0.coords t 0).val, (grid0.coords t 1).val] := by decide +kernel
theorem x4 : ∀ t : Fin grid0.N, (cfg0.win 4).index t = ![(grid0.coords t 0).val, (grid0.coords t 1).val] := by decide +kernel
theorem x5 : ∀ t : Fin grid0.N, (cfg0.win 5).index t = ![(grid0.coords t 0).val, (grid0.coords t 1).val] := by decide +kernel
theorem x6 : ∀ t : Fin grid0.N, (cfg0.win 6).index t = ![(grid0.coords t 0).val, (grid0.coords t 1).val] := by decide +kernel
theorem x7 : ∀ t : Fin grid0.N, (cfg0.win 7).index t = ![(grid0.coords t 0).val, (grid0.coords t 1).val] := by decide +kernel
theorem x8 : ∀ t : Fin grid0.N, (cfg0.win 8).index t = ![(grid0.coords t 0).val, (grid0.coords t 1).val] := by decide +kernel
/-- A block's index is its row and lane. -/
theorem eta2 {a b : ℕ} (y : (⟨2, ![a, b]⟩ : Shape).Idx) : y = ix2 (y 0) (y 1) := by
  funext k; fin_cases k <;> rfl
/-- Reading the first operand's block of any contents. -/
theorem rd0 (X : (b : Ref sig .tc) → b.ty.Contents (Elt Ideal)) (t : Fin grid0.N) (y : (⟨2, ![2048, 256]⟩ : Shape).Idx) :
    ((cfg0.win 0).blk t).view.read (Elt Ideal) (X (Pipeline.arrRef spec0 0)) y
    = X main_v39 (ix2 ⟨(tb t).val * 2048 + (y 0).val, by have := (y 0).isLt; have := (tb t).isLt; simp at *; omega⟩ ⟨(tp t).val * 256 + (y 1).val, by have := (y 1).isLt; have := (tp t).isLt; simp at *; omega⟩) := by
  blk_ext [x0 t]
/-- The first operand's block at a grid point. -/
theorem ib0 (t : Fin grid0.N) : iblk m c 0 t = bq m c (tb t) (tp t) := by
  exact funext fun y => rd0 (V m c) t y
/-- Reading the second operand's block of any contents. -/
theorem rd1 (X : (b : Ref sig .tc) → b.ty.Contents (Elt Ideal)) (t : Fin grid0.N) (y : (⟨2, ![2048, 256]⟩ : Shape).Idx) :
    ((cfg0.win 1).blk t).view.read (Elt Ideal) (X (Pipeline.arrRef spec0 1)) y
    = X main_v35 (ix2 ⟨(tb t).val * 2048 + (y 0).val, by have := (y 0).isLt; have := (tb t).isLt; simp at *; omega⟩ ⟨(tp t).val * 256 + (y 1).val, by have := (y 1).isLt; have := (tp t).isLt; simp at *; omega⟩) := by
  blk_ext [x1 t]
/-- The second operand's block at a grid point. -/
theorem ib1 (t : Fin grid0.N) : iblk m c 1 t = bk m c (tb t) (tp t) := by
  exact funext fun y => rd1 (V m c) t y
/-- Reading the third operand's block of any contents. -/
theorem rd2 (X : (b : Ref sig .tc) → b.ty.Contents (Elt Ideal)) (t : Fin grid0.N) (y : (⟨2, ![2048, 256]⟩ : Shape).Idx) :
    ((cfg0.win 2).blk t).view.read (Elt Ideal) (X (Pipeline.arrRef spec0 2)) y
    = X main_v52 (ix2 ⟨(tb t).val * 2048 + (y 0).val, by have := (y 0).isLt; have := (tb t).isLt; simp at *; omega⟩ ⟨(tp t).val * 256 + (y 1).val, by have := (y 1).isLt; have := (tp t).isLt; simp at *; omega⟩) := by
  blk_ext [x2 t]
/-- The third operand's block at a grid point. -/
theorem ib2 (t : Fin grid0.N) : iblk m c 2 t = bv m c (tb t) (tp t) := by
  exact funext fun y => rd2 (V m c) t y
/-- Reading the fourth operand's block of any contents. -/
theorem rd3 (X : (b : Ref sig .tc) → b.ty.Contents (Elt Ideal)) (t : Fin grid0.N) (y : (⟨2, ![2048, 128]⟩ : Shape).Idx) :
    ((cfg0.win 3).blk t).view.read (Elt Ideal) (X (Pipeline.arrRef spec0 3)) y
    = X main_v24 (ix2 ⟨(tb t).val * 2048 + (y 0).val, by have := (y 0).isLt; have := (tb t).isLt; simp at *; omega⟩ ⟨(tp t).val * 128 + (y 1).val, by have := (y 1).isLt; have := (tp t).isLt; simp at *; omega⟩) := by
  blk_ext [x3 t]
/-- The fourth operand's block at a grid point. -/
theorem ib3 (t : Fin grid0.N) : iblk m c 3 t = bo m c (tb t) (tp t) := by
  exact funext fun y => rd3 (V m c) t y
/-- Reading the fifth operand's block of any contents. -/
theorem rd4 (X : (b : Ref sig .tc) → b.ty.Contents (Elt Ideal)) (t : Fin grid0.N) (y : (⟨2, ![2048, 128]⟩ : Shape).Idx) :
    ((cfg0.win 4).blk t).view.read (Elt Ideal) (X (Pipeline.arrRef spec0 4)) y
    = X main_v53 (ix2 ⟨(tb t).val * 2048 + (y 0).val, by have := (y 0).isLt; have := (tb t).isLt; simp at *; omega⟩ ⟨(tp t).val * 128 + (y 1).val, by have := (y 1).isLt; have := (tp t).isLt; simp at *; omega⟩) := by
  blk_ext [x4 t]
/-- The fifth operand's block at a grid point. -/
theorem ib4 (t : Fin grid0.N) : iblk m c 4 t = bd m c (tb t) (tp t) := by
  exact funext fun y => rd4 (V m c) t y
/-- Reading the sixth operand's block of any contents. -/
theorem rd5 (X : (b : Ref sig .tc) → b.ty.Contents (Elt Ideal)) (t : Fin grid0.N) (y : (⟨2, ![2048, 256]⟩ : Shape).Idx) :
    ((cfg0.win 5).blk t).view.read (Elt Ideal) (X (Pipeline.arrRef spec0 5)) y
    = X main_v29 (ix2 ⟨(tb t).val * 2048 + (y 0).val, by have := (y 0).isLt; have := (tb t).isLt; simp at *; omega⟩ ⟨(tp t).val * 256 + (y 1).val, by have := (y 1).isLt; have := (tp t).isLt; simp at *; omega⟩) := by
  blk_ext [x5 t]
/-- The sixth operand's block at a grid point. -/
theorem ib5 (t : Fin grid0.N) : iblk m c 5 t = bl m c (tb t) (tp t) := by
  exact funext fun y => rd5 (V m c) t y
/-- The query gradient of the whole call. -/
def AQ (b : Fin 2) (p : Fin 4) (h : Fin 2) (r : Fin 2048) (e : Fin 128) : EReal :=
  GQ (bq m c b p) (bk m c b p) (bv m c b p) (bl m c b p) (bo m c b p) (bd m c b p) h r e
/-- The key gradient of the whole call. -/
def AK (b : Fin 2) (p : Fin 4) (h : Fin 2) (r : Fin 2048) (e : Fin 128) : EReal :=
  GK (bq m c b p) (bk m c b p) (bv m c b p) (bl m c b p) (bo m c b p) (bd m c b p) h r e
/-- The value gradient of the whole call. -/
def AV (b : Fin 2) (p : Fin 4) (h : Fin 2) (r : Fin 2048) (e : Fin 128) : EReal :=
  GV (bq m c b p) (bk m c b p) (bl m c b p) (bd m c b p) h r e
/-- An array from its blocks. -/
def lay (f : Fin 2 → Fin 4 → Fin 2 → Fin 2048 → Fin 128 → EReal) : (⟨2, ![4096, 1024]⟩ : Shape).Idx → EReal := fun J =>
  f ⟨(J 0).val / 2048, by have := (J 0).isLt; simp at this; omega⟩ ⟨(J 1).val / 256, by have := (J 1).isLt; simp at this; omega⟩
    ⟨(J 1).val % 256 / 128, by omega⟩ ⟨(J 0).val % 2048, by omega⟩ ⟨(J 1).val % 128, by omega⟩
/-- The array at a block's row and lane. -/
theorem lay_at (f : Fin 2 → Fin 4 → Fin 2 → Fin 2048 → Fin 128 → EReal) (J : (⟨2, ![4096, 1024]⟩ : Shape).Idx) (b : Fin 2) (p : Fin 4) (h : Fin 2) (r : Fin 2048) (e : Fin 128)
    (h0 : (J 0).val = b.val * 2048 + r.val) (h1 : (J 1).val = p.val * 256 + (128 * h.val + e.val)) : lay f J = f b p h r e := by
  unfold lay
  have k0 : ∀ q, (⟨(J 0).val / 2048, q⟩ : Fin 2) = b := fun q => Fin.ext (by show (J 0).val / 2048 = b.val; omega)
  have k1 : ∀ q, (⟨(J 1).val / 256, q⟩ : Fin 4) = p := fun q => Fin.ext (by show (J 1).val / 256 = p.val; omega)
  have k2 : ∀ q, (⟨(J 1).val % 256 / 128, q⟩ : Fin 2) = h := fun q => Fin.ext (by show (J 1).val % 256 / 128 = h.val; omega)
  have k3 : ∀ q, (⟨(J 0).val % 2048, q⟩ : Fin 2048) = r := fun q => Fin.ext (by show (J 0).val % 2048 = r.val; omega)
  have k4 : ∀ q, (⟨(J 1).val % 128, q⟩ : Fin 128) = e := fun q => Fin.ext (by show (J 1).val % 128 = e.val; omega)
  rw [k0, k1, k2, k3, k4]
/-- A block's index as a row, a half and a lane. -/
theorem eta3 (y : (⟨2, ![2048, 256]⟩ : Shape).Idx) : ∃ r h e, y = ix2 r (ln h e) := by
  refine ⟨y 0, ⟨(y 1).val / 128, by have := (y 1).isLt; simp at this; omega⟩, ⟨(y 1).val % 128, by omega⟩, (eta2 y).trans (congrArg (ix2 (y 0)) (Fin.ext ?_))⟩
  show (y 1).val = 128 * ((y 1).val / 128) + (y 1).val % 128
  omega

/-- The call's first result. -/
theorem arr6 : (dats m 0 c).arrAt 6 (cfgs 0).N = lay (AQ m c) := by
  refine (dats m 0 c).arrAt_eq_of_covers 6 _ (by decide +kernel) fun t hf y => ?_
  obtain ⟨r, h, e, rfl⟩ := eta3 y
  blk_simp
  rw [after0_6]
  unfold outsAt0
  dsimp only
  refine (out6 ..).trans ?_
  rw [ib0, ib1, ib2, ib3, ib4, ib5]
  refine (lay_at (AQ m c) _ (tb t) (tp t) h r e ?_ ?_).symm
  · blk_simp [x6 t]
  · blk_simp [x6 t]
    rfl
/-- The call's second result. -/
theorem arr7 : (dats m 0 c).arrAt 7 (cfgs 0).N = lay (AK m c) := by
  refine (dats m 0 c).arrAt_eq_of_covers 7 _ (by decide +kernel) fun t hf y => ?_
  obtain ⟨r, h, e, rfl⟩ := eta3 y
  blk_simp
  rw [after0_7]
  unfold outsAt0
  dsimp only
  refine (out7 ..).trans ?_
  rw [ib0, ib1, ib2, ib3, ib4, ib5]
  refine (lay_at (AK m c) _ (tb t) (tp t) h r e ?_ ?_).symm
  · blk_simp [x7 t]
  · blk_simp [x7 t]
    rfl
/-- The call's third result. -/
theorem arr8 : (dats m 0 c).arrAt 8 (cfgs 0).N = lay (AV m c) := by
  refine (dats m 0 c).arrAt_eq_of_covers 8 _ (by decide +kernel) fun t hf y => ?_
  obtain ⟨r, h, e, rfl⟩ := eta3 y
  blk_simp
  rw [after0_8]
  unfold outsAt0
  dsimp only
  refine (out8 ..).trans ?_
  rw [ib0, ib1, ib4, ib5]
  refine (lay_at (AV m c) _ (tb t) (tp t) h r e ?_ ?_).symm
  · blk_simp [x8 t]
  · blk_simp [x8 t]
    rfl
end Cert.Mla
-- ==== Proof.Finite.lean ====
module
public import proofs.«01_k».proof.Proof.Entry
public import proofs.«01_k».proof.Proof.Gen.Pre_finite
public import proofs.«01_k».proof.Defs
public import Idealize.ShloMosaic.Lib.ReduceAll
@[expose] public section
noncomputable section
namespace Cert.Mla
open Idealize.ShloMosaic Idealize.SL.Sem

/-- A number whose absolute value lies below infinity is real. -/
theorem real_of_lt (a : EReal) (h : max a (-a) < ⊤) : ∃ x : ℝ, a = x := by
  induction a using EReal.rec with
  | bot => simp at h
  | coe x => exact ⟨x, rfl⟩
  | top => simp at h
/-- The word of plus infinity. -/
theorem ofBits_inf : Ideal.ofBits .f32 2139095040#32 = ⊤ := by simp [Ideal.ofBits, Ideal.ieee]
/-- A comparison that holds says less than. -/
theorem lt_of_cmp (a b : EReal) (h : Ideal.cmp .olt a b = 1#1) : a < b := by
  by_contra hn
  simp [Ideal.cmp, hn] at h
/-- An array all of whose absolute values compare below infinity is real. -/
theorem real_all {s : Shape} (x : FVec Ideal s .f32) (y : FVec Ideal s .f32) (hy : ∀ i, y i = (⊤ : EReal)) (h : ∀ i, cmpf .olt (Host.absf x) y i = 1#1) (i : s.Idx) :
    ∃ r : ℝ, (x i : EReal) = r := by
  refine real_of_lt _ ?_
  have := lt_of_cmp _ _ (h i)
  rw [hy i] at this
  exact this

open Cert.Pre_finite in
/-- The condition on one argument: all of its numbers are real. -/
theorem real_arg {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1) (i : s.Idx) :
    ∃ r : ℝ, (x i : EReal) = r := by
  haveI : Subsingleton S_.Idx := ⟨fun a b => funext fun k => k.elim0⟩
  exact real_all x _ (fun i => ofBits_inf) (fun i => Host.reduce_andi_all _ _ hr hu _ h i) i

open Cert.Pre_finite in
/-- The condition says that every number of the six arguments is real. -/
theorem pre_real (x0 : FVec Ideal S2x2048x8x64 .f32) (x1 : FVec Ideal S2x2048x8x32 .f32) (x2 : FVec Ideal S2x2048x8x64 .f32) (x3 : FVec Ideal S2x2048x32 .f32) (x4 x5 : FVec Ideal S2x2048x8x64 .f32)
    (h : Cert.Pre_finite.fn (F := Ideal) x0 x1 x2 x3 x4 x5 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r)
    ∧ (∀ i, ∃ r : ℝ, (x4 i : EReal) = r) ∧ (∀ i, ∃ r : ℝ, (x5 i : EReal) = r) := by
  have h := congrFun h ix0
  dsimp only [Cert.Pre_finite.fn, fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_arg x0 _ _ _ h0, real_arg x1 _ _ _ h1, real_arg x2 _ _ _ h2, real_arg x3 _ _ _ h3, real_arg x4 _ _ _ h4, real_arg x5 _ _ _ h5⟩
end Cert.Mla
-- ==== Proof.Ref.lean ====
module
public import proofs.«01_k».proof.Proof.Gen.ReferenceIdeal.Read
public import proofs.«01_k».proof.Proof.Soft
public import Idealize.ShloMosaic.Lib.Pointwise
@[expose] public section
set_option maxRecDepth 16384
namespace Cert.Mla
open Idealize.ShloMosaic Idealize.SL.Sem Cert.ReferenceIdeal Cert.ReferenceIdeal.Gen Cert.ReferenceIdeal.Read
variable (x0 x2 x4 x5 : A64) (x1 : A32) (x3 : A3) (b : Fin 2) (h : Fin 8) (r k : Fin 2048)
/-- The reference's logits. -/
theorem r5 : val_main_v5 (F := Ideal) x0 x1 x2 x3 (ix4 b h r k) = LG x0 x1 x2 x3 b h r k := by
  unfold val_main_v5 val_main_v3 val_main_v4 val_main_v0 val_main_v2 val_main_v1 val_main_cst
  pointwise
  rfl
/-- The reference's mask. -/
theorem r11 (α : Type) (x y : α) : Scalar.select (val_main_v11 (F := Ideal) (ix2 r k)) x y = if k ≤ r then x else y := by
  unfold val_main_v11 val_main_v10 val_main_v9 val_main_v8 val_main_v7 val_main_v6
  pointwise
  exact sge_ite r k x y
/-- The reference's masked logits. -/
theorem r12 : val_main_v12_0 (F := Ideal) x0 x1 x2 x3 (ix4 b h r k) = ML x0 x1 x2 x3 b h r k := by
  unfold val_main_v12_0 val_main_v12_1 val_main_call0_v2 val_main_call0_v0 val_main_cst_0
  pointwise
  rw [r11, r5]
  unfold ML
  rw [id_eq]
  pointwise
  rw [ofBits_mask]
/-- The reference's row maxima. -/
theorem r13 : val_main_v13 (F := Ideal) x0 x1 x2 x3 (ix3 b h r) = RM (ML x0 x1 x2 x3 b h r) := by
  unfold val_main_v13 val_main_cst_1
  pointwise
  rw [ofBits_mask]
  simp only [r12]
  unfold RM
  rfl
/-- The row maxima, once more the larger of them and minus infinity. -/
theorem r20 : val_main_v20 (F := Ideal) x0 x1 x2 x3 (ix3 b h r) = RM (ML x0 x1 x2 x3 b h r) := by
  have h19 : val_main_v19 (F := Ideal) (ix3 b h r) = (⊥ : EReal) := by
    rw [val_main_v19_apply, val_main_cst_3_apply]
    exact ofBits_mask
  rw [val_main_v20_apply, h19, r13]
  generalize RM (ML x0 x1 x2 x3 b h r) = w
  exact bot_sup_eq w
/-- The reference's exponentials. -/
theorem r33 : val_main_v33 (F := Ideal) x0 x1 x2 x3 (ix4 b h r k) = RE (ML x0 x1 x2 x3 b h r) k := by
  unfold val_main_v33 val_main_v32 val_main_v31 val_main_v30
  pointwise
  rw [r12, r20]
  unfold RE
  with_reducible rfl
/-- The reference's sums of exponentials. -/
theorem r34 : val_main_v35 (F := Ideal) x0 x1 x2 x3 (ix4 b h r 0) = RL (ML x0 x1 x2 x3 b h r) := by
  unfold val_main_v35 val_main_v34 val_main_cst_9
  pointwise
  simp only [r33]
  unfold RL
  with_reducible rfl
/-- The reference's softmax. -/
theorem r37 : val_main_v37 (F := Ideal) x0 x1 x2 x3 (ix4 b h r k) = RP (ML x0 x1 x2 x3 b h r) k := by
  unfold val_main_v37 val_main_v36
  pointwise
  rw [r33, r34]
  unfold RP
  with_reducible rfl
/-- The reciprocal of the squared sum. -/
theorem r40 : val_main_v40 (F := Ideal) x0 x1 x2 x3 (ix4 b h r 0) = Ideal.div 1 (RL (ML x0 x1 x2 x3 b h r) * RL (ML x0 x1 x2 x3 b h r)) := by
  unfold val_main_v40 val_main_v39 val_main_v38 val_main_cst_10
  pointwise
  rw [r34]
/-- The reference's gradient at the softmax. -/
theorem r44 : val_main_v44 (F := Ideal) x4 x5 (ix4 b h r k) = DPF x4 x5 b h r k := by
  unfold val_main_v44 val_main_v43
  pointwise
  rfl
/-- The reference's gradient at the logits. -/
theorem r61 : val_main_v61 (F := Ideal) x0 x1 x2 x3 x4 x5 (ix4 b h r k) = RD (ML x0 x1 x2 x3 b h r) (DPF x4 x5 b h r) r k := by
  unfold val_main_v61 val_main_v60 val_main_cst_13 val_main_v59 val_main_v58 val_main_v57 val_main_v56 val_main_v55 val_main_v54
  unfold val_main_v53 val_main_v52 val_main_v51 val_main_v50 val_main_v49 val_main_v48 val_main_v47 val_main_call1_v0 val_main_v12_1 val_main_cst_12 val_main_cst_11 val_main_call1_cst
  pointwise
  rw [r11]
  simp only [r44, r34, r40, r33]
  unfold RD SC
  simp only [Finset.univ_unique, Finset.sum_singleton]
  split
  · with_reducible rfl
  · rw [zero_mul]
/-- The reference's gradient of the values. -/
theorem r46 (e : Fin 64) : val_main_v46 (F := Ideal) x0 x1 x2 x3 x5 (ix4 b r h e) = ∑ x, x5 (ix4 b x h e) * RP (ML x0 x1 x2 x3 b h x) r := by
  unfold val_main_v46 val_main_v45 val_main_v43
  pointwise
  simp only [r37]
/-- The reference's gradient of the queries' rotary part. -/
theorem r63 (e : Fin 32) : val_main_v63 (F := Ideal) x0 x1 x2 x3 x4 x5 (ix4 b r h e) = ∑ x, RD (ML x0 x1 x2 x3 b h r) (DPF x4 x5 b h r) r x * x3 (ix3 b x e) := by
  unfold val_main_v63 val_main_v62
  pointwise
  simp only [r61]
/-- The reference's gradient of the keys' rotary part. -/
theorem r64 (e : Fin 32) : val_main_v64 (F := Ideal) x0 x1 x2 x3 x4 x5 (ix3 b r e)
    = ∑ x, ∑ y, RD (ML x0 x1 x2 x3 b y x) (DPF x4 x5 b y x) x r * x1 (ix4 b x y e) := by
  unfold val_main_v64 val_main_v62
  pointwise
  simp only [r61]
/-- The reference's gradient of the keys' plain part. -/
theorem r66 (e : Fin 64) : val_main_v66 (F := Ideal) x0 x1 x2 x3 x4 x5 (ix4 b r h e) = ∑ x, RD (ML x0 x1 x2 x3 b h x) (DPF x4 x5 b h x) x r * x0 (ix4 b x h e) := by
  unfold val_main_v66 val_main_v65
  pointwise
  simp only [r61]
/-- The reference's gradient of the queries' plain part. -/
theorem r68 (e : Fin 64) : val_main_v68 (F := Ideal) x0 x1 x2 x3 x4 x5 (ix4 b r h e) = ∑ x, RD (ML x0 x1 x2 x3 b h r) (DPF x4 x5 b h r) r x * x2 (ix4 b x h e) := by
  unfold val_main_v68 val_main_v67
  pointwise
  simp only [r61]
end Cert.Mla
-- ==== Proof.Values.lean ====
module
public import proofs.«01_k».proof.Proof.Final
public import proofs.«01_k».proof.Proof.Finite
public import proofs.«01_k».proof.Proof.Ref
@[expose] public section
set_option maxRecDepth 16384
noncomputable section
namespace Cert.Mla
open Idealize.ShloMosaic Idealize.SL.Sem Cert.KernelIdeal Cert.KernelIdeal.Gen
open Cert.ReferenceIdeal.Read (val_main_v68 val_main_v63 val_main_v66 val_main_v64 val_main_v46)
variable (m : (ℓ : Loc nD τ sig) → Buf (Elt Ideal) ℓ) (c : Dev nD)

/-- Every number of the six arguments is real. -/
structure Real6 : Prop where
  /-- The queries' plain part. -/
  r0 : ∀ i, ∃ x : ℝ, a0 m c i = x
  /-- The queries' rotary part. -/
  r1 : ∀ i, ∃ x : ℝ, a1 m c i = x
  /-- The keys' plain part. -/
  r2 : ∀ i, ∃ x : ℝ, a2 m c i = x
  /-- The keys' rotary part. -/
  r3 : ∀ i, ∃ x : ℝ, a3 m c i = x
  /-- The values. -/
  r4 : ∀ i, ∃ x : ℝ, a4 m c i = x
  /-- The cotangent. -/
  r5 : ∀ i, ∃ x : ℝ, a5 m c i = x

/-- The reference's masked logits' gradient on the arguments. -/
abbrev rd (b : Fin 2) (h : Fin 8) (r k : Fin 2048) : EReal := RD (zz m c b h r) (DPF (a4 m c) (a5 m c) b h r) r k

section
variable {m c} (R : Real6 m c)
include R
/-- The call's gradient at the logits is the reference's. -/
theorem kd_rd (b : Fin 2) (h : Fin 8) (r k : Fin 2048) :
    KD (zz m c b h r) (DPF (a4 m c) (a5 m c) b h r) (DDF (zz m c b h) (a4 m c) (a5 m c) b r h) r k = rd m c b h r k := by
  obtain ⟨f, hf⟩ := ML_real (a0 m c) (a1 m c) (a2 m c) (a3 m c) R.r0 R.r1 R.r2 R.r3 b h
  obtain ⟨v', hv⟩ := Classical.axiomOfChoice R.r4
  obtain ⟨d', hd⟩ := Classical.axiomOfChoice R.r5
  exact KD_eq_RD f (zz m c b h) hf (a4 m c) (a5 m c) v' d' hv hd b h r k
/-- The call's softmax is the reference's. -/
theorem kp_rp (b : Fin 2) (h : Fin 8) (r k : Fin 2048) : KP (zz m c b h r) r k = RP (zz m c b h r) k := by
  obtain ⟨f, hf⟩ := ML_real (a0 m c) (a1 m c) (a2 m c) (a3 m c) R.r0 R.r1 R.r2 R.r3 b h
  exact KP_eq_RP (f r) r (zz m c b h r) (hf r) k
/-- The query gradient's plain lanes. -/
theorem AQ0 (b : Fin 2) (p : Fin 4) (h : Fin 2) (r : Fin 2048) (e : Fin 64) : AQ m c b p h r (la e) = ∑ k, rd m c b (hd p h) r k * a2 m c (ix4 b k (hd p h) e) := by
  unfold AQ
  rw [GQ0 (blk m c b p)]
  exact Finset.sum_congr rfl fun k _ => congrArg (· * a2 m c (ix4 b k (hd p h) e)) (kd_rd R b (hd p h) r k)
/-- The query gradient's rotary lanes. -/
theorem AQ1 (b : Fin 2) (p : Fin 4) (h : Fin 2) (r : Fin 2048) (e : Fin 32) : AQ m c b p h r (lc e) = ∑ k, rd m c b (hd p h) r k * a3 m c (ix3 b k e) := by
  unfold AQ
  rw [GQ1 (blk m c b p)]
  exact Finset.sum_congr rfl fun k _ => congrArg (· * a3 m c (ix3 b k e)) (kd_rd R b (hd p h) r k)
/-- The key gradient's plain lanes. -/
theorem AK0 (b : Fin 2) (p : Fin 4) (h : Fin 2) (r : Fin 2048) (e : Fin 64) : AK m c b p h r (la e) = ∑ k, rd m c b (hd p h) k r * a0 m c (ix4 b k (hd p h) e) := by
  unfold AK
  rw [GK0 (blk m c b p)]
  exact Finset.sum_congr rfl fun k _ => congrArg (· * a0 m c (ix4 b k (hd p h) e)) (kd_rd R b (hd p h) k r)
/-- The key gradient's rotary lanes. -/
theorem AK1 (b : Fin 2) (p : Fin 4) (h : Fin 2) (r : Fin 2048) (e : Fin 32) : AK m c b p h r (lc e) = ∑ k, rd m c b (hd p h) k r * a1 m c (ix4 b k (hd p h) e) := by
  unfold AK
  rw [GK1 (blk m c b p)]
  exact Finset.sum_congr rfl fun k _ => congrArg (· * a1 m c (ix4 b k (hd p h) e)) (kd_rd R b (hd p h) k r)
/-- The even head's value gradient. -/
theorem AV0 (b : Fin 2) (p : Fin 4) (r : Fin 2048) (e : Fin 64) : AV m c b p 0 r (la e) = ∑ k, a5 m c (ix4 b k (hd p 0) e) * RP (zz m c b (hd p 0) k) r := by
  unfold AV
  rw [GV0 (blk m c b p)]
  exact Finset.sum_congr rfl fun k _ => (congrArg (· * a5 m c (ix4 b k (hd p 0) e)) (kp_rp R b (hd p 0) k r)).trans (mul_comm _ _)
/-- The odd head's value gradient. -/
theorem AV1 (b : Fin 2) (p : Fin 4) (r : Fin 2048) (e : Fin 64) : AV m c b p 1 r (lb e) = ∑ k, a5 m c (ix4 b k (hd p 1) e) * RP (zz m c b (hd p 1) k) r := by
  unfold AV
  rw [GV1 (blk m c b p)]
  exact Finset.sum_congr rfl fun k _ => (congrArg (· * a5 m c (ix4 b k (hd p 1) e)) (kp_rp R b (hd p 1) k r)).trans (mul_comm _ _)
end

/-- A head as half of a pair. -/
theorem hd_split (h : Fin 8) : ∃ p s, hd p s = h := ⟨⟨h.val / 2, by omega⟩, ⟨h.val % 2, by omega⟩, Fin.ext (by show 2 * (h.val / 2) + h.val % 2 = h.val; omega)⟩
/-- A four-dimensional index is its coordinates. -/
theorem eta4 {n0 n1 n2 n3 : ℕ} (y : (⟨4, ![n0, n1, n2, n3]⟩ : Shape).Idx) : ∃ a b d e, y = ix4 a b d e := by
  refine ⟨y 0, y 1, y 2, y 3, ?_⟩
  funext k; fin_cases k <;> rfl
/-- A three-dimensional index is its coordinates. -/
theorem etaC {n0 n1 n2 : ℕ} (y : (⟨3, ![n0, n1, n2]⟩ : Shape).Idx) : ∃ a b d, y = ix3 a b d := by
  refine ⟨y 0, y 1, y 2, ?_⟩
  funext k; fin_cases k <;> rfl

/-- The contents after the call. -/
abbrev WT : Valuation τ sig (Elt Ideal) := Pipeline.withArrays spec0 c (V0 m c) fun w => (dats m 0 c).arrAt w (cfgs 0).N
/-- What the host's last line leaves. -/
theorem tail_eq (b : Ref sig .tc) : Pipeline.afterTail₀ cfgs (dats m) 0 (V0 m) [hostOps1] c b = StableHlo.after hostOps1 (WT m c) (Proc.devRef .tc b) := by
  show StableHlo.after (hostOps1 ++ []) _ _ = _
  rw [List.append_nil]
/-- The call's first result after the call. -/
theorem T0 : WT m c (Proc.devRef .tc main_v54_0) = lay (AQ m c) := by
  exact (Pipeline.withArrays_arr spec0 (by decide +kernel) c _ _ 6).trans (arr6 m c)
/-- The call's second result after the call. -/
theorem T1 : WT m c (Proc.devRef .tc main_v54_1) = lay (AK m c) := by
  exact (Pipeline.withArrays_arr spec0 (by decide +kernel) c _ _ 7).trans (arr7 m c)
/-- The call's third result after the call. -/
theorem T2 : WT m c (Proc.devRef .tc main_v54_2) = lay (AV m c) := by
  exact (Pipeline.withArrays_arr spec0 (by decide +kernel) c _ _ 8).trans (arr8 m c)

/-- The first result is the reference's. -/
theorem f69 (R : Real6 m c) : StableHlo.after hostOps1 (WT m c) (Proc.devRef .tc main_v69) = val_main_v68 (F := Ideal) (a0 m c) (a1 m c) (a2 m c) (a3 m c) (a4 m c) (a5 m c) := by
  funext y
  obtain ⟨b, r, h, e, rfl⟩ := eta4 y
  obtain ⟨p, s, rfl⟩ := hd_split h
  refine (s69 _ b r _ e).trans ((congrFun (T0 m c) _).trans ?_)
  refine (lay_at (AQ m c) _ b p s r (la e) rfl ?_).trans ((AQ0 R b p s r e).trans (r68 ..).symm)
  show (2 * p.val + s.val) * 128 + e.val = p.val * 256 + (128 * s.val + e.val)
  omega
/-- The second result is the reference's. -/
theorem f70 (R : Real6 m c) : StableHlo.after hostOps1 (WT m c) (Proc.devRef .tc main_v70) = val_main_v63 (F := Ideal) (a0 m c) (a1 m c) (a2 m c) (a3 m c) (a4 m c) (a5 m c) := by
  funext y
  obtain ⟨b, r, h, e, rfl⟩ := eta4 y
  obtain ⟨p, s, rfl⟩ := hd_split h
  refine (s70 _ b r _ e).trans ((congrFun (T0 m c) _).trans ?_)
  refine (lay_at (AQ m c) _ b p s r (lc e) rfl ?_).trans ((AQ1 R b p s r e).trans (r63 ..).symm)
  show (2 * p.val + s.val) * 128 + (64 + e.val) = p.val * 256 + (128 * s.val + (64 + e.val))
  omega
/-- The third result is the reference's. -/
theorem f71 (R : Real6 m c) : StableHlo.after hostOps1 (WT m c) (Proc.devRef .tc main_v71) = val_main_v66 (F := Ideal) (a0 m c) (a1 m c) (a2 m c) (a3 m c) (a4 m c) (a5 m c) := by
  funext y
  obtain ⟨b, r, h, e, rfl⟩ := eta4 y
  obtain ⟨p, s, rfl⟩ := hd_split h
  refine (s71 _ b r _ e).trans ((congrFun (T1 m c) _).trans ?_)
  refine (lay_at (AK m c) _ b p s r (la e) rfl ?_).trans ((AK0 R b p s r e).trans (r66 ..).symm)
  show (2 * p.val + s.val) * 128 + e.val = p.val * 256 + (128 * s.val + e.val)
  omega
/-- The second result of the call at a head's rotary lane. -/
theorem z541 (R : Real6 m c) (b : Fin 2) (r : Fin 2048) (h : Fin 8) (e : Fin 32) (q0 q1) :
    Z541 (WT m c) (ix2 ⟨b.val * 2048 + r.val, q0⟩ ⟨h.val * 128 + (64 + e.val), q1⟩) = ∑ k, rd m c b h k r * a1 m c (ix4 b k h e) := by
  obtain ⟨p, s, rfl⟩ := hd_split h
  refine (congrFun (T1 m c) _).trans ?_
  refine (lay_at (AK m c) _ b p s r (lc e) rfl ?_).trans (AK1 R b p s r e)
  show (2 * p.val + s.val) * 128 + (64 + e.val) = p.val * 256 + (128 * s.val + (64 + e.val))
  omega
/-- The heads' shares of the fourth result, summed. -/
theorem sum73 (R : Real6 m c) (b : Fin 2) (r : Fin 2048) (e : Fin 32) :
    (∑ x : Fin 8, Z541 (WT m c) (ix2 ⟨b.val * 2048 + r.val, by omega⟩ ⟨x.val * 128 + (64 + e.val), by omega⟩))
    = ∑ x, ∑ y, rd m c b y x r * a1 m c (ix4 b x y e) := by
  rw [Finset.sum_comm]
  exact Finset.sum_congr rfl fun x _ => z541 m c R b r x e _ _
/-- The fourth result is the reference's. -/
theorem f73 (R : Real6 m c) : StableHlo.after hostOps1 (WT m c) (Proc.devRef .tc main_v73) = val_main_v64 (F := Ideal) (a0 m c) (a1 m c) (a2 m c) (a3 m c) (a4 m c) (a5 m c) := by
  funext y
  obtain ⟨b, r, e, rfl⟩ := etaC y
  exact (s73 _ b r e).trans ((sum73 m c R b r e).trans (r64 ..).symm)
/-- The fifth result is the reference's. -/
theorem f68 (R : Real6 m c) : StableHlo.after hostOps1 (WT m c) (Proc.devRef .tc main_v68) = val_main_v46 (F := Ideal) (a0 m c) (a1 m c) (a2 m c) (a3 m c) (a5 m c) := by
  funext y
  obtain ⟨b, r, h, e, rfl⟩ := eta4 y
  obtain ⟨p, s, rfl⟩ := hd_split h
  refine (s68 _ b r _ e).trans ?_
  fin_cases s
  · rw [dif_pos (by show (2 * p.val + 0) % 2 < 1; omega)]
    refine (congrFun (T2 m c) _).trans ?_
    refine (lay_at (AV m c) _ b p 0 r (la e) rfl ?_).trans ((AV0 R b p r e).trans (r46 ..).symm)
    show (2 * p.val + 0) / 2 * 256 + e.val = p.val * 256 + (128 * 0 + e.val)
    omega
  · rw [dif_neg (by show ¬ (2 * p.val + 1) % 2 < 1; omega)]
    refine (congrFun (T2 m c) _).trans ?_
    refine (lay_at (AV m c) _ b p 1 r (lb e) rfl ?_).trans ((AV1 R b p r e).trans (r46 ..).symm)
    show (2 * p.val + 1) / 2 * 256 + 128 + (64 + e.val) = p.val * 256 + (128 * 1 + (64 + e.val))
    omega
end Cert.Mla
-- ==== Proof.Two.lean ====
module
public import Idealize.ShloMosaic.PureOps.Ideal
public import Idealize.ShloMosaic.Lib.Pipeline.ValueKit
@[expose] public section
noncomputable section
namespace Cert.Two
open Idealize.ShloMosaic

/-- An index of a two-axis array is its row and its lane. -/
theorem eta {a b : ℕ} (y : (⟨2, ![a, b]⟩ : Shape).Idx) : y = ix2 (y 0) (y 1) := by
  funext k; fin_cases k <;> rfl
/-- Two indices of a two-axis array agree when their coordinates do. -/
theorem ext {a b : ℕ} {p p' : Fin a} {q q' : Fin b} (h0 : p.val = p'.val) (h1 : q.val = q'.val) : ix2 p q = ix2 p' q' := by
  rw [Fin.ext h0, Fin.ext h1]
/-- An index of the shape is the one whose coordinates it has. -/
theorem at_ix {a b : ℕ} (J : (⟨2, ![a, b]⟩ : Shape).Idx) (p : Fin a) (q : Fin b) (h0 : (J 0).val = p.val) (h1 : (J 1).val = q.val) : J = ix2 p q :=
  (eta J).trans (ext h0 h1)
/-- A sum over both halves of the wide axis is the sum of the halves' sums. -/
theorem sum_halves (f : Fin 5632 → EReal) :
    ∑ k, f k = (∑ k : Fin 2816, f ⟨k.val, by omega⟩) + ∑ k : Fin 2816, f ⟨2816 + k.val, by omega⟩ :=
  Fin.sum_univ_add (a := 2816) (b := 2816) f
/-- Reading the whole of an array back. -/
theorem read_whole {sig : RefSig} {κ : Kind} {sp : Space} {a b : ℕ} {ε : EltTy} (v : View sig κ sp (⟨2, ![a, b]⟩ : Shape) ε)
    (L : List (View.Piece (Elt Ideal) (⟨2, ![a, b]⟩ : Shape) ε))
    (inb : ∀ k, (![0, 0] : Fin 2 → ℕ) k + (![a, b] : Fin 2 → ℕ) k ≤ (![a, b] : Fin 2 → ℕ) k) (j : (⟨2, ![a, b]⟩ : Shape).Idx) :
    v.readCov L (Rect.unit (s := ⟨2, ![a, b]⟩) ![0, 0] ![a, b] inb).toLoadRect j = View.canon L j := by
  rw [View.readCov_eq_canon']
  refine congrArg (View.canon L) (funext fun k => Fin.ext ?_)
  fin_cases k
  · show 0 + 1 * (j 0).val = (j 0).val; omega
  · show 0 + 1 * (j 1).val = (j 1).val; omega
end Cert.Two
end
-- ==== Proof.DH2.lean ====
module
public import proofs.«01_k».proof.Proof.Two
public import proofs.«01_k».proof.Defs
public import proofs.«01_k».proof.Proof.Gen.DH2Ideal.Value
public import proofs.«01_k».proof.Proof.Gen.DH2RefIdeal.Run
public import proofs.«01_k».proof.Proof.Gen.DH2RefIdeal.Read
public import Idealize.ShloMosaic.Lib.Claim
public import Idealize.ShloMosaic.Lib.StableHlo.RunRead
@[expose] public section
set_option maxRecDepth 16384
noncomputable section
namespace Cert.DH2P
open Idealize.ShloMosaic Idealize.SL.Sem Cert.DH2Ideal Cert.DH2Ideal.Gen
variable (m : (ℓ : Loc nD τ sig) → Buf (Elt Ideal) ℓ) (c : Dev nD) (X : Valuation τ sig (Elt Ideal))

/-- The weights on device `c`. -/
abbrev w : (⟨2, ![1024, 5632]⟩ : Shape).Idx → EReal := m (c, Proc.devRef .tc main_arg1)
/-- The cotangent of the first half. -/
abbrev dg : (⟨2, ![4096, 2816]⟩ : Shape).Idx → EReal := m (c, Proc.devRef .tc main_arg2)
/-- The cotangent of the second half. -/
abbrev du : (⟨2, ![4096, 2816]⟩ : Shape).Idx → EReal := m (c, Proc.devRef .tc main_arg3)

/-- The gradient at a token and a feature: both halves' products. -/
def G (w : (⟨2, ![1024, 5632]⟩ : Shape).Idx → EReal) (dg du : (⟨2, ![4096, 2816]⟩ : Shape).Idx → EReal) : (⟨2, ![4096, 1024]⟩ : Shape).Idx → EReal :=
  fun J => (∑ k : Fin 2816, dg (ix2 (J 0) k) * w (ix2 (J 1) ⟨k.val, by omega⟩)) + ∑ k : Fin 2816, du (ix2 (J 0) k) * w (ix2 (J 1) ⟨2816 + k.val, by omega⟩)

/-- The call's first operand. -/
theorem V0 (i : Fin 4096) (j : Fin 2816) : V m c main_v0 (ix2 i j) = dg m c (ix2 i j) := by
  show StableHlo.after hostOps0 _ _ _ = _
  simp only [hostOps0]
  after_reads_simp
  pointwise
/-- The call's second operand. -/
theorem V1 (i : Fin 4096) (j : Fin 2816) : V m c main_v1 (ix2 i j) = du m c (ix2 i j) := by
  show StableHlo.after hostOps0 _ _ _ = _
  simp only [hostOps0]
  after_reads_simp
  pointwise
/-- The call's third operand. -/
theorem V3 (i : Fin 5632) (j : Fin 1024) : V m c main_v3 (ix2 i j) = w m c (ix2 j i) := by
  show StableHlo.after hostOps0 _ _ _ = _
  simp only [hostOps0]
  after_reads_simp
  pointwise

/-- A block of the result. -/
theorem out (x0 x1 : Vec Ideal S1024x2816 .bf16) (x2 x3 : Vec Ideal S2816x512 .bf16) (r : Fin 1024) (e : Fin 512) :
    out0_4 x0 x1 x2 x3 (ix2 r e) = (∑ k : Fin 2816, x0 (ix2 r k) * x2 (ix2 k e)) + ∑ k : Fin 2816, x1 (ix2 r k) * x3 (ix2 k e) := by
  unfold out0_4
  rw [View.canon_cons_unit_lit _ _ _ (by decide)]
  unfold_payloads
  pointwise

/-- The first operand's rows go by the row tile. -/
theorem x0 : ∀ t : Fin grid0.N, (cfg0.win 0).index t = ![(grid0.coords t 0).val, 0] := by decide +kernel
/-- The second operand's rows go by the row tile. -/
theorem x1 : ∀ t : Fin grid0.N, (cfg0.win 1).index t = ![(grid0.coords t 0).val, 0] := by decide +kernel
/-- The third operand's lanes go by the lane tile, in the upper half. -/
theorem x2 : ∀ t : Fin grid0.N, (cfg0.win 2).index t = ![0, (grid0.coords t 1).val] := by decide +kernel
/-- The fourth operand's lanes go by the lane tile, in the lower half. -/
theorem x3 : ∀ t : Fin grid0.N, (cfg0.win 3).index t = ![1, (grid0.coords t 1).val] := by decide +kernel
/-- The result's tile. -/
theorem x4 : ∀ t : Fin grid0.N, (cfg0.win 4).index t = ![(grid0.coords t 0).val, (grid0.coords t 1).val] := by decide +kernel
/-- The row tile of a grid point. -/
abbrev ti (t : Fin grid0.N) : Fin 4 := grid0.coords t 0
/-- The lane tile of a grid point. -/
abbrev tj (t : Fin grid0.N) : Fin 2 := grid0.coords t 1

/-- Reading the first operand's block. -/
theorem rd0 (X : (b : Ref sig .tc) → b.ty.Contents (Elt Ideal)) (t : Fin grid0.N) (y : (⟨2, ![1024, 2816]⟩ : Shape).Idx) :
    ((cfg0.win 0).blk t).view.read (Elt Ideal) (X (Pipeline.arrRef spec0 0)) y
    = X main_v0 (ix2 ⟨(ti t).val * 1024 + (y 0).val, by have := (y 0).isLt; have := (ti t).isLt; simp at *; omega⟩ (y 1)) := by
  blk_ext [x0 t]
/-- Reading the second operand's block. -/
theorem rd1 (X : (b : Ref sig .tc) → b.ty.Contents (Elt Ideal)) (t : Fin grid0.N) (y : (⟨2, ![1024, 2816]⟩ : Shape).Idx) :
    ((cfg0.win 1).blk t).view.read (Elt Ideal) (X (Pipeline.arrRef spec0 1)) y
    = X main_v1 (ix2 ⟨(ti t).val * 1024 + (y 0).val, by have := (y 0).isLt; have := (ti t).isLt; simp at *; omega⟩ (y 1)) := by
  blk_ext [x1 t]
/-- Reading the third operand's block. -/
theorem rd2 (X : (b : Ref sig .tc) → b.ty.Contents (Elt Ideal)) (t : Fin grid0.N) (y : (⟨2, ![2816, 512]⟩ : Shape).Idx) :
    ((cfg0.win 2).blk t).view.read (Elt Ideal) (X (Pipeline.arrRef spec0 2)) y
    = X main_v3 (ix2 ⟨(y 0).val, by have := (y 0).isLt; simp at *; omega⟩ ⟨(tj t).val * 512 + (y 1).val, by have := (y 1).isLt; have := (tj t).isLt; simp at *; omega⟩) := by
  blk_ext [x2 t]
/-- Reading the fourth operand's block. -/
theorem rd3 (X : (b : Ref sig .tc) → b.ty.Contents (Elt Ideal)) (t : Fin grid0.N) (y : (⟨2, ![2816, 512]⟩ : Shape).Idx) :
    ((cfg0.win 3).blk t).view.read (Elt Ideal) (X (Pipeline.arrRef spec0 3)) y
    = X main_v3 (ix2 ⟨2816 + (y 0).val, by have := (y 0).isLt; simp at *; omega⟩ ⟨(tj t).val * 512 + (y 1).val, by have := (y 1).isLt; have := (tj t).isLt; simp at *; omega⟩) := by
  blk_ext [x3 t]

/-- The block a grid point writes, at a row and a lane. -/
theorem blk (t : Fin grid0.N) (r : Fin 1024) (e : Fin 512) :
    out0_4 (iblk m c 0 t) (iblk m c 1 t) (iblk m c 2 t) (iblk m c 3 t) (ix2 r e)
    = G (w m c) (dg m c) (du m c) (ix2 ⟨(ti t).val * 1024 + r.val, by have := (ti t).isLt; omega⟩ ⟨(tj t).val * 512 + e.val, by have := (tj t).isLt; omega⟩) := by
  refine (out ..).trans (congrArg₂ (· + ·) (Finset.sum_congr rfl fun k _ => congrArg₂ (· * ·) ?_ ?_) (Finset.sum_congr rfl fun k _ => congrArg₂ (· * ·) ?_ ?_))
  · exact (rd0 (V m c) t _).trans (V0 ..)
  · exact (rd2 (V m c) t _).trans (V3 ..)
  · exact (rd1 (V m c) t _).trans (V1 ..)
  · exact (rd3 (V m c) t _).trans (V3 ..)

/-- The call's result. -/
theorem arr : (dats m 0 c).arrAt 4 cfg0.N = G (w m c) (dg m c) (du m c) := by
  refine (dats m 0 c).arrAt_eq_of_covers 4 _ (by decide +kernel) fun t hf y => ?_
  obtain ⟨r, e, rfl⟩ : ∃ r e, y = ix2 r e := ⟨_, _, Two.eta y⟩
  blk_simp
  rw [after0_4]
  refine (blk m c t r e).trans (congrArg (G (w m c) (dg m c) (du m c)) (Two.at_ix _ _ _ ?_ ?_).symm)
  · blk_simp [x4 t]
  · blk_simp [x4 t]

/-- The reference's result. -/
theorem ref (w : (⟨2, ![1024, 5632]⟩ : Shape).Idx → EReal) (dg du : (⟨2, ![4096, 2816]⟩ : Shape).Idx → EReal) :
    Cert.DH2RefIdeal.Read.val_main_v7 (F := Ideal) w dg du = G w dg du := by
  funext y
  obtain ⟨r, e, rfl⟩ : ∃ r e, y = ix2 r e := ⟨_, _, Two.eta y⟩
  refine (Cert.DH2RefIdeal.Read.val_main_v7_apply ..).trans ((Cert.DH2RefIdeal.Read.val_main_v6_apply ..).trans ?_)
  refine (Two.sum_halves _).trans (congrArg₂ (· + ·) (Finset.sum_congr rfl fun k _ => congrArg₂ (· * ·) ?_ ?_) (Finset.sum_congr rfl fun k _ => congrArg₂ (· * ·) ?_ ?_))
  · refine (congrArg _ (Two.at_ix _ r ⟨k.val, by omega⟩ rfl rfl)).trans ?_
    unfold Cert.DH2RefIdeal.Read.val_main_v3
    pointwise
  · exact congrArg w (Two.at_ix _ _ _ rfl rfl)
  · refine (congrArg _ (Two.at_ix _ r ⟨2816 + k.val, by omega⟩ rfl rfl)).trans ?_
    unfold Cert.DH2RefIdeal.Read.val_main_v3
    pointwise
  · exact congrArg w (Two.at_ix _ _ _ rfl rfl)

/-- The call's result is the reference's. -/
theorem algebraic : Cert.algebraic_DH2Ideal_DH2RefIdeal := by
  intro m g m' g' _ hagree
  refine ⟨fun c => G (w m c) (dg m c) (du m c), ?_, ?_⟩
  · refine (θ_run _ _ _).mono ?_ (Cert.DH2Ideal.Value.run_blocks m g)
    intro r hr c
    obtain ⟨e, hU⟩ := hr c
    exact ⟨e.trans (arr m c), hU⟩
  · refine (θ_run _ _ _).mono ?_ (Cert.DH2RefIdeal.Value.run m' g')
    intro r hr c
    obtain ⟨e0, hU⟩ := hr c
    obtain ⟨k0, k1, k2, k3⟩ := hagree c
    refine ⟨e0.trans ?_, hU⟩
    rw [Cert.DH2RefIdeal.Read.val_main_v7_eq, k1, k2, k3]
    exact ref _ _ _

/-- The reference runs and leaves its arguments alone. -/
theorem reference_frame : Cert.quiescent_DH2RefIdeal := by
  intro m g _
  refine (θ_run _ _ _).mono ?_ (Cert.DH2RefIdeal.Value.run m g)
  intro r hr
  exact ⟨fun c => (hr c).2, sem_eq_zero_of_no_sems (by decide) r.2⟩
end Cert.DH2P
end
-- ==== Proof.FfnIn.lean ====
module
public import proofs.«01_k».proof.Proof.Two
public import proofs.«01_k».proof.Defs
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Claim
public import Idealize.ShloMosaic.Lib.IdealHost
public import Idealize.ShloMosaic.Lib.StableHlo.RunRead
@[expose] public section
set_option maxRecDepth 16384
noncomputable section
namespace Cert.FfnInP
open Idealize.ShloMosaic Idealize.SL.Sem Cert.FfnInIdeal Cert.FfnInIdeal.Gen

/-- The bits of one half are the real number one half. -/
theorem half : Ideal.ofBits .f32 0x3F000000#32 = ((1 / 2 : ℝ) : EReal) := by
  simp [Ideal.ofBits, Ideal.ieee, -EReal.coe_mul]
  norm_num
/-- The logistic function by the hyperbolic tangent of the half argument, at every extended real. -/
theorem logistic_tanh (g : EReal) : ((1 / 2 : ℝ) : EReal) * Ideal.tanh (((1 / 2 : ℝ) : EReal) * g) + ((1 / 2 : ℝ) : EReal) = Ideal.logistic g := by
  have h : (0 : ℝ) < 1 / 2 := by norm_num
  induction g with
  | bot =>
    rw [EReal.coe_mul_bot_of_pos h, Ideal.tanh_bot, Ideal.logistic_bot, mul_neg, mul_one, ← EReal.coe_neg, ← EReal.coe_add, neg_add_cancel, EReal.coe_zero]
  | top =>
    rw [EReal.coe_mul_top_of_pos h, Ideal.tanh_top, Ideal.logistic_top]
    norm_cast
    norm_num
  | coe x =>
    rw [← EReal.coe_mul, Ideal.tanh_coe, Ideal.logistic_coe, ← EReal.coe_mul, ← EReal.coe_add]
    congr 1
    have e1 : Real.exp (-x) = Real.exp (-(1 / 2 * x)) * Real.exp (-(1 / 2 * x)) := by rw [← Real.exp_add]; congr 1; ring
    have e2 : Real.exp (1 / 2 * x) * Real.exp (-(1 / 2 * x)) = 1 := by rw [← Real.exp_add]; simp
    rw [Real.tanh_eq_sinh_div_cosh, Real.sinh_eq, Real.cosh_eq, e1]
    have p := Real.exp_pos (1 / 2 * x)
    have q := Real.exp_pos (-(1 / 2 * x))
    generalize Real.exp (1 / 2 * x) = a at *
    generalize Real.exp (-(1 / 2 * x)) = b at *
    have : (a + b) ≠ 0 := by positivity
    have : (1 + b * b) ≠ 0 := by positivity
    field_simp
    first | linear_combination b * e2 | linear_combination 2 * b * e2 | linear_combination (-b) * e2

section
variable (x0 : Vec Ideal S4096x1024 .bf16) (x1 x2 : Vec Ideal S256x1024 .bf16)

/-- A block's product of rows by rows. -/
def P (x0 : Vec Ideal S4096x1024 .bf16) (x1 : Vec Ideal S256x1024 .bf16) : Vec Ideal S4096x256 .bf16 :=
  fun y => ∑ k : Fin 1024, x0 (ix2 (y 0) k) * x1 (ix2 (y 1) k)
/-- A block of the activation. -/
def A (x0 : Vec Ideal S4096x1024 .bf16) (x1 x2 : Vec Ideal S256x1024 .bf16) : Vec Ideal S4096x256 .bf16 :=
  fun y => P x0 x1 y * Ideal.logistic (P x0 x1 y) * P x0 x2 y

/-- Where a piece of 256 rows lies in its block. -/
theorem emb (o : ℕ) (h) (ho : o + 256 ≤ 4096) (p q : Fin 256) :
    (Rect.unit (s := S4096x256) ![o, 0] S256x256.size h).emb (ix2 p q) = ix2 (⟨o + p.val, by omega⟩ : Fin 4096) q := by
  funext a
  match a with
  | ⟨0, _⟩ => exact Fin.ext (show o + 1 * p.val = o + p.val by omega)
  | ⟨1, _⟩ => exact Fin.ext (show 0 + 1 * q.val = q.val by omega)

/-- The third result's block. -/
theorem out5 : out0_5 x0 x1 x2 = A x0 x1 x2 := by
  funext y
  unfold out0_5
  refine View.canon_apply_of_pieces (A x0 x1 x2) _ ?_ y (cover0_5 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    obtain ⟨p, q, rfl⟩ : ∃ p q, x = ix2 p q := ⟨_, _, Two.eta x⟩
    rw [emb _ _ (by decide)]
    unfold_payloads
    unfold A P
    rw [← logistic_tanh]
    pointwise
    simp only [half, Nat.zero_add]
/-- The first result's block. -/
theorem out3 : out0_3 x0 x1 x2 = P x0 x1 := by
  funext y
  unfold out0_3
  refine View.canon_apply_of_pieces (P x0 x1) _ ?_ y (cover0_3 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    obtain ⟨p, q, rfl⟩ : ∃ p q, x = ix2 p q := ⟨_, _, Two.eta x⟩
    rw [emb _ _ (by decide)]
    unfold_payloads
    unfold P
    pointwise
    try simp only [Nat.zero_add]
/-- The second result's block. -/
theorem out4 : out0_4 x0 x1 x2 = P x0 x2 := by
  funext y
  unfold out0_4
  refine View.canon_apply_of_pieces (P x0 x2) _ ?_ y (cover0_4 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    intro x
    obtain ⟨p, q, rfl⟩ : ∃ p q, x = ix2 p q := ⟨_, _, Two.eta x⟩
    rw [emb _ _ (by decide)]
    unfold_payloads
    unfold P
    pointwise
    try simp only [Nat.zero_add]
end

variable (m : (ℓ : Loc nD τ sig) → Buf (Elt Ideal) ℓ) (c : Dev nD)

/-- The tokens' features on device `c`. -/
abbrev h : (⟨2, ![4096, 1024]⟩ : Shape).Idx → EReal := m (c, Proc.devRef .tc main_arg0)
/-- The weights on device `c`. -/
abbrev w : (⟨2, ![1024, 5632]⟩ : Shape).Idx → EReal := m (c, Proc.devRef .tc main_arg1)

/-- The gate, before its activation, at a token and a lane. -/
def Gg (h : (⟨2, ![4096, 1024]⟩ : Shape).Idx → EReal) (w : (⟨2, ![1024, 5632]⟩ : Shape).Idx → EReal) : (⟨2, ![4096, 2816]⟩ : Shape).Idx → EReal :=
  fun J => ∑ k : Fin 1024, h (ix2 (J 0) k) * w (ix2 k ⟨(J 1).val, by have h1 : (J 1).val < 2816 := (J 1).isLt; omega⟩)
/-- The value that is gated, at a token and a lane. -/
def Gu (h : (⟨2, ![4096, 1024]⟩ : Shape).Idx → EReal) (w : (⟨2, ![1024, 5632]⟩ : Shape).Idx → EReal) : (⟨2, ![4096, 2816]⟩ : Shape).Idx → EReal :=
  fun J => ∑ k : Fin 1024, h (ix2 (J 0) k) * w (ix2 k ⟨2816 + (J 1).val, by have h1 : (J 1).val < 2816 := (J 1).isLt; omega⟩)
/-- The activation at a token and a lane. -/
def Ga (h : (⟨2, ![4096, 1024]⟩ : Shape).Idx → EReal) (w : (⟨2, ![1024, 5632]⟩ : Shape).Idx → EReal) : (⟨2, ![4096, 2816]⟩ : Shape).Idx → EReal :=
  fun J => Gg h w J * Ideal.logistic (Gg h w J) * Gu h w J

/-- The call's first operand. -/
theorem V0 (i : Fin 4096) (j : Fin 1024) : V m c main_v0 (ix2 i j) = h m c (ix2 i j) := by
  show StableHlo.after hostOps0 _ _ _ = _
  simp only [hostOps0]
  after_reads_simp
  pointwise
/-- The call's second operand. -/
theorem V2 (i : Fin 5632) (j : Fin 1024) : V m c main_v2 (ix2 i j) = w m c (ix2 j i) := by
  show StableHlo.after hostOps0 _ _ _ = _
  simp only [hostOps0]
  after_reads_simp
  pointwise

/-- The whole first operand is every point's block. -/
theorem i0 : ∀ t : Fin grid0.N, (cfg0.win 0).index t = ![0, 0] := by decide +kernel
/-- The gate's weights go by the point. -/
theorem i1 : ∀ t : Fin grid0.N, (cfg0.win 1).index t = ![t.val, 0] := by decide +kernel
/-- The value's weights follow the gate's. -/
theorem i2 : ∀ t : Fin grid0.N, (cfg0.win 2).index t = ![t.val + 11, 0] := by decide +kernel
/-- The first result's tile of lanes. -/
theorem i3 : ∀ t : Fin grid0.N, (cfg0.win 3).index t = ![0, t.val] := by decide +kernel
/-- The second result's tile of lanes. -/
theorem i4 : ∀ t : Fin grid0.N, (cfg0.win 4).index t = ![0, t.val] := by decide +kernel
/-- The third result's tile of lanes. -/
theorem i5 : ∀ t : Fin grid0.N, (cfg0.win 5).index t = ![0, t.val] := by decide +kernel
/-- There are eleven grid points. -/
theorem lt11 (t : Fin grid0.N) : t.val < 11 := lt_of_lt_of_eq t.isLt (show grid0.N = 11 from N_0)

/-- Reading the first operand's block. -/
theorem rd0 (X : (b : Ref sig .tc) → b.ty.Contents (Elt Ideal)) (t : Fin grid0.N) (y : (⟨2, ![4096, 1024]⟩ : Shape).Idx) :
    ((cfg0.win 0).blk t).view.read (Elt Ideal) (X (Pipeline.arrRef spec0 0)) y = X main_v0 (ix2 (y 0) (y 1)) := by
  blk_ext [i0 t]
/-- Reading the second operand's block. -/
theorem rd1 (X : (b : Ref sig .tc) → b.ty.Contents (Elt Ideal)) (t : Fin grid0.N) (y : (⟨2, ![256, 1024]⟩ : Shape).Idx) :
    ((cfg0.win 1).blk t).view.read (Elt Ideal) (X (Pipeline.arrRef spec0 1)) y
    = X main_v2 (ix2 ⟨t.val * 256 + (y 0).val, by have := (y 0).isLt; have := lt11 t; simp at *; omega⟩ (y 1)) := by
  blk_ext [i1 t]
/-- Reading the third operand's block. -/
theorem rd2 (X : (b : Ref sig .tc) → b.ty.Contents (Elt Ideal)) (t : Fin grid0.N) (y : (⟨2, ![256, 1024]⟩ : Shape).Idx) :
    ((cfg0.win 2).blk t).view.read (Elt Ideal) (X (Pipeline.arrRef spec0 2)) y
    = X main_v2 (ix2 ⟨(t.val + 11) * 256 + (y 0).val, by have := (y 0).isLt; have := lt11 t; simp at *; omega⟩ (y 1)) := by
  blk_ext [i2 t]

/-- A grid point's product with the gate's weights. -/
theorem bg (t : Fin grid0.N) (r : Fin 4096) (e : Fin 256) :
    P (iblk m c 0 t) (iblk m c 1 t) (ix2 r e) = Gg (h m c) (w m c) (ix2 r ⟨t.val * 256 + e.val, by have := lt11 t; omega⟩) := by
  refine Finset.sum_congr rfl fun k _ => congrArg₂ (· * ·) ?_ ?_
  · exact (rd0 (V m c) t _).trans (V0 ..)
  · exact (rd1 (V m c) t _).trans (V2 ..)
/-- A grid point's product with the value's weights. -/
theorem bu (t : Fin grid0.N) (r : Fin 4096) (e : Fin 256) :
    P (iblk m c 0 t) (iblk m c 2 t) (ix2 r e) = Gu (h m c) (w m c) (ix2 r ⟨t.val * 256 + e.val, by have := lt11 t; omega⟩) := by
  refine Finset.sum_congr rfl fun k _ => congrArg₂ (· * ·) ?_ ?_
  · exact (rd0 (V m c) t _).trans (V0 ..)
  · refine (rd2 (V m c) t _).trans ((V2 ..).trans (congrArg (w m c) (Two.ext rfl ?_)))
    show (t.val + 11) * 256 + e.val = 2816 + (t.val * 256 + e.val)
    omega
/-- A grid point's activation. -/
theorem ba (t : Fin grid0.N) (r : Fin 4096) (e : Fin 256) :
    A (iblk m c 0 t) (iblk m c 1 t) (iblk m c 2 t) (ix2 r e) = Ga (h m c) (w m c) (ix2 r ⟨t.val * 256 + e.val, by have := lt11 t; omega⟩) := by
  unfold A Ga
  rw [bg m c t r e, bu m c t r e]

/-- The call's first result. -/
theorem arr3 : (dats m 0 c).arrAt 3 cfg0.N = Gg (h m c) (w m c) := by
  refine (dats m 0 c).arrAt_eq_of_covers 3 _ (by decide +kernel) fun t hf y => ?_
  obtain ⟨r, e, rfl⟩ : ∃ r e, y = ix2 r e := ⟨_, _, Two.eta y⟩
  blk_simp
  rw [after0_3, out3]
  refine (bg m c t r e).trans (congrArg (Gg (h m c) (w m c)) (Two.at_ix _ _ _ ?_ ?_).symm)
  · blk_simp [i3 t]
  · blk_simp [i3 t]
/-- The call's second result. -/
theorem arr4 : (dats m 0 c).arrAt 4 cfg0.N = Gu (h m c) (w m c) := by
  refine (dats m 0 c).arrAt_eq_of_covers 4 _ (by decide +kernel) fun t hf y => ?_
  obtain ⟨r, e, rfl⟩ : ∃ r e, y = ix2 r e := ⟨_, _, Two.eta y⟩
  blk_simp
  rw [after0_4, out4]
  refine (bu m c t r e).trans (congrArg (Gu (h m c) (w m c)) (Two.at_ix _ _ _ ?_ ?_).symm)
  · blk_simp [i4 t]
  · blk_simp [i4 t]
/-- The call's third result. -/
theorem arr5 : (dats m 0 c).arrAt 5 cfg0.N = Ga (h m c) (w m c) := by
  refine (dats m 0 c).arrAt_eq_of_covers 5 _ (by decide +kernel) fun t hf y => ?_
  obtain ⟨r, e, rfl⟩ : ∃ r e, y = ix2 r e := ⟨_, _, Two.eta y⟩
  blk_simp
  rw [after0_5, out5]
  refine (ba m c t r e).trans (congrArg (Ga (h m c) (w m c)) (Two.at_ix _ _ _ ?_ ?_).symm)
  · blk_simp [i5 t]
  · blk_simp [i5 t]

section
open Cert.FfnInRefIdeal.Read
variable (h : (⟨2, ![4096, 1024]⟩ : Shape).Idx → EReal) (w : (⟨2, ![1024, 5632]⟩ : Shape).Idx → EReal)
/-- The reference's gate. -/
theorem ref1 : val_main_v1 (F := Ideal) h w = Gg h w := by
  funext y
  refine (val_main_v1_apply ..).trans ((val_main_v0_apply ..).trans (Finset.sum_congr rfl fun k _ => congrArg₂ (· * ·) ?_ ?_))
  · exact congrArg h (Two.at_ix _ _ _ rfl rfl)
  · exact congrArg w (Two.at_ix _ _ _ rfl rfl)
/-- The reference's gated value. -/
theorem ref2 : val_main_v2 (F := Ideal) h w = Gu h w := by
  funext y
  refine (val_main_v2_apply ..).trans ((val_main_v0_apply ..).trans (Finset.sum_congr rfl fun k _ => congrArg₂ (· * ·) ?_ ?_))
  · exact congrArg h (Two.at_ix _ _ _ rfl rfl)
  · exact congrArg w (Two.at_ix _ _ _ rfl rfl)
/-- The reference's activation. -/
theorem ref7 : val_main_v7 (F := Ideal) h w = Ga h w := by
  funext y
  rw [val_main_v7_apply, val_main_v6_apply, val_main_v5_apply, val_main_call0_v5_apply, val_main_call0_v4_apply, val_main_call0_cst_0_apply,
    val_main_call0_v3_apply, val_main_call0_v2_apply, val_main_call0_cst_apply, val_main_call0_v1_apply, val_main_call0_v0_apply, ref1, ref2]
  unfold Ga Ideal.logistic
  generalize Gg h w y = g
  generalize Gu h w y = u
  show g * Ideal.div (Ideal.ofBits .f32 0x3F800000#32) (Ideal.ofBits .f32 0x3F800000#32 + Ideal.exp (-g)) * u = _
  rw [Ideal.ofBits_one_f32]
end

/-- The call's results are the reference's. -/
theorem algebraic : Cert.algebraic_FfnInIdeal_FfnInRefIdeal := by
  intro m g m' g' _ hagree
  refine ⟨fun c => Gg (h m c) (w m c), fun c => Gu (h m c) (w m c), fun c => Ga (h m c) (w m c), ?_, ?_⟩
  · refine (θ_run _ _ _).mono ?_ (Cert.FfnInIdeal.Value.run_blocks m g)
    intro r hr c
    obtain ⟨e3, e4, e5, hU⟩ := hr c
    exact ⟨e3.trans (arr3 m c), e4.trans (arr4 m c), e5.trans (arr5 m c), hU⟩
  · refine (θ_run _ _ _).mono ?_ (Cert.FfnInRefIdeal.Value.run m' g')
    intro r hr c
    obtain ⟨e0, e1, e2, hU⟩ := hr c
    obtain ⟨k0, k1⟩ := hagree c
    refine ⟨e0.trans ?_, e1.trans ?_, e2.trans ?_, hU⟩
    · rw [Cert.FfnInRefIdeal.Read.val_main_v3_eq, k0, k1]
      exact ref1 _ _
    · rw [Cert.FfnInRefIdeal.Read.val_main_v4_eq, k0, k1]
      exact ref2 _ _
    · rw [Cert.FfnInRefIdeal.Read.val_main_v7_eq, k0, k1]
      exact ref7 _ _

/-- The reference runs and leaves its arguments alone. -/
theorem reference_frame : Cert.quiescent_FfnInRefIdeal := by
  intro m g _
  refine (θ_run _ _ _).mono ?_ (Cert.FfnInRefIdeal.Value.run m g)
  intro r hr
  exact ⟨fun c => (hr c).2.2.2, sem_eq_zero_of_no_sems (by decide) r.2⟩
end Cert.FfnInP
end
-- ==== Proof.GwFfnIn.lean ====
module
public import proofs.«01_k».proof.Proof.Two
public import proofs.«01_k».proof.Defs
public import proofs.«01_k».proof.Proof.Gen.GwFfnInIdeal.Frame
public import proofs.«01_k».proof.Proof.Gen.GwFfnInRefIdeal.Run
public import proofs.«01_k».proof.Proof.Gen.GwFfnInRefIdeal.Read
public import Idealize.ShloMosaic.Lib.Claim
public import Idealize.ShloMosaic.Lib.StableHlo.RunRead
public import Idealize.ShloMosaic.Lib.Pipeline.ReadBack
@[expose] public section
set_option maxRecDepth 16384
noncomputable section
namespace Cert.GwFfnInP
open Idealize.ShloMosaic Idealize.SL.Sem Cert.GwFfnInIdeal Cert.GwFfnInIdeal.Gen

section
variable (c : Dev nD) (i : grid0.Coords) (arg1 : Memref sig .tc .vmem S4096x256 .bf16) (harg1 : arg1.IsWhole) (arg2 : Memref sig .tc .vmem S4096x256 .bf16) (harg2 : arg2.IsWhole)
  (arg3 : Memref sig .tc .vmem S4096x1024 .bf16) (harg3 : arg3.IsWhole) (arg4 : Memref sig .tc .vmem S256x1024 .bf16) (harg4 : arg4.IsWhole)
  (arg5 : Memref sig .tc .vmem S1024x4096 .bf16) (harg5 : arg5.IsWhole) (arg6 : Memref sig .tc .vmem S1024x256 .f32) (harg6 : arg6.IsWhole)
  (x0 x1 : Vec Ideal S4096x256 .bf16) (x2 : Vec Ideal S4096x1024 .bf16) (xs : Vec Ideal S1024x4096 .bf16)

/-- The transpose of a block. -/
def TR (x : Vec Ideal S4096x1024 .bf16) : (⟨2, ![1024, 4096]⟩ : Shape).Idx → EReal := fun y => x (ix2 (y 1) (y 0))

/-- A trip of the loop stores a part of the transpose. -/
theorem trip (𝒱 : Variants) (bd : Option 𝒱.V) (h) (k : Fin k0_t1_loop.trips) :
    View.PiecesOf (TR x2) (tripL_k0_t1 (F := Ideal) 𝒱 c bd i arg1 harg1 arg2 harg2 arg3 harg3 arg4 harg4 arg5 harg5 arg6 harg6 h (harg3.unread x2) k) := by
  unfold tripL_k0_t1 trip_k0_t1
  dsimp only
  refine ⟨fun x => ?_, trivial⟩
  obtain ⟨a, b, rfl⟩ : ∃ (a : Fin 1024) (b : Fin 512), x = ix2 a b := ⟨_, _, Two.eta x⟩
  dsimp only
  unfold_payloads
  pointwise
  rw [View.readAt_eq_ld, harg3.read_unread, View.ld_apply]
  unfold TR
  refine congrArg x2 (Two.at_ix _ _ _ ?_ ?_)
  · show (k0_off1 k) 0 + 1 * b.val = (k0_off2 k) 1 + 1 * b.val
    rw [k0_off1_eq, k0_off2_eq]; rfl
  · show (k0_off1 k) 1 + 1 * a.val = (k0_off2 k) 0 + 1 * a.val
    rw [k0_off1_eq, k0_off2_eq]; rfl

/-- The loop's stores before a trip are parts of the transpose. -/
theorem trips (𝒱 : Variants) (bd : Option 𝒱.V) (h) (n : ℕ) : n ≤ k0_t1_loop.trips →
    ∀ p ∈ pb_k0_t1 (F := Ideal) 𝒱 c bd i arg1 harg1 arg2 harg2 arg3 harg3 arg4 harg4 arg5 harg5 arg6 harg6 h (harg3.unread x2) n, ∀ x : p.1.shape.Idx, p.2 x = TR x2 (p.1.emb x) := by
  induction n with
  | zero => intro _ p hp; rw [pb_k0_t1] at hp; exact absurd hp List.not_mem_nil
  | succ n ih =>
    intro hn p hp
    rw [pb_k0_t1_succ (F := Ideal) 𝒱 c bd i arg1 harg1 arg2 harg2 arg3 harg3 arg4 harg4 arg5 harg5 arg6 harg6 h (harg3.unread x2) ⟨n, hn⟩] at hp
    rcases List.mem_append.mp hp with hp | hp
    · exact (trip c i arg1 harg1 arg2 harg2 arg3 harg3 arg4 harg4 arg5 harg5 arg6 harg6 x2 𝒱 bd h ⟨n, hn⟩).mem p hp
    · exact ih (Nat.le_of_succ_le hn) p hp

/-- The block of a point of the first half, from the carried transpose. -/
theorem outB (hc0 hc1 hc2) (r : Fin 256) (e : Fin 1024) :
    out0_B_3 (F := Ideal) c i arg1 harg1 arg2 harg2 arg3 harg3 arg4 harg4 arg5 harg5 arg6 harg6 hc0 hc1 hc2 x0 x1 x2 xs (ix2 r e) = ∑ k : Fin 4096, xs (ix2 e k) * x0 (ix2 k r) := by
  unfold out0_B_3
  rw [View.read_writes_junk_eq_canon]
  unfold kernelRun0_B
  dsimp only
  rw [View.canon_cons_unit_lit _ _ _ (by decide)]
  unfold_payloads
  pointwise
  unfold kernelRun0_B.sl.v20
  refine (Two.read_whole _ _ _ _).trans ?_
  unfold kernelRun0_B.sl.HS1_1
  rw [View.canon_cons_unit_lit _ _ _ (by decide)]
  simp only [View.readAt_eq_ld, harg1.read_unread, harg5.read_unread]
  unfold_payloads
  pointwise

/-- The block of a point of the second half, from the carried transpose. -/
theorem outC (hc0 hc1 hc2) (r : Fin 256) (e : Fin 1024) :
    out0_C_3 (F := Ideal) c i arg1 harg1 arg2 harg2 arg3 harg3 arg4 harg4 arg5 harg5 arg6 harg6 hc0 hc1 hc2 x0 x1 x2 xs (ix2 r e) = ∑ k : Fin 4096, xs (ix2 e k) * x1 (ix2 k r) := by
  unfold out0_C_3
  rw [View.read_writes_junk_eq_canon]
  unfold kernelRun0_C
  dsimp only
  rw [View.canon_cons_unit_lit _ _ _ (by decide)]
  unfold_payloads
  pointwise
  unfold kernelRun0_C.sl.v20
  refine (Two.read_whole _ _ _ _).trans ?_
  unfold kernelRun0_C.sl.HS1_1
  rw [View.canon_cons_unit_lit _ _ _ (by decide)]
  simp only [View.readAt_eq_ld, harg2.read_unread, harg5.read_unread]
  unfold_payloads
  pointwise

include x0 x1 in
/-- The loop leaves the transpose. -/
theorem loop (hc0 : cond0_0 i) (hc1 : cond0_1 i) (hc2 : ¬cond0_2 i) : View.canon
      (pb_k0_t1 (F := Ideal) Variants.none c none i arg1 harg1 arg2 harg2 arg3 harg3 arg4 harg4 arg5 harg5 arg6 harg6 hc0
        (harg3.unread x2) (Scf.trips (0#32) (Scalar.addi 0#32 8#32) 1#32)) = TR x2 := by
  funext y
  refine View.canon_apply_of_pieces (Val := Elt Ideal) (e := .bf16) (TR x2) _ (trips c i arg1 harg1 arg2 harg2 arg3 harg3 arg4 harg4 arg5 harg5 arg6 harg6 x2 Variants.none none hc0 _ le_rfl) y ?_
  exact scover0_A_0 c i arg1 harg1 arg2 harg2 arg3 harg3 arg4 harg4 arg5 harg5 arg6 harg6 hc0 hc1 hc2 x0 x1 x2 y

/-- The first point carries the transpose on. -/
theorem soutA (hc0 hc1 hc2) : sout0_A_0 (F := Ideal) c i arg1 harg1 arg2 harg2 arg3 harg3 arg4 harg4 arg5 harg5 arg6 harg6 hc0 hc1 hc2 x0 x1 x2 = TR x2 := by
  unfold sout0_A_0
  rw [View.read_writes_junk_eq_canon]
  exact loop c i arg1 harg1 arg2 harg2 arg3 harg3 arg4 harg4 arg5 harg5 arg6 harg6 x0 x1 x2 hc0 hc1 hc2

/-- The block of the first point. -/
theorem outA (hc0 hc1 hc2) (r : Fin 256) (e : Fin 1024) :
    out0_A_3 (F := Ideal) c i arg1 harg1 arg2 harg2 arg3 harg3 arg4 harg4 arg5 harg5 arg6 harg6 hc0 hc1 hc2 x0 x1 x2 (ix2 r e) = ∑ k : Fin 4096, x2 (ix2 k e) * x0 (ix2 k r) := by
  unfold out0_A_3
  rw [View.read_writes_junk_eq_canon]
  unfold kernelRun0_A
  dsimp only
  rw [View.canon_cons_unit_lit _ _ _ (by decide)]
  unfold_payloads
  pointwise
  unfold kernelRun0_A.sl.v20
  refine (Two.read_whole _ _ _ _).trans ?_
  unfold kernelRun0_A.sl.HS1_1
  rw [View.canon_cons_unit_lit _ _ _ (by decide)]
  simp only [View.readAt_eq_ld, harg1.read_unread, harg5.read_unread]
  unfold_payloads
  pointwise
  refine Finset.sum_congr rfl fun k _ => congrArg (· * x0 (ix2 k r)) ((Two.read_whole _ _ _ _).trans ?_)
  exact congrFun (loop c i arg1 harg1 arg2 harg2 arg3 harg3 arg4 harg4 arg5 harg5 arg6 harg6 x0 x1 x2 hc0 hc1 hc2) _
end

variable (m : (ℓ : Loc nD τ sig) → Buf (Elt Ideal) ℓ) (c : Dev nD)

/-- The tokens' features on device `c`. -/
abbrev h : (⟨2, ![4096, 1024]⟩ : Shape).Idx → EReal := m (c, Proc.devRef .tc main_arg0)
/-- The cotangent of the first half. -/
abbrev dg : (⟨2, ![4096, 2816]⟩ : Shape).Idx → EReal := m (c, Proc.devRef .tc main_arg2)
/-- The cotangent of the second half. -/
abbrev du : (⟨2, ![4096, 2816]⟩ : Shape).Idx → EReal := m (c, Proc.devRef .tc main_arg3)

/-- The two cotangents side by side. -/
def two (dg du : (⟨2, ![4096, 2816]⟩ : Shape).Idx → EReal) (k : Fin 4096) (j : Fin 5632) : EReal :=
  if q : j.val < 2816 then dg (ix2 k ⟨j.val, q⟩) else du (ix2 k ⟨j.val - 2816, by omega⟩)
/-- The weights' gradient, transposed, at an output and a feature. -/
def G (h : (⟨2, ![4096, 1024]⟩ : Shape).Idx → EReal) (dg du : (⟨2, ![4096, 2816]⟩ : Shape).Idx → EReal) : (⟨2, ![5632, 1024]⟩ : Shape).Idx → EReal :=
  fun J => ∑ k : Fin 4096, h (ix2 k (J 1)) * two dg du k (J 0)

/-- The call's first operand. -/
theorem V0 (i : Fin 4096) (j : Fin 2816) : V m c main_v0 (ix2 i j) = dg m c (ix2 i j) := by
  show StableHlo.after hostOps0 _ _ _ = _
  simp only [hostOps0]
  after_reads_simp
  pointwise
/-- The call's second operand. -/
theorem V1 (i : Fin 4096) (j : Fin 2816) : V m c main_v1 (ix2 i j) = du m c (ix2 i j) := by
  show StableHlo.after hostOps0 _ _ _ = _
  simp only [hostOps0]
  after_reads_simp
  pointwise
/-- The call's third operand. -/
theorem V2 (i : Fin 4096) (j : Fin 1024) : V m c main_v2 (ix2 i j) = h m c (ix2 i j) := by
  show StableHlo.after hostOps0 _ _ _ = _
  simp only [hostOps0]
  after_reads_simp
  pointwise

/-- The first operand's lanes stop moving after the first half. -/
theorem x0 : ∀ t : Fin grid0.N, (cfg0.win 0).index t = ![0, min t.val 10] := by decide +kernel
/-- The second operand's lanes start moving in the second half. -/
theorem x1 : ∀ t : Fin grid0.N, (cfg0.win 1).index t = ![0, min (t.val - 11) 10] := by decide +kernel
/-- The whole third operand is every point's block. -/
theorem x2 : ∀ t : Fin grid0.N, (cfg0.win 2).index t = ![0, 0] := by decide +kernel
/-- The result's rows go by the point. -/
theorem x3 : ∀ t : Fin grid0.N, (cfg0.win 3).index t = ![t.val, 0] := by decide +kernel
/-- There are twenty-two grid points. -/
theorem lt22 (t : Fin grid0.N) : t.val < 22 := lt_of_lt_of_eq t.isLt (show grid0.N = 22 from N_0)

/-- Reading the first operand's block. -/
theorem rd0 (X : (b : Ref sig .tc) → b.ty.Contents (Elt Ideal)) (t : Fin grid0.N) (y : (⟨2, ![4096, 256]⟩ : Shape).Idx) :
    ((cfg0.win 0).blk t).view.read (Elt Ideal) (X (Pipeline.arrRef spec0 0)) y
    = X main_v0 (ix2 (y 0) ⟨min t.val 10 * 256 + (y 1).val, by have := (y 1).isLt; simp at *; omega⟩) := by
  blk_ext [x0 t]
/-- Reading the second operand's block. -/
theorem rd1 (X : (b : Ref sig .tc) → b.ty.Contents (Elt Ideal)) (t : Fin grid0.N) (y : (⟨2, ![4096, 256]⟩ : Shape).Idx) :
    ((cfg0.win 1).blk t).view.read (Elt Ideal) (X (Pipeline.arrRef spec0 1)) y
    = X main_v1 (ix2 (y 0) ⟨min (t.val - 11) 10 * 256 + (y 1).val, by have := (y 1).isLt; simp at *; omega⟩) := by
  blk_ext [x1 t]
/-- Reading the third operand's block. -/
theorem rd2 (X : (b : Ref sig .tc) → b.ty.Contents (Elt Ideal)) (t : Fin grid0.N) (y : (⟨2, ![4096, 1024]⟩ : Shape).Idx) :
    ((cfg0.win 2).blk t).view.read (Elt Ideal) (X (Pipeline.arrRef spec0 2)) y = X main_v2 (ix2 (y 0) (y 1)) := by
  blk_ext [x2 t]
/-- The third operand's block is the tokens' features. -/
theorem ib2 (t : Fin grid0.N) : iblk m c 2 t = h m c := by
  funext y
  exact (rd2 (V m c) t y).trans ((V2 ..).trans (congrArg (h m c) (Two.eta y).symm))

/-- What is carried is the transpose of the tokens' features. -/
theorem carried (n : ℕ) : ∀ hn : n < cfg0.N, (outsAt0 m c n hn).2 = TR (h m c) := by
  induction n using Nat.strong_induction_on with
  | _ n ih =>
    intro hn
    have h22 : n < 22 := lt_of_lt_of_eq hn (show cfg0.N = 22 from N_0)
    by_cases q0 : n % 22 = 0
    · have q1 : n < 11 := by omega
      have q2 : ¬11 ≤ n := by omega
      have E := outsAt0_A m c ⟨n, hn⟩ q0 q1 q2
      dsimp only at E
      rw [E]
      dsimp only
      exact (soutA ..).trans (congrArg TR (ib2 m c _))
    · have e0 := ih (n - 1) (by omega) (Nat.lt_of_le_of_lt (Nat.sub_le _ _) hn)
      by_cases q1 : n < 11
      · have q2 : ¬11 ≤ n := by omega
        have E := outsAt0_B m c ⟨n, hn⟩ q0 q1 q2
        dsimp only at E
        rw [E]
        dsimp only [sout0_B_0]
        exact e0
      · have q2 : 11 ≤ n := by omega
        have E := outsAt0_C m c ⟨n, hn⟩ q0 q1 q2
        dsimp only at E
        rw [E]
        dsimp only [sout0_C_0]
        exact e0

/-- The first operand's block, at a token and a lane of the first half. -/
theorem d0 (t : Fin grid0.N) (q : t.val < 11) (k : Fin 4096) (r : Fin 256) (j : Fin 5632) (hj : j.val = t.val * 256 + r.val) :
    iblk m c 0 t (ix2 k r) = two (dg m c) (du m c) k j := by
  unfold two
  rw [dif_pos (by omega)]
  refine (rd0 (V m c) t _).trans ((V0 ..).trans (congrArg (dg m c) (Two.ext rfl ?_)))
  show min t.val 10 * 256 + r.val = j.val
  rw [hj, min_eq_left (by omega)]
/-- The second operand's block, at a token and a lane of the second half. -/
theorem d1 (t : Fin grid0.N) (q : 11 ≤ t.val) (k : Fin 4096) (r : Fin 256) (j : Fin 5632) (hj : j.val = t.val * 256 + r.val) :
    iblk m c 1 t (ix2 k r) = two (dg m c) (du m c) k j := by
  unfold two
  rw [dif_neg (by omega)]
  have := lt22 t
  refine (rd1 (V m c) t _).trans ((V1 ..).trans (congrArg (du m c) (Two.ext rfl ?_)))
  show min (t.val - 11) 10 * 256 + r.val = j.val - 2816
  rw [hj, min_eq_left (by omega)]
  omega

/-- The block a grid point writes. -/
theorem blk (t : Fin grid0.N) (r : Fin 256) (e : Fin 1024) (j : Fin 5632) (hj : j.val = t.val * 256 + r.val) :
    (outsAt0 m c t.val t.isLt).1 (ix2 r e) = G (h m c) (dg m c) (du m c) (ix2 j e) := by
  have h22 := lt22 t
  by_cases q0 : t.val % 22 = 0
  · have q1 : t.val < 11 := by omega
    have q2 : ¬11 ≤ t.val := by omega
    rw [outsAt0_A m c t q0 q1 q2]
    dsimp only
    refine (outA ..).trans ?_
    exact Finset.sum_congr rfl fun k _ => congrArg₂ (· * ·) (congrFun (ib2 m c t) _) (d0 m c t q1 k r j hj)
  · have e0 := carried m c (t.val - 1) (Nat.lt_of_le_of_lt (Nat.sub_le _ _) t.isLt)
    by_cases q1 : t.val < 11
    · have q2 : ¬11 ≤ t.val := by omega
      rw [outsAt0_B m c t q0 q1 q2]
      dsimp only
      refine (outB ..).trans ?_
      exact Finset.sum_congr rfl fun k _ => congrArg₂ (· * ·) (congrFun e0 _) (d0 m c t q1 k r j hj)
    · have q2 : 11 ≤ t.val := by omega
      rw [outsAt0_C m c t q0 q1 q2]
      dsimp only
      refine (outC ..).trans ?_
      exact Finset.sum_congr rfl fun k _ => congrArg₂ (· * ·) (congrFun e0 _) (d1 m c t q2 k r j hj)

/-- The call's result. -/
theorem arr : (dats m 0 c).arrAt 3 cfg0.N = G (h m c) (dg m c) (du m c) := by
  refine (dats m 0 c).arrAt_eq_of_covers 3 _ (by decide +kernel) fun t hf y => ?_
  obtain ⟨r, e, rfl⟩ : ∃ r e, y = ix2 r e := ⟨_, _, Two.eta y⟩
  blk_simp
  rw [after0_3]
  have h22 := lt22 t
  refine (blk m c t r e ⟨t.val * 256 + r.val, by omega⟩ rfl).trans (congrArg (G (h m c) (dg m c) (du m c)) (Two.at_ix _ _ _ ?_ ?_).symm)
  · blk_simp [x3 t]
  · blk_simp [x3 t]

/-- The reference's result. -/
theorem ref (h : (⟨2, ![4096, 1024]⟩ : Shape).Idx → EReal) (dg du : (⟨2, ![4096, 2816]⟩ : Shape).Idx → EReal) :
    Cert.GwFfnInRefIdeal.Read.val_main_v8 (F := Ideal) h dg du = G h dg du := by
  funext y
  obtain ⟨r, e, rfl⟩ : ∃ r e, y = ix2 r e := ⟨_, _, Two.eta y⟩
  refine (Cert.GwFfnInRefIdeal.Read.val_main_v8_apply ..).trans ((Cert.GwFfnInRefIdeal.Read.val_main_v7_apply ..).trans ((Cert.GwFfnInRefIdeal.Read.val_main_v5_apply ..).trans ((Cert.GwFfnInRefIdeal.Read.val_main_v4_apply ..).trans ?_)))
  refine Finset.sum_congr rfl fun k _ => (mul_comm _ _).trans (congrArg₂ (· * ·) ?_ ?_)
  · exact congrArg h (Two.at_ix _ _ _ rfl rfl)
  · refine (congrArg _ (Two.at_ix _ k r rfl rfl)).trans ?_
    unfold Cert.GwFfnInRefIdeal.Read.val_main_v3 two
    pointwise

/-- The call's result is the reference's. -/
theorem algebraic : Cert.algebraic_GwFfnInIdeal_GwFfnInRefIdeal := by
  intro m g m' g' _ hagree
  refine ⟨fun c => G (h m c) (dg m c) (du m c), ?_, ?_⟩
  · refine (θ_run _ _ _).mono ?_ (θ_run_and (Cert.GwFfnInIdeal.Gen.run_main m g) (Cert.GwFfnInIdeal.Gen.unchanged m g))
    intro r hr c
    exact ⟨((hr.1 c).1 3).trans (arr m c), hr.2 c⟩
  · refine (θ_run _ _ _).mono ?_ (Cert.GwFfnInRefIdeal.Value.run m' g')
    intro r hr c
    obtain ⟨e0, hU⟩ := hr c
    obtain ⟨k0, k1, k2, k3⟩ := hagree c
    refine ⟨e0.trans ?_, hU⟩
    rw [Cert.GwFfnInRefIdeal.Read.val_main_v8_eq, k0, k2, k3]
    exact ref _ _ _

/-- The reference runs and leaves its arguments alone. -/
theorem reference_frame : Cert.quiescent_GwFfnInRefIdeal := by
  intro m g _
  refine (θ_run _ _ _).mono ?_ (Cert.GwFfnInRefIdeal.Value.run m g)
  intro r hr
  exact ⟨fun c => (hr c).2, sem_eq_zero_of_no_sems (by decide) r.2⟩
end Cert.GwFfnInP
end
-- ==== Proof.FfnOut.lean ====
module
public import proofs.«01_k».proof.Proof.Two
public import proofs.«01_k».proof.Defs
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Claim
public import Idealize.ShloMosaic.Lib.StableHlo.RunRead
@[expose] public section
set_option maxRecDepth 16384
noncomputable section
namespace Cert.FfnOutP
open Idealize.ShloMosaic Idealize.SL.Sem Cert.FfnOutIdeal Cert.FfnOutIdeal.Gen
variable (m : (ℓ : Loc nD τ sig) → Buf (Elt Ideal) ℓ) (c : Dev nD)

/-- The activation on device `c`. -/
abbrev a : (⟨2, ![4096, 2816]⟩ : Shape).Idx → EReal := m (c, Proc.devRef .tc main_arg0)
/-- The weights on device `c`. -/
abbrev w : (⟨2, ![2816, 1024]⟩ : Shape).Idx → EReal := m (c, Proc.devRef .tc main_arg1)

/-- The feed-forward's output at a token and a feature. -/
def G (a : (⟨2, ![4096, 2816]⟩ : Shape).Idx → EReal) (w : (⟨2, ![2816, 1024]⟩ : Shape).Idx → EReal) : (⟨2, ![4096, 1024]⟩ : Shape).Idx → EReal :=
  fun J => ∑ k : Fin 2816, a (ix2 (J 0) k) * w (ix2 k (J 1))

/-- The call's first operand. -/
theorem V0 (i : Fin 4096) (j : Fin 2816) : V m c main_v0 (ix2 i j) = a m c (ix2 i j) := by
  show StableHlo.after hostOps0 _ _ _ = _
  simp only [hostOps0]
  after_reads_simp
  pointwise
/-- The call's second operand. -/
theorem V1 (i : Fin 2816) (j : Fin 1024) : V m c main_v1 (ix2 i j) = w m c (ix2 i j) := by
  show StableHlo.after hostOps0 _ _ _ = _
  simp only [hostOps0]
  after_reads_simp
  pointwise

/-- A block of the result. -/
theorem out (x0 : Vec Ideal S2048x2816 .bf16) (x1 : Vec Ideal S2816x512 .bf16) (r : Fin 2048) (e : Fin 512) :
    out0_2 x0 x1 (ix2 r e) = ∑ k : Fin 2816, x0 (ix2 r k) * x1 (ix2 k e) := by
  unfold out0_2
  rw [View.canon_cons_unit_lit _ _ _ (by decide)]
  unfold_payloads
  pointwise

/-- The first operand's rows go by the row tile. -/
theorem x0 : ∀ t : Fin grid0.N, (cfg0.win 0).index t = ![(grid0.coords t 0).val, 0] := by decide +kernel
/-- The second operand goes by the lane tile. -/
theorem x1 : ∀ t : Fin grid0.N, (cfg0.win 1).index t = ![0, (grid0.coords t 1).val] := by decide +kernel
/-- The result's tile. -/
theorem x2 : ∀ t : Fin grid0.N, (cfg0.win 2).index t = ![(grid0.coords t 0).val, (grid0.coords t 1).val] := by decide +kernel
/-- The row tile of a grid point. -/
abbrev ti (t : Fin grid0.N) : Fin 2 := grid0.coords t 0
/-- The lane tile of a grid point. -/
abbrev tj (t : Fin grid0.N) : Fin 2 := grid0.coords t 1

/-- Reading the first operand's block. -/
theorem rd0 (X : (b : Ref sig .tc) → b.ty.Contents (Elt Ideal)) (t : Fin grid0.N) (y : (⟨2, ![2048, 2816]⟩ : Shape).Idx) :
    ((cfg0.win 0).blk t).view.read (Elt Ideal) (X (Pipeline.arrRef spec0 0)) y
    = X main_v0 (ix2 ⟨(ti t).val * 2048 + (y 0).val, by have := (y 0).isLt; have := (ti t).isLt; simp at *; omega⟩ (y 1)) := by
  blk_ext [x0 t]
/-- Reading the second operand's block. -/
theorem rd1 (X : (b : Ref sig .tc) → b.ty.Contents (Elt Ideal)) (t : Fin grid0.N) (y : (⟨2, ![2816, 512]⟩ : Shape).Idx) :
    ((cfg0.win 1).blk t).view.read (Elt Ideal) (X (Pipeline.arrRef spec0 1)) y
    = X main_v1 (ix2 (y 0) ⟨(tj t).val * 512 + (y 1).val, by have := (y 1).isLt; have := (tj t).isLt; simp at *; omega⟩) := by
  blk_ext [x1 t]

/-- The block a grid point writes, at a row and a lane. -/
theorem blk (t : Fin grid0.N) (r : Fin 2048) (e : Fin 512) :
    out0_2 (iblk m c 0 t) (iblk m c 1 t) (ix2 r e)
    = G (a m c) (w m c) (ix2 ⟨(ti t).val * 2048 + r.val, by have := (ti t).isLt; omega⟩ ⟨(tj t).val * 512 + e.val, by have := (tj t).isLt; omega⟩) := by
  refine (out ..).trans (Finset.sum_congr rfl fun k _ => congrArg₂ (· * ·) ?_ ?_)
  · exact (rd0 (V m c) t _).trans (V0 ..)
  · exact (rd1 (V m c) t _).trans (V1 ..)

/-- The call's result. -/
theorem arr : (dats m 0 c).arrAt 2 cfg0.N = G (a m c) (w m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  refine (blk m c t r e).trans (congrArg (G (a m c) (w m c)) (Two.at_ix _ _ _ ?_ ?_).symm)
  · blk_simp [x2 t]
  · blk_simp [x2 t]

/-- The reference's result. -/
theorem ref (a : (⟨2, ![4096, 2816]⟩ : Shape).Idx → EReal) (w : (⟨2, ![2816, 1024]⟩ : Shape).Idx → EReal) :
    Cert.FfnOutRefIdeal.Read.val_main_v1 (F := Ideal) a w = G a w := by
  funext y
  refine (Cert.FfnOutRefIdeal.Read.val_main_v1_apply ..).trans ((Cert.FfnOutRefIdeal.Read.val_main_v0_apply ..).trans (Finset.sum_congr rfl fun k _ => congrArg₂ (· * ·) ?_ ?_))
  · exact congrArg a (Two.at_ix _ _ _ rfl rfl)
  · exact congrArg w (Two.at_ix _ _ _ rfl rfl)

/-- The call's result is the reference's. -/
theorem algebraic : Cert.algebraic_FfnOutIdeal_FfnOutRefIdeal := by
  intro m g m' g' _ hagree
  refine ⟨fun c => G (a m c) (w m c), ?_, ?_⟩
  · refine (θ_run _ _ _).mono ?_ (Cert.FfnOutIdeal.Value.run_blocks m g)
    intro r hr c
    obtain ⟨e, hU⟩ := hr c
    exact ⟨e.trans (arr m c), hU⟩
  · refine (θ_run _ _ _).mono ?_ (Cert.FfnOutRefIdeal.Value.run m' g')
    intro r hr c
    obtain ⟨e0, hU⟩ := hr c
    obtain ⟨k0, k1⟩ := hagree c
    refine ⟨e0.trans ?_, hU⟩
    rw [Cert.FfnOutRefIdeal.Read.val_main_v1_eq, k0, k1]
    exact ref _ _

/-- The reference runs and leaves its arguments alone. -/
theorem reference_frame : Cert.quiescent_FfnOutRefIdeal := by
  intro m g _
  refine (θ_run _ _ _).mono ?_ (Cert.FfnOutRefIdeal.Value.run m g)
  intro r hr
  exact ⟨fun c => (hr c).2, sem_eq_zero_of_no_sems (by decide) r.2⟩
end Cert.FfnOutP
end
-- ==== Proof.GwFfnOut.lean ====
module
public import proofs.«01_k».proof.Proof.Two
public import proofs.«01_k».proof.Defs
public import proofs.«01_k».proof.Proof.Gen.GwFfnOutIdeal.Frame
public import proofs.«01_k».proof.Proof.Gen.GwFfnOutRefIdeal.Run
public import proofs.«01_k».proof.Proof.Gen.GwFfnOutRefIdeal.Read
public import Idealize.ShloMosaic.Lib.Claim
public import Idealize.ShloMosaic.Lib.StableHlo.RunRead
public import Idealize.ShloMosaic.Lib.Pipeline.ReadBack
@[expose] public section
set_option maxRecDepth 16384
noncomputable section
namespace Cert.GwFfnOutP
open Idealize.ShloMosaic Idealize.SL.Sem Cert.GwFfnOutIdeal Cert.GwFfnOutIdeal.Gen

section
variable (c : Dev nD) (i : grid0.Coords) (arg1 : Memref sig .tc .vmem S4096x256 .bf16) (harg1 : arg1.IsWhole) (arg2 : Memref sig .tc .vmem S4096x1024 .bf16) (harg2 : arg2.IsWhole)
  (arg3 : Memref sig .tc .vmem S256x1024 .bf16) (harg3 : arg3.IsWhole) (arg4 : Memref sig .tc .vmem S1024x4096 .bf16) (harg4 : arg4.IsWhole)
  (arg5 : Memref sig .tc .vmem S1024x256 .f32) (harg5 : arg5.IsWhole)
  (x0 : Vec Ideal S4096x256 .bf16) (x1 : Vec Ideal S4096x1024 .bf16) (xs : Vec Ideal S1024x4096 .bf16)

/-- The transpose of a block. -/
def TR (x : Vec Ideal S4096x1024 .bf16) : (⟨2, ![1024, 4096]⟩ : Shape).Idx → EReal := fun y => x (ix2 (y 1) (y 0))

/-- A trip of the loop stores a part of the transpose. -/
theorem trip (𝒱 : Variants) (bd : Option 𝒱.V) (h) (k : Fin k0_t1_loop.trips) :
    View.PiecesOf (TR x1) (tripL_k0_t1 (F := Ideal) 𝒱 c bd i arg1 harg1 arg2 harg2 arg3 harg3 arg4 harg4 arg5 harg5 h (harg2.unread x1) k) := by
  unfold tripL_k0_t1 trip_k0_t1
  dsimp only
  refine ⟨fun x => ?_, trivial⟩
  obtain ⟨a, b, rfl⟩ : ∃ (a : Fin 1024) (b : Fin 512), x = ix2 a b := ⟨_, _, Two.eta x⟩
  dsimp only
  unfold_payloads
  pointwise
  rw [View.readAt_eq_ld, harg2.read_unread, View.ld_apply]
  unfold TR
  refine congrArg x1 (Two.at_ix _ _ _ ?_ ?_)
  · show (k0_off1 k) 0 + 1 * b.val = (k0_off2 k) 1 + 1 * b.val
    rw [k0_off1_eq, k0_off2_eq]; rfl
  · show (k0_off1 k) 1 + 1 * a.val = (k0_off2 k) 0 + 1 * a.val
    rw [k0_off1_eq, k0_off2_eq]; rfl

/-- The loop's stores before a trip are parts of the transpose. -/
theorem trips (𝒱 : Variants) (bd : Option 𝒱.V) (h) (n : ℕ) : n ≤ k0_t1_loop.trips →
    ∀ p ∈ pb_k0_t1 (F := Ideal) 𝒱 c bd i arg1 harg1 arg2 harg2 arg3 harg3 arg4 harg4 arg5 harg5 h (harg2.unread x1) n, ∀ x : p.1.shape.Idx, p.2 x = TR x1 (p.1.emb x) := by
  induction n with
  | zero => intro _ p hp; rw [pb_k0_t1] at hp; exact absurd hp List.not_mem_nil
  | succ n ih =>
    intro hn p hp
    rw [pb_k0_t1_succ (F := Ideal) 𝒱 c bd i arg1 harg1 arg2 harg2 arg3 harg3 arg4 harg4 arg5 harg5 h (harg2.unread x1) ⟨n, hn⟩] at hp
    rcases List.mem_append.mp hp with hp | hp
    · exact (trip c i arg1 harg1 arg2 harg2 arg3 harg3 arg4 harg4 arg5 harg5 x1 𝒱 bd h ⟨n, hn⟩).mem p hp
    · exact ih (Nat.le_of_succ_le hn) p hp

/-- The block of a point after the first, from the carried transpose. -/
theorem outB (hc0 hc1) (r : Fin 256) (e : Fin 1024) :
    out0_B_2 (F := Ideal) c i arg1 harg1 arg2 harg2 arg3 harg3 arg4 harg4 arg5 harg5 hc0 hc1 x0 x1 xs (ix2 r e) = ∑ k : Fin 4096, xs (ix2 e k) * x0 (ix2 k r) := by
  unfold out0_B_2
  rw [View.read_writes_junk_eq_canon]
  unfold kernelRun0_B
  dsimp only
  rw [View.canon_cons_unit_lit _ _ _ (by decide)]
  unfold_payloads
  pointwise
  unfold kernelRun0_B.sl.v15
  refine (Two.read_whole _ _ _ _).trans ?_
  unfold kernelRun0_B.sl.HS1_1
  rw [View.canon_cons_unit_lit _ _ _ (by decide)]
  simp only [View.readAt_eq_ld, harg1.read_unread, harg4.read_unread]
  unfold_payloads
  pointwise

include x0 in
/-- The loop leaves the transpose. -/
theorem loop (hc0 : cond0_0 i) (hc1 : cond0_1 i) : View.canon
      (pb_k0_t1 (F := Ideal) Variants.none c none i arg1 harg1 arg2 harg2 arg3 harg3 arg4 harg4 arg5 harg5 hc0
        (harg2.unread x1) (Scf.trips (0#32) (Scalar.addi 0#32 8#32) 1#32)) = TR x1 := by
  funext y
  refine View.canon_apply_of_pieces (Val := Elt Ideal) (e := .bf16) (TR x1) _ (trips c i arg1 harg1 arg2 harg2 arg3 harg3 arg4 harg4 arg5 harg5 x1 Variants.none none hc0 _ le_rfl) y ?_
  exact scover0_A_0 c i arg1 harg1 arg2 harg2 arg3 harg3 arg4 harg4 arg5 harg5 hc0 hc1 x0 x1 y

/-- The first point carries the transpose on. -/
theorem soutA (hc0 hc1) : sout0_A_0 (F := Ideal) c i arg1 harg1 arg2 harg2 arg3 harg3 arg4 harg4 arg5 harg5 hc0 hc1 x0 x1 = TR x1 := by
  unfold sout0_A_0
  rw [View.read_writes_junk_eq_canon]
  exact loop c i arg1 harg1 arg2 harg2 arg3 harg3 arg4 harg4 arg5 harg5 x0 x1 hc0 hc1

/-- The block of the first point. -/
theorem outA (hc0 hc1) (r : Fin 256) (e : Fin 1024) :
    out0_A_2 (F := Ideal) c i arg1 harg1 arg2 harg2 arg3 harg3 arg4 harg4 arg5 harg5 hc0 hc1 x0 x1 (ix2 r e) = ∑ k : Fin 4096, x1 (ix2 k e) * x0 (ix2 k r) := by
  unfold out0_A_2
  rw [View.read_writes_junk_eq_canon]
  unfold kernelRun0_A
  dsimp only
  rw [View.canon_cons_unit_lit _ _ _ (by decide)]
  unfold_payloads
  pointwise
  unfold kernelRun0_A.sl.v15
  refine (Two.read_whole _ _ _ _).trans ?_
  unfold kernelRun0_A.sl.HS1_1
  rw [View.canon_cons_unit_lit _ _ _ (by decide)]
  simp only [View.readAt_eq_ld, harg1.read_unread, harg4.read_unread]
  unfold_payloads
  pointwise
  refine Finset.sum_congr rfl fun k _ => congrArg (· * x0 (ix2 k r)) ((Two.read_whole _ _ _ _).trans ?_)
  exact congrFun (loop c i arg1 harg1 arg2 harg2 arg3 harg3 arg4 harg4 arg5 harg5 x0 x1 hc0 hc1) _
end

variable (m : (ℓ : Loc nD τ sig) → Buf (Elt Ideal) ℓ) (c : Dev nD)

/-- The activation on device `c`. -/
abbrev act : (⟨2, ![4096, 2816]⟩ : Shape).Idx → EReal := m (c, Proc.devRef .tc main_arg0)
/-- The result's cotangent. -/
abbrev df : (⟨2, ![4096, 1024]⟩ : Shape).Idx → EReal := m (c, Proc.devRef .tc main_arg2)

/-- The weights' gradient at a lane and a feature. -/
def G (act : (⟨2, ![4096, 2816]⟩ : Shape).Idx → EReal) (df : (⟨2, ![4096, 1024]⟩ : Shape).Idx → EReal) : (⟨2, ![2816, 1024]⟩ : Shape).Idx → EReal :=
  fun J => ∑ k : Fin 4096, df (ix2 k (J 1)) * act (ix2 k (J 0))

/-- The call's first operand. -/
theorem VA (i : Fin 4096) (j : Fin 2816) : V m c main_v0 (ix2 i j) = act m c (ix2 i j) := by
  show StableHlo.after hostOps0 _ _ _ = _
  simp only [hostOps0]
  after_reads_simp
  pointwise
/-- The call's second operand. -/
theorem VB (i : Fin 4096) (j : Fin 1024) : V m c main_v1 (ix2 i j) = df m c (ix2 i j) := by
  show StableHlo.after hostOps0 _ _ _ = _
  simp only [hostOps0]
  after_reads_simp
  pointwise

/-- The first operand's lanes go by the point. -/
theorem x0 : ∀ t : Fin grid0.N, (cfg0.win 0).index t = ![0, t.val] := by decide +kernel
/-- The whole second operand is every point's block. -/
theorem x1 : ∀ t : Fin grid0.N, (cfg0.win 1).index t = ![0, 0] := by decide +kernel
/-- The result's rows go by the point. -/
theorem x2 : ∀ t : Fin grid0.N, (cfg0.win 2).index t = ![t.val, 0] := by decide +kernel
/-- There are eleven grid points. -/
theorem ltN (t : Fin grid0.N) : t.val < 11 := lt_of_lt_of_eq t.isLt (show grid0.N = 11 from N_0)

/-- Reading the first operand's block. -/
theorem rd0 (X : (b : Ref sig .tc) → b.ty.Contents (Elt Ideal)) (t : Fin grid0.N) (y : (⟨2, ![4096, 256]⟩ : Shape).Idx) :
    ((cfg0.win 0).blk t).view.read (Elt Ideal) (X (Pipeline.arrRef spec0 0)) y
    = X main_v0 (ix2 (y 0) ⟨t.val * 256 + (y 1).val, by have := (y 1).isLt; have := ltN t; simp at *; omega⟩) := by
  blk_ext [x0 t]
/-- Reading the second operand's block. -/
theorem rd1 (X : (b : Ref sig .tc) → b.ty.Contents (Elt Ideal)) (t : Fin grid0.N) (y : (⟨2, ![4096, 1024]⟩ : Shape).Idx) :
    ((cfg0.win 1).blk t).view.read (Elt Ideal) (X (Pipeline.arrRef spec0 1)) y = X main_v1 (ix2 (y 0) (y 1)) := by
  blk_ext [x1 t]
/-- The first operand's block, at a token and a lane. -/
theorem ib0 (t : Fin grid0.N) (k : Fin 4096) (r : Fin 256) (j : Fin 2816) (hj : j.val = t.val * 256 + r.val) : iblk m c 0 t (ix2 k r) = act m c (ix2 k j) :=
  (rd0 (V m c) t _).trans ((VA ..).trans (congrArg (act m c) (Two.ext rfl hj.symm)))
/-- The second operand's block is the whole of it. -/
theorem ib1 (t : Fin grid0.N) : iblk m c 1 t = df m c := by
  funext y
  exact (rd1 (V m c) t y).trans ((VB ..).trans (congrArg (df m c) (Two.eta y).symm))

/-- What is carried is the transpose of the second operand. -/
theorem carried (n : ℕ) : ∀ hn : n < cfg0.N, (outsAt0 m c n hn).2 = TR (df m c) := by
  induction n using Nat.strong_induction_on with
  | _ n ih =>
    intro hn
    have hN : n < 11 := lt_of_lt_of_eq hn (show cfg0.N = 11 from N_0)
    by_cases q0 : n % 11 = 0
    · have E := outsAt0_A m c ⟨n, hn⟩ q0
      dsimp only at E
      rw [E]
      dsimp only
      exact (soutA ..).trans (congrArg TR (ib1 m c _))
    · have e0 := ih (n - 1) (by omega) (Nat.lt_of_le_of_lt (Nat.sub_le _ _) hn)
      have E := outsAt0_B m c ⟨n, hn⟩ q0
      dsimp only at E
      rw [E]
      dsimp only [sout0_B_0]
      exact e0

/-- The block a grid point writes. -/
theorem blk (t : Fin grid0.N) (r : Fin 256) (e : Fin 1024) (j : Fin 2816) (hj : j.val = t.val * 256 + r.val) :
    (outsAt0 m c t.val t.isLt).1 (ix2 r e) = G (act m c) (df m c) (ix2 j e) := by
  by_cases q0 : t.val % 11 = 0
  · rw [outsAt0_A m c t q0]
    dsimp only
    refine (outA ..).trans ?_
    exact Finset.sum_congr rfl fun k _ => congrArg₂ (· * ·) (congrFun (ib1 m c t) _) (ib0 m c t k r j hj)
  · have e0 := carried m c (t.val - 1) (Nat.lt_of_le_of_lt (Nat.sub_le _ _) t.isLt)
    rw [outsAt0_B m c t q0]
    dsimp only
    refine (outB ..).trans ?_
    exact Finset.sum_congr rfl fun k _ => congrArg₂ (· * ·) (congrFun e0 _) (ib0 m c t k r j hj)

/-- The call's result. -/
theorem arr : (dats m 0 c).arrAt 2 cfg0.N = G (act m c) (df m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  have hN := ltN t
  refine (blk m c t r e ⟨t.val * 256 + r.val, by omega⟩ rfl).trans (congrArg (G (act m c) (df m c)) (Two.at_ix _ _ _ ?_ ?_).symm)
  · blk_simp [x2 t]
  · blk_simp [x2 t]

/-- The reference's result. -/
theorem ref (act : (⟨2, ![4096, 2816]⟩ : Shape).Idx → EReal) (df : (⟨2, ![4096, 1024]⟩ : Shape).Idx → EReal) :
    Cert.GwFfnOutRefIdeal.Read.val_main_v4 (F := Ideal) act df = G act df := by
  funext y
  refine (Cert.GwFfnOutRefIdeal.Read.val_main_v4_apply ..).trans ((Cert.GwFfnOutRefIdeal.Read.val_main_v2_apply ..).trans ((Cert.GwFfnOutRefIdeal.Read.val_main_v1_apply ..).trans ?_))
  refine Finset.sum_congr rfl fun k _ => congrArg₂ (· * ·) ?_ ?_
  · exact congrArg df (Two.at_ix _ _ _ rfl rfl)
  · exact congrArg act (Two.at_ix _ _ _ rfl rfl)

/-- The call's result is the reference's. -/
theorem algebraic : Cert.algebraic_GwFfnOutIdeal_GwFfnOutRefIdeal := by
  intro m g m' g' _ hagree
  refine ⟨fun c => G (act m c) (df m c), ?_, ?_⟩
  · refine (θ_run _ _ _).mono ?_ (θ_run_and (Cert.GwFfnOutIdeal.Gen.run_main m g) (Cert.GwFfnOutIdeal.Gen.unchanged m g))
    intro r hr c
    exact ⟨((hr.1 c).1 2).trans (arr m c), hr.2 c⟩
  · refine (θ_run _ _ _).mono ?_ (Cert.GwFfnOutRefIdeal.Value.run m' g')
    intro r hr c
    obtain ⟨e0, hU⟩ := hr c
    obtain ⟨k0, k1, k2⟩ := hagree c
    refine ⟨e0.trans ?_, hU⟩
    rw [Cert.GwFfnOutRefIdeal.Read.val_main_v4_eq, k0, k2]
    exact ref _ _

/-- The reference runs and leaves its arguments alone. -/
theorem reference_frame : Cert.quiescent_GwFfnOutRefIdeal := by
  intro m g _
  refine (θ_run _ _ _).mono ?_ (Cert.GwFfnOutRefIdeal.Value.run m g)
  intro r hr
  exact ⟨fun c => (hr c).2, sem_eq_zero_of_no_sems (by decide) r.2⟩
end Cert.GwFfnOutP
end
-- ==== Proof.Mix.lean ====
module
public import proofs.«01_k».proof.Proof.Two
public import proofs.«01_k».proof.Defs
public import proofs.«01_k».proof.Proof.Gen.MixIdeal.Value
public import proofs.«01_k».proof.Proof.Gen.MixRefIdeal.Run
public import proofs.«01_k».proof.Proof.Gen.MixRefIdeal.Read
public import Idealize.ShloMosaic.Lib.Claim
public import Idealize.ShloMosaic.Lib.StableHlo.RunRead
@[expose] public section
set_option maxRecDepth 16384
noncomputable section
namespace Cert.MixP
open Idealize.ShloMosaic Idealize.SL.Sem Cert.MixIdeal Cert.MixIdeal.Gen
variable (m : (ℓ : Loc nD τ sig) → Buf (Elt Ideal) ℓ) (c : Dev nD)

/-- The attention's output on device `c`. -/
abbrev a : (⟨2, ![4096, 1024]⟩ : Shape).Idx → EReal := m (c, Proc.devRef .tc main_arg0)
/-- The weights on device `c`. -/
abbrev w : (⟨2, ![1024, 1024]⟩ : Shape).Idx → EReal := m (c, Proc.devRef .tc main_arg1)

/-- The mixed heads at a token and a feature. -/
def G (a : (⟨2, ![4096, 1024]⟩ : Shape).Idx → EReal) (w : (⟨2, ![1024, 1024]⟩ : Shape).Idx → EReal) : (⟨2, ![4096, 1024]⟩ : Shape).Idx → EReal :=
  fun J => ∑ k : Fin 1024, a (ix2 (J 0) k) * w (ix2 k (J 1))

/-- The call's first operand. -/
theorem V0 (i : Fin 4096) (j : Fin 1024) : V m c main_v0 (ix2 i j) = a m c (ix2 i j) := by
  show StableHlo.after hostOps0 _ _ _ = _
  simp only [hostOps0]
  after_reads_simp
  pointwise
/-- The call's second operand. -/
theorem V1 (i : Fin 1024) (j : Fin 1024) : V m c main_v1 (ix2 i j) = w m c (ix2 i j) := by
  show StableHlo.after hostOps0 _ _ _ = _
  simp only [hostOps0]
  after_reads_simp
  pointwise

/-- A block of the result. -/
theorem out (x0 : Vec Ideal S4096x1024 .bf16) (x1 : Vec Ideal S1024x512 .bf16) (r : Fin 4096) (e : Fin 512) :
    out0_2 x0 x1 (ix2 r e) = ∑ k : Fin 1024, x0 (ix2 r k) * x1 (ix2 k e) := by
  unfold out0_2
  rw [View.canon_cons_unit_lit _ _ _ (by decide)]
  unfold_payloads
  pointwise

/-- The first operand's rows go by the row tile. -/
theorem x0 : ∀ t : Fin grid0.N, (cfg0.win 0).index t = ![(grid0.coords t 0).val, 0] := by decide +kernel
/-- The second operand goes by the lane tile. -/
theorem x1 : ∀ t : Fin grid0.N, (cfg0.win 1).index t = ![0, (grid0.coords t 1).val] := by decide +kernel
/-- The result's tile. -/
theorem x2 : ∀ t : Fin grid0.N, (cfg0.win 2).index t = ![(grid0.coords t 0).val, (grid0.coords t 1).val] := by decide +kernel
/-- The row tile of a grid point. -/
abbrev ti (t : Fin grid0.N) : Fin 1 := grid0.coords t 0
/-- The lane tile of a grid point. -/
abbrev tj (t : Fin grid0.N) : Fin 2 := grid0.coords t 1

/-- Reading the first operand's block. -/
theorem rd0 (X : (b : Ref sig .tc) → b.ty.Contents (Elt Ideal)) (t : Fin grid0.N) (y : (⟨2, ![4096, 1024]⟩ : Shape).Idx) :
    ((cfg0.win 0).blk t).view.read (Elt Ideal) (X (Pipeline.arrRef spec0 0)) y
    = X main_v0 (ix2 ⟨(ti t).val * 4096 + (y 0).val, by have := (y 0).isLt; have := (ti t).isLt; simp at *; omega⟩ (y 1)) := by
  blk_ext [x0 t]
/-- Reading the second operand's block. -/
theorem rd1 (X : (b : Ref sig .tc) → b.ty.Contents (Elt Ideal)) (t : Fin grid0.N) (y : (⟨2, ![1024, 512]⟩ : Shape).Idx) :
    ((cfg0.win 1).blk t).view.read (Elt Ideal) (X (Pipeline.arrRef spec0 1)) y
    = X main_v1 (ix2 (y 0) ⟨(tj t).val * 512 + (y 1).val, by have := (y 1).isLt; have := (tj t).isLt; simp at *; omega⟩) := by
  blk_ext [x1 t]

/-- The block a grid point writes, at a row and a lane. -/
theorem blk (t : Fin grid0.N) (r : Fin 4096) (e : Fin 512) :
    out0_2 (iblk m c 0 t) (iblk m c 1 t) (ix2 r e)
    = G (a m c) (w m c) (ix2 ⟨(ti t).val * 4096 + r.val, by have := (ti t).isLt; omega⟩ ⟨(tj t).val * 512 + e.val, by have := (tj t).isLt; omega⟩) := by
  refine (out ..).trans (Finset.sum_congr rfl fun k _ => congrArg₂ (· * ·) ?_ ?_)
  · exact (rd0 (V m c) t _).trans (V0 ..)
  · exact (rd1 (V m c) t _).trans (V1 ..)

/-- The call's result. -/
theorem arr : (dats m 0 c).arrAt 2 cfg0.N = G (a m c) (w m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  refine (blk m c t r e).trans (congrArg (G (a m c) (w m c)) (Two.at_ix _ _ _ ?_ ?_).symm)
  · blk_simp [x2 t]
  · blk_simp [x2 t]

/-- The reference's result. -/
theorem ref (a : (⟨2, ![4096, 1024]⟩ : Shape).Idx → EReal) (w : (⟨2, ![1024, 1024]⟩ : Shape).Idx → EReal) :
    Cert.MixRefIdeal.Read.val_main_v1 (F := Ideal) a w = G a w := by
  funext y
  refine (Cert.MixRefIdeal.Read.val_main_v1_apply ..).trans ((Cert.MixRefIdeal.Read.val_main_v0_apply ..).trans (Finset.sum_congr rfl fun k _ => congrArg₂ (· * ·) ?_ ?_))
  · exact congrArg a (Two.at_ix _ _ _ rfl rfl)
  · exact congrArg w (Two.at_ix _ _ _ rfl rfl)

/-- The call's result is the reference's. -/
theorem algebraic : Cert.algebraic_MixIdeal_MixRefIdeal := by
  intro m g m' g' _ hagree
  refine ⟨fun c => G (a m c) (w m c), ?_, ?_⟩
  · refine (θ_run _ _ _).mono ?_ (Cert.MixIdeal.Value.run_blocks m g)
    intro r hr c
    obtain ⟨e, hU⟩ := hr c
    exact ⟨e.trans (arr m c), hU⟩
  · refine (θ_run _ _ _).mono ?_ (Cert.MixRefIdeal.Value.run m' g')
    intro r hr c
    obtain ⟨e0, hU⟩ := hr c
    obtain ⟨k0, k1⟩ := hagree c
    refine ⟨e0.trans ?_, hU⟩
    rw [Cert.MixRefIdeal.Read.val_main_v1_eq, k0, k1]
    exact ref _ _

/-- The reference runs and leaves its arguments alone. -/
theorem reference_frame : Cert.quiescent_MixRefIdeal := by
  intro m g _
  refine (θ_run _ _ _).mono ?_ (Cert.MixRefIdeal.Value.run m g)
  intro r hr
  exact ⟨fun c => (hr c).2, sem_eq_zero_of_no_sems (by decide) r.2⟩
end Cert.MixP
end
-- ==== Proof.DY.lean ====
module
public import proofs.«01_k».proof.Proof.Two
public import proofs.«01_k».proof.Defs
public import proofs.«01_k».proof.Proof.Gen.DYIdeal.Value
public import proofs.«01_k».proof.Proof.Gen.DYRefIdeal.Run
public import proofs.«01_k».proof.Proof.Gen.DYRefIdeal.Read
public import Idealize.ShloMosaic.Lib.Claim
public import Idealize.ShloMosaic.Lib.StableHlo.RunRead
@[expose] public section
set_option maxRecDepth 16384
noncomputable section
namespace Cert.DYP
open Idealize.ShloMosaic Idealize.SL.Sem Cert.DYIdeal Cert.DYIdeal.Gen
variable (m : (ℓ : Loc nD τ sig) → Buf (Elt Ideal) ℓ) (c : Dev nD)

/-- The result's cotangent on device `c`. -/
abbrev a : (⟨2, ![4096, 1024]⟩ : Shape).Idx → EReal := m (c, Proc.devRef .tc main_arg2)
/-- The weights on device `c`. -/
abbrev w : (⟨2, ![1024, 1024]⟩ : Shape).Idx → EReal := m (c, Proc.devRef .tc main_arg1)

/-- The attention's output's cotangent at a token and a lane. -/
def G (a : (⟨2, ![4096, 1024]⟩ : Shape).Idx → EReal) (w : (⟨2, ![1024, 1024]⟩ : Shape).Idx → EReal) : (⟨2, ![4096, 1024]⟩ : Shape).Idx → EReal :=
  fun J => ∑ k : Fin 1024, a (ix2 (J 0) k) * w (ix2 (J 1) k)

/-- The call's first operand. -/
theorem V0 (i : Fin 4096) (j : Fin 1024) : V m c main_v0 (ix2 i j) = a m c (ix2 i j) := by
  show StableHlo.after hostOps0 _ _ _ = _
  simp only [hostOps0]
  after_reads_simp
  pointwise
/-- The call's second operand. -/
theorem V1 (i : Fin 1024) (j : Fin 1024) : V m c main_v1 (ix2 i j) = w m c (ix2 i j) := by
  show StableHlo.after hostOps0 _ _ _ = _
  simp only [hostOps0]
  after_reads_simp
  pointwise

/-- A block of the result. -/
theorem out (x0 : Vec Ideal S4096x1024 .bf16) (x1 : Vec Ideal S512x1024 .bf16) (r : Fin 4096) (e : Fin 512) :
    out0_2 x0 x1 (ix2 r e) = ∑ k : Fin 1024, x0 (ix2 r k) * x1 (ix2 e k) := by
  unfold out0_2
  rw [View.canon_cons_unit_lit _ _ _ (by decide)]
  unfold_payloads
  pointwise

/-- The first operand's rows go by the row tile. -/
theorem x0 : ∀ t : Fin grid0.N, (cfg0.win 0).index t = ![(grid0.coords t 0).val, 0] := by decide +kernel
/-- The second operand goes by the lane tile. -/
theorem x1 : ∀ t : Fin grid0.N, (cfg0.win 1).index t = ![(grid0.coords t 1).val, 0] := by decide +kernel
/-- The result's tile. -/
theorem x2 : ∀ t : Fin grid0.N, (cfg0.win 2).index t = ![(grid0.coords t 0).val, (grid0.coords t 1).val] := by decide +kernel
/-- The row tile of a grid point. -/
abbrev ti (t : Fin grid0.N) : Fin 1 := grid0.coords t 0
/-- The lane tile of a grid point. -/
abbrev tj (t : Fin grid0.N) : Fin 2 := grid0.coords t 1

/-- Reading the first operand's block. -/
theorem rd0 (X : (b : Ref sig .tc) → b.ty.Contents (Elt Ideal)) (t : Fin grid0.N) (y : (⟨2, ![4096, 1024]⟩ : Shape).Idx) :
    ((cfg0.win 0).blk t).view.read (Elt Ideal) (X (Pipeline.arrRef spec0 0)) y
    = X main_v0 (ix2 ⟨(ti t).val * 4096 + (y 0).val, by have := (y 0).isLt; have := (ti t).isLt; simp at *; omega⟩ (y 1)) := by
  blk_ext [x0 t]
/-- Reading the second operand's block. -/
theorem rd1 (X : (b : Ref sig .tc) → b.ty.Contents (Elt Ideal)) (t : Fin grid0.N) (y : (⟨2, ![512, 1024]⟩ : Shape).Idx) :
    ((cfg0.win 1).blk t).view.read (Elt Ideal) (X (Pipeline.arrRef spec0 1)) y
    = X main_v1 (ix2 ⟨(tj t).val * 512 + (y 0).val, by have := (y 0).isLt; have := (tj t).isLt; simp at *; omega⟩ (y 1)) := by
  blk_ext [x1 t]

/-- The block a grid point writes, at a row and a lane. -/
theorem blk (t : Fin grid0.N) (r : Fin 4096) (e : Fin 512) :
    out0_2 (iblk m c 0 t) (iblk m c 1 t) (ix2 r e)
    = G (a m c) (w m c) (ix2 ⟨(ti t).val * 4096 + r.val, by have := (ti t).isLt; omega⟩ ⟨(tj t).val * 512 + e.val, by have := (tj t).isLt; omega⟩) := by
  refine (out ..).trans (Finset.sum_congr rfl fun k _ => congrArg₂ (· * ·) ?_ ?_)
  · exact (rd0 (V m c) t _).trans (V0 ..)
  · exact (rd1 (V m c) t _).trans (V1 ..)

/-- The call's result. -/
theorem arr : (dats m 0 c).arrAt 2 cfg0.N = G (a m c) (w m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  refine (blk m c t r e).trans (congrArg (G (a m c) (w m c)) (Two.at_ix _ _ _ ?_ ?_).symm)
  · blk_simp [x2 t]
  · blk_simp [x2 t]

/-- The reference's result. -/
theorem ref (a : (⟨2, ![4096, 1024]⟩ : Shape).Idx → EReal) (w : (⟨2, ![1024, 1024]⟩ : Shape).Idx → EReal) :
    Cert.DYRefIdeal.Read.val_main_v4 (F := Ideal) w a = G a w := by
  funext y
  refine (Cert.DYRefIdeal.Read.val_main_v4_apply ..).trans ((Cert.DYRefIdeal.Read.val_main_v3_apply ..).trans (Finset.sum_congr rfl fun k _ => congrArg₂ (· * ·) ?_ ?_))
  · exact congrArg a (Two.at_ix _ _ _ rfl rfl)
  · exact congrArg w (Two.at_ix _ _ _ rfl rfl)

/-- The call's result is the reference's. -/
theorem algebraic : Cert.algebraic_DYIdeal_DYRefIdeal := by
  intro m g m' g' _ hagree
  refine ⟨fun c => G (a m c) (w m c), ?_, ?_⟩
  · refine (θ_run _ _ _).mono ?_ (Cert.DYIdeal.Value.run_blocks m g)
    intro r hr c
    obtain ⟨e, hU⟩ := hr c
    exact ⟨e.trans (arr m c), hU⟩
  · refine (θ_run _ _ _).mono ?_ (Cert.DYRefIdeal.Value.run m' g')
    intro r hr c
    obtain ⟨e0, hU⟩ := hr c
    obtain ⟨k0, k1, k2⟩ := hagree c
    refine ⟨e0.trans ?_, hU⟩
    rw [Cert.DYRefIdeal.Read.val_main_v4_eq, k1, k2]
    exact ref _ _

/-- The reference runs and leaves its arguments alone. -/
theorem reference_frame : Cert.quiescent_DYRefIdeal := by
  intro m g _
  refine (θ_run _ _ _).mono ?_ (Cert.DYRefIdeal.Value.run m g)
  intro r hr
  exact ⟨fun c => (hr c).2, sem_eq_zero_of_no_sems (by decide) r.2⟩
end Cert.DYP
end
-- ==== Proof.GwOut.lean ====
module
public import proofs.«01_k».proof.Proof.Two
public import proofs.«01_k».proof.Defs
public import proofs.«01_k».proof.Proof.Gen.GwOutIdeal.Frame
public import proofs.«01_k».proof.Proof.Gen.GwOutRefIdeal.Run
public import proofs.«01_k».proof.Proof.Gen.GwOutRefIdeal.Read
public import Idealize.ShloMosaic.Lib.Claim
public import Idealize.ShloMosaic.Lib.StableHlo.RunRead
public import Idealize.ShloMosaic.Lib.Pipeline.ReadBack
@[expose] public section
set_option maxRecDepth 16384
noncomputable section
namespace Cert.GwOutP
open Idealize.ShloMosaic Idealize.SL.Sem Cert.GwOutIdeal Cert.GwOutIdeal.Gen

section
variable (c : Dev nD) (i : grid0.Coords) (arg2 : Memref sig .tc .vmem S4096x1024 .bf16) (harg2 : arg2.IsWhole) (arg3 : Memref sig .tc .vmem S4096x512 .bf16) (harg3 : arg3.IsWhole)
  (arg4 : Memref sig .tc .vmem S1024x512 .bf16) (harg4 : arg4.IsWhole) (arg5 : Memref sig .tc .vmem S1024x4096 .bf16) (harg5 : arg5.IsWhole)
  (x0 : Vec Ideal S4096x1024 .bf16) (x1 : Vec Ideal S4096x512 .bf16) (xs : Vec Ideal S1024x4096 .bf16)

/-- The transpose of a block. -/
def TR (x : Vec Ideal S4096x1024 .bf16) : (⟨2, ![1024, 4096]⟩ : Shape).Idx → EReal := fun y => x (ix2 (y 1) (y 0))

/-- A trip of the loop stores a part of the transpose. -/
theorem trip (𝒱 : Variants) (bd : Option 𝒱.V) (h) (k : Fin k0_t1_loop.trips) :
    View.PiecesOf (TR x0) (tripL_k0_t1 (F := Ideal) 𝒱 c bd i arg2 harg2 arg3 harg3 arg4 harg4 arg5 harg5 h (harg2.unread x0) k) := by
  unfold tripL_k0_t1 trip_k0_t1
  dsimp only
  refine ⟨fun x => ?_, trivial⟩
  obtain ⟨a, b, rfl⟩ : ∃ (a : Fin 1024) (b : Fin 512), x = ix2 a b := ⟨_, _, Two.eta x⟩
  dsimp only
  unfold_payloads
  pointwise
  rw [View.readAt_eq_ld, harg2.read_unread, View.ld_apply]
  unfold TR
  refine congrArg x0 (Two.at_ix _ _ _ ?_ ?_)
  · show (k0_off1 k) 0 + 1 * b.val = (k0_off2 k) 1 + 1 * b.val
    rw [k0_off1_eq, k0_off2_eq]; rfl
  · show (k0_off1 k) 1 + 1 * a.val = (k0_off2 k) 0 + 1 * a.val
    rw [k0_off1_eq, k0_off2_eq]; rfl

/-- The loop's stores before a trip are parts of the transpose. -/
theorem trips (𝒱 : Variants) (bd : Option 𝒱.V) (h) (n : ℕ) : n ≤ k0_t1_loop.trips →
    ∀ p ∈ pb_k0_t1 (F := Ideal) 𝒱 c bd i arg2 harg2 arg3 harg3 arg4 harg4 arg5 harg5 h (harg2.unread x0) n, ∀ x : p.1.shape.Idx, p.2 x = TR x0 (p.1.emb x) := by
  induction n with
  | zero => intro _ p hp; rw [pb_k0_t1] at hp; exact absurd hp List.not_mem_nil
  | succ n ih =>
    intro hn p hp
    rw [pb_k0_t1_succ (F := Ideal) 𝒱 c bd i arg2 harg2 arg3 harg3 arg4 harg4 arg5 harg5 h (harg2.unread x0) ⟨n, hn⟩] at hp
    rcases List.mem_append.mp hp with hp | hp
    · exact (trip c i arg2 harg2 arg3 harg3 arg4 harg4 arg5 harg5 x0 𝒱 bd h ⟨n, hn⟩).mem p hp
    · exact ih (Nat.le_of_succ_le hn) p hp

/-- The block of a point after the first, from the carried transpose. -/
theorem outB (hc0) (r : Fin 1024) (e : Fin 512) :
    out0_B_2 (F := Ideal) c i arg2 harg2 arg3 harg3 arg4 harg4 arg5 harg5 hc0 x0 x1 xs (ix2 r e) = ∑ k : Fin 4096, xs (ix2 r k) * x1 (ix2 k e) := by
  unfold out0_B_2
  rw [View.read_writes_junk_eq_canon]
  unfold kernelRun0_B
  dsimp only
  rw [View.canon_cons_unit_lit _ _ _ (by decide)]
  simp only [View.readAt_eq_ld, harg3.read_unread, harg5.read_unread]
  unfold_payloads
  pointwise

include x1 in
/-- The loop leaves the transpose. -/
theorem loop (hc0 : cond0_0 i) : View.canon
      (pb_k0_t1 (F := Ideal) Variants.none c none i arg2 harg2 arg3 harg3 arg4 harg4 arg5 harg5 hc0
        (harg2.unread x0) (Scf.trips (0#32) (Scalar.addi 0#32 8#32) 1#32)) = TR x0 := by
  funext y
  refine View.canon_apply_of_pieces (Val := Elt Ideal) (e := .bf16) (TR x0) _ (trips c i arg2 harg2 arg3 harg3 arg4 harg4 arg5 harg5 x0 Variants.none none hc0 _ le_rfl) y ?_
  exact scover0_A_0 c i arg2 harg2 arg3 harg3 arg4 harg4 arg5 harg5 hc0 x0 x1 y

/-- The first point carries the transpose on. -/
theorem soutA (hc0) : sout0_A_0 (F := Ideal) c i arg2 harg2 arg3 harg3 arg4 harg4 arg5 harg5 hc0 x0 x1 = TR x0 := by
  unfold sout0_A_0
  rw [View.read_writes_junk_eq_canon]
  exact loop c i arg2 harg2 arg3 harg3 arg4 harg4 arg5 harg5 x0 x1 hc0

/-- The block of the first point. -/
theorem outA (hc0) (r : Fin 1024) (e : Fin 512) :
    out0_A_2 (F := Ideal) c i arg2 harg2 arg3 harg3 arg4 harg4 arg5 harg5 hc0 x0 x1 (ix2 r e) = ∑ k : Fin 4096, x0 (ix2 k r) * x1 (ix2 k e) := by
  unfold out0_A_2
  rw [View.read_writes_junk_eq_canon]
  unfold kernelRun0_A
  dsimp only
  rw [View.canon_cons_unit_lit _ _ _ (by decide)]
  simp only [View.readAt_eq_ld, harg3.read_unread, harg5.read_unread]
  unfold_payloads
  pointwise
  refine Finset.sum_congr rfl fun k _ => congrArg (· * x1 (ix2 k e)) ((Two.read_whole _ _ _ _).trans ?_)
  exact congrFun (loop c i arg2 harg2 arg3 harg3 arg4 harg4 arg5 harg5 x0 x1 hc0) _
end

variable (m : (ℓ : Loc nD τ sig) → Buf (Elt Ideal) ℓ) (c : Dev nD)

/-- The attention's output on device `c`. -/
abbrev a : (⟨2, ![4096, 1024]⟩ : Shape).Idx → EReal := m (c, Proc.devRef .tc main_arg0)
/-- The result's cotangent. -/
abbrev d : (⟨2, ![4096, 1024]⟩ : Shape).Idx → EReal := m (c, Proc.devRef .tc main_arg2)

/-- The weights' gradient at a lane and a feature. -/
def G (a d : (⟨2, ![4096, 1024]⟩ : Shape).Idx → EReal) : (⟨2, ![1024, 1024]⟩ : Shape).Idx → EReal :=
  fun J => ∑ k : Fin 4096, a (ix2 k (J 0)) * d (ix2 k (J 1))

/-- The call's first operand. -/
theorem VA (i : Fin 4096) (j : Fin 1024) : V m c main_v0 (ix2 i j) = a m c (ix2 i j) := by
  show StableHlo.after hostOps0 _ _ _ = _
  simp only [hostOps0]
  after_reads_simp
  pointwise
/-- The call's second operand. -/
theorem VB (i : Fin 4096) (j : Fin 1024) : V m c main_v1 (ix2 i j) = d m c (ix2 i j) := by
  show StableHlo.after hostOps0 _ _ _ = _
  simp only [hostOps0]
  after_reads_simp
  pointwise

/-- The whole first operand is every point's block. -/
theorem x0 : ∀ t : Fin grid0.N, (cfg0.win 0).index t = ![0, 0] := by decide +kernel
/-- The second operand's lanes go by the point. -/
theorem x1 : ∀ t : Fin grid0.N, (cfg0.win 1).index t = ![0, t.val] := by decide +kernel
/-- The result's lanes go by the point. -/
theorem x2 : ∀ t : Fin grid0.N, (cfg0.win 2).index t = ![0, t.val] := by decide +kernel
/-- There are two grid points. -/
theorem ltN (t : Fin grid0.N) : t.val < 2 := lt_of_lt_of_eq t.isLt (show grid0.N = 2 from N_0)

/-- Reading the first operand's block. -/
theorem rd0 (X : (b : Ref sig .tc) → b.ty.Contents (Elt Ideal)) (t : Fin grid0.N) (y : (⟨2, ![4096, 1024]⟩ : Shape).Idx) :
    ((cfg0.win 0).blk t).view.read (Elt Ideal) (X (Pipeline.arrRef spec0 0)) y = X main_v0 (ix2 (y 0) (y 1)) := by
  blk_ext [x0 t]
/-- Reading the second operand's block. -/
theorem rd1 (X : (b : Ref sig .tc) → b.ty.Contents (Elt Ideal)) (t : Fin grid0.N) (y : (⟨2, ![4096, 512]⟩ : Shape).Idx) :
    ((cfg0.win 1).blk t).view.read (Elt Ideal) (X (Pipeline.arrRef spec0 1)) y
    = X main_v1 (ix2 (y 0) ⟨t.val * 512 + (y 1).val, by have := (y 1).isLt; have := ltN t; simp at *; omega⟩) := by
  blk_ext [x1 t]
/-- The first operand's block is the whole of it. -/
theorem ib0 (t : Fin grid0.N) : iblk m c 0 t = a m c := by
  funext y
  exact (rd0 (V m c) t y).trans ((VA ..).trans (congrArg (a m c) (Two.eta y).symm))
/-- The second operand's block, at a token and a lane. -/
theorem ib1 (t : Fin grid0.N) (k : Fin 4096) (e : Fin 512) (j : Fin 1024) (hj : j.val = t.val * 512 + e.val) : iblk m c 1 t (ix2 k e) = d m c (ix2 k j) :=
  (rd1 (V m c) t _).trans ((VB ..).trans (congrArg (d m c) (Two.ext rfl hj.symm)))

/-- What is carried is the transpose of the first operand. -/
theorem carried (n : ℕ) : ∀ hn : n < cfg0.N, (outsAt0 m c n hn).2 = TR (a m c) := by
  induction n using Nat.strong_induction_on with
  | _ n ih =>
    intro hn
    have hN : n < 2 := lt_of_lt_of_eq hn (show cfg0.N = 2 from N_0)
    by_cases q0 : n % 2 = 0
    · have E := outsAt0_A m c ⟨n, hn⟩ q0
      dsimp only at E
      rw [E]
      dsimp only
      exact (soutA ..).trans (congrArg TR (ib0 m c _))
    · have e0 := ih (n - 1) (by omega) (Nat.lt_of_le_of_lt (Nat.sub_le _ _) hn)
      have E := outsAt0_B m c ⟨n, hn⟩ q0
      dsimp only at E
      rw [E]
      dsimp only [sout0_B_0]
      exact e0

/-- The block a grid point writes. -/
theorem blk (t : Fin grid0.N) (r : Fin 1024) (e : Fin 512) (j : Fin 1024) (hj : j.val = t.val * 512 + e.val) :
    (outsAt0 m c t.val t.isLt).1 (ix2 r e) = G (a m c) (d m c) (ix2 r j) := by
  by_cases q0 : t.val % 2 = 0
  · rw [outsAt0_A m c t q0]
    dsimp only
    refine (outA ..).trans ?_
    exact Finset.sum_congr rfl fun k _ => congrArg₂ (· * ·) (congrFun (ib0 m c t) _) (ib1 m c t k e j hj)
  · have e0 := carried m c (t.val - 1) (Nat.lt_of_le_of_lt (Nat.sub_le _ _) t.isLt)
    rw [outsAt0_B m c t q0]
    dsimp only
    refine (outB ..).trans ?_
    exact Finset.sum_congr rfl fun k _ => congrArg₂ (· * ·) (congrFun e0 _) (ib1 m c t k e j hj)

/-- The call's result. -/
theorem arr : (dats m 0 c).arrAt 2 cfg0.N = G (a m c) (d m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  have hN := ltN t
  refine (blk m c t r e ⟨t.val * 512 + e.val, by omega⟩ rfl).trans (congrArg (G (a m c) (d m c)) (Two.at_ix _ _ _ ?_ ?_).symm)
  · blk_simp [x2 t]
  · blk_simp [x2 t]

/-- The reference's result. -/
theorem ref (a d : (⟨2, ![4096, 1024]⟩ : Shape).Idx → EReal) : Cert.GwOutRefIdeal.Read.val_main_v4 (F := Ideal) a d = G a d := by
  funext y
  refine (Cert.GwOutRefIdeal.Read.val_main_v4_apply ..).trans ((Cert.GwOutRefIdeal.Read.val_main_v2_apply ..).trans ((Cert.GwOutRefIdeal.Read.val_main_v1_apply ..).trans ?_))
  refine Finset.sum_congr rfl fun k _ => (mul_comm _ _).trans (congrArg₂ (· * ·) ?_ ?_)
  · exact congrArg a (Two.at_ix _ _ _ rfl rfl)
  · exact congrArg d (Two.at_ix _ _ _ rfl rfl)

/-- The call's result is the reference's. -/
theorem algebraic : Cert.algebraic_GwOutIdeal_GwOutRefIdeal := by
  intro m g m' g' _ hagree
  refine ⟨fun c => G (a m c) (d m c), ?_, ?_⟩
  · refine (θ_run _ _ _).mono ?_ (θ_run_and (Cert.GwOutIdeal.Gen.run_main m g) (Cert.GwOutIdeal.Gen.unchanged m g))
    intro r hr c
    exact ⟨((hr.1 c).1 2).trans (arr m c), hr.2 c⟩
  · refine (θ_run _ _ _).mono ?_ (Cert.GwOutRefIdeal.Value.run m' g')
    intro r hr c
    obtain ⟨e0, hU⟩ := hr c
    obtain ⟨k0, k1, k2⟩ := hagree c
    refine ⟨e0.trans ?_, hU⟩
    rw [Cert.GwOutRefIdeal.Read.val_main_v4_eq, k0, k2]
    exact ref _ _

/-- The reference runs and leaves its arguments alone. -/
theorem reference_frame : Cert.quiescent_GwOutRefIdeal := by
  intro m g _
  refine (θ_run _ _ _).mono ?_ (Cert.GwOutRefIdeal.Value.run m g)
  intro r hr
  exact ⟨fun c => (hr c).2, sem_eq_zero_of_no_sems (by decide) r.2⟩
end Cert.GwOutP
end
-- ==== Proof.Pad.lean ====
module
public import proofs.«01_k».proof.Proof.Two
@[expose] public section
noncomputable section
namespace Cert.Pad
open Idealize.ShloMosaic

/-- The projection's outputs with the lanes of zeros between them: 2176 outputs, 64 zeros, the last 32 outputs, 32 zeros. -/
def pad (f : Fin 2208 → EReal) (j : Fin 2304) : EReal :=
  if _h : j.val < 2176 then f ⟨j.val, by omega⟩ else if _h : j.val < 2240 then 0 else if _h : j.val < 2272 then f ⟨j.val - 64, by omega⟩ else 0
/-- The lane at which an output lies. -/
def lane (q : Fin 2208) : Fin 2304 := if _h : q.val < 2176 then ⟨q.val, by omega⟩ else ⟨q.val + 64, by omega⟩
/-- At an output's lane lies the output. -/
theorem pad_lane (f : Fin 2208 → EReal) (q : Fin 2208) : pad f (lane q) = f q := by
  unfold pad lane
  by_cases h : q.val < 2176
  · rw [dif_pos h, dif_pos h]
  · rw [dif_neg h, dif_neg (by show ¬q.val + 64 < 2176; omega), dif_neg (by show ¬q.val + 64 < 2240; omega), dif_pos (by show q.val + 64 < 2272; omega)]
    exact congrArg f (Fin.ext (by show q.val + 64 - 64 = q.val; omega))
/-- The lanes of zeros add nothing to a sum of products. -/
theorem sum_pad (f g : Fin 2208 → EReal) : ∑ j, pad f j * pad g j = ∑ q, f q * g q := by
  have e1 := Fin.sum_univ_add (a := 2176) (b := 128) fun j => pad f j * pad g j
  have e2 := Fin.sum_univ_add (a := 64) (b := 64) fun j => pad f (Fin.natAdd 2176 j) * pad g (Fin.natAdd 2176 j)
  have e3 := Fin.sum_univ_add (a := 32) (b := 32) fun j => pad f (Fin.natAdd 2176 (Fin.natAdd 64 j)) * pad g (Fin.natAdd 2176 (Fin.natAdd 64 j))
  have e4 := Fin.sum_univ_add (a := 2176) (b := 32) fun q => f q * g q
  refine e1.trans (Eq.trans ?_ e4.symm)
  rw [e2, e3]
  have a0 : ∀ (f : Fin 2208 → EReal) (j : Fin 2176), pad f (Fin.castAdd 128 j) = f (Fin.castAdd 32 j) := fun f j =>
    dif_pos (show (Fin.castAdd 128 j).val < 2176 from j.isLt)
  have a1 : ∀ (f : Fin 2208 → EReal) (j : Fin 64), pad f (Fin.natAdd 2176 (Fin.castAdd 64 j)) = 0 := fun f j =>
    (dif_neg (show ¬2176 + j.val < 2176 by omega)).trans (dif_pos (show 2176 + j.val < 2240 by omega))
  have a2 : ∀ (f : Fin 2208 → EReal) (j : Fin 32), pad f (Fin.natAdd 2176 (Fin.natAdd 64 (Fin.castAdd 32 j))) = f (Fin.natAdd 2176 j) := fun f j =>
    (dif_neg (show ¬2176 + (64 + j.val) < 2176 by omega)).trans <| (dif_neg (show ¬2176 + (64 + j.val) < 2240 by omega)).trans <|
    (dif_pos (show 2176 + (64 + j.val) < 2272 by omega)).trans <| congrArg f (Fin.ext (show 2176 + (64 + j.val) - 64 = 2176 + j.val by omega))
  have a3 : ∀ (f : Fin 2208 → EReal) (j : Fin 32), pad f (Fin.natAdd 2176 (Fin.natAdd 64 (Fin.natAdd 32 j))) = 0 := fun f j =>
    (dif_neg (show ¬2176 + (64 + (32 + j.val)) < 2176 by omega)).trans <| (dif_neg (show ¬2176 + (64 + (32 + j.val)) < 2240 by omega)).trans
    (dif_neg (show ¬2176 + (64 + (32 + j.val)) < 2272 by omega))
  simp only [a0, a1, a2, a3, mul_zero, Finset.sum_const_zero, zero_add, add_zero]
end Cert.Pad
end
-- ==== Proof.Proj.lean ====
module
public import proofs.«01_k».proof.Proof.Pad
public import proofs.«01_k».proof.Defs
public import proofs.«01_k».proof.Proof.Gen.ProjIdeal.Frame
public import proofs.«01_k».proof.Proof.Gen.ProjRefIdeal.Run
public import proofs.«01_k».proof.Proof.Gen.ProjRefIdeal.Read
public import Idealize.ShloMosaic.Lib.Claim
public import Idealize.ShloMosaic.Lib.StableHlo.RunRead
@[expose] public section
set_option maxRecDepth 16384
noncomputable section
namespace Cert.ProjP
open Idealize.ShloMosaic Idealize.SL.Sem Cert.ProjIdeal Cert.ProjIdeal.Gen
variable (m : (ℓ : Loc nD τ sig) → Buf (Elt Ideal) ℓ) (c : Dev nD) (X : Valuation τ sig (Elt Ideal))

/-- The tokens' features on device `c`. -/
abbrev h : (⟨2, ![4096, 1024]⟩ : Shape).Idx → EReal := m (c, Proc.devRef .tc main_arg0)
/-- The weights on device `c`. -/
abbrev w : (⟨2, ![1024, 2208]⟩ : Shape).Idx → EReal := m (c, Proc.devRef .tc main_arg1)

/-- The call's first operand. -/
theorem VA (i : Fin 4096) (j : Fin 1024) : V m c main_v0 (ix2 i j) = h m c (ix2 i j) := by
  show StableHlo.after (hostOps0 ++ []) _ _ _ = _
  simp only [hostOps0, List.append_nil]
  after_reads_simp
  pointwise
/-- The call's second operand. -/
theorem VB (j : Fin 2304) (k : Fin 1024) : V m c main_v7 (ix2 j k) = Pad.pad (fun q => w m c (ix2 k q)) j := by
  show StableHlo.after (hostOps0 ++ []) _ _ _ = _
  simp only [hostOps0, List.append_nil]
  after_reads_simp
  pointwise
  unfold Pad.pad
  by_cases h0 : j.val < 2176
  · rw [dif_pos h0, dif_pos h0]
    after_reads_simp
    pointwise
  rw [dif_neg h0, dif_neg h0]
  by_cases h1 : j.val < 2240
  · rw [dif_pos (show j.val - 2176 < 64 by omega), dif_pos h1]
    after_reads_simp
    pointwise
  rw [dif_neg (show ¬j.val - 2176 < 64 by omega), dif_neg h1]
  by_cases h2 : j.val < 2272
  · rw [dif_pos (show j.val - 2176 - 64 < 32 by omega), dif_pos h2]
    after_reads_simp
    pointwise
    exact congrArg (fun q => w m c (ix2 k q)) (Fin.ext (show 2176 + (j.val - 2176 - 64) = j.val - 64 by omega))
  rw [dif_neg (show ¬j.val - 2176 - 64 < 32 by omega), dif_neg h2]
  after_reads_simp
  pointwise
/-- The result, from the call's. -/
theorem s13 (i : Fin 4096) (q : Fin 2208) : StableHlo.after hostOps1 X (Proc.devRef .tc main_v13) (ix2 i q) = X (Proc.devRef .tc main_v8) (ix2 i (Pad.lane q)) := by
  simp only [hostOps1]
  after_reads_simp
  pointwise
  unfold Pad.lane
  by_cases hq : q.val < 2176
  · rw [dif_pos hq, dif_pos hq]
    after_reads_simp
    pointwise
  · rw [dif_neg hq, dif_neg hq]
    after_reads_simp
    pointwise
    exact congrArg (fun r => X (Proc.devRef .tc main_v8) (ix2 i r)) (Fin.ext (show 2240 + (q.val - 2176) = q.val + 64 by omega))

/-- The projection at a token and an output. -/
def G (h : (⟨2, ![4096, 1024]⟩ : Shape).Idx → EReal) (w : (⟨2, ![1024, 2208]⟩ : Shape).Idx → EReal) : (⟨2, ![4096, 2208]⟩ : Shape).Idx → EReal :=
  fun J => ∑ k : Fin 1024, h (ix2 (J 0) k) * w (ix2 k (J 1))
/-- The call's result at a token and a lane. -/
def Gp (h : (⟨2, ![4096, 1024]⟩ : Shape).Idx → EReal) (w : (⟨2, ![1024, 2208]⟩ : Shape).Idx → EReal) : (⟨2, ![4096, 2304]⟩ : Shape).Idx → EReal :=
  fun J => ∑ k : Fin 1024, h (ix2 (J 0) k) * Pad.pad (fun q => w (ix2 k q)) (J 1)

/-- A block of the result. -/
theorem out (x0 : Vec Ideal S4096x1024 .bf16) (x1 : Vec Ideal S256x1024 .bf16) (r : Fin 4096) (e : Fin 256) :
    out0_2 x0 x1 (ix2 r e) = ∑ k : Fin 1024, x0 (ix2 r k) * x1 (ix2 e k) := by
  unfold out0_2
  rw [View.canon_cons_unit_lit _ _ _ (by decide)]
  unfold_payloads
  pointwise

/-- The first operand's rows go by the row tile. -/
theorem x0 : ∀ t : Fin grid0.N, (cfg0.win 0).index t = ![(grid0.coords t 0).val, 0] := by decide +kernel
/-- The second operand goes by the lane tile. -/
theorem x1 : ∀ t : Fin grid0.N, (cfg0.win 1).index t = ![(grid0.coords t 1).val, 0] := by decide +kernel
/-- The result's tile. -/
theorem x2 : ∀ t : Fin grid0.N, (cfg0.win 2).index t = ![(grid0.coords t 0).val, (grid0.coords t 1).val] := by decide +kernel
/-- The row tile of a grid point. -/
abbrev ti (t : Fin grid0.N) : Fin 1 := grid0.coords t 0
/-- The lane tile of a grid point. -/
abbrev tj (t : Fin grid0.N) : Fin 9 := grid0.coords t 1

/-- Reading the first operand's block. -/
theorem rd0 (X : (b : Ref sig .tc) → b.ty.Contents (Elt Ideal)) (t : Fin grid0.N) (y : (⟨2, ![4096, 1024]⟩ : Shape).Idx) :
    ((cfg0.win 0).blk t).view.read (Elt Ideal) (X (Pipeline.arrRef spec0 0)) y
    = X main_v0 (ix2 ⟨(ti t).val * 4096 + (y 0).val, by have := (y 0).isLt; have := (ti t).isLt; simp at *; omega⟩ (y 1)) := by
  blk_ext [x0 t]
/-- Reading the second operand's block. -/
theorem rd1 (X : (b : Ref sig .tc) → b.ty.Contents (Elt Ideal)) (t : Fin grid0.N) (y : (⟨2, ![256, 1024]⟩ : Shape).Idx) :
    ((cfg0.win 1).blk t).view.read (Elt Ideal) (X (Pipeline.arrRef spec0 1)) y
    = X main_v7 (ix2 ⟨(tj t).val * 256 + (y 0).val, by have := (y 0).isLt; have := (tj t).isLt; simp at *; omega⟩ (y 1)) := by
  blk_ext [x1 t]

/-- The block a grid point writes, at a row and a lane. -/
theorem blk (t : Fin grid0.N) (r : Fin 4096) (e : Fin 256) :
    out0_2 (iblk m c 0 t) (iblk m c 1 t) (ix2 r e)
    = Gp (h m c) (w m c) (ix2 ⟨(ti t).val * 4096 + r.val, by have := (ti t).isLt; omega⟩ ⟨(tj t).val * 256 + e.val, by have := (tj t).isLt; omega⟩) := by
  refine (out ..).trans (Finset.sum_congr rfl fun k _ => congrArg₂ (· * ·) ?_ ?_)
  · exact (rd0 (V m c) t _).trans (VA ..)
  · exact (rd1 (V m c) t _).trans (VB ..)

/-- The call's result. -/
theorem arr : (dats m 0 c).arrAt 2 cfg0.N = Gp (h m c) (w m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  refine (blk m c t r e).trans (congrArg (Gp (h m c) (w m c)) (Two.at_ix _ _ _ ?_ ?_).symm)
  · blk_simp [x2 t]
  · blk_simp [x2 t]

/-- The values after the calls. -/
abbrev WT : Valuation τ sig (Elt Ideal) := Pipeline.withArrays spec0 c (V0 m c) fun w => (dats m 0 c).arrAt w (cfgs 0).N
/-- The result's values. -/
theorem tail_eq (b : Ref sig .tc) : Pipeline.afterTail₀ cfgs (dats m) 0 (V0 m) [hostOps1] c b = StableHlo.after hostOps1 (WT m c) (Proc.devRef .tc b) := by
  show StableHlo.after (hostOps1 ++ []) _ _ = _
  rw [List.append_nil]
/-- The call's result after the call. -/
theorem T0 : WT m c (Proc.devRef .tc main_v8) = Gp (h m c) (w m c) := (Pipeline.withArrays_arr spec0 (by decide +kernel) c _ _ 2).trans (arr m c)
/-- The result. -/
theorem res : StableHlo.after hostOps1 (WT m c) (Proc.devRef .tc main_v13) = G (h m c) (w m c) := by
  funext y
  obtain ⟨i, q, rfl⟩ : ∃ i q, y = ix2 i q := ⟨_, _, Two.eta y⟩
  have e : Gp (h m c) (w m c) (ix2 i (Pad.lane q)) = G (h m c) (w m c) (ix2 i q) :=
    Finset.sum_congr rfl fun k _ => congrArg (h m c (ix2 i k) * ·) (Pad.pad_lane (fun q => w m c (ix2 k q)) q)
  exact (s13 (WT m c) i q).trans ((congrFun (T0 m c) _).trans e)

/-- The reference's result. -/
theorem ref (h : (⟨2, ![4096, 1024]⟩ : Shape).Idx → EReal) (w : (⟨2, ![1024, 2208]⟩ : Shape).Idx → EReal) :
    Cert.ProjRefIdeal.Read.val_main_v0 (F := Ideal) h w = G h w := by
  funext y
  refine (Cert.ProjRefIdeal.Read.val_main_v0_apply ..).trans (Finset.sum_congr rfl fun k _ => congrArg₂ (· * ·) ?_ ?_)
  · exact congrArg h (Two.at_ix _ _ _ rfl rfl)
  · exact congrArg w (Two.at_ix _ _ _ rfl rfl)

/-- The call's result is the reference's. -/
theorem algebraic : Cert.algebraic_ProjIdeal_ProjRefIdeal := by
  intro m g m' g' _ hagree
  refine ⟨fun c => G (h m c) (w m c), ?_, ?_⟩
  · refine (θ_run _ _ _).mono ?_ (θ_run_and (Cert.ProjIdeal.Gen.run_main m g) (Cert.ProjIdeal.Gen.unchanged m g))
    intro r hr c
    obtain ⟨hP, hU⟩ := hr
    exact ⟨((hP c).2 _ (by decide)).trans ((tail_eq m c _).trans (res m c)), hU c⟩
  · refine (θ_run _ _ _).mono ?_ (Cert.ProjRefIdeal.Value.run m' g')
    intro r hr c
    obtain ⟨e0, hU⟩ := hr c
    obtain ⟨k0, k1⟩ := hagree c
    refine ⟨e0.trans ?_, hU⟩
    rw [Cert.ProjRefIdeal.Read.val_main_v0_eq, k0, k1]
    exact ref _ _

/-- The reference runs and leaves its arguments alone. -/
theorem reference_frame : Cert.quiescent_ProjRefIdeal := by
  intro m g _
  refine (θ_run _ _ _).mono ?_ (Cert.ProjRefIdeal.Value.run m g)
  intro r hr
  exact ⟨fun c => (hr c).2, sem_eq_zero_of_no_sems (by decide) r.2⟩
end Cert.ProjP
end
-- ==== Proof.DH1.lean ====
module
public import proofs.«01_k».proof.Proof.Pad
public import proofs.«01_k».proof.Defs
public import proofs.«01_k».proof.Proof.Gen.DH1Ideal.Value
public import proofs.«01_k».proof.Proof.Gen.DH1RefIdeal.Run
public import proofs.«01_k».proof.Proof.Gen.DH1RefIdeal.Read
public import Idealize.ShloMosaic.Lib.Claim
public import Idealize.ShloMosaic.Lib.StableHlo.RunRead
@[expose] public section
set_option maxRecDepth 16384
noncomputable section
namespace Cert.DH1P
open Idealize.ShloMosaic Idealize.SL.Sem Cert.DH1Ideal Cert.DH1Ideal.Gen
variable (m : (ℓ : Loc nD τ sig) → Buf (Elt Ideal) ℓ) (c : Dev nD)

/-- The weights on device `c`. -/
abbrev w : (⟨2, ![1024, 2208]⟩ : Shape).Idx → EReal := m (c, Proc.devRef .tc main_arg1)
/-- The projection's cotangent on device `c`. -/
abbrev a : (⟨2, ![4096, 2208]⟩ : Shape).Idx → EReal := m (c, Proc.devRef .tc main_arg2)

/-- The input's cotangent at a token and a feature. -/
def G (w : (⟨2, ![1024, 2208]⟩ : Shape).Idx → EReal) (a : (⟨2, ![4096, 2208]⟩ : Shape).Idx → EReal) : (⟨2, ![4096, 1024]⟩ : Shape).Idx → EReal :=
  fun J => ∑ q : Fin 2208, a (ix2 (J 0) q) * w (ix2 (J 1) q)

/-- The call's first operand. -/
theorem V0 (i : Fin 4096) (j : Fin 2304) : V m c main_v7 (ix2 i j) = Pad.pad (fun q => a m c (ix2 i q)) j := by
  show StableHlo.after hostOps0 _ _ _ = _
  simp only [hostOps0]
  after_reads_simp
  pointwise
  unfold Pad.pad
  by_cases h0 : j.val < 2176
  · rw [dif_pos h0, dif_pos h0]
    after_reads_simp
    pointwise
  rw [dif_neg h0, dif_neg h0]
  by_cases h1 : j.val < 2240
  · rw [dif_pos (show j.val - 2176 < 64 by omega), dif_pos h1]
    after_reads_simp
    pointwise
  rw [dif_neg (show ¬j.val - 2176 < 64 by omega), dif_neg h1]
  by_cases h2 : j.val < 2272
  · rw [dif_pos (show j.val - 2176 - 64 < 32 by omega), dif_pos h2]
    after_reads_simp
    pointwise
    exact congrArg (fun q => a m c (ix2 i q)) (Fin.ext (show 2176 + (j.val - 2176 - 64) = j.val - 64 by omega))
  rw [dif_neg (show ¬j.val - 2176 - 64 < 32 by omega), dif_neg h2]
  after_reads_simp
  pointwise
/-- The call's second operand. -/
theorem V1 (j : Fin 2304) (k : Fin 1024) : V m c main_v14 (ix2 j k) = Pad.pad (fun q => w m c (ix2 k q)) j := by
  show StableHlo.after hostOps0 _ _ _ = _
  simp only [hostOps0]
  after_reads_simp
  pointwise
  unfold Pad.pad
  by_cases h0 : j.val < 2176
  · rw [dif_pos h0, dif_pos h0]
    after_reads_simp
    pointwise
  rw [dif_neg h0, dif_neg h0]
  by_cases h1 : j.val < 2240
  · rw [dif_pos (show j.val - 2176 < 64 by omega), dif_pos h1]
    after_reads_simp
    pointwise
  rw [dif_neg (show ¬j.val - 2176 < 64 by omega), dif_neg h1]
  by_cases h2 : j.val < 2272
  · rw [dif_pos (show j.val - 2176 - 64 < 32 by omega), dif_pos h2]
    after_reads_simp
    pointwise
    exact congrArg (fun q => w m c (ix2 k q)) (Fin.ext (show 2176 + (j.val - 2176 - 64) = j.val - 64 by omega))
  rw [dif_neg (show ¬j.val - 2176 - 64 < 32 by omega), dif_neg h2]
  after_reads_simp
  pointwise

/-- A block of the result. -/
theorem out (x0 : Vec Ideal S2048x2304 .bf16) (x1 : Vec Ideal S2304x512 .bf16) (r : Fin 2048) (e : Fin 512) :
    out0_2 x0 x1 (ix2 r e) = ∑ k : Fin 2304, x0 (ix2 r k) * x1 (ix2 k e) := by
  unfold out0_2
  rw [View.canon_cons_unit_lit _ _ _ (by decide)]
  unfold_payloads
  pointwise

/-- The first operand's rows go by the row tile. -/
theorem x0 : ∀ t : Fin grid0.N, (cfg0.win 0).index t = ![(grid0.coords t 0).val, 0] := by decide +kernel
/-- The second operand goes by the lane tile. -/
theorem x1 : ∀ t : Fin grid0.N, (cfg0.win 1).index t = ![0, (grid0.coords t 1).val] := by decide +kernel
/-- The result's tile. -/
theorem x2 : ∀ t : Fin grid0.N, (cfg0.win 2).index t = ![(grid0.coords t 0).val, (grid0.coords t 1).val] := by decide +kernel
/-- The row tile of a grid point. -/
abbrev ti (t : Fin grid0.N) : Fin 2 := grid0.coords t 0
/-- The lane tile of a grid point. -/
abbrev tj (t : Fin grid0.N) : Fin 2 := grid0.coords t 1

/-- Reading the first operand's block. -/
theorem rd0 (X : (b : Ref sig .tc) → b.ty.Contents (Elt Ideal)) (t : Fin grid0.N) (y : (⟨2, ![2048, 2304]⟩ : Shape).Idx) :
    ((cfg0.win 0).blk t).view.read (Elt Ideal) (X (Pipeline.arrRef spec0 0)) y
    = X main_v7 (ix2 ⟨(ti t).val * 2048 + (y 0).val, by have := (y 0).isLt; have := (ti t).isLt; simp at *; omega⟩ (y 1)) := by
  blk_ext [x0 t]
/-- Reading the second operand's block. -/
theorem rd1 (X : (b : Ref sig .tc) → b.ty.Contents (Elt Ideal)) (t : Fin grid0.N) (y : (⟨2, ![2304, 512]⟩ : Shape).Idx) :
    ((cfg0.win 1).blk t).view.read (Elt Ideal) (X (Pipeline.arrRef spec0 1)) y
    = X main_v14 (ix2 (y 0) ⟨(tj t).val * 512 + (y 1).val, by have := (y 1).isLt; have := (tj t).isLt; simp at *; omega⟩) := by
  blk_ext [x1 t]

/-- The block a grid point writes, at a row and a lane. -/
theorem blk (t : Fin grid0.N) (r : Fin 2048) (e : Fin 512) :
    out0_2 (iblk m c 0 t) (iblk m c 1 t) (ix2 r e)
    = G (w m c) (a m c) (ix2 ⟨(ti t).val * 2048 + r.val, by have := (ti t).isLt; omega⟩ ⟨(tj t).val * 512 + e.val, by have := (tj t).isLt; omega⟩) := by
  refine (out ..).trans (Eq.trans (Finset.sum_congr rfl fun k _ => congrArg₂ (· * ·) ?_ ?_) (Pad.sum_pad _ _))
  · exact (rd0 (V m c) t _).trans (V0 ..)
  · exact (rd1 (V m c) t _).trans (V1 ..)

/-- The call's result. -/
theorem arr : (dats m 0 c).arrAt 2 cfg0.N = G (w m c) (a m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  refine (blk m c t r e).trans (congrArg (G (w m c) (a m c)) (Two.at_ix _ _ _ ?_ ?_).symm)
  · blk_simp [x2 t]
  · blk_simp [x2 t]

/-- The reference's result. -/
theorem ref (w : (⟨2, ![1024, 2208]⟩ : Shape).Idx → EReal) (a : (⟨2, ![4096, 2208]⟩ : Shape).Idx → EReal) :
    Cert.DH1RefIdeal.Read.val_main_v4 (F := Ideal) w a = G w a := by
  funext y
  refine (Cert.DH1RefIdeal.Read.val_main_v4_apply ..).trans ((Cert.DH1RefIdeal.Read.val_main_v3_apply ..).trans (Finset.sum_congr rfl fun k _ => congrArg₂ (· * ·) ?_ ?_))
  · exact congrArg a (Two.at_ix _ _ _ rfl rfl)
  · exact congrArg w (Two.at_ix _ _ _ rfl rfl)

/-- The call's result is the reference's. -/
theorem algebraic : Cert.algebraic_DH1Ideal_DH1RefIdeal := by
  intro m g m' g' _ hagree
  refine ⟨fun c => G (w m c) (a m c), ?_, ?_⟩
  · refine (θ_run _ _ _).mono ?_ (Cert.DH1Ideal.Value.run_blocks m g)
    intro r hr c
    obtain ⟨e, hU⟩ := hr c
    exact ⟨e.trans (arr m c), hU⟩
  · refine (θ_run _ _ _).mono ?_ (Cert.DH1RefIdeal.Value.run m' g')
    intro r hr c
    obtain ⟨e0, hU⟩ := hr c
    obtain ⟨k0, k1, k2⟩ := hagree c
    refine ⟨e0.trans ?_, hU⟩
    rw [Cert.DH1RefIdeal.Read.val_main_v4_eq, k1, k2]
    exact ref _ _

/-- The reference runs and leaves its arguments alone. -/
theorem reference_frame : Cert.quiescent_DH1RefIdeal := by
  intro m g _
  refine (θ_run _ _ _).mono ?_ (Cert.DH1RefIdeal.Value.run m g)
  intro r hr
  exact ⟨fun c => (hr c).2, sem_eq_zero_of_no_sems (by decide) r.2⟩
end Cert.DH1P
end
-- ==== Proof.GwIn.lean ====
module
public import proofs.«01_k».proof.Proof.Pad
public import proofs.«01_k».proof.Defs
public import proofs.«01_k».proof.Proof.Gen.GwInIdeal.Frame
public import proofs.«01_k».proof.Proof.Gen.GwInRefIdeal.Run
public import proofs.«01_k».proof.Proof.Gen.GwInRefIdeal.Read
public import Idealize.ShloMosaic.Lib.Claim
public import Idealize.ShloMosaic.Lib.StableHlo.RunRead
public import Idealize.ShloMosaic.Lib.Pipeline.ReadBack
@[expose] public section
set_option maxRecDepth 16384
noncomputable section
namespace Cert.GwInP
open Idealize.ShloMosaic Idealize.SL.Sem Cert.GwInIdeal Cert.GwInIdeal.Gen

section
variable (c : Dev nD) (i : grid0.Coords) (arg1 : Memref sig .tc .vmem S4096x256 .bf16) (harg1 : arg1.IsWhole) (arg2 : Memref sig .tc .vmem S4096x1024 .bf16) (harg2 : arg2.IsWhole)
  (arg3 : Memref sig .tc .vmem S256x1024 .bf16) (harg3 : arg3.IsWhole) (arg4 : Memref sig .tc .vmem S1024x4096 .bf16) (harg4 : arg4.IsWhole)
  (arg5 : Memref sig .tc .vmem S1024x256 .f32) (harg5 : arg5.IsWhole)
  (x0 : Vec Ideal S4096x256 .bf16) (x1 : Vec Ideal S4096x1024 .bf16) (xs : Vec Ideal S1024x4096 .bf16)

/-- The transpose of a block. -/
def TR (x : Vec Ideal S4096x1024 .bf16) : (⟨2, ![1024, 4096]⟩ : Shape).Idx → EReal := fun y => x (ix2 (y 1) (y 0))

/-- A trip of the loop stores a part of the transpose. -/
theorem trip (𝒱 : Variants) (bd : Option 𝒱.V) (h) (k : Fin k0_t1_loop.trips) :
    View.PiecesOf (TR x1) (tripL_k0_t1 (F := Ideal) 𝒱 c bd i arg1 harg1 arg2 harg2 arg3 harg3 arg4 harg4 arg5 harg5 h (harg2.unread x1) k) := by
  unfold tripL_k0_t1 trip_k0_t1
  dsimp only
  refine ⟨fun x => ?_, trivial⟩
  obtain ⟨a, b, rfl⟩ : ∃ (a : Fin 1024) (b : Fin 512), x = ix2 a b := ⟨_, _, Two.eta x⟩
  dsimp only
  unfold_payloads
  pointwise
  rw [View.readAt_eq_ld, harg2.read_unread, View.ld_apply]
  unfold TR
  refine congrArg x1 (Two.at_ix _ _ _ ?_ ?_)
  · show (k0_off1 k) 0 + 1 * b.val = (k0_off2 k) 1 + 1 * b.val
    rw [k0_off1_eq, k0_off2_eq]; rfl
  · show (k0_off1 k) 1 + 1 * a.val = (k0_off2 k) 0 + 1 * a.val
    rw [k0_off1_eq, k0_off2_eq]; rfl

/-- The loop's stores before a trip are parts of the transpose. -/
theorem trips (𝒱 : Variants) (bd : Option 𝒱.V) (h) (n : ℕ) : n ≤ k0_t1_loop.trips →
    ∀ p ∈ pb_k0_t1 (F := Ideal) 𝒱 c bd i arg1 harg1 arg2 harg2 arg3 harg3 arg4 harg4 arg5 harg5 h (harg2.unread x1) n, ∀ x : p.1.shape.Idx, p.2 x = TR x1 (p.1.emb x) := by
  induction n with
  | zero => intro _ p hp; rw [pb_k0_t1] at hp; exact absurd hp List.not_mem_nil
  | succ n ih =>
    intro hn p hp
    rw [pb_k0_t1_succ (F := Ideal) 𝒱 c bd i arg1 harg1 arg2 harg2 arg3 harg3 arg4 harg4 arg5 harg5 h (harg2.unread x1) ⟨n, hn⟩] at hp
    rcases List.mem_append.mp hp with hp | hp
    · exact (trip c i arg1 harg1 arg2 harg2 arg3 harg3 arg4 harg4 arg5 harg5 x1 𝒱 bd h ⟨n, hn⟩).mem p hp
    · exact ih (Nat.le_of_succ_le hn) p hp

/-- The block of a point after the first, from the carried transpose. -/
theorem outB (hc0 hc1) (r : Fin 256) (e : Fin 1024) :
    out0_B_2 (F := Ideal) c i arg1 harg1 arg2 harg2 arg3 harg3 arg4 harg4 arg5 harg5 hc0 hc1 x0 x1 xs (ix2 r e) = ∑ k : Fin 4096, xs (ix2 e k) * x0 (ix2 k r) := by
  unfold out0_B_2
  rw [View.read_writes_junk_eq_canon]
  unfold kernelRun0_B
  dsimp only
  rw [View.canon_cons_unit_lit _ _ _ (by decide)]
  unfold_payloads
  pointwise
  unfold kernelRun0_B.sl.v15
  refine (Two.read_whole _ _ _ _).trans ?_
  unfold kernelRun0_B.sl.HS1_1
  rw [View.canon_cons_unit_lit _ _ _ (by decide)]
  simp only [View.readAt_eq_ld, harg1.read_unread, harg4.read_unread]
  unfold_payloads
  pointwise

include x0 in
/-- The loop leaves the transpose. -/
theorem loop (hc0 : cond0_0 i) (hc1 : cond0_1 i) : View.canon
      (pb_k0_t1 (F := Ideal) Variants.none c none i arg1 harg1 arg2 harg2 arg3 harg3 arg4 harg4 arg5 harg5 hc0
        (harg2.unread x1) (Scf.trips (0#32) (Scalar.addi 0#32 8#32) 1#32)) = TR x1 := by
  funext y
  refine View.canon_apply_of_pieces (Val := Elt Ideal) (e := .bf16) (TR x1) _ (trips c i arg1 harg1 arg2 harg2 arg3 harg3 arg4 harg4 arg5 harg5 x1 Variants.none none hc0 _ le_rfl) y ?_
  exact scover0_A_0 c i arg1 harg1 arg2 harg2 arg3 harg3 arg4 harg4 arg5 harg5 hc0 hc1 x0 x1 y

/-- The first point carries the transpose on. -/
theorem soutA (hc0 hc1) : sout0_A_0 (F := Ideal) c i arg1 harg1 arg2 harg2 arg3 harg3 arg4 harg4 arg5 harg5 hc0 hc1 x0 x1 = TR x1 := by
  unfold sout0_A_0
  rw [View.read_writes_junk_eq_canon]
  exact loop c i arg1 harg1 arg2 harg2 arg3 harg3 arg4 harg4 arg5 harg5 x0 x1 hc0 hc1

/-- The block of the first point. -/
theorem outA (hc0 hc1) (r : Fin 256) (e : Fin 1024) :
    out0_A_2 (F := Ideal) c i arg1 harg1 arg2 harg2 arg3 harg3 arg4 harg4 arg5 harg5 hc0 hc1 x0 x1 (ix2 r e) = ∑ k : Fin 4096, x1 (ix2 k e) * x0 (ix2 k r) := by
  unfold out0_A_2
  rw [View.read_writes_junk_eq_canon]
  unfold kernelRun0_A
  dsimp only
  rw [View.canon_cons_unit_lit _ _ _ (by decide)]
  unfold_payloads
  pointwise
  unfold kernelRun0_A.sl.v15
  refine (Two.read_whole _ _ _ _).trans ?_
  unfold kernelRun0_A.sl.HS1_1
  rw [View.canon_cons_unit_lit _ _ _ (by decide)]
  simp only [View.readAt_eq_ld, harg1.read_unread, harg4.read_unread]
  unfold_payloads
  pointwise
  refine Finset.sum_congr rfl fun k _ => congrArg (· * x0 (ix2 k r)) ((Two.read_whole _ _ _ _).trans ?_)
  exact congrFun (loop c i arg1 harg1 arg2 harg2 arg3 harg3 arg4 harg4 arg5 harg5 x0 x1 hc0 hc1) _
end

variable (m : (ℓ : Loc nD τ sig) → Buf (Elt Ideal) ℓ) (c : Dev nD)

/-- The tokens' features on device `c`. -/
abbrev h : (⟨2, ![4096, 1024]⟩ : Shape).Idx → EReal := m (c, Proc.devRef .tc main_arg0)
/-- The projection's cotangent. -/
abbrev dp : (⟨2, ![4096, 2208]⟩ : Shape).Idx → EReal := m (c, Proc.devRef .tc main_arg2)

/-- The weights' gradient at an output and a feature. -/
def G (h : (⟨2, ![4096, 1024]⟩ : Shape).Idx → EReal) (dp : (⟨2, ![4096, 2208]⟩ : Shape).Idx → EReal) : (⟨2, ![2208, 1024]⟩ : Shape).Idx → EReal :=
  fun J => ∑ k : Fin 4096, h (ix2 k (J 1)) * dp (ix2 k (J 0))
/-- The call's result at a lane and a feature. -/
def Gp (h : (⟨2, ![4096, 1024]⟩ : Shape).Idx → EReal) (dp : (⟨2, ![4096, 2208]⟩ : Shape).Idx → EReal) : (⟨2, ![2304, 1024]⟩ : Shape).Idx → EReal :=
  fun J => ∑ k : Fin 4096, h (ix2 k (J 1)) * Pad.pad (fun q => dp (ix2 k q)) (J 0)

/-- The call's first operand. -/
theorem VA (i : Fin 4096) (j : Fin 2304) : V m c main_v7 (ix2 i j) = Pad.pad (fun q => dp m c (ix2 i q)) j := by
  show StableHlo.after (hostOps0 ++ []) _ _ _ = _
  simp only [hostOps0, List.append_nil]
  after_reads_simp
  pointwise
  unfold Pad.pad
  by_cases h0 : j.val < 2176
  · rw [dif_pos h0, dif_pos h0]
    after_reads_simp
    pointwise
  rw [dif_neg h0, dif_neg h0]
  by_cases h1 : j.val < 2240
  · rw [dif_pos (show j.val - 2176 < 64 by omega), dif_pos h1]
    after_reads_simp
    pointwise
  rw [dif_neg (show ¬j.val - 2176 < 64 by omega), dif_neg h1]
  by_cases h2 : j.val < 2272
  · rw [dif_pos (show j.val - 2176 - 64 < 32 by omega), dif_pos h2]
    after_reads_simp
    pointwise
    exact congrArg (fun q => dp m c (ix2 i q)) (Fin.ext (show 2176 + (j.val - 2176 - 64) = j.val - 64 by omega))
  rw [dif_neg (show ¬j.val - 2176 - 64 < 32 by omega), dif_neg h2]
  after_reads_simp
  pointwise
/-- The call's second operand. -/
theorem VB (i : Fin 4096) (j : Fin 1024) : V m c main_v8 (ix2 i j) = h m c (ix2 i j) := by
  show StableHlo.after (hostOps0 ++ []) _ _ _ = _
  simp only [hostOps0, List.append_nil]
  after_reads_simp
  pointwise
/-- The result, from the call's. -/
theorem s12 (X : Valuation τ sig (Elt Ideal)) (q : Fin 2208) (e : Fin 1024) :
    StableHlo.after hostOps1 X (Proc.devRef .tc main_v12) (ix2 q e) = X (Proc.devRef .tc main_v9) (ix2 (Pad.lane q) e) := by
  simp only [hostOps1]
  after_reads_simp
  pointwise
  unfold Pad.lane
  by_cases hq : q.val < 2176
  · rw [dif_pos hq, dif_pos hq]
  · rw [dif_neg hq, dif_neg hq]
    exact congrArg (fun r => X (Proc.devRef .tc main_v9) (ix2 r e)) (Fin.ext (show 2240 + (q.val - 2176) = q.val + 64 by omega))

/-- The first operand's lanes go by the point. -/
theorem x0 : ∀ t : Fin grid0.N, (cfg0.win 0).index t = ![0, t.val] := by decide +kernel
/-- The whole second operand is every point's block. -/
theorem x1 : ∀ t : Fin grid0.N, (cfg0.win 1).index t = ![0, 0] := by decide +kernel
/-- The result's rows go by the point. -/
theorem x2 : ∀ t : Fin grid0.N, (cfg0.win 2).index t = ![t.val, 0] := by decide +kernel
/-- There are nine grid points. -/
theorem ltN (t : Fin grid0.N) : t.val < 9 := lt_of_lt_of_eq t.isLt (show grid0.N = 9 from N_0)

/-- Reading the first operand's block. -/
theorem rd0 (X : (b : Ref sig .tc) → b.ty.Contents (Elt Ideal)) (t : Fin grid0.N) (y : (⟨2, ![4096, 256]⟩ : Shape).Idx) :
    ((cfg0.win 0).blk t).view.read (Elt Ideal) (X (Pipeline.arrRef spec0 0)) y
    = X main_v7 (ix2 (y 0) ⟨t.val * 256 + (y 1).val, by have := (y 1).isLt; have := ltN t; simp at *; omega⟩) := by
  blk_ext [x0 t]
/-- Reading the second operand's block. -/
theorem rd1 (X : (b : Ref sig .tc) → b.ty.Contents (Elt Ideal)) (t : Fin grid0.N) (y : (⟨2, ![4096, 1024]⟩ : Shape).Idx) :
    ((cfg0.win 1).blk t).view.read (Elt Ideal) (X (Pipeline.arrRef spec0 1)) y = X main_v8 (ix2 (y 0) (y 1)) := by
  blk_ext [x1 t]
/-- The first operand's block, at a token and a lane. -/
theorem ib0 (t : Fin grid0.N) (k : Fin 4096) (r : Fin 256) (j : Fin 2304) (hj : j.val = t.val * 256 + r.val) : iblk m c 0 t (ix2 k r) = Pad.pad (fun q => dp m c (ix2 k q)) j :=
  (rd0 (V m c) t _).trans ((VA ..).trans (congrArg (Pad.pad fun q => dp m c (ix2 k q)) (Fin.ext hj.symm)))
/-- The second operand's block is the whole of it. -/
theorem ib1 (t : Fin grid0.N) : iblk m c 1 t = h m c := by
  funext y
  exact (rd1 (V m c) t y).trans ((VB ..).trans (congrArg (h m c) (Two.eta y).symm))

/-- What is carried is the transpose of the second operand. -/
theorem carried (n : ℕ) : ∀ hn : n < cfg0.N, (outsAt0 m c n hn).2 = TR (h m c) := by
  induction n using Nat.strong_induction_on with
  | _ n ih =>
    intro hn
    have hN : n < 9 := lt_of_lt_of_eq hn (show cfg0.N = 9 from N_0)
    by_cases q0 : n % 9 = 0
    · have E := outsAt0_A m c ⟨n, hn⟩ q0
      dsimp only at E
      rw [E]
      dsimp only
      exact (soutA ..).trans (congrArg TR (ib1 m c _))
    · have e0 := ih (n - 1) (by omega) (Nat.lt_of_le_of_lt (Nat.sub_le _ _) hn)
      have E := outsAt0_B m c ⟨n, hn⟩ q0
      dsimp only at E
      rw [E]
      dsimp only [sout0_B_0]
      exact e0

/-- The block a grid point writes. -/
theorem blk (t : Fin grid0.N) (r : Fin 256) (e : Fin 1024) (j : Fin 2304) (hj : j.val = t.val * 256 + r.val) :
    (outsAt0 m c t.val t.isLt).1 (ix2 r e) = Gp (h m c) (dp m c) (ix2 j e) := by
  by_cases q0 : t.val % 9 = 0
  · rw [outsAt0_A m c t q0]
    dsimp only
    refine (outA ..).trans ?_
    exact Finset.sum_congr rfl fun k _ => congrArg₂ (· * ·) (congrFun (ib1 m c t) _) (ib0 m c t k r j hj)
  · have e0 := carried m c (t.val - 1) (Nat.lt_of_le_of_lt (Nat.sub_le _ _) t.isLt)
    rw [outsAt0_B m c t q0]
    dsimp only
    refine (outB ..).trans ?_
    exact Finset.sum_congr rfl fun k _ => congrArg₂ (· * ·) (congrFun e0 _) (ib0 m c t k r j hj)

/-- The call's result. -/
theorem arr : (dats m 0 c).arrAt 2 cfg0.N = Gp (h m c) (dp m c) := by
  refine (dats m 0 c).arrAt_eq_of_covers 2 _ (by decide +kernel) fun t hf y => ?_
  obtain ⟨r, e, rfl⟩ : ∃ r e, y = ix2 r e := ⟨_, _, Two.eta y⟩
  blk_simp
  rw [after0_2]
  have hN := ltN t
  refine (blk m c t r e ⟨t.val * 256 + r.val, by omega⟩ rfl).trans (congrArg (Gp (h m c) (dp m c)) (Two.at_ix _ _ _ ?_ ?_).symm)
  · blk_simp [x2 t]
  · blk_simp [x2 t]

/-- The values after the calls. -/
abbrev WT : Valuation τ sig (Elt Ideal) := Pipeline.withArrays spec0 c (V0 m c) fun w => (dats m 0 c).arrAt w (cfgs 0).N
/-- The result's values. -/
theorem tail_eq (b : Ref sig .tc) : Pipeline.afterTail₀ cfgs (dats m) 0 (V0 m) [hostOps1] c b = StableHlo.after hostOps1 (WT m c) (Proc.devRef .tc b) := by
  show StableHlo.after (hostOps1 ++ []) _ _ = _
  rw [List.append_nil]
/-- The call's result after the call. -/
theorem T0 : WT m c (Proc.devRef .tc main_v9) = Gp (h m c) (dp m c) := (Pipeline.withArrays_arr spec0 (by decide +kernel) c _ _ 2).trans (arr m c)
/-- The result. -/
theorem res : StableHlo.after hostOps1 (WT m c) (Proc.devRef .tc main_v12) = G (h m c) (dp m c) := by
  funext y
  obtain ⟨q, e, rfl⟩ : ∃ q e, y = ix2 q e := ⟨_, _, Two.eta y⟩
  have e0 : Gp (h m c) (dp m c) (ix2 (Pad.lane q) e) = G (h m c) (dp m c) (ix2 q e) :=
    Finset.sum_congr rfl fun k _ => congrArg (h m c (ix2 k e) * ·) (Pad.pad_lane (fun q => dp m c (ix2 k q)) q)
  exact (s12 (WT m c) q e).trans ((congrFun (T0 m c) _).trans e0)

/-- The reference's result. -/
theorem ref (h : (⟨2, ![4096, 1024]⟩ : Shape).Idx → EReal) (dp : (⟨2, ![4096, 2208]⟩ : Shape).Idx → EReal) :
    Cert.GwInRefIdeal.Read.val_main_v5 (F := Ideal) h dp = G h dp := by
  funext y
  refine (Cert.GwInRefIdeal.Read.val_main_v5_apply ..).trans ((Cert.GwInRefIdeal.Read.val_main_v4_apply ..).trans ((Cert.GwInRefIdeal.Read.val_main_v2_apply ..).trans ((Cert.GwInRefIdeal.Read.val_main_v1_apply ..).trans ?_)))
  refine Finset.sum_congr rfl fun k _ => (congrArg₂ (· * ·) ?_ ?_).trans (mul_comm _ _)
  · exact congrArg dp (Two.at_ix _ _ _ rfl rfl)
  · exact congrArg h (Two.at_ix _ _ _ rfl rfl)

/-- The call's result is the reference's. -/
theorem algebraic : Cert.algebraic_GwInIdeal_GwInRefIdeal := by
  intro m g m' g' _ hagree
  refine ⟨fun c => G (h m c) (dp m c), ?_, ?_⟩
  · refine (θ_run _ _ _).mono ?_ (θ_run_and (Cert.GwInIdeal.Gen.run_main m g) (Cert.GwInIdeal.Gen.unchanged m g))
    intro r hr c
    exact ⟨((hr.1 c).2 _ (by decide)).trans ((tail_eq m c _).trans (res m c)), hr.2 c⟩
  · refine (θ_run _ _ _).mono ?_ (Cert.GwInRefIdeal.Value.run m' g')
    intro r hr c
    obtain ⟨e0, hU⟩ := hr c
    obtain ⟨k0, k1, k2⟩ := hagree c
    refine ⟨e0.trans ?_, hU⟩
    rw [Cert.GwInRefIdeal.Read.val_main_v5_eq, k0, k2]
    exact ref _ _

/-- The reference runs and leaves its arguments alone. -/
theorem reference_frame : Cert.quiescent_GwInRefIdeal := by
  intro m g _
  refine (θ_run _ _ _).mono ?_ (Cert.GwInRefIdeal.Value.run m g)
  intro r hr
  exact ⟨fun c => (hr c).2, sem_eq_zero_of_no_sems (by decide) r.2⟩
end Cert.GwInP
end
-- ==== Proof.Adam.lean ====
module
public import Idealize.ShloMosaic.PureOps.Ideal
public import Idealize.ShloMosaic.Lib.Pipeline.ValueKit
@[expose] public section
noncomputable section
namespace Cert.Adam
open Idealize.ShloMosaic

/-- An index of an array of one slab is its row and its lane. -/
theorem eta {a b : ℕ} (y : (⟨3, ![1, a, b]⟩ : Shape).Idx) : y = ix3 0 (y 1) (y 2) := by
  funext k
  fin_cases k
  · exact Subsingleton.elim (α := Fin 1) _ _
  · rfl
  · rfl
/-- An index of the shape is the one whose coordinates it has. -/
theorem at_ix {n a b : ℕ} (J : (⟨3, ![n, a, b]⟩ : Shape).Idx) (s : Fin n) (p : Fin a) (q : Fin b)
    (h0 : (J 0).val = s.val) (h1 : (J 1).val = p.val) (h2 : (J 2).val = q.val) : J = ix3 s p q := by
  funext k
  fin_cases k
  · exact Fin.ext h0
  · exact Fin.ext h1
  · exact Fin.ext h2
/-- The first moment after the step. -/
def mo (g m : EReal) : EReal := Ideal.ofBits FTy.f32 1063675494#32 * m + Ideal.ofBits FTy.f32 1036831949#32 * g
/-- The second moment after the step. -/
def vo (g v : EReal) : EReal := Ideal.ofBits FTy.f32 1065336439#32 * v + Ideal.ofBits FTy.f32 981668463#32 * (g * g)
/-- The change of the weight. -/
def de (g w m v : EReal) : EReal :=
  Ideal.ofBits FTy.f32 3129152111#32 * (Ideal.div (Ideal.div (mo g m) (Ideal.ofBits FTy.f32 1059503362#32))
      (Ideal.sqrt (Ideal.div (vo g v) (Ideal.ofBits FTy.f32 1008933580#32)) + Ideal.ofBits FTy.f32 841731191#32)
    + Ideal.ofBits FTy.f32 1008981770#32 * w)
/-- Equal arguments, equal change. -/
theorem de_congr {g g' w w' m m' v v' : EReal} (hg : g = g') (hw : w = w') (hm : m = m') (hv : v = v') : de g w m v = de g' w' m' v' := by
  rw [hg, hw, hm, hv]
/-- Equal arguments, equal first moment. -/
theorem mo_congr {g g' m m' : EReal} (hg : g = g') (hm : m = m') : mo g m = mo g' m' := by rw [hg, hm]
/-- Equal arguments, equal second moment. -/
theorem vo_congr {g g' v v' : EReal} (hg : g = g') (hv : v = v') : vo g v = vo g' v' := by rw [hg, hv]

section
variable {n a b : ℕ} (p : (⟨3, ![n, a, b]⟩ : Shape).Idx → EReal) (w m v : (⟨3, ![1, a, b]⟩ : Shape).Idx → EReal)
/-- The gradient: the sum of the devices' parts. -/
def G : (⟨3, ![1, a, b]⟩ : Shape).Idx → EReal := fun J => ∑ s : Fin n, p (ix3 s (J 1) (J 2))
/-- The change of the weights. -/
def D : (⟨3, ![1, a, b]⟩ : Shape).Idx → EReal := fun J => de (G p J) (w J) (m J) (v J)
/-- The first moments after the step. -/
def M : (⟨3, ![1, a, b]⟩ : Shape).Idx → EReal := fun J => mo (G p J) (m J)
/-- The second moments after the step. -/
def V : (⟨3, ![1, a, b]⟩ : Shape).Idx → EReal := fun J => vo (G p J) (v J)
/-- Rows and lanes exchanged. -/
def fl : (⟨3, ![n, b, a]⟩ : Shape).Idx → EReal := fun J => p (ix3 (J 0) (J 2) (J 1))
end
end Cert.Adam
end
-- ==== Proof.AdamWAda.lean ====
module
public import proofs.«01_k».proof.Proof.Adam
public import proofs.«01_k».proof.Defs
public import proofs.«01_k».proof.Proof.Gen.AdamWAdaIdeal.Value
public import proofs.«01_k».proof.Proof.Gen.AdamWAdaRefIdeal.Run
public import proofs.«01_k».proof.Proof.Gen.AdamWAdaRefIdeal.Read
public import Idealize.ShloMosaic.Lib.Claim
public import Idealize.ShloMosaic.Lib.StableHlo.RunRead
@[expose] public section
set_option maxRecDepth 16384
noncomputable section
namespace Cert.AdamWAdaP
open Idealize.ShloMosaic Idealize.SL.Sem Cert.AdamWAdaIdeal Cert.AdamWAdaIdeal.Gen

/-- The block of the gradient. -/
theorem o4 (x0 : Vec Ideal S1x512x768 .f32) (x1 x2 x3 : Vec Ideal S1x512x768 .f32) (r : Fin 512) (e : Fin 768) : out0_4 x0 x1 x2 x3 (ix3 0 r e) = (∑ s : Fin 1, x0 (ix3 s r e)) := by
  have hs : (∑ s : Fin 1, x0 (ix3 s r e)) = x0 (ix3 0 r e) := Fin.sum_univ_one _
  rw [hs]
  unfold out0_4
  rw [View.canon_cons_unit_lit _ _ _ (by decide)]
  unfold_payloads
  pointwise

/-- The block of the weights' change. -/
theorem o5 (x0 : Vec Ideal S1x512x768 .f32) (x1 x2 x3 : Vec Ideal S1x512x768 .f32) (r : Fin 512) (e : Fin 768) : out0_5 x0 x1 x2 x3 (ix3 0 r e) = Adam.de (∑ s : Fin 1, x0 (ix3 s r e)) (x1 (ix3 0 r e)) (x2 (ix3 0 r e)) (x3 (ix3 0 r e)) := by
  have hs : (∑ s : Fin 1, x0 (ix3 s r e)) = x0 (ix3 0 r e) := Fin.sum_univ_one _
  rw [hs]
  unfold Adam.de Adam.mo Adam.vo
  unfold out0_5
  rw [View.canon_cons_unit_lit _ _ _ (by decide)]
  unfold_payloads
  pointwise

/-- The block of the first moments. -/
theorem o6 (x0 : Vec Ideal S1x512x768 .f32) (x1 x2 x3 : Vec Ideal S1x512x768 .f32) (r : Fin 512) (e : Fin 768) : out0_6 x0 x1 x2 x3 (ix3 0 r e) = Adam.mo (∑ s : Fin 1, x0 (ix3 s r e)) (x2 (ix3 0 r e)) := by
  have hs : (∑ s : Fin 1, x0 (ix3 s r e)) = x0 (ix3 0 r e) := Fin.sum_univ_one _
  rw [hs]
  unfold Adam.mo
  unfold out0_6
  rw [View.canon_cons_unit_lit _ _ _ (by decide)]
  unfold_payloads
  pointwise

/-- The block of the second moments. -/
theorem o7 (x0 : Vec Ideal S1x512x768 .f32) (x1 x2 x3 : Vec Ideal S1x512x768 .f32) (r : Fin 512) (e : Fin 768) : out0_7 x0 x1 x2 x3 (ix3 0 r e) = Adam.vo (∑ s : Fin 1, x0 (ix3 s r e)) (x3 (ix3 0 r e)) := by
  have hs : (∑ s : Fin 1, x0 (ix3 s r e)) = x0 (ix3 0 r e) := Fin.sum_univ_one _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![1, 1024, 768]⟩ : Shape).Idx → EReal := m (c, Proc.devRef .tc main_arg0)
/-- The weights. -/
abbrev aw : (⟨3, ![1, 1024, 768]⟩ : Shape).Idx → EReal := m (c, Proc.devRef .tc main_arg1)
/-- The first moments. -/
abbrev am : (⟨3, ![1, 1024, 768]⟩ : Shape).Idx → EReal := m (c, Proc.devRef .tc main_arg2)
/-- The second moments. -/
abbrev av : (⟨3, ![1, 1024, 768]⟩ : Shape).Idx → EReal := m (c, Proc.devRef .tc main_arg3)
/-- The call's parts. -/
theorem VA (s : Fin 1) (i : Fin 1024) (j : Fin 768) : V m c main_arg0 (ix3 s i j) = ap m c (ix3 s i j) := rfl
/-- The call's weights. -/
theorem VB (s : Fin 1) (i : Fin 1024) (j : Fin 768) : V m c main_arg1 (ix3 s i j) = aw m c (ix3 s i j) := rfl
/-- The call's first moments. -/
theorem VC (s : Fin 1) (i : Fin 1024) (j : Fin 768) : V m c main_arg2 (ix3 s i j) = am m c (ix3 s i j) := rfl
/-- The call's second moments. -/
theorem VD (s : Fin 1) (i : Fin 1024) (j : Fin 768) : V m c main_arg3 (ix3 s i j) = av m c (ix3 s i j) := rfl

/-- There are two grid points. -/
theorem ltN (t : Fin grid0.N) : t.val < 2 := lt_of_lt_of_eq t.isLt (show grid0.N = 2 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![1, 512, 768]⟩ : Shape).Idx) :
    ((cfg0.win 0).blk t).view.read (Elt Ideal) (X (Pipeline.arrRef spec0 0)) y
    = X main_arg0 (ix3 (y 0) ⟨t.val * 512 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 512, 768]⟩ : Shape).Idx) :
    ((cfg0.win 1).blk t).view.read (Elt Ideal) (X (Pipeline.arrRef spec0 1)) y
    = X main_arg1 (ix3 (y 0) ⟨t.val * 512 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 512, 768]⟩ : Shape).Idx) :
    ((cfg0.win 2).blk t).view.read (Elt Ideal) (X (Pipeline.arrRef spec0 2)) y
    = X main_arg2 (ix3 (y 0) ⟨t.val * 512 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 512, 768]⟩ : Shape).Idx) :
    ((cfg0.win 3).blk t).view.read (Elt Ideal) (X (Pipeline.arrRef spec0 3)) y
    = X main_arg3 (ix3 (y 0) ⟨t.val * 512 + (y 1).val, by have := (y 1).isLt; have := ltN t; simp at *; omega⟩ (y 2)) := by
  blk_ext [w3 t]

/-- The row of the arrays at a row of a point's block. -/
abbrev row (t : Fin grid0.N) (r : Fin 512) : Fin 1024 := ⟨t.val * 512 + r.val, by have := ltN t; omega⟩
/-- The parts' block. -/
theorem ib0 (t : Fin grid0.N) (s : Fin 1) (r : Fin 512) (e : Fin 768) : iblk m c 0 t (ix3 s r e) = ap m c (ix3 s (row t r) e) :=
  (rd0 (V m c) t _).trans (VA ..)
/-- The weights' block. -/
theorem ib1 (t : Fin grid0.N) (r : Fin 512) (e : Fin 768) : iblk m c 1 t (ix3 0 r e) = (aw m c) (ix3 0 (row t r) e) :=
  (rd1 (V m c) t _).trans (VB ..)
/-- The first moments' block. -/
theorem ib2 (t : Fin grid0.N) (r : Fin 512) (e : Fin 768) : iblk m c 2 t (ix3 0 r e) = (am m c) (ix3 0 (row t r) e) :=
  (rd2 (V m c) t _).trans (VC ..)
/-- The second moments' block. -/
theorem ib3 (t : Fin grid0.N) (r : Fin 512) (e : Fin 768) : iblk m c 3 t (ix3 0 r e) = (av m c) (ix3 0 (row t r) e) :=
  (rd3 (V m c) t _).trans (VD ..)
/-- The sum of the parts' blocks. -/
theorem arr_g (t : Fin grid0.N) (r : Fin 512) (e : Fin 768) {x : (⟨3, ![1, 512, 768]⟩ : Shape).Idx → EReal} (hx : ∀ s, x (ix3 s r e) = ap m c (ix3 s (row t r) e)) :
    ∑ s : Fin 1, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (aw m c) (am m c) (av m c) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (aw m c) (am m c) (av m c) (ix3 0 (row t r) e)) ?_ (congrArg (Adam.D (ap m c) (aw m c) (am m c) (av m c)) (Adam.at_ix _ _ _ _ ?_ ?_ ?_).symm)
  rotate_left
  · blk_simp [w5 t]
  · blk_simp [w5 t]
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (am m c) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (am m c) (ix3 0 (row t r) e)) ?_ (congrArg (Adam.M (ap m c) (am m c)) (Adam.at_ix _ _ _ _ ?_ ?_ ?_).symm)
  rotate_left
  · blk_simp [w6 t]
  · blk_simp [w6 t]
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (av m c) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (av m c) (ix3 0 (row t r) e)) ?_ (congrArg (Adam.V (ap m c) (av m c)) (Adam.at_ix _ _ _ _ ?_ ?_ ?_).symm)
  rotate_left
  · blk_simp [w7 t]
  · blk_simp [w7 t]
  · blk_simp [w7 t]
  refine (o7 _ _ _ _ r e).trans ?_
  exact Adam.vo_congr (arr_g m c t r e fun s => ib0 m c t s r e) (ib3 m c t r e)

/-- The reference's gradient. -/
theorem ref4 (p : (⟨3, ![1, 1024, 768]⟩ : Shape).Idx → EReal) : Cert.AdamWAdaRefIdeal.Read.val_main_v1 (F := Ideal) p = Adam.G p := by
  funext y
  refine (Cert.AdamWAdaRefIdeal.Read.val_main_v1_apply ..).trans ((Cert.AdamWAdaRefIdeal.Read.val_main_v0_apply ..).trans ?_)
  have hz : ∀ i, Cert.AdamWAdaRefIdeal.Read.val_main_cst (F := Ideal) i = 0 := fun i => (Cert.AdamWAdaRefIdeal.Read.val_main_cst_apply i).trans (by simp [FloatOps.ofBits, Ideal.ofBits, Ideal.ieee])
  rw [hz, zero_add]
  refine Finset.sum_congr rfl fun k _ => ?_
  exact congrArg p (Adam.at_ix _ _ _ _ rfl rfl rfl)
/-- The reference's first moments. -/
theorem ref6 (p : (⟨3, ![1, 1024, 768]⟩ : Shape).Idx → EReal) (w m v : (⟨3, ![1, 1024, 768]⟩ : Shape).Idx → EReal) : Cert.AdamWAdaRefIdeal.Read.val_main_v6 (F := Ideal) p m = Adam.M p m := by
  funext y
  unfold Adam.M
  rw [← ref4 p]
  rfl
/-- The reference's second moments. -/
theorem ref7 (p : (⟨3, ![1, 1024, 768]⟩ : Shape).Idx → EReal) (w m v : (⟨3, ![1, 1024, 768]⟩ : Shape).Idx → EReal) : Cert.AdamWAdaRefIdeal.Read.val_main_v12 (F := Ideal) p v = Adam.V p v := by
  funext y
  unfold Adam.V
  rw [← ref4 p]
  rfl
/-- The reference's change of the weights. -/
theorem ref5 (p : (⟨3, ![1, 1024, 768]⟩ : Shape).Idx → EReal) (w m v : (⟨3, ![1, 1024, 768]⟩ : Shape).Idx → EReal) : Cert.AdamWAdaRefIdeal.Read.val_main_v25 (F := Ideal) p w m v = Adam.D p w m v := by
  funext y
  unfold Adam.D
  rw [← ref4 p]
  rfl

/-- The call's results are the reference's. -/
theorem algebraic : Cert.algebraic_AdamWAdaIdeal_AdamWAdaRefIdeal := by
  intro m g m' g' _ hagree
  refine ⟨fun c => Adam.G (ap m c), fun c => Adam.D (ap m c) (aw m c) (am m c) (av m c), fun c => Adam.M (ap m c) (am m c), fun c => Adam.V (ap m c) (av m c), ?_, ?_⟩
  · refine (θ_run _ _ _).mono ?_ (Cert.AdamWAdaIdeal.Value.run_blocks m g)
    intro r hr c
    obtain ⟨e0, e1, e2, e3, hU⟩ := hr c
    exact ⟨e0.trans (arr4 m c), e1.trans (arr5 m c), e2.trans (arr6 m c), e3.trans (arr7 m c), hU⟩
  · refine (θ_run _ _ _).mono ?_ (Cert.AdamWAdaRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWAdaRefIdeal.Read.val_main_v1_eq, k0]
      exact ref4 _
    · rw [Cert.AdamWAdaRefIdeal.Read.val_main_v25_eq, k0, k1, k2, k3]
      exact ref5 _ _ _ _
    · rw [Cert.AdamWAdaRefIdeal.Read.val_main_v6_eq, k0, k2]
      exact ref6 _ (aw m c) _ (av m c)
    · rw [Cert.AdamWAdaRefIdeal.Read.val_main_v12_eq, k0, k3]
      exact ref7 _ (aw m c) (am m c) _

/-- The reference runs and leaves its arguments alone. -/
theorem reference_frame : Cert.quiescent_AdamWAdaRefIdeal := by
  intro m g _
  refine (θ_run _ _ _).mono ?_ (Cert.AdamWAdaRefIdeal.Value.run m g)
  intro r hr
  refine ⟨fun c => ?_, sem_eq_zero_of_no_sems (by decide) r.2⟩
  obtain ⟨-, -, -, -, hU⟩ := hr c
  exact hU
end Cert.AdamWAdaP
end
-- ==== Proof.AdamWUkv.lean ====
module
public import proofs.«01_k».proof.Proof.Adam
public import proofs.«01_k».proof.Defs
public import proofs.«01_k».proof.Proof.Gen.AdamWUkvIdeal.Value
public import proofs.«01_k».proof.Proof.Gen.AdamWUkvRefIdeal.Run
public import proofs.«01_k».proof.Proof.Gen.AdamWUkvRefIdeal.Read
public import Idealize.ShloMosaic.Lib.Claim
public import Idealize.ShloMosaic.Lib.StableHlo.RunRead
@[expose] public section
set_option maxRecDepth 16384
noncomputable section
namespace Cert.AdamWUkvP
open Idealize.ShloMosaic Idealize.SL.Sem Cert.AdamWUkvIdeal Cert.AdamWUkvIdeal.Gen

/-- The block of the gradient. -/
theorem o4 (x0 : Vec Ideal S8x256x128 .bf16) (x1 x2 x3 : Vec Ideal S1x256x128 .f32) (r : Fin 256) (e : Fin 128) : out0_4 x0 x1 x2 x3 (ix3 0 r e) = (∑ s : Fin 8, x0 (ix3 s r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold out0_4
  rw [View.canon_cons_unit_lit _ _ _ (by decide)]
  unfold_payloads
  pointwise

/-- The block of the weights' change. -/
theorem o5 (x0 : Vec Ideal S8x256x128 .bf16) (x1 x2 x3 : Vec Ideal S1x256x128 .f32) (r : Fin 256) (e : Fin 128) : out0_5 x0 x1 x2 x3 (ix3 0 r e) = Adam.de (∑ s : Fin 8, x0 (ix3 s r e)) (x1 (ix3 0 r e)) (x2 (ix3 0 r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.de Adam.mo Adam.vo
  unfold out0_5
  rw [View.canon_cons_unit_lit _ _ _ (by decide)]
  unfold_payloads
  pointwise

/-- The block of the first moments. -/
theorem o6 (x0 : Vec Ideal S8x256x128 .bf16) (x1 x2 x3 : Vec Ideal S1x256x128 .f32) (r : Fin 256) (e : Fin 128) : out0_6 x0 x1 x2 x3 (ix3 0 r e) = Adam.mo (∑ s : Fin 8, x0 (ix3 s r e)) (x2 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.mo
  unfold out0_6
  rw [View.canon_cons_unit_lit _ _ _ (by decide)]
  unfold_payloads
  pointwise

/-- The block of the second moments. -/
theorem o7 (x0 : Vec Ideal S8x256x128 .bf16) (x1 x2 x3 : Vec Ideal S1x256x128 .f32) (r : Fin 256) (e : Fin 128) : out0_7 x0 x1 x2 x3 (ix3 0 r e) = Adam.vo (∑ s : Fin 8, x0 (ix3 s r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![8, 256, 128]⟩ : Shape).Idx → EReal := m (c, Proc.devRef .tc main_arg0)
/-- The weights. -/
abbrev aw : (⟨3, ![1, 256, 128]⟩ : Shape).Idx → EReal := m (c, Proc.devRef .tc main_arg1)
/-- The first moments. -/
abbrev am : (⟨3, ![1, 256, 128]⟩ : Shape).Idx → EReal := m (c, Proc.devRef .tc main_arg2)
/-- The second moments. -/
abbrev av : (⟨3, ![1, 256, 128]⟩ : Shape).Idx → EReal := m (c, Proc.devRef .tc main_arg3)
/-- The call's parts. -/
theorem VA (s : Fin 8) (i : Fin 256) (j : Fin 128) : V m c main_arg0 (ix3 s i j) = ap m c (ix3 s i j) := rfl
/-- The call's weights. -/
theorem VB (s : Fin 1) (i : Fin 256) (j : Fin 128) : V m c main_arg1 (ix3 s i j) = aw m c (ix3 s i j) := rfl
/-- The call's first moments. -/
theorem VC (s : Fin 1) (i : Fin 256) (j : Fin 128) : V m c main_arg2 (ix3 s i j) = am m c (ix3 s i j) := rfl
/-- The call's second moments. -/
theorem VD (s : Fin 1) (i : Fin 256) (j : Fin 128) : V m c main_arg3 (ix3 s i j) = av m c (ix3 s i j) := rfl

/-- There is one grid point. -/
theorem ltN (t : Fin grid0.N) : t.val < 1 := lt_of_lt_of_eq t.isLt (show grid0.N = 1 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![8, 256, 128]⟩ : Shape).Idx) :
    ((cfg0.win 0).blk t).view.read (Elt Ideal) (X (Pipeline.arrRef spec0 0)) y
    = X main_arg0 (ix3 (y 0) ⟨t.val * 256 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 256, 128]⟩ : Shape).Idx) :
    ((cfg0.win 1).blk t).view.read (Elt Ideal) (X (Pipeline.arrRef spec0 1)) y
    = X main_arg1 (ix3 (y 0) ⟨t.val * 256 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 256, 128]⟩ : Shape).Idx) :
    ((cfg0.win 2).blk t).view.read (Elt Ideal) (X (Pipeline.arrRef spec0 2)) y
    = X main_arg2 (ix3 (y 0) ⟨t.val * 256 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 256, 128]⟩ : Shape).Idx) :
    ((cfg0.win 3).blk t).view.read (Elt Ideal) (X (Pipeline.arrRef spec0 3)) y
    = X main_arg3 (ix3 (y 0) ⟨t.val * 256 + (y 1).val, by have := (y 1).isLt; have := ltN t; simp at *; omega⟩ (y 2)) := by
  blk_ext [w3 t]

/-- The row of the arrays at a row of a point's block. -/
abbrev row (t : Fin grid0.N) (r : Fin 256) : Fin 256 := ⟨t.val * 256 + r.val, by have := ltN t; omega⟩
/-- The parts' block. -/
theorem ib0 (t : Fin grid0.N) (s : Fin 8) (r : Fin 256) (e : Fin 128) : iblk m c 0 t (ix3 s r e) = ap m c (ix3 s (row t r) e) :=
  (rd0 (V m c) t _).trans (VA ..)
/-- The weights' block. -/
theorem ib1 (t : Fin grid0.N) (r : Fin 256) (e : Fin 128) : iblk m c 1 t (ix3 0 r e) = (aw m c) (ix3 0 (row t r) e) :=
  (rd1 (V m c) t _).trans (VB ..)
/-- The first moments' block. -/
theorem ib2 (t : Fin grid0.N) (r : Fin 256) (e : Fin 128) : iblk m c 2 t (ix3 0 r e) = (am m c) (ix3 0 (row t r) e) :=
  (rd2 (V m c) t _).trans (VC ..)
/-- The second moments' block. -/
theorem ib3 (t : Fin grid0.N) (r : Fin 256) (e : Fin 128) : iblk m c 3 t (ix3 0 r e) = (av m c) (ix3 0 (row t r) e) :=
  (rd3 (V m c) t _).trans (VD ..)
/-- The sum of the parts' blocks. -/
theorem arr_g (t : Fin grid0.N) (r : Fin 256) (e : Fin 128) {x : (⟨3, ![8, 256, 128]⟩ : Shape).Idx → EReal} (hx : ∀ s, x (ix3 s r e) = ap m c (ix3 s (row t r) e)) :
    ∑ s : Fin 8, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
    show r.val = t.val * 256 + r.val
    omega
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (aw m c) (am m c) (av m c) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (aw m c) (am m c) (av m c) (ix3 0 (row t r) e)) ?_ (congrArg (Adam.D (ap m c) (aw m c) (am m c) (av m c)) (Adam.at_ix _ _ _ _ ?_ ?_ ?_).symm)
  rotate_left
  · blk_simp [w5 t]
  · blk_simp [w5 t]
    show r.val = t.val * 256 + r.val
    omega
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (am m c) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (am m c) (ix3 0 (row t r) e)) ?_ (congrArg (Adam.M (ap m c) (am m c)) (Adam.at_ix _ _ _ _ ?_ ?_ ?_).symm)
  rotate_left
  · blk_simp [w6 t]
  · blk_simp [w6 t]
    show r.val = t.val * 256 + r.val
    omega
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (av m c) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (av m c) (ix3 0 (row t r) e)) ?_ (congrArg (Adam.V (ap m c) (av m c)) (Adam.at_ix _ _ _ _ ?_ ?_ ?_).symm)
  rotate_left
  · blk_simp [w7 t]
  · blk_simp [w7 t]
    show r.val = t.val * 256 + r.val
    omega
  · blk_simp [w7 t]
  refine (o7 _ _ _ _ r e).trans ?_
  exact Adam.vo_congr (arr_g m c t r e fun s => ib0 m c t s r e) (ib3 m c t r e)

/-- The reference's gradient. -/
theorem ref4 (p : (⟨3, ![8, 256, 128]⟩ : Shape).Idx → EReal) : Cert.AdamWUkvRefIdeal.Read.val_main_v2 (F := Ideal) p = Adam.G p := by
  funext y
  refine (Cert.AdamWUkvRefIdeal.Read.val_main_v2_apply ..).trans ((Cert.AdamWUkvRefIdeal.Read.val_main_v1_apply ..).trans ?_)
  have hz : ∀ i, Cert.AdamWUkvRefIdeal.Read.val_main_cst (F := Ideal) i = 0 := fun i => (Cert.AdamWUkvRefIdeal.Read.val_main_cst_apply i).trans (by simp [FloatOps.ofBits, Ideal.ofBits, Ideal.ieee])
  rw [hz, zero_add]
  refine Finset.sum_congr rfl fun k _ => ?_
  refine (Cert.AdamWUkvRefIdeal.Read.val_main_v0_apply ..).trans (congrArg p ?_)
  exact Adam.at_ix _ _ _ _ rfl rfl rfl
/-- The reference's first moments. -/
theorem ref6 (p : (⟨3, ![8, 256, 128]⟩ : Shape).Idx → EReal) (w m v : (⟨3, ![1, 256, 128]⟩ : Shape).Idx → EReal) : Cert.AdamWUkvRefIdeal.Read.val_main_v7 (F := Ideal) p m = Adam.M p m := by
  funext y
  unfold Adam.M
  rw [← ref4 p]
  rfl
/-- The reference's second moments. -/
theorem ref7 (p : (⟨3, ![8, 256, 128]⟩ : Shape).Idx → EReal) (w m v : (⟨3, ![1, 256, 128]⟩ : Shape).Idx → EReal) : Cert.AdamWUkvRefIdeal.Read.val_main_v13 (F := Ideal) p v = Adam.V p v := by
  funext y
  unfold Adam.V
  rw [← ref4 p]
  rfl
/-- The reference's change of the weights. -/
theorem ref5 (p : (⟨3, ![8, 256, 128]⟩ : Shape).Idx → EReal) (w m v : (⟨3, ![1, 256, 128]⟩ : Shape).Idx → EReal) : Cert.AdamWUkvRefIdeal.Read.val_main_v26 (F := Ideal) p w m v = Adam.D p w m v := by
  funext y
  unfold Adam.D
  rw [← ref4 p]
  rfl

/-- The call's results are the reference's. -/
theorem algebraic : Cert.algebraic_AdamWUkvIdeal_AdamWUkvRefIdeal := by
  intro m g m' g' _ hagree
  refine ⟨fun c => Adam.G (ap m c), fun c => Adam.D (ap m c) (aw m c) (am m c) (av m c), fun c => Adam.M (ap m c) (am m c), fun c => Adam.V (ap m c) (av m c), ?_, ?_⟩
  · refine (θ_run _ _ _).mono ?_ (Cert.AdamWUkvIdeal.Value.run_blocks m g)
    intro r hr c
    obtain ⟨e0, e1, e2, e3, hU⟩ := hr c
    exact ⟨e0.trans (arr4 m c), e1.trans (arr5 m c), e2.trans (arr6 m c), e3.trans (arr7 m c), hU⟩
  · refine (θ_run _ _ _).mono ?_ (Cert.AdamWUkvRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWUkvRefIdeal.Read.val_main_v2_eq, k0]
      exact ref4 _
    · rw [Cert.AdamWUkvRefIdeal.Read.val_main_v26_eq, k0, k1, k2, k3]
      exact ref5 _ _ _ _
    · rw [Cert.AdamWUkvRefIdeal.Read.val_main_v7_eq, k0, k2]
      exact ref6 _ (aw m c) _ (av m c)
    · rw [Cert.AdamWUkvRefIdeal.Read.val_main_v13_eq, k0, k3]
      exact ref7 _ (aw m c) (am m c) _

/-- The reference runs and leaves its arguments alone. -/
theorem reference_frame : Cert.quiescent_AdamWUkvRefIdeal := by
  intro m g _
  refine (θ_run _ _ _).mono ?_ (Cert.AdamWUkvRefIdeal.Value.run m g)
  intro r hr
  refine ⟨fun c => ?_, sem_eq_zero_of_no_sems (by decide) r.2⟩
  obtain ⟨-, -, -, -, hU⟩ := hr c
  exact hU
end Cert.AdamWUkvP
end
-- ==== Proof.AdamWOut.lean ====
module
public import proofs.«01_k».proof.Proof.Adam
public import proofs.«01_k».proof.Defs
public import proofs.«01_k».proof.Proof.Gen.AdamWOutIdeal.Value
public import proofs.«01_k».proof.Proof.Gen.AdamWOutRefIdeal.Run
public import proofs.«01_k».proof.Proof.Gen.AdamWOutRefIdeal.Read
public import Idealize.ShloMosaic.Lib.Claim
public import Idealize.ShloMosaic.Lib.StableHlo.RunRead
@[expose] public section
set_option maxRecDepth 16384
noncomputable section
namespace Cert.AdamWOutP
open Idealize.ShloMosaic Idealize.SL.Sem Cert.AdamWOutIdeal Cert.AdamWOutIdeal.Gen

/-- The block of the gradient. -/
theorem o4 (x0 : Vec Ideal S8x128x1024 .bf16) (x1 x2 x3 : Vec Ideal S1x128x1024 .f32) (r : Fin 128) (e : Fin 1024) : out0_4 x0 x1 x2 x3 (ix3 0 r e) = (∑ s : Fin 8, x0 (ix3 s r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold out0_4
  rw [View.canon_cons_unit_lit _ _ _ (by decide)]
  unfold_payloads
  pointwise

/-- The block of the weights' change. -/
theorem o5 (x0 : Vec Ideal S8x128x1024 .bf16) (x1 x2 x3 : Vec Ideal S1x128x1024 .f32) (r : Fin 128) (e : Fin 1024) : out0_5 x0 x1 x2 x3 (ix3 0 r e) = Adam.de (∑ s : Fin 8, x0 (ix3 s r e)) (x1 (ix3 0 r e)) (x2 (ix3 0 r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.de Adam.mo Adam.vo
  unfold out0_5
  rw [View.canon_cons_unit_lit _ _ _ (by decide)]
  unfold_payloads
  pointwise

/-- The block of the first moments. -/
theorem o6 (x0 : Vec Ideal S8x128x1024 .bf16) (x1 x2 x3 : Vec Ideal S1x128x1024 .f32) (r : Fin 128) (e : Fin 1024) : out0_6 x0 x1 x2 x3 (ix3 0 r e) = Adam.mo (∑ s : Fin 8, x0 (ix3 s r e)) (x2 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.mo
  unfold out0_6
  rw [View.canon_cons_unit_lit _ _ _ (by decide)]
  unfold_payloads
  pointwise

/-- The block of the second moments. -/
theorem o7 (x0 : Vec Ideal S8x128x1024 .bf16) (x1 x2 x3 : Vec Ideal S1x128x1024 .f32) (r : Fin 128) (e : Fin 1024) : out0_7 x0 x1 x2 x3 (ix3 0 r e) = Adam.vo (∑ s : Fin 8, x0 (ix3 s r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![8, 128, 1024]⟩ : Shape).Idx → EReal := m (c, Proc.devRef .tc main_arg0)
/-- The weights. -/
abbrev aw : (⟨3, ![1, 128, 1024]⟩ : Shape).Idx → EReal := m (c, Proc.devRef .tc main_arg1)
/-- The first moments. -/
abbrev am : (⟨3, ![1, 128, 1024]⟩ : Shape).Idx → EReal := m (c, Proc.devRef .tc main_arg2)
/-- The second moments. -/
abbrev av : (⟨3, ![1, 128, 1024]⟩ : Shape).Idx → EReal := m (c, Proc.devRef .tc main_arg3)
/-- The call's parts. -/
theorem VA (s : Fin 8) (i : Fin 128) (j : Fin 1024) : V m c main_arg0 (ix3 s i j) = ap m c (ix3 s i j) := rfl
/-- The call's weights. -/
theorem VB (s : Fin 1) (i : Fin 128) (j : Fin 1024) : V m c main_arg1 (ix3 s i j) = aw m c (ix3 s i j) := rfl
/-- The call's first moments. -/
theorem VC (s : Fin 1) (i : Fin 128) (j : Fin 1024) : V m c main_arg2 (ix3 s i j) = am m c (ix3 s i j) := rfl
/-- The call's second moments. -/
theorem VD (s : Fin 1) (i : Fin 128) (j : Fin 1024) : V m c main_arg3 (ix3 s i j) = av m c (ix3 s i j) := rfl

/-- There is one grid point. -/
theorem ltN (t : Fin grid0.N) : t.val < 1 := lt_of_lt_of_eq t.isLt (show grid0.N = 1 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![8, 128, 1024]⟩ : Shape).Idx) :
    ((cfg0.win 0).blk t).view.read (Elt Ideal) (X (Pipeline.arrRef spec0 0)) y
    = X main_arg0 (ix3 (y 0) ⟨t.val * 128 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 128, 1024]⟩ : Shape).Idx) :
    ((cfg0.win 1).blk t).view.read (Elt Ideal) (X (Pipeline.arrRef spec0 1)) y
    = X main_arg1 (ix3 (y 0) ⟨t.val * 128 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 128, 1024]⟩ : Shape).Idx) :
    ((cfg0.win 2).blk t).view.read (Elt Ideal) (X (Pipeline.arrRef spec0 2)) y
    = X main_arg2 (ix3 (y 0) ⟨t.val * 128 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 128, 1024]⟩ : Shape).Idx) :
    ((cfg0.win 3).blk t).view.read (Elt Ideal) (X (Pipeline.arrRef spec0 3)) y
    = X main_arg3 (ix3 (y 0) ⟨t.val * 128 + (y 1).val, by have := (y 1).isLt; have := ltN t; simp at *; omega⟩ (y 2)) := by
  blk_ext [w3 t]

/-- The row of the arrays at a row of a point's block. -/
abbrev row (t : Fin grid0.N) (r : Fin 128) : Fin 128 := ⟨t.val * 128 + r.val, by have := ltN t; omega⟩
/-- The parts' block. -/
theorem ib0 (t : Fin grid0.N) (s : Fin 8) (r : Fin 128) (e : Fin 1024) : iblk m c 0 t (ix3 s r e) = ap m c (ix3 s (row t r) e) :=
  (rd0 (V m c) t _).trans (VA ..)
/-- The weights' block. -/
theorem ib1 (t : Fin grid0.N) (r : Fin 128) (e : Fin 1024) : iblk m c 1 t (ix3 0 r e) = (aw m c) (ix3 0 (row t r) e) :=
  (rd1 (V m c) t _).trans (VB ..)
/-- The first moments' block. -/
theorem ib2 (t : Fin grid0.N) (r : Fin 128) (e : Fin 1024) : iblk m c 2 t (ix3 0 r e) = (am m c) (ix3 0 (row t r) e) :=
  (rd2 (V m c) t _).trans (VC ..)
/-- The second moments' block. -/
theorem ib3 (t : Fin grid0.N) (r : Fin 128) (e : Fin 1024) : iblk m c 3 t (ix3 0 r e) = (av m c) (ix3 0 (row t r) e) :=
  (rd3 (V m c) t _).trans (VD ..)
/-- The sum of the parts' blocks. -/
theorem arr_g (t : Fin grid0.N) (r : Fin 128) (e : Fin 1024) {x : (⟨3, ![8, 128, 1024]⟩ : Shape).Idx → EReal} (hx : ∀ s, x (ix3 s r e) = ap m c (ix3 s (row t r) e)) :
    ∑ s : Fin 8, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
    show r.val = t.val * 128 + r.val
    omega
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (aw m c) (am m c) (av m c) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (aw m c) (am m c) (av m c) (ix3 0 (row t r) e)) ?_ (congrArg (Adam.D (ap m c) (aw m c) (am m c) (av m c)) (Adam.at_ix _ _ _ _ ?_ ?_ ?_).symm)
  rotate_left
  · blk_simp [w5 t]
  · blk_simp [w5 t]
    show r.val = t.val * 128 + r.val
    omega
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (am m c) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (am m c) (ix3 0 (row t r) e)) ?_ (congrArg (Adam.M (ap m c) (am m c)) (Adam.at_ix _ _ _ _ ?_ ?_ ?_).symm)
  rotate_left
  · blk_simp [w6 t]
  · blk_simp [w6 t]
    show r.val = t.val * 128 + r.val
    omega
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (av m c) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (av m c) (ix3 0 (row t r) e)) ?_ (congrArg (Adam.V (ap m c) (av m c)) (Adam.at_ix _ _ _ _ ?_ ?_ ?_).symm)
  rotate_left
  · blk_simp [w7 t]
  · blk_simp [w7 t]
    show r.val = t.val * 128 + r.val
    omega
  · blk_simp [w7 t]
  refine (o7 _ _ _ _ r e).trans ?_
  exact Adam.vo_congr (arr_g m c t r e fun s => ib0 m c t s r e) (ib3 m c t r e)

/-- The reference's gradient. -/
theorem ref4 (p : (⟨3, ![8, 128, 1024]⟩ : Shape).Idx → EReal) : Cert.AdamWOutRefIdeal.Read.val_main_v2 (F := Ideal) p = Adam.G p := by
  funext y
  refine (Cert.AdamWOutRefIdeal.Read.val_main_v2_apply ..).trans ((Cert.AdamWOutRefIdeal.Read.val_main_v1_apply ..).trans ?_)
  have hz : ∀ i, Cert.AdamWOutRefIdeal.Read.val_main_cst (F := Ideal) i = 0 := fun i => (Cert.AdamWOutRefIdeal.Read.val_main_cst_apply i).trans (by simp [FloatOps.ofBits, Ideal.ofBits, Ideal.ieee])
  rw [hz, zero_add]
  refine Finset.sum_congr rfl fun k _ => ?_
  refine (Cert.AdamWOutRefIdeal.Read.val_main_v0_apply ..).trans (congrArg p ?_)
  exact Adam.at_ix _ _ _ _ rfl rfl rfl
/-- The reference's first moments. -/
theorem ref6 (p : (⟨3, ![8, 128, 1024]⟩ : Shape).Idx → EReal) (w m v : (⟨3, ![1, 128, 1024]⟩ : Shape).Idx → EReal) : Cert.AdamWOutRefIdeal.Read.val_main_v7 (F := Ideal) p m = Adam.M p m := by
  funext y
  unfold Adam.M
  rw [← ref4 p]
  rfl
/-- The reference's second moments. -/
theorem ref7 (p : (⟨3, ![8, 128, 1024]⟩ : Shape).Idx → EReal) (w m v : (⟨3, ![1, 128, 1024]⟩ : Shape).Idx → EReal) : Cert.AdamWOutRefIdeal.Read.val_main_v13 (F := Ideal) p v = Adam.V p v := by
  funext y
  unfold Adam.V
  rw [← ref4 p]
  rfl
/-- The reference's change of the weights. -/
theorem ref5 (p : (⟨3, ![8, 128, 1024]⟩ : Shape).Idx → EReal) (w m v : (⟨3, ![1, 128, 1024]⟩ : Shape).Idx → EReal) : Cert.AdamWOutRefIdeal.Read.val_main_v26 (F := Ideal) p w m v = Adam.D p w m v := by
  funext y
  unfold Adam.D
  rw [← ref4 p]
  rfl

/-- The call's results are the reference's. -/
theorem algebraic : Cert.algebraic_AdamWOutIdeal_AdamWOutRefIdeal := by
  intro m g m' g' _ hagree
  refine ⟨fun c => Adam.G (ap m c), fun c => Adam.D (ap m c) (aw m c) (am m c) (av m c), fun c => Adam.M (ap m c) (am m c), fun c => Adam.V (ap m c) (av m c), ?_, ?_⟩
  · refine (θ_run _ _ _).mono ?_ (Cert.AdamWOutIdeal.Value.run_blocks m g)
    intro r hr c
    obtain ⟨e0, e1, e2, e3, hU⟩ := hr c
    exact ⟨e0.trans (arr4 m c), e1.trans (arr5 m c), e2.trans (arr6 m c), e3.trans (arr7 m c), hU⟩
  · refine (θ_run _ _ _).mono ?_ (Cert.AdamWOutRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWOutRefIdeal.Read.val_main_v2_eq, k0]
      exact ref4 _
    · rw [Cert.AdamWOutRefIdeal.Read.val_main_v26_eq, k0, k1, k2, k3]
      exact ref5 _ _ _ _
    · rw [Cert.AdamWOutRefIdeal.Read.val_main_v7_eq, k0, k2]
      exact ref6 _ (aw m c) _ (av m c)
    · rw [Cert.AdamWOutRefIdeal.Read.val_main_v13_eq, k0, k3]
      exact ref7 _ (aw m c) (am m c) _

/-- The reference runs and leaves its arguments alone. -/
theorem reference_frame : Cert.quiescent_AdamWOutRefIdeal := by
  intro m g _
  refine (θ_run _ _ _).mono ?_ (Cert.AdamWOutRefIdeal.Value.run m g)
  intro r hr
  refine ⟨fun c => ?_, sem_eq_zero_of_no_sems (by decide) r.2⟩
  obtain ⟨-, -, -, -, hU⟩ := hr c
  exact hU
end Cert.AdamWOutP
end
-- ==== Proof.AdamWFfnOut.lean ====
module
public import proofs.«01_k».proof.Proof.Adam
public import proofs.«01_k».proof.Defs
public import proofs.«01_k».proof.Proof.Gen.AdamWFfnOutIdeal.Value
public import proofs.«01_k».proof.Proof.Gen.AdamWFfnOutRefIdeal.Run
public import proofs.«01_k».proof.Proof.Gen.AdamWFfnOutRefIdeal.Read
public import Idealize.ShloMosaic.Lib.Claim
public import Idealize.ShloMosaic.Lib.StableHlo.RunRead
@[expose] public section
set_option maxRecDepth 16384
noncomputable section
namespace Cert.AdamWFfnOutP
open Idealize.ShloMosaic Idealize.SL.Sem Cert.AdamWFfnOutIdeal Cert.AdamWFfnOutIdeal.Gen

/-- The block of the gradient. -/
theorem o4 (x0 : Vec Ideal S8x352x1024 .bf16) (x1 x2 x3 : Vec Ideal S1x352x1024 .f32) (r : Fin 352) (e : Fin 1024) : out0_4 x0 x1 x2 x3 (ix3 0 r e) = (∑ s : Fin 8, x0 (ix3 s r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold out0_4
  rw [View.canon_cons_unit_lit _ _ _ (by decide)]
  unfold_payloads
  pointwise

/-- The block of the weights' change. -/
theorem o5 (x0 : Vec Ideal S8x352x1024 .bf16) (x1 x2 x3 : Vec Ideal S1x352x1024 .f32) (r : Fin 352) (e : Fin 1024) : out0_5 x0 x1 x2 x3 (ix3 0 r e) = Adam.de (∑ s : Fin 8, x0 (ix3 s r e)) (x1 (ix3 0 r e)) (x2 (ix3 0 r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.de Adam.mo Adam.vo
  unfold out0_5
  rw [View.canon_cons_unit_lit _ _ _ (by decide)]
  unfold_payloads
  pointwise

/-- The block of the first moments. -/
theorem o6 (x0 : Vec Ideal S8x352x1024 .bf16) (x1 x2 x3 : Vec Ideal S1x352x1024 .f32) (r : Fin 352) (e : Fin 1024) : out0_6 x0 x1 x2 x3 (ix3 0 r e) = Adam.mo (∑ s : Fin 8, x0 (ix3 s r e)) (x2 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.mo
  unfold out0_6
  rw [View.canon_cons_unit_lit _ _ _ (by decide)]
  unfold_payloads
  pointwise

/-- The block of the second moments. -/
theorem o7 (x0 : Vec Ideal S8x352x1024 .bf16) (x1 x2 x3 : Vec Ideal S1x352x1024 .f32) (r : Fin 352) (e : Fin 1024) : out0_7 x0 x1 x2 x3 (ix3 0 r e) = Adam.vo (∑ s : Fin 8, x0 (ix3 s r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![8, 352, 1024]⟩ : Shape).Idx → EReal := m (c, Proc.devRef .tc main_arg0)
/-- The weights. -/
abbrev aw : (⟨3, ![1, 352, 1024]⟩ : Shape).Idx → EReal := m (c, Proc.devRef .tc main_arg1)
/-- The first moments. -/
abbrev am : (⟨3, ![1, 352, 1024]⟩ : Shape).Idx → EReal := m (c, Proc.devRef .tc main_arg2)
/-- The second moments. -/
abbrev av : (⟨3, ![1, 352, 1024]⟩ : Shape).Idx → EReal := m (c, Proc.devRef .tc main_arg3)
/-- The call's parts. -/
theorem VA (s : Fin 8) (i : Fin 352) (j : Fin 1024) : V m c main_arg0 (ix3 s i j) = ap m c (ix3 s i j) := rfl
/-- The call's weights. -/
theorem VB (s : Fin 1) (i : Fin 352) (j : Fin 1024) : V m c main_arg1 (ix3 s i j) = aw m c (ix3 s i j) := rfl
/-- The call's first moments. -/
theorem VC (s : Fin 1) (i : Fin 352) (j : Fin 1024) : V m c main_arg2 (ix3 s i j) = am m c (ix3 s i j) := rfl
/-- The call's second moments. -/
theorem VD (s : Fin 1) (i : Fin 352) (j : Fin 1024) : V m c main_arg3 (ix3 s i j) = av m c (ix3 s i j) := rfl

/-- There is one grid point. -/
theorem ltN (t : Fin grid0.N) : t.val < 1 := lt_of_lt_of_eq t.isLt (show grid0.N = 1 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![8, 352, 1024]⟩ : Shape).Idx) :
    ((cfg0.win 0).blk t).view.read (Elt Ideal) (X (Pipeline.arrRef spec0 0)) y
    = X main_arg0 (ix3 (y 0) ⟨t.val * 352 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 352, 1024]⟩ : Shape).Idx) :
    ((cfg0.win 1).blk t).view.read (Elt Ideal) (X (Pipeline.arrRef spec0 1)) y
    = X main_arg1 (ix3 (y 0) ⟨t.val * 352 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 352, 1024]⟩ : Shape).Idx) :
    ((cfg0.win 2).blk t).view.read (Elt Ideal) (X (Pipeline.arrRef spec0 2)) y
    = X main_arg2 (ix3 (y 0) ⟨t.val * 352 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 352, 1024]⟩ : Shape).Idx) :
    ((cfg0.win 3).blk t).view.read (Elt Ideal) (X (Pipeline.arrRef spec0 3)) y
    = X main_arg3 (ix3 (y 0) ⟨t.val * 352 + (y 1).val, by have := (y 1).isLt; have := ltN t; simp at *; omega⟩ (y 2)) := by
  blk_ext [w3 t]

/-- The row of the arrays at a row of a point's block. -/
abbrev row (t : Fin grid0.N) (r : Fin 352) : Fin 352 := ⟨t.val * 352 + r.val, by have := ltN t; omega⟩
/-- The parts' block. -/
theorem ib0 (t : Fin grid0.N) (s : Fin 8) (r : Fin 352) (e : Fin 1024) : iblk m c 0 t (ix3 s r e) = ap m c (ix3 s (row t r) e) :=
  (rd0 (V m c) t _).trans (VA ..)
/-- The weights' block. -/
theorem ib1 (t : Fin grid0.N) (r : Fin 352) (e : Fin 1024) : iblk m c 1 t (ix3 0 r e) = (aw m c) (ix3 0 (row t r) e) :=
  (rd1 (V m c) t _).trans (VB ..)
/-- The first moments' block. -/
theorem ib2 (t : Fin grid0.N) (r : Fin 352) (e : Fin 1024) : iblk m c 2 t (ix3 0 r e) = (am m c) (ix3 0 (row t r) e) :=
  (rd2 (V m c) t _).trans (VC ..)
/-- The second moments' block. -/
theorem ib3 (t : Fin grid0.N) (r : Fin 352) (e : Fin 1024) : iblk m c 3 t (ix3 0 r e) = (av m c) (ix3 0 (row t r) e) :=
  (rd3 (V m c) t _).trans (VD ..)
/-- The sum of the parts' blocks. -/
theorem arr_g (t : Fin grid0.N) (r : Fin 352) (e : Fin 1024) {x : (⟨3, ![8, 352, 1024]⟩ : Shape).Idx → EReal} (hx : ∀ s, x (ix3 s r e) = ap m c (ix3 s (row t r) e)) :
    ∑ s : Fin 8, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
    show r.val = t.val * 352 + r.val
    omega
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (aw m c) (am m c) (av m c) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (aw m c) (am m c) (av m c) (ix3 0 (row t r) e)) ?_ (congrArg (Adam.D (ap m c) (aw m c) (am m c) (av m c)) (Adam.at_ix _ _ _ _ ?_ ?_ ?_).symm)
  rotate_left
  · blk_simp [w5 t]
  · blk_simp [w5 t]
    show r.val = t.val * 352 + r.val
    omega
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (am m c) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (am m c) (ix3 0 (row t r) e)) ?_ (congrArg (Adam.M (ap m c) (am m c)) (Adam.at_ix _ _ _ _ ?_ ?_ ?_).symm)
  rotate_left
  · blk_simp [w6 t]
  · blk_simp [w6 t]
    show r.val = t.val * 352 + r.val
    omega
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (av m c) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (av m c) (ix3 0 (row t r) e)) ?_ (congrArg (Adam.V (ap m c) (av m c)) (Adam.at_ix _ _ _ _ ?_ ?_ ?_).symm)
  rotate_left
  · blk_simp [w7 t]
  · blk_simp [w7 t]
    show r.val = t.val * 352 + r.val
    omega
  · blk_simp [w7 t]
  refine (o7 _ _ _ _ r e).trans ?_
  exact Adam.vo_congr (arr_g m c t r e fun s => ib0 m c t s r e) (ib3 m c t r e)

/-- The reference's gradient. -/
theorem ref4 (p : (⟨3, ![8, 352, 1024]⟩ : Shape).Idx → EReal) : Cert.AdamWFfnOutRefIdeal.Read.val_main_v2 (F := Ideal) p = Adam.G p := by
  funext y
  refine (Cert.AdamWFfnOutRefIdeal.Read.val_main_v2_apply ..).trans ((Cert.AdamWFfnOutRefIdeal.Read.val_main_v1_apply ..).trans ?_)
  have hz : ∀ i, Cert.AdamWFfnOutRefIdeal.Read.val_main_cst (F := Ideal) i = 0 := fun i => (Cert.AdamWFfnOutRefIdeal.Read.val_main_cst_apply i).trans (by simp [FloatOps.ofBits, Ideal.ofBits, Ideal.ieee])
  rw [hz, zero_add]
  refine Finset.sum_congr rfl fun k _ => ?_
  refine (Cert.AdamWFfnOutRefIdeal.Read.val_main_v0_apply ..).trans (congrArg p ?_)
  exact Adam.at_ix _ _ _ _ rfl rfl rfl
/-- The reference's first moments. -/
theorem ref6 (p : (⟨3, ![8, 352, 1024]⟩ : Shape).Idx → EReal) (w m v : (⟨3, ![1, 352, 1024]⟩ : Shape).Idx → EReal) : Cert.AdamWFfnOutRefIdeal.Read.val_main_v7 (F := Ideal) p m = Adam.M p m := by
  funext y
  unfold Adam.M
  rw [← ref4 p]
  rfl
/-- The reference's second moments. -/
theorem ref7 (p : (⟨3, ![8, 352, 1024]⟩ : Shape).Idx → EReal) (w m v : (⟨3, ![1, 352, 1024]⟩ : Shape).Idx → EReal) : Cert.AdamWFfnOutRefIdeal.Read.val_main_v13 (F := Ideal) p v = Adam.V p v := by
  funext y
  unfold Adam.V
  rw [← ref4 p]
  rfl
/-- The reference's change of the weights. -/
theorem ref5 (p : (⟨3, ![8, 352, 1024]⟩ : Shape).Idx → EReal) (w m v : (⟨3, ![1, 352, 1024]⟩ : Shape).Idx → EReal) : Cert.AdamWFfnOutRefIdeal.Read.val_main_v26 (F := Ideal) p w m v = Adam.D p w m v := by
  funext y
  unfold Adam.D
  rw [← ref4 p]
  rfl

/-- The call's results are the reference's. -/
theorem algebraic : Cert.algebraic_AdamWFfnOutIdeal_AdamWFfnOutRefIdeal := by
  intro m g m' g' _ hagree
  refine ⟨fun c => Adam.G (ap m c), fun c => Adam.D (ap m c) (aw m c) (am m c) (av m c), fun c => Adam.M (ap m c) (am m c), fun c => Adam.V (ap m c) (av m c), ?_, ?_⟩
  · refine (θ_run _ _ _).mono ?_ (Cert.AdamWFfnOutIdeal.Value.run_blocks m g)
    intro r hr c
    obtain ⟨e0, e1, e2, e3, hU⟩ := hr c
    exact ⟨e0.trans (arr4 m c), e1.trans (arr5 m c), e2.trans (arr6 m c), e3.trans (arr7 m c), hU⟩
  · refine (θ_run _ _ _).mono ?_ (Cert.AdamWFfnOutRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWFfnOutRefIdeal.Read.val_main_v2_eq, k0]
      exact ref4 _
    · rw [Cert.AdamWFfnOutRefIdeal.Read.val_main_v26_eq, k0, k1, k2, k3]
      exact ref5 _ _ _ _
    · rw [Cert.AdamWFfnOutRefIdeal.Read.val_main_v7_eq, k0, k2]
      exact ref6 _ (aw m c) _ (av m c)
    · rw [Cert.AdamWFfnOutRefIdeal.Read.val_main_v13_eq, k0, k3]
      exact ref7 _ (aw m c) (am m c) _

/-- The reference runs and leaves its arguments alone. -/
theorem reference_frame : Cert.quiescent_AdamWFfnOutRefIdeal := by
  intro m g _
  refine (θ_run _ _ _).mono ?_ (Cert.AdamWFfnOutRefIdeal.Value.run m g)
  intro r hr
  refine ⟨fun c => ?_, sem_eq_zero_of_no_sems (by decide) r.2⟩
  obtain ⟨-, -, -, -, hU⟩ := hr c
  exact hU
end Cert.AdamWFfnOutP
end
-- ==== Proof.AdamWIn.lean ====
module
public import proofs.«01_k».proof.Proof.Adam
public import proofs.«01_k».proof.Defs
public import proofs.«01_k».proof.Proof.Gen.AdamWInIdeal.Frame
public import proofs.«01_k».proof.Proof.Gen.AdamWInRefIdeal.Run
public import proofs.«01_k».proof.Proof.Gen.AdamWInRefIdeal.Read
public import Idealize.ShloMosaic.Lib.Claim
public import Idealize.ShloMosaic.Lib.StableHlo.RunRead
@[expose] public section
set_option maxRecDepth 16384
noncomputable section
namespace Cert.AdamWInP
open Idealize.ShloMosaic Idealize.SL.Sem Cert.AdamWInIdeal Cert.AdamWInIdeal.Gen

/-- The block of the gradient. -/
theorem o4 (x0 : Vec Ideal S8x276x1024 .bf16) (x1 x2 x3 : Vec Ideal S1x276x1024 .f32) (r : Fin 276) (e : Fin 1024) : out0_4 x0 x1 x2 x3 (ix3 0 r e) = (∑ s : Fin 8, x0 (ix3 s r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold out0_4
  rw [View.canon_cons_unit_lit _ _ _ (by decide)]
  unfold_payloads
  pointwise

/-- The block of the weights' change. -/
theorem o5 (x0 : Vec Ideal S8x276x1024 .bf16) (x1 x2 x3 : Vec Ideal S1x276x1024 .f32) (r : Fin 276) (e : Fin 1024) : out0_5 x0 x1 x2 x3 (ix3 0 r e) = Adam.de (∑ s : Fin 8, x0 (ix3 s r e)) (x1 (ix3 0 r e)) (x2 (ix3 0 r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.de Adam.mo Adam.vo
  unfold out0_5
  rw [View.canon_cons_unit_lit _ _ _ (by decide)]
  unfold_payloads
  pointwise

/-- The block of the first moments. -/
theorem o6 (x0 : Vec Ideal S8x276x1024 .bf16) (x1 x2 x3 : Vec Ideal S1x276x1024 .f32) (r : Fin 276) (e : Fin 1024) : out0_6 x0 x1 x2 x3 (ix3 0 r e) = Adam.mo (∑ s : Fin 8, x0 (ix3 s r e)) (x2 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.mo
  unfold out0_6
  rw [View.canon_cons_unit_lit _ _ _ (by decide)]
  unfold_payloads
  pointwise

/-- The block of the second moments. -/
theorem o7 (x0 : Vec Ideal S8x276x1024 .bf16) (x1 x2 x3 : Vec Ideal S1x276x1024 .f32) (r : Fin 276) (e : Fin 1024) : out0_7 x0 x1 x2 x3 (ix3 0 r e) = Adam.vo (∑ s : Fin 8, x0 (ix3 s r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![8, 276, 1024]⟩ : Shape).Idx → EReal := m (c, Proc.devRef .tc main_arg0)
/-- The weights. -/
abbrev aw : (⟨3, ![1, 1024, 276]⟩ : Shape).Idx → EReal := m (c, Proc.devRef .tc main_arg1)
/-- The first moments. -/
abbrev am : (⟨3, ![1, 1024, 276]⟩ : Shape).Idx → EReal := m (c, Proc.devRef .tc main_arg2)
/-- The second moments. -/
abbrev av : (⟨3, ![1, 1024, 276]⟩ : Shape).Idx → EReal := m (c, Proc.devRef .tc main_arg3)
/-- The call's parts. -/
theorem VA (s : Fin 8) (i : Fin 276) (j : Fin 1024) : V m c main_arg0 (ix3 s i j) = ap m c (ix3 s i j) := by
  show StableHlo.after (hostOps0 ++ []) _ _ _ = _
  simp only [hostOps0, List.append_nil]
  after_reads_simp
/-- The call's weights. -/
theorem VB (s : Fin 1) (i : Fin 276) (j : Fin 1024) : V m c main_v0 (ix3 s i j) = Adam.fl (aw m c) (ix3 s i j) := by
  obtain rfl : s = 0 := Subsingleton.elim _ _
  show StableHlo.after (hostOps0 ++ []) _ _ _ = _
  simp only [hostOps0, List.append_nil]
  after_reads_simp
  unfold Adam.fl
  pointwise
/-- The call's first moments. -/
theorem VC (s : Fin 1) (i : Fin 276) (j : Fin 1024) : V m c main_v1 (ix3 s i j) = Adam.fl (am m c) (ix3 s i j) := by
  obtain rfl : s = 0 := Subsingleton.elim _ _
  show StableHlo.after (hostOps0 ++ []) _ _ _ = _
  simp only [hostOps0, List.append_nil]
  after_reads_simp
  unfold Adam.fl
  pointwise
/-- The call's second moments. -/
theorem VD (s : Fin 1) (i : Fin 276) (j : Fin 1024) : V m c main_v2 (ix3 s i j) = Adam.fl (av m c) (ix3 s i j) := by
  obtain rfl : s = 0 := Subsingleton.elim _ _
  show StableHlo.after (hostOps0 ++ []) _ _ _ = _
  simp only [hostOps0, List.append_nil]
  after_reads_simp
  unfold Adam.fl
  pointwise

/-- There is one grid point. -/
theorem ltN (t : Fin grid0.N) : t.val < 1 := lt_of_lt_of_eq t.isLt (show grid0.N = 1 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![8, 276, 1024]⟩ : Shape).Idx) :
    ((cfg0.win 0).blk t).view.read (Elt Ideal) (X (Pipeline.arrRef spec0 0)) y
    = X main_arg0 (ix3 (y 0) ⟨t.val * 276 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 276, 1024]⟩ : Shape).Idx) :
    ((cfg0.win 1).blk t).view.read (Elt Ideal) (X (Pipeline.arrRef spec0 1)) y
    = X main_v0 (ix3 (y 0) ⟨t.val * 276 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 276, 1024]⟩ : Shape).Idx) :
    ((cfg0.win 2).blk t).view.read (Elt Ideal) (X (Pipeline.arrRef spec0 2)) y
    = X main_v1 (ix3 (y 0) ⟨t.val * 276 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 276, 1024]⟩ : Shape).Idx) :
    ((cfg0.win 3).blk t).view.read (Elt Ideal) (X (Pipeline.arrRef spec0 3)) y
    = X main_v2 (ix3 (y 0) ⟨t.val * 276 + (y 1).val, by have := (y 1).isLt; have := ltN t; simp at *; omega⟩ (y 2)) := by
  blk_ext [w3 t]

/-- The row of the arrays at a row of a point's block. -/
abbrev row (t : Fin grid0.N) (r : Fin 276) : Fin 276 := ⟨t.val * 276 + r.val, by have := ltN t; omega⟩
/-- The parts' block. -/
theorem ib0 (t : Fin grid0.N) (s : Fin 8) (r : Fin 276) (e : Fin 1024) : iblk m c 0 t (ix3 s r e) = ap m c (ix3 s (row t r) e) :=
  (rd0 (V m c) t _).trans (VA ..)
/-- The weights' block. -/
theorem ib1 (t : Fin grid0.N) (r : Fin 276) (e : Fin 1024) : iblk m c 1 t (ix3 0 r e) = (Adam.fl (aw m c)) (ix3 0 (row t r) e) :=
  (rd1 (V m c) t _).trans (VB ..)
/-- The first moments' block. -/
theorem ib2 (t : Fin grid0.N) (r : Fin 276) (e : Fin 1024) : iblk m c 2 t (ix3 0 r e) = (Adam.fl (am m c)) (ix3 0 (row t r) e) :=
  (rd2 (V m c) t _).trans (VC ..)
/-- The second moments' block. -/
theorem ib3 (t : Fin grid0.N) (r : Fin 276) (e : Fin 1024) : iblk m c 3 t (ix3 0 r e) = (Adam.fl (av m c)) (ix3 0 (row t r) e) :=
  (rd3 (V m c) t _).trans (VD ..)
/-- The sum of the parts' blocks. -/
theorem arr_g (t : Fin grid0.N) (r : Fin 276) (e : Fin 1024) {x : (⟨3, ![8, 276, 1024]⟩ : Shape).Idx → EReal} (hx : ∀ s, x (ix3 s r e) = ap m c (ix3 s (row t r) e)) :
    ∑ s : Fin 8, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
    show r.val = t.val * 276 + r.val
    omega
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (Adam.fl (aw m c)) (Adam.fl (am m c)) (Adam.fl (av m c)) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (Adam.fl (aw m c)) (Adam.fl (am m c)) (Adam.fl (av m c)) (ix3 0 (row t r) e)) ?_ (congrArg (Adam.D (ap m c) (Adam.fl (aw m c)) (Adam.fl (am m c)) (Adam.fl (av m c))) (Adam.at_ix _ _ _ _ ?_ ?_ ?_).symm)
  rotate_left
  · blk_simp [w5 t]
  · blk_simp [w5 t]
    show r.val = t.val * 276 + r.val
    omega
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (Adam.fl (am m c)) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (Adam.fl (am m c)) (ix3 0 (row t r) e)) ?_ (congrArg (Adam.M (ap m c) (Adam.fl (am m c))) (Adam.at_ix _ _ _ _ ?_ ?_ ?_).symm)
  rotate_left
  · blk_simp [w6 t]
  · blk_simp [w6 t]
    show r.val = t.val * 276 + r.val
    omega
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (Adam.fl (av m c)) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (Adam.fl (av m c)) (ix3 0 (row t r) e)) ?_ (congrArg (Adam.V (ap m c) (Adam.fl (av m c))) (Adam.at_ix _ _ _ _ ?_ ?_ ?_).symm)
  rotate_left
  · blk_simp [w7 t]
  · blk_simp [w7 t]
    show r.val = t.val * 276 + r.val
    omega
  · blk_simp [w7 t]
  refine (o7 _ _ _ _ r e).trans ?_
  exact Adam.vo_congr (arr_g m c t r e fun s => ib0 m c t s r e) (ib3 m c t r e)

/-- The values after the call. -/
abbrev WT : Valuation τ sig (Elt Ideal) := Pipeline.withArrays spec0 c (V0 m c) fun w => (dats m 0 c).arrAt w (cfgs 0).N
/-- The results' values. -/
theorem tail_eq (b : Ref sig .tc) : Pipeline.afterTail₀ cfgs (dats m) 0 (V0 m) [hostOps1] c b = StableHlo.after hostOps1 (WT m c) (Proc.devRef .tc b) := by
  show StableHlo.after (hostOps1 ++ []) _ _ = _
  rw [List.append_nil]
/-- Result 1 of the call, exchanged. -/
theorem s0 (X : Valuation τ sig (Elt Ideal)) (i : Fin 1024) (j : Fin 276) :
    StableHlo.after hostOps1 X (Proc.devRef .tc main_v4) (ix3 0 i j) = X (Proc.devRef .tc main_v3_0) (ix3 0 j i) := by
  simp only [hostOps1]
  after_reads_simp
  pointwise
/-- Result 1 after the call. -/
theorem T0 : WT m c (Proc.devRef .tc main_v3_0) = Adam.G (ap m c) := (Pipeline.withArrays_arr spec0 (by decide +kernel) c _ _ 4).trans (arr4 m c)
/-- Result 1. -/
theorem res0 : StableHlo.after hostOps1 (WT m c) (Proc.devRef .tc main_v4) = Adam.G (Adam.fl (ap m c)) := by
  funext y
  obtain ⟨i, j, rfl⟩ : ∃ i j, y = ix3 0 i j := ⟨_, _, Adam.eta y⟩
  exact (s0 (WT m c) i j).trans (congrFun (T0 m c) _)
/-- Result 2 of the call, exchanged. -/
theorem s1 (X : Valuation τ sig (Elt Ideal)) (i : Fin 1024) (j : Fin 276) :
    StableHlo.after hostOps1 X (Proc.devRef .tc main_v5) (ix3 0 i j) = X (Proc.devRef .tc main_v3_1) (ix3 0 j i) := by
  simp only [hostOps1]
  after_reads_simp
  pointwise
/-- Result 2 after the call. -/
theorem T1 : WT m c (Proc.devRef .tc main_v3_1) = Adam.D (ap m c) (Adam.fl (aw m c)) (Adam.fl (am m c)) (Adam.fl (av m c)) := (Pipeline.withArrays_arr spec0 (by decide +kernel) c _ _ 5).trans (arr5 m c)
/-- Result 2. -/
theorem res1 : StableHlo.after hostOps1 (WT m c) (Proc.devRef .tc main_v5) = Adam.D (Adam.fl (ap m c)) (aw m c) (am m c) (av m c) := by
  funext y
  obtain ⟨i, j, rfl⟩ : ∃ i j, y = ix3 0 i j := ⟨_, _, Adam.eta y⟩
  exact (s1 (WT m c) i j).trans (congrFun (T1 m c) _)
/-- Result 3 of the call, exchanged. -/
theorem s2 (X : Valuation τ sig (Elt Ideal)) (i : Fin 1024) (j : Fin 276) :
    StableHlo.after hostOps1 X (Proc.devRef .tc main_v6) (ix3 0 i j) = X (Proc.devRef .tc main_v3_2) (ix3 0 j i) := by
  simp only [hostOps1]
  after_reads_simp
  pointwise
/-- Result 3 after the call. -/
theorem T2 : WT m c (Proc.devRef .tc main_v3_2) = Adam.M (ap m c) (Adam.fl (am m c)) := (Pipeline.withArrays_arr spec0 (by decide +kernel) c _ _ 6).trans (arr6 m c)
/-- Result 3. -/
theorem res2 : StableHlo.after hostOps1 (WT m c) (Proc.devRef .tc main_v6) = Adam.M (Adam.fl (ap m c)) (am m c) := by
  funext y
  obtain ⟨i, j, rfl⟩ : ∃ i j, y = ix3 0 i j := ⟨_, _, Adam.eta y⟩
  exact (s2 (WT m c) i j).trans (congrFun (T2 m c) _)
/-- Result 4 of the call, exchanged. -/
theorem s3 (X : Valuation τ sig (Elt Ideal)) (i : Fin 1024) (j : Fin 276) :
    StableHlo.after hostOps1 X (Proc.devRef .tc main_v7) (ix3 0 i j) = X (Proc.devRef .tc main_v3_3) (ix3 0 j i) := by
  simp only [hostOps1]
  after_reads_simp
  pointwise
/-- Result 4 after the call. -/
theorem T3 : WT m c (Proc.devRef .tc main_v3_3) = Adam.V (ap m c) (Adam.fl (av m c)) := (Pipeline.withArrays_arr spec0 (by decide +kernel) c _ _ 7).trans (arr7 m c)
/-- Result 4. -/
theorem res3 : StableHlo.after hostOps1 (WT m c) (Proc.devRef .tc main_v7) = Adam.V (Adam.fl (ap m c)) (av m c) := by
  funext y
  obtain ⟨i, j, rfl⟩ : ∃ i j, y = ix3 0 i j := ⟨_, _, Adam.eta y⟩
  exact (s3 (WT m c) i j).trans (congrFun (T3 m c) _)

/-- The reference's gradient. -/
theorem ref4 (p : (⟨3, ![8, 276, 1024]⟩ : Shape).Idx → EReal) : Cert.AdamWInRefIdeal.Read.val_main_v3 (F := Ideal) p = Adam.G (Adam.fl p) := by
  funext y
  refine (Cert.AdamWInRefIdeal.Read.val_main_v3_apply ..).trans ((Cert.AdamWInRefIdeal.Read.val_main_v2_apply ..).trans ?_)
  have hz : ∀ i, Cert.AdamWInRefIdeal.Read.val_main_cst (F := Ideal) i = 0 := fun i => (Cert.AdamWInRefIdeal.Read.val_main_cst_apply i).trans (by simp [FloatOps.ofBits, Ideal.ofBits, Ideal.ieee])
  rw [hz, zero_add]
  refine Finset.sum_congr rfl fun k _ => ?_
  refine (Cert.AdamWInRefIdeal.Read.val_main_v1_apply ..).trans ((Cert.AdamWInRefIdeal.Read.val_main_v0_apply ..).trans (congrArg p ?_))
  exact Adam.at_ix _ _ _ _ rfl rfl rfl
/-- The reference's first moments. -/
theorem ref6 (p : (⟨3, ![8, 276, 1024]⟩ : Shape).Idx → EReal) (w m v : (⟨3, ![1, 1024, 276]⟩ : Shape).Idx → EReal) : Cert.AdamWInRefIdeal.Read.val_main_v8 (F := Ideal) p m = Adam.M (Adam.fl p) m := by
  funext y
  unfold Adam.M
  rw [← ref4 p]
  rfl
/-- The reference's second moments. -/
theorem ref7 (p : (⟨3, ![8, 276, 1024]⟩ : Shape).Idx → EReal) (w m v : (⟨3, ![1, 1024, 276]⟩ : Shape).Idx → EReal) : Cert.AdamWInRefIdeal.Read.val_main_v14 (F := Ideal) p v = Adam.V (Adam.fl p) v := by
  funext y
  unfold Adam.V
  rw [← ref4 p]
  rfl
/-- The reference's change of the weights. -/
theorem ref5 (p : (⟨3, ![8, 276, 1024]⟩ : Shape).Idx → EReal) (w m v : (⟨3, ![1, 1024, 276]⟩ : Shape).Idx → EReal) : Cert.AdamWInRefIdeal.Read.val_main_v27 (F := Ideal) p w m v = Adam.D (Adam.fl p) w m v := by
  funext y
  unfold Adam.D
  rw [← ref4 p]
  rfl

/-- The call's results are the reference's. -/
theorem algebraic : Cert.algebraic_AdamWInIdeal_AdamWInRefIdeal := by
  intro m g m' g' _ hagree
  refine ⟨fun c => Adam.G (Adam.fl (ap m c)), fun c => Adam.D (Adam.fl (ap m c)) (aw m c) (am m c) (av m c), fun c => Adam.M (Adam.fl (ap m c)) (am m c), fun c => Adam.V (Adam.fl (ap m c)) (av m c), ?_, ?_⟩
  · refine (θ_run _ _ _).mono ?_ (θ_run_and (Cert.AdamWInIdeal.Gen.run_main m g) (Cert.AdamWInIdeal.Gen.unchanged m g))
    intro r hr c
    obtain ⟨hP, hU⟩ := hr
    exact ⟨((hP c).2 _ (by decide)).trans ((tail_eq m c _).trans (res0 m c)), ((hP c).2 _ (by decide)).trans ((tail_eq m c _).trans (res1 m c)), ((hP c).2 _ (by decide)).trans ((tail_eq m c _).trans (res2 m c)), ((hP c).2 _ (by decide)).trans ((tail_eq m c _).trans (res3 m c)), hU c⟩
  · refine (θ_run _ _ _).mono ?_ (Cert.AdamWInRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWInRefIdeal.Read.val_main_v3_eq, k0]
      exact ref4 _
    · rw [Cert.AdamWInRefIdeal.Read.val_main_v27_eq, k0, k1, k2, k3]
      exact ref5 _ _ _ _
    · rw [Cert.AdamWInRefIdeal.Read.val_main_v8_eq, k0, k2]
      exact ref6 _ (aw m c) _ (av m c)
    · rw [Cert.AdamWInRefIdeal.Read.val_main_v14_eq, k0, k3]
      exact ref7 _ (aw m c) (am m c) _

/-- The reference runs and leaves its arguments alone. -/
theorem reference_frame : Cert.quiescent_AdamWInRefIdeal := by
  intro m g _
  refine (θ_run _ _ _).mono ?_ (Cert.AdamWInRefIdeal.Value.run m g)
  intro r hr
  refine ⟨fun c => ?_, sem_eq_zero_of_no_sems (by decide) r.2⟩
  obtain ⟨-, -, -, -, hU⟩ := hr c
  exact hU
end Cert.AdamWInP
end
-- ==== Proof.AdamWUq.lean ====
module
public import proofs.«01_k».proof.Proof.Adam
public import proofs.«01_k».proof.Defs
public import proofs.«01_k».proof.Proof.Gen.AdamWUqIdeal.Frame
public import proofs.«01_k».proof.Proof.Gen.AdamWUqRefIdeal.Run
public import proofs.«01_k».proof.Proof.Gen.AdamWUqRefIdeal.Read
public import Idealize.ShloMosaic.Lib.Claim
public import Idealize.ShloMosaic.Lib.StableHlo.RunRead
@[expose] public section
set_option maxRecDepth 16384
noncomputable section
namespace Cert.AdamWUqP
open Idealize.ShloMosaic Idealize.SL.Sem Cert.AdamWUqIdeal Cert.AdamWUqIdeal.Gen

/-- The block of the gradient. -/
theorem o4 (x0 : Vec Ideal S8x96x384 .bf16) (x1 x2 x3 : Vec Ideal S1x96x384 .f32) (r : Fin 96) (e : Fin 384) : out0_4 x0 x1 x2 x3 (ix3 0 r e) = (∑ s : Fin 8, x0 (ix3 s r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold out0_4
  rw [View.canon_cons_unit_lit _ _ _ (by decide)]
  unfold_payloads
  pointwise

/-- The block of the weights' change. -/
theorem o5 (x0 : Vec Ideal S8x96x384 .bf16) (x1 x2 x3 : Vec Ideal S1x96x384 .f32) (r : Fin 96) (e : Fin 384) : out0_5 x0 x1 x2 x3 (ix3 0 r e) = Adam.de (∑ s : Fin 8, x0 (ix3 s r e)) (x1 (ix3 0 r e)) (x2 (ix3 0 r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.de Adam.mo Adam.vo
  unfold out0_5
  rw [View.canon_cons_unit_lit _ _ _ (by decide)]
  unfold_payloads
  pointwise

/-- The block of the first moments. -/
theorem o6 (x0 : Vec Ideal S8x96x384 .bf16) (x1 x2 x3 : Vec Ideal S1x96x384 .f32) (r : Fin 96) (e : Fin 384) : out0_6 x0 x1 x2 x3 (ix3 0 r e) = Adam.mo (∑ s : Fin 8, x0 (ix3 s r e)) (x2 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.mo
  unfold out0_6
  rw [View.canon_cons_unit_lit _ _ _ (by decide)]
  unfold_payloads
  pointwise

/-- The block of the second moments. -/
theorem o7 (x0 : Vec Ideal S8x96x384 .bf16) (x1 x2 x3 : Vec Ideal S1x96x384 .f32) (r : Fin 96) (e : Fin 384) : out0_7 x0 x1 x2 x3 (ix3 0 r e) = Adam.vo (∑ s : Fin 8, x0 (ix3 s r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![8, 96, 384]⟩ : Shape).Idx → EReal := m (c, Proc.devRef .tc main_arg0)
/-- The weights. -/
abbrev aw : (⟨3, ![1, 384, 96]⟩ : Shape).Idx → EReal := m (c, Proc.devRef .tc main_arg1)
/-- The first moments. -/
abbrev am : (⟨3, ![1, 384, 96]⟩ : Shape).Idx → EReal := m (c, Proc.devRef .tc main_arg2)
/-- The second moments. -/
abbrev av : (⟨3, ![1, 384, 96]⟩ : Shape).Idx → EReal := m (c, Proc.devRef .tc main_arg3)
/-- The call's parts. -/
theorem VA (s : Fin 8) (i : Fin 96) (j : Fin 384) : V m c main_arg0 (ix3 s i j) = ap m c (ix3 s i j) := by
  show StableHlo.after (hostOps0 ++ []) _ _ _ = _
  simp only [hostOps0, List.append_nil]
  after_reads_simp
/-- The call's weights. -/
theorem VB (s : Fin 1) (i : Fin 96) (j : Fin 384) : V m c main_v0 (ix3 s i j) = Adam.fl (aw m c) (ix3 s i j) := by
  obtain rfl : s = 0 := Subsingleton.elim _ _
  show StableHlo.after (hostOps0 ++ []) _ _ _ = _
  simp only [hostOps0, List.append_nil]
  after_reads_simp
  unfold Adam.fl
  pointwise
/-- The call's first moments. -/
theorem VC (s : Fin 1) (i : Fin 96) (j : Fin 384) : V m c main_v1 (ix3 s i j) = Adam.fl (am m c) (ix3 s i j) := by
  obtain rfl : s = 0 := Subsingleton.elim _ _
  show StableHlo.after (hostOps0 ++ []) _ _ _ = _
  simp only [hostOps0, List.append_nil]
  after_reads_simp
  unfold Adam.fl
  pointwise
/-- The call's second moments. -/
theorem VD (s : Fin 1) (i : Fin 96) (j : Fin 384) : V m c main_v2 (ix3 s i j) = Adam.fl (av m c) (ix3 s i j) := by
  obtain rfl : s = 0 := Subsingleton.elim _ _
  show StableHlo.after (hostOps0 ++ []) _ _ _ = _
  simp only [hostOps0, List.append_nil]
  after_reads_simp
  unfold Adam.fl
  pointwise

/-- There is one grid point. -/
theorem ltN (t : Fin grid0.N) : t.val < 1 := lt_of_lt_of_eq t.isLt (show grid0.N = 1 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![8, 96, 384]⟩ : Shape).Idx) :
    ((cfg0.win 0).blk t).view.read (Elt Ideal) (X (Pipeline.arrRef spec0 0)) y
    = X main_arg0 (ix3 (y 0) ⟨t.val * 96 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 96, 384]⟩ : Shape).Idx) :
    ((cfg0.win 1).blk t).view.read (Elt Ideal) (X (Pipeline.arrRef spec0 1)) y
    = X main_v0 (ix3 (y 0) ⟨t.val * 96 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 96, 384]⟩ : Shape).Idx) :
    ((cfg0.win 2).blk t).view.read (Elt Ideal) (X (Pipeline.arrRef spec0 2)) y
    = X main_v1 (ix3 (y 0) ⟨t.val * 96 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 96, 384]⟩ : Shape).Idx) :
    ((cfg0.win 3).blk t).view.read (Elt Ideal) (X (Pipeline.arrRef spec0 3)) y
    = X main_v2 (ix3 (y 0) ⟨t.val * 96 + (y 1).val, by have := (y 1).isLt; have := ltN t; simp at *; omega⟩ (y 2)) := by
  blk_ext [w3 t]

/-- The row of the arrays at a row of a point's block. -/
abbrev row (t : Fin grid0.N) (r : Fin 96) : Fin 96 := ⟨t.val * 96 + r.val, by have := ltN t; omega⟩
/-- The parts' block. -/
theorem ib0 (t : Fin grid0.N) (s : Fin 8) (r : Fin 96) (e : Fin 384) : iblk m c 0 t (ix3 s r e) = ap m c (ix3 s (row t r) e) :=
  (rd0 (V m c) t _).trans (VA ..)
/-- The weights' block. -/
theorem ib1 (t : Fin grid0.N) (r : Fin 96) (e : Fin 384) : iblk m c 1 t (ix3 0 r e) = (Adam.fl (aw m c)) (ix3 0 (row t r) e) :=
  (rd1 (V m c) t _).trans (VB ..)
/-- The first moments' block. -/
theorem ib2 (t : Fin grid0.N) (r : Fin 96) (e : Fin 384) : iblk m c 2 t (ix3 0 r e) = (Adam.fl (am m c)) (ix3 0 (row t r) e) :=
  (rd2 (V m c) t _).trans (VC ..)
/-- The second moments' block. -/
theorem ib3 (t : Fin grid0.N) (r : Fin 96) (e : Fin 384) : iblk m c 3 t (ix3 0 r e) = (Adam.fl (av m c)) (ix3 0 (row t r) e) :=
  (rd3 (V m c) t _).trans (VD ..)
/-- The sum of the parts' blocks. -/
theorem arr_g (t : Fin grid0.N) (r : Fin 96) (e : Fin 384) {x : (⟨3, ![8, 96, 384]⟩ : Shape).Idx → EReal} (hx : ∀ s, x (ix3 s r e) = ap m c (ix3 s (row t r) e)) :
    ∑ s : Fin 8, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
    show r.val = t.val * 96 + r.val
    omega
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (Adam.fl (aw m c)) (Adam.fl (am m c)) (Adam.fl (av m c)) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (Adam.fl (aw m c)) (Adam.fl (am m c)) (Adam.fl (av m c)) (ix3 0 (row t r) e)) ?_ (congrArg (Adam.D (ap m c) (Adam.fl (aw m c)) (Adam.fl (am m c)) (Adam.fl (av m c))) (Adam.at_ix _ _ _ _ ?_ ?_ ?_).symm)
  rotate_left
  · blk_simp [w5 t]
  · blk_simp [w5 t]
    show r.val = t.val * 96 + r.val
    omega
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (Adam.fl (am m c)) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (Adam.fl (am m c)) (ix3 0 (row t r) e)) ?_ (congrArg (Adam.M (ap m c) (Adam.fl (am m c))) (Adam.at_ix _ _ _ _ ?_ ?_ ?_).symm)
  rotate_left
  · blk_simp [w6 t]
  · blk_simp [w6 t]
    show r.val = t.val * 96 + r.val
    omega
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (Adam.fl (av m c)) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (Adam.fl (av m c)) (ix3 0 (row t r) e)) ?_ (congrArg (Adam.V (ap m c) (Adam.fl (av m c))) (Adam.at_ix _ _ _ _ ?_ ?_ ?_).symm)
  rotate_left
  · blk_simp [w7 t]
  · blk_simp [w7 t]
    show r.val = t.val * 96 + r.val
    omega
  · blk_simp [w7 t]
  refine (o7 _ _ _ _ r e).trans ?_
  exact Adam.vo_congr (arr_g m c t r e fun s => ib0 m c t s r e) (ib3 m c t r e)

/-- The values after the call. -/
abbrev WT : Valuation τ sig (Elt Ideal) := Pipeline.withArrays spec0 c (V0 m c) fun w => (dats m 0 c).arrAt w (cfgs 0).N
/-- The results' values. -/
theorem tail_eq (b : Ref sig .tc) : Pipeline.afterTail₀ cfgs (dats m) 0 (V0 m) [hostOps1] c b = StableHlo.after hostOps1 (WT m c) (Proc.devRef .tc b) := by
  show StableHlo.after (hostOps1 ++ []) _ _ = _
  rw [List.append_nil]
/-- Result 1 of the call, exchanged. -/
theorem s0 (X : Valuation τ sig (Elt Ideal)) (i : Fin 384) (j : Fin 96) :
    StableHlo.after hostOps1 X (Proc.devRef .tc main_v4) (ix3 0 i j) = X (Proc.devRef .tc main_v3_0) (ix3 0 j i) := by
  simp only [hostOps1]
  after_reads_simp
  pointwise
/-- Result 1 after the call. -/
theorem T0 : WT m c (Proc.devRef .tc main_v3_0) = Adam.G (ap m c) := (Pipeline.withArrays_arr spec0 (by decide +kernel) c _ _ 4).trans (arr4 m c)
/-- Result 1. -/
theorem res0 : StableHlo.after hostOps1 (WT m c) (Proc.devRef .tc main_v4) = Adam.G (Adam.fl (ap m c)) := by
  funext y
  obtain ⟨i, j, rfl⟩ : ∃ i j, y = ix3 0 i j := ⟨_, _, Adam.eta y⟩
  exact (s0 (WT m c) i j).trans (congrFun (T0 m c) _)
/-- Result 2 of the call, exchanged. -/
theorem s1 (X : Valuation τ sig (Elt Ideal)) (i : Fin 384) (j : Fin 96) :
    StableHlo.after hostOps1 X (Proc.devRef .tc main_v5) (ix3 0 i j) = X (Proc.devRef .tc main_v3_1) (ix3 0 j i) := by
  simp only [hostOps1]
  after_reads_simp
  pointwise
/-- Result 2 after the call. -/
theorem T1 : WT m c (Proc.devRef .tc main_v3_1) = Adam.D (ap m c) (Adam.fl (aw m c)) (Adam.fl (am m c)) (Adam.fl (av m c)) := (Pipeline.withArrays_arr spec0 (by decide +kernel) c _ _ 5).trans (arr5 m c)
/-- Result 2. -/
theorem res1 : StableHlo.after hostOps1 (WT m c) (Proc.devRef .tc main_v5) = Adam.D (Adam.fl (ap m c)) (aw m c) (am m c) (av m c) := by
  funext y
  obtain ⟨i, j, rfl⟩ : ∃ i j, y = ix3 0 i j := ⟨_, _, Adam.eta y⟩
  exact (s1 (WT m c) i j).trans (congrFun (T1 m c) _)
/-- Result 3 of the call, exchanged. -/
theorem s2 (X : Valuation τ sig (Elt Ideal)) (i : Fin 384) (j : Fin 96) :
    StableHlo.after hostOps1 X (Proc.devRef .tc main_v6) (ix3 0 i j) = X (Proc.devRef .tc main_v3_2) (ix3 0 j i) := by
  simp only [hostOps1]
  after_reads_simp
  pointwise
/-- Result 3 after the call. -/
theorem T2 : WT m c (Proc.devRef .tc main_v3_2) = Adam.M (ap m c) (Adam.fl (am m c)) := (Pipeline.withArrays_arr spec0 (by decide +kernel) c _ _ 6).trans (arr6 m c)
/-- Result 3. -/
theorem res2 : StableHlo.after hostOps1 (WT m c) (Proc.devRef .tc main_v6) = Adam.M (Adam.fl (ap m c)) (am m c) := by
  funext y
  obtain ⟨i, j, rfl⟩ : ∃ i j, y = ix3 0 i j := ⟨_, _, Adam.eta y⟩
  exact (s2 (WT m c) i j).trans (congrFun (T2 m c) _)
/-- Result 4 of the call, exchanged. -/
theorem s3 (X : Valuation τ sig (Elt Ideal)) (i : Fin 384) (j : Fin 96) :
    StableHlo.after hostOps1 X (Proc.devRef .tc main_v7) (ix3 0 i j) = X (Proc.devRef .tc main_v3_3) (ix3 0 j i) := by
  simp only [hostOps1]
  after_reads_simp
  pointwise
/-- Result 4 after the call. -/
theorem T3 : WT m c (Proc.devRef .tc main_v3_3) = Adam.V (ap m c) (Adam.fl (av m c)) := (Pipeline.withArrays_arr spec0 (by decide +kernel) c _ _ 7).trans (arr7 m c)
/-- Result 4. -/
theorem res3 : StableHlo.after hostOps1 (WT m c) (Proc.devRef .tc main_v7) = Adam.V (Adam.fl (ap m c)) (av m c) := by
  funext y
  obtain ⟨i, j, rfl⟩ : ∃ i j, y = ix3 0 i j := ⟨_, _, Adam.eta y⟩
  exact (s3 (WT m c) i j).trans (congrFun (T3 m c) _)

/-- The reference's gradient. -/
theorem ref4 (p : (⟨3, ![8, 96, 384]⟩ : Shape).Idx → EReal) : Cert.AdamWUqRefIdeal.Read.val_main_v3 (F := Ideal) p = Adam.G (Adam.fl p) := by
  funext y
  refine (Cert.AdamWUqRefIdeal.Read.val_main_v3_apply ..).trans ((Cert.AdamWUqRefIdeal.Read.val_main_v2_apply ..).trans ?_)
  have hz : ∀ i, Cert.AdamWUqRefIdeal.Read.val_main_cst (F := Ideal) i = 0 := fun i => (Cert.AdamWUqRefIdeal.Read.val_main_cst_apply i).trans (by simp [FloatOps.ofBits, Ideal.ofBits, Ideal.ieee])
  rw [hz, zero_add]
  refine Finset.sum_congr rfl fun k _ => ?_
  refine (Cert.AdamWUqRefIdeal.Read.val_main_v1_apply ..).trans ((Cert.AdamWUqRefIdeal.Read.val_main_v0_apply ..).trans (congrArg p ?_))
  exact Adam.at_ix _ _ _ _ rfl rfl rfl
/-- The reference's first moments. -/
theorem ref6 (p : (⟨3, ![8, 96, 384]⟩ : Shape).Idx → EReal) (w m v : (⟨3, ![1, 384, 96]⟩ : Shape).Idx → EReal) : Cert.AdamWUqRefIdeal.Read.val_main_v8 (F := Ideal) p m = Adam.M (Adam.fl p) m := by
  funext y
  unfold Adam.M
  rw [← ref4 p]
  rfl
/-- The reference's second moments. -/
theorem ref7 (p : (⟨3, ![8, 96, 384]⟩ : Shape).Idx → EReal) (w m v : (⟨3, ![1, 384, 96]⟩ : Shape).Idx → EReal) : Cert.AdamWUqRefIdeal.Read.val_main_v14 (F := Ideal) p v = Adam.V (Adam.fl p) v := by
  funext y
  unfold Adam.V
  rw [← ref4 p]
  rfl
/-- The reference's change of the weights. -/
theorem ref5 (p : (⟨3, ![8, 96, 384]⟩ : Shape).Idx → EReal) (w m v : (⟨3, ![1, 384, 96]⟩ : Shape).Idx → EReal) : Cert.AdamWUqRefIdeal.Read.val_main_v27 (F := Ideal) p w m v = Adam.D (Adam.fl p) w m v := by
  funext y
  unfold Adam.D
  rw [← ref4 p]
  rfl

/-- The call's results are the reference's. -/
theorem algebraic : Cert.algebraic_AdamWUqIdeal_AdamWUqRefIdeal := by
  intro m g m' g' _ hagree
  refine ⟨fun c => Adam.G (Adam.fl (ap m c)), fun c => Adam.D (Adam.fl (ap m c)) (aw m c) (am m c) (av m c), fun c => Adam.M (Adam.fl (ap m c)) (am m c), fun c => Adam.V (Adam.fl (ap m c)) (av m c), ?_, ?_⟩
  · refine (θ_run _ _ _).mono ?_ (θ_run_and (Cert.AdamWUqIdeal.Gen.run_main m g) (Cert.AdamWUqIdeal.Gen.unchanged m g))
    intro r hr c
    obtain ⟨hP, hU⟩ := hr
    exact ⟨((hP c).2 _ (by decide)).trans ((tail_eq m c _).trans (res0 m c)), ((hP c).2 _ (by decide)).trans ((tail_eq m c _).trans (res1 m c)), ((hP c).2 _ (by decide)).trans ((tail_eq m c _).trans (res2 m c)), ((hP c).2 _ (by decide)).trans ((tail_eq m c _).trans (res3 m c)), hU c⟩
  · refine (θ_run _ _ _).mono ?_ (Cert.AdamWUqRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWUqRefIdeal.Read.val_main_v3_eq, k0]
      exact ref4 _
    · rw [Cert.AdamWUqRefIdeal.Read.val_main_v27_eq, k0, k1, k2, k3]
      exact ref5 _ _ _ _
    · rw [Cert.AdamWUqRefIdeal.Read.val_main_v8_eq, k0, k2]
      exact ref6 _ (aw m c) _ (av m c)
    · rw [Cert.AdamWUqRefIdeal.Read.val_main_v14_eq, k0, k3]
      exact ref7 _ (aw m c) (am m c) _

/-- The reference runs and leaves its arguments alone. -/
theorem reference_frame : Cert.quiescent_AdamWUqRefIdeal := by
  intro m g _
  refine (θ_run _ _ _).mono ?_ (Cert.AdamWUqRefIdeal.Value.run m g)
  intro r hr
  refine ⟨fun c => ?_, sem_eq_zero_of_no_sems (by decide) r.2⟩
  obtain ⟨-, -, -, -, hU⟩ := hr c
  exact hU
end Cert.AdamWUqP
end
-- ==== Proof.AdamWFfnIn.lean ====
module
public import proofs.«01_k».proof.Proof.Adam
public import proofs.«01_k».proof.Defs
public import proofs.«01_k».proof.Proof.Gen.AdamWFfnInIdeal.Frame
public import proofs.«01_k».proof.Proof.Gen.AdamWFfnInRefIdeal.Run
public import proofs.«01_k».proof.Proof.Gen.AdamWFfnInRefIdeal.Read
public import Idealize.ShloMosaic.Lib.Claim
public import Idealize.ShloMosaic.Lib.StableHlo.RunRead
@[expose] public section
set_option maxRecDepth 16384
noncomputable section
namespace Cert.AdamWFfnInP
open Idealize.ShloMosaic Idealize.SL.Sem Cert.AdamWFfnInIdeal Cert.AdamWFfnInIdeal.Gen

/-- The block of the gradient. -/
theorem o4 (x0 : Vec Ideal S8x352x1024 .bf16) (x1 x2 x3 : Vec Ideal S1x352x1024 .f32) (r : Fin 352) (e : Fin 1024) : out0_4 x0 x1 x2 x3 (ix3 0 r e) = (∑ s : Fin 8, x0 (ix3 s r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold out0_4
  rw [View.canon_cons_unit_lit _ _ _ (by decide)]
  unfold_payloads
  pointwise

/-- The block of the weights' change. -/
theorem o5 (x0 : Vec Ideal S8x352x1024 .bf16) (x1 x2 x3 : Vec Ideal S1x352x1024 .f32) (r : Fin 352) (e : Fin 1024) : out0_5 x0 x1 x2 x3 (ix3 0 r e) = Adam.de (∑ s : Fin 8, x0 (ix3 s r e)) (x1 (ix3 0 r e)) (x2 (ix3 0 r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.de Adam.mo Adam.vo
  unfold out0_5
  rw [View.canon_cons_unit_lit _ _ _ (by decide)]
  unfold_payloads
  pointwise

/-- The block of the first moments. -/
theorem o6 (x0 : Vec Ideal S8x352x1024 .bf16) (x1 x2 x3 : Vec Ideal S1x352x1024 .f32) (r : Fin 352) (e : Fin 1024) : out0_6 x0 x1 x2 x3 (ix3 0 r e) = Adam.mo (∑ s : Fin 8, x0 (ix3 s r e)) (x2 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.mo
  unfold out0_6
  rw [View.canon_cons_unit_lit _ _ _ (by decide)]
  unfold_payloads
  pointwise

/-- The block of the second moments. -/
theorem o7 (x0 : Vec Ideal S8x352x1024 .bf16) (x1 x2 x3 : Vec Ideal S1x352x1024 .f32) (r : Fin 352) (e : Fin 1024) : out0_7 x0 x1 x2 x3 (ix3 0 r e) = Adam.vo (∑ s : Fin 8, x0 (ix3 s r e)) (x3 (ix3 0 r e)) := by
  have hs : (∑ s : Fin 8, x0 (ix3 s r e)) = x0 (ix3 0 r e) + x0 (ix3 1 r e) + x0 (ix3 2 r e) + x0 (ix3 3 r e) + x0 (ix3 4 r e) + x0 (ix3 5 r e) + x0 (ix3 6 r e) + x0 (ix3 7 r e) := Fin.sum_univ_eight _
  rw [hs]
  unfold Adam.vo
  unfold out0_7
  rw [View.canon_cons_unit_lit _ _ _ (by decide)]
  unfold_payloads
  pointwise

variable (m : (ℓ : Loc nD τ sig) → Buf (Elt Ideal) ℓ) (c : Dev nD)

/-- The parts of the gradient on device `c`. -/
abbrev ap : (⟨3, ![8, 704, 1024]⟩ : Shape).Idx → EReal := m (c, Proc.devRef .tc main_arg0)
/-- The weights. -/
abbrev aw : (⟨3, ![1, 1024, 704]⟩ : Shape).Idx → EReal := m (c, Proc.devRef .tc main_arg1)
/-- The first moments. -/
abbrev am : (⟨3, ![1, 1024, 704]⟩ : Shape).Idx → EReal := m (c, Proc.devRef .tc main_arg2)
/-- The second moments. -/
abbrev av : (⟨3, ![1, 1024, 704]⟩ : Shape).Idx → EReal := m (c, Proc.devRef .tc main_arg3)
/-- The call's parts. -/
theorem VA (s : Fin 8) (i : Fin 704) (j : Fin 1024) : V m c main_arg0 (ix3 s i j) = ap m c (ix3 s i j) := by
  show StableHlo.after (hostOps0 ++ []) _ _ _ = _
  simp only [hostOps0, List.append_nil]
  after_reads_simp
/-- The call's weights. -/
theorem VB (s : Fin 1) (i : Fin 704) (j : Fin 1024) : V m c main_v0 (ix3 s i j) = Adam.fl (aw m c) (ix3 s i j) := by
  obtain rfl : s = 0 := Subsingleton.elim _ _
  show StableHlo.after (hostOps0 ++ []) _ _ _ = _
  simp only [hostOps0, List.append_nil]
  after_reads_simp
  unfold Adam.fl
  pointwise
/-- The call's first moments. -/
theorem VC (s : Fin 1) (i : Fin 704) (j : Fin 1024) : V m c main_v1 (ix3 s i j) = Adam.fl (am m c) (ix3 s i j) := by
  obtain rfl : s = 0 := Subsingleton.elim _ _
  show StableHlo.after (hostOps0 ++ []) _ _ _ = _
  simp only [hostOps0, List.append_nil]
  after_reads_simp
  unfold Adam.fl
  pointwise
/-- The call's second moments. -/
theorem VD (s : Fin 1) (i : Fin 704) (j : Fin 1024) : V m c main_v2 (ix3 s i j) = Adam.fl (av m c) (ix3 s i j) := by
  obtain rfl : s = 0 := Subsingleton.elim _ _
  show StableHlo.after (hostOps0 ++ []) _ _ _ = _
  simp only [hostOps0, List.append_nil]
  after_reads_simp
  unfold Adam.fl
  pointwise

/-- There are two grid points. -/
theorem ltN (t : Fin grid0.N) : t.val < 2 := lt_of_lt_of_eq t.isLt (show grid0.N = 2 from N_0)
/-- The rows of window 0 go by the point. -/
theorem w0 : ∀ t : Fin grid0.N, (cfg0.win 0).index t = ![0, t.val, 0] := by decide +kernel
/-- The rows of window 1 go by the point. -/
theorem w1 : ∀ t : Fin grid0.N, (cfg0.win 1).index t = ![0, t.val, 0] := by decide +kernel
/-- The rows of window 2 go by the point. -/
theorem w2 : ∀ t : Fin grid0.N, (cfg0.win 2).index t = ![0, t.val, 0] := by decide +kernel
/-- The rows of window 3 go by the point. -/
theorem w3 : ∀ t : Fin grid0.N, (cfg0.win 3).index t = ![0, t.val, 0] := by decide +kernel
/-- The rows of window 4 go by the point. -/
theorem w4 : ∀ t : Fin grid0.N, (cfg0.win 4).index t = ![0, t.val, 0] := by decide +kernel
/-- The rows of window 5 go by the point. -/
theorem w5 : ∀ t : Fin grid0.N, (cfg0.win 5).index t = ![0, t.val, 0] := by decide +kernel
/-- The rows of window 6 go by the point. -/
theorem w6 : ∀ t : Fin grid0.N, (cfg0.win 6).index t = ![0, t.val, 0] := by decide +kernel
/-- The rows of window 7 go by the point. -/
theorem w7 : ∀ t : Fin grid0.N, (cfg0.win 7).index t = ![0, t.val, 0] := by decide +kernel
/-- Reading the parts' block. -/
theorem rd0 (X : (b : Ref sig .tc) → b.ty.Contents (Elt Ideal)) (t : Fin grid0.N) (y : (⟨3, ![8, 352, 1024]⟩ : Shape).Idx) :
    ((cfg0.win 0).blk t).view.read (Elt Ideal) (X (Pipeline.arrRef spec0 0)) y
    = X main_arg0 (ix3 (y 0) ⟨t.val * 352 + (y 1).val, by have := (y 1).isLt; have := ltN t; simp at *; omega⟩ (y 2)) := by
  blk_ext [w0 t]
/-- Reading the weights' block. -/
theorem rd1 (X : (b : Ref sig .tc) → b.ty.Contents (Elt Ideal)) (t : Fin grid0.N) (y : (⟨3, ![1, 352, 1024]⟩ : Shape).Idx) :
    ((cfg0.win 1).blk t).view.read (Elt Ideal) (X (Pipeline.arrRef spec0 1)) y
    = X main_v0 (ix3 (y 0) ⟨t.val * 352 + (y 1).val, by have := (y 1).isLt; have := ltN t; simp at *; omega⟩ (y 2)) := by
  blk_ext [w1 t]
/-- Reading the first moments' block. -/
theorem rd2 (X : (b : Ref sig .tc) → b.ty.Contents (Elt Ideal)) (t : Fin grid0.N) (y : (⟨3, ![1, 352, 1024]⟩ : Shape).Idx) :
    ((cfg0.win 2).blk t).view.read (Elt Ideal) (X (Pipeline.arrRef spec0 2)) y
    = X main_v1 (ix3 (y 0) ⟨t.val * 352 + (y 1).val, by have := (y 1).isLt; have := ltN t; simp at *; omega⟩ (y 2)) := by
  blk_ext [w2 t]
/-- Reading the second moments' block. -/
theorem rd3 (X : (b : Ref sig .tc) → b.ty.Contents (Elt Ideal)) (t : Fin grid0.N) (y : (⟨3, ![1, 352, 1024]⟩ : Shape).Idx) :
    ((cfg0.win 3).blk t).view.read (Elt Ideal) (X (Pipeline.arrRef spec0 3)) y
    = X main_v2 (ix3 (y 0) ⟨t.val * 352 + (y 1).val, by have := (y 1).isLt; have := ltN t; simp at *; omega⟩ (y 2)) := by
  blk_ext [w3 t]

/-- The row of the arrays at a row of a point's block. -/
abbrev row (t : Fin grid0.N) (r : Fin 352) : Fin 704 := ⟨t.val * 352 + r.val, by have := ltN t; omega⟩
/-- The parts' block. -/
theorem ib0 (t : Fin grid0.N) (s : Fin 8) (r : Fin 352) (e : Fin 1024) : iblk m c 0 t (ix3 s r e) = ap m c (ix3 s (row t r) e) :=
  (rd0 (V m c) t _).trans (VA ..)
/-- The weights' block. -/
theorem ib1 (t : Fin grid0.N) (r : Fin 352) (e : Fin 1024) : iblk m c 1 t (ix3 0 r e) = (Adam.fl (aw m c)) (ix3 0 (row t r) e) :=
  (rd1 (V m c) t _).trans (VB ..)
/-- The first moments' block. -/
theorem ib2 (t : Fin grid0.N) (r : Fin 352) (e : Fin 1024) : iblk m c 2 t (ix3 0 r e) = (Adam.fl (am m c)) (ix3 0 (row t r) e) :=
  (rd2 (V m c) t _).trans (VC ..)
/-- The second moments' block. -/
theorem ib3 (t : Fin grid0.N) (r : Fin 352) (e : Fin 1024) : iblk m c 3 t (ix3 0 r e) = (Adam.fl (av m c)) (ix3 0 (row t r) e) :=
  (rd3 (V m c) t _).trans (VD ..)
/-- The sum of the parts' blocks. -/
theorem arr_g (t : Fin grid0.N) (r : Fin 352) (e : Fin 1024) {x : (⟨3, ![8, 352, 1024]⟩ : Shape).Idx → EReal} (hx : ∀ s, x (ix3 s r e) = ap m c (ix3 s (row t r) e)) :
    ∑ s : Fin 8, x (ix3 s r e) = Adam.G (ap m c) (ix3 0 (row t r) e) := Finset.sum_congr rfl fun s _ => hx s

/-- The gradient of the call. -/
theorem arr4 : (dats m 0 c).arrAt 4 cfg0.N = Adam.G (ap m c) := by
  refine (dats m 0 c).arrAt_eq_of_covers 4 _ (by decide +kernel) fun t hf y => ?_
  obtain ⟨r, e, rfl⟩ : ∃ r e, y = ix3 0 r e := ⟨_, _, Adam.eta y⟩
  blk_simp
  rw [after0_4]
  have hN := ltN t
  refine Eq.trans (b := Adam.G (ap m c) (ix3 0 (row t r) e)) ?_ (congrArg (Adam.G (ap m c)) (Adam.at_ix _ _ _ _ ?_ ?_ ?_).symm)
  rotate_left
  · blk_simp [w4 t]
  · blk_simp [w4 t]
  · blk_simp [w4 t]
  refine (o4 _ _ _ _ r e).trans ?_
  exact Finset.sum_congr rfl fun s _ => ib0 m c t s r e

/-- The weights' change of the call. -/
theorem arr5 : (dats m 0 c).arrAt 5 cfg0.N = Adam.D (ap m c) (Adam.fl (aw m c)) (Adam.fl (am m c)) (Adam.fl (av m c)) := by
  refine (dats m 0 c).arrAt_eq_of_covers 5 _ (by decide +kernel) fun t hf y => ?_
  obtain ⟨r, e, rfl⟩ : ∃ r e, y = ix3 0 r e := ⟨_, _, Adam.eta y⟩
  blk_simp
  rw [after0_5]
  have hN := ltN t
  refine Eq.trans (b := Adam.D (ap m c) (Adam.fl (aw m c)) (Adam.fl (am m c)) (Adam.fl (av m c)) (ix3 0 (row t r) e)) ?_ (congrArg (Adam.D (ap m c) (Adam.fl (aw m c)) (Adam.fl (am m c)) (Adam.fl (av m c))) (Adam.at_ix _ _ _ _ ?_ ?_ ?_).symm)
  rotate_left
  · blk_simp [w5 t]
  · blk_simp [w5 t]
  · blk_simp [w5 t]
  refine (o5 _ _ _ _ r e).trans ?_
  exact Adam.de_congr (arr_g m c t r e fun s => ib0 m c t s r e) (ib1 m c t r e) (ib2 m c t r e) (ib3 m c t r e)

/-- The first moments of the call. -/
theorem arr6 : (dats m 0 c).arrAt 6 cfg0.N = Adam.M (ap m c) (Adam.fl (am m c)) := by
  refine (dats m 0 c).arrAt_eq_of_covers 6 _ (by decide +kernel) fun t hf y => ?_
  obtain ⟨r, e, rfl⟩ : ∃ r e, y = ix3 0 r e := ⟨_, _, Adam.eta y⟩
  blk_simp
  rw [after0_6]
  have hN := ltN t
  refine Eq.trans (b := Adam.M (ap m c) (Adam.fl (am m c)) (ix3 0 (row t r) e)) ?_ (congrArg (Adam.M (ap m c) (Adam.fl (am m c))) (Adam.at_ix _ _ _ _ ?_ ?_ ?_).symm)
  rotate_left
  · blk_simp [w6 t]
  · blk_simp [w6 t]
  · blk_simp [w6 t]
  refine (o6 _ _ _ _ r e).trans ?_
  exact Adam.mo_congr (arr_g m c t r e fun s => ib0 m c t s r e) (ib2 m c t r e)

/-- The second moments of the call. -/
theorem arr7 : (dats m 0 c).arrAt 7 cfg0.N = Adam.V (ap m c) (Adam.fl (av m c)) := by
  refine (dats m 0 c).arrAt_eq_of_covers 7 _ (by decide +kernel) fun t hf y => ?_
  obtain ⟨r, e, rfl⟩ : ∃ r e, y = ix3 0 r e := ⟨_, _, Adam.eta y⟩
  blk_simp
  rw [after0_7]
  have hN := ltN t
  refine Eq.trans (b := Adam.V (ap m c) (Adam.fl (av m c)) (ix3 0 (row t r) e)) ?_ (congrArg (Adam.V (ap m c) (Adam.fl (av m c))) (Adam.at_ix _ _ _ _ ?_ ?_ ?_).symm)
  rotate_left
  · blk_simp [w7 t]
  · blk_simp [w7 t]
  · blk_simp [w7 t]
  refine (o7 _ _ _ _ r e).trans ?_
  exact Adam.vo_congr (arr_g m c t r e fun s => ib0 m c t s r e) (ib3 m c t r e)

/-- The values after the call. -/
abbrev WT : Valuation τ sig (Elt Ideal) := Pipeline.withArrays spec0 c (V0 m c) fun w => (dats m 0 c).arrAt w (cfgs 0).N
/-- The results' values. -/
theorem tail_eq (b : Ref sig .tc) : Pipeline.afterTail₀ cfgs (dats m) 0 (V0 m) [hostOps1] c b = StableHlo.after hostOps1 (WT m c) (Proc.devRef .tc b) := by
  show StableHlo.after (hostOps1 ++ []) _ _ = _
  rw [List.append_nil]
/-- Result 1 of the call, exchanged. -/
theorem s0 (X : Valuation τ sig (Elt Ideal)) (i : Fin 1024) (j : Fin 704) :
    StableHlo.after hostOps1 X (Proc.devRef .tc main_v4) (ix3 0 i j) = X (Proc.devRef .tc main_v3_0) (ix3 0 j i) := by
  simp only [hostOps1]
  after_reads_simp
  pointwise
/-- Result 1 after the call. -/
theorem T0 : WT m c (Proc.devRef .tc main_v3_0) = Adam.G (ap m c) := (Pipeline.withArrays_arr spec0 (by decide +kernel) c _ _ 4).trans (arr4 m c)
/-- Result 1. -/
theorem res0 : StableHlo.after hostOps1 (WT m c) (Proc.devRef .tc main_v4) = Adam.G (Adam.fl (ap m c)) := by
  funext y
  obtain ⟨i, j, rfl⟩ : ∃ i j, y = ix3 0 i j := ⟨_, _, Adam.eta y⟩
  exact (s0 (WT m c) i j).trans (congrFun (T0 m c) _)
/-- Result 2 of the call, exchanged. -/
theorem s1 (X : Valuation τ sig (Elt Ideal)) (i : Fin 1024) (j : Fin 704) :
    StableHlo.after hostOps1 X (Proc.devRef .tc main_v5) (ix3 0 i j) = X (Proc.devRef .tc main_v3_1) (ix3 0 j i) := by
  simp only [hostOps1]
  after_reads_simp
  pointwise
/-- Result 2 after the call. -/
theorem T1 : WT m c (Proc.devRef .tc main_v3_1) = Adam.D (ap m c) (Adam.fl (aw m c)) (Adam.fl (am m c)) (Adam.fl (av m c)) := (Pipeline.withArrays_arr spec0 (by decide +kernel) c _ _ 5).trans (arr5 m c)
/-- Result 2. -/
theorem res1 : StableHlo.after hostOps1 (WT m c) (Proc.devRef .tc main_v5) = Adam.D (Adam.fl (ap m c)) (aw m c) (am m c) (av m c) := by
  funext y
  obtain ⟨i, j, rfl⟩ : ∃ i j, y = ix3 0 i j := ⟨_, _, Adam.eta y⟩
  exact (s1 (WT m c) i j).trans (congrFun (T1 m c) _)
/-- Result 3 of the call, exchanged. -/
theorem s2 (X : Valuation τ sig (Elt Ideal)) (i : Fin 1024) (j : Fin 704) :
    StableHlo.after hostOps1 X (Proc.devRef .tc main_v6) (ix3 0 i j) = X (Proc.devRef .tc main_v3_2) (ix3 0 j i) := by
  simp only [hostOps1]
  after_reads_simp
  pointwise
/-- Result 3 after the call. -/
theorem T2 : WT m c (Proc.devRef .tc main_v3_2) = Adam.M (ap m c) (Adam.fl (am m c)) := (Pipeline.withArrays_arr spec0 (by decide +kernel) c _ _ 6).trans (arr6 m c)
/-- Result 3. -/
theorem res2 : StableHlo.after hostOps1 (WT m c) (Proc.devRef .tc main_v6) = Adam.M (Adam.fl (ap m c)) (am m c) := by
  funext y
  obtain ⟨i, j, rfl⟩ : ∃ i j, y = ix3 0 i j := ⟨_, _, Adam.eta y⟩
  exact (s2 (WT m c) i j).trans (congrFun (T2 m c) _)
/-- Result 4 of the call, exchanged. -/
theorem s3 (X : Valuation τ sig (Elt Ideal)) (i : Fin 1024) (j : Fin 704) :
    StableHlo.after hostOps1 X (Proc.devRef .tc main_v7) (ix3 0 i j) = X (Proc.devRef .tc main_v3_3) (ix3 0 j i) := by
  simp only [hostOps1]
  after_reads_simp
  pointwise
/-- Result 4 after the call. -/
theorem T3 : WT m c (Proc.devRef .tc main_v3_3) = Adam.V (ap m c) (Adam.fl (av m c)) := (Pipeline.withArrays_arr spec0 (by decide +kernel) c _ _ 7).trans (arr7 m c)
/-- Result 4. -/
theorem res3 : StableHlo.after hostOps1 (WT m c) (Proc.devRef .tc main_v7) = Adam.V (Adam.fl (ap m c)) (av m c) := by
  funext y
  obtain ⟨i, j, rfl⟩ : ∃ i j, y = ix3 0 i j := ⟨_, _, Adam.eta y⟩
  exact (s3 (WT m c) i j).trans (congrFun (T3 m c) _)

/-- The reference's gradient. -/
theorem ref4 (p : (⟨3, ![8, 704, 1024]⟩ : Shape).Idx → EReal) : Cert.AdamWFfnInRefIdeal.Read.val_main_v3 (F := Ideal) p = Adam.G (Adam.fl p) := by
  funext y
  refine (Cert.AdamWFfnInRefIdeal.Read.val_main_v3_apply ..).trans ((Cert.AdamWFfnInRefIdeal.Read.val_main_v2_apply ..).trans ?_)
  have hz : ∀ i, Cert.AdamWFfnInRefIdeal.Read.val_main_cst (F := Ideal) i = 0 := fun i => (Cert.AdamWFfnInRefIdeal.Read.val_main_cst_apply i).trans (by simp [FloatOps.ofBits, Ideal.ofBits, Ideal.ieee])
  rw [hz, zero_add]
  refine Finset.sum_congr rfl fun k _ => ?_
  refine (Cert.AdamWFfnInRefIdeal.Read.val_main_v1_apply ..).trans ((Cert.AdamWFfnInRefIdeal.Read.val_main_v0_apply ..).trans (congrArg p ?_))
  exact Adam.at_ix _ _ _ _ rfl rfl rfl
/-- The reference's first moments. -/
theorem ref6 (p : (⟨3, ![8, 704, 1024]⟩ : Shape).Idx → EReal) (w m v : (⟨3, ![1, 1024, 704]⟩ : Shape).Idx → EReal) : Cert.AdamWFfnInRefIdeal.Read.val_main_v8 (F := Ideal) p m = Adam.M (Adam.fl p) m := by
  funext y
  unfold Adam.M
  rw [← ref4 p]
  rfl
/-- The reference's second moments. -/
theorem ref7 (p : (⟨3, ![8, 704, 1024]⟩ : Shape).Idx → EReal) (w m v : (⟨3, ![1, 1024, 704]⟩ : Shape).Idx → EReal) : Cert.AdamWFfnInRefIdeal.Read.val_main_v14 (F := Ideal) p v = Adam.V (Adam.fl p) v := by
  funext y
  unfold Adam.V
  rw [← ref4 p]
  rfl
/-- The reference's change of the weights. -/
theorem ref5 (p : (⟨3, ![8, 704, 1024]⟩ : Shape).Idx → EReal) (w m v : (⟨3, ![1, 1024, 704]⟩ : Shape).Idx → EReal) : Cert.AdamWFfnInRefIdeal.Read.val_main_v27 (F := Ideal) p w m v = Adam.D (Adam.fl p) w m v := by
  funext y
  unfold Adam.D
  rw [← ref4 p]
  rfl

/-- The call's results are the reference's. -/
theorem algebraic : Cert.algebraic_AdamWFfnInIdeal_AdamWFfnInRefIdeal := by
  intro m g m' g' _ hagree
  refine ⟨fun c => Adam.G (Adam.fl (ap m c)), fun c => Adam.D (Adam.fl (ap m c)) (aw m c) (am m c) (av m c), fun c => Adam.M (Adam.fl (ap m c)) (am m c), fun c => Adam.V (Adam.fl (ap m c)) (av m c), ?_, ?_⟩
  · refine (θ_run _ _ _).mono ?_ (θ_run_and (Cert.AdamWFfnInIdeal.Gen.run_main m g) (Cert.AdamWFfnInIdeal.Gen.unchanged m g))
    intro r hr c
    obtain ⟨hP, hU⟩ := hr
    exact ⟨((hP c).2 _ (by decide)).trans ((tail_eq m c _).trans (res0 m c)), ((hP c).2 _ (by decide)).trans ((tail_eq m c _).trans (res1 m c)), ((hP c).2 _ (by decide)).trans ((tail_eq m c _).trans (res2 m c)), ((hP c).2 _ (by decide)).trans ((tail_eq m c _).trans (res3 m c)), hU c⟩
  · refine (θ_run _ _ _).mono ?_ (Cert.AdamWFfnInRefIdeal.Value.run m' g')
    intro r hr c
    obtain ⟨e0, e1, e2, e3, hU⟩ := hr c
    obtain ⟨k0, k1, k2, k3⟩ := hagree c
    refine ⟨e0.trans ?_, e1.trans ?_, e2.trans ?_, e3.trans ?_, hU⟩
    · rw [Cert.AdamWFfnInRefIdeal.Read.val_main_v3_eq, k0]
      exact ref4 _
    · rw [Cert.AdamWFfnInRefIdeal.Read.val_main_v27_eq, k0, k1, k2, k3]
      exact ref5 _ _ _ _
    · rw [Cert.AdamWFfnInRefIdeal.Read.val_main_v8_eq, k0, k2]
      exact ref6 _ (aw m c) _ (av m c)
    · rw [Cert.AdamWFfnInRefIdeal.Read.val_main_v14_eq, k0, k3]
      exact ref7 _ (aw m c) (am m c) _

/-- The reference runs and leaves its arguments alone. -/
theorem reference_frame : Cert.quiescent_AdamWFfnInRefIdeal := by
  intro m g _
  refine (θ_run _ _ _).mono ?_ (Cert.AdamWFfnInRefIdeal.Value.run m g)
  intro r hr
  refine ⟨fun c => ?_, sem_eq_zero_of_no_sems (by decide) r.2⟩
  obtain ⟨-, -, -, -, hU⟩ := hr c
  exact hU
end Cert.AdamWFfnInP
end
-- ==== Proof.AdaGrad.lean ====
module
public import proofs.«01_k».proof.Proof.Two
public import proofs.«01_k».proof.Defs
public import proofs.«01_k».proof.Proof.Gen.AdaGradIdeal.Value
public import proofs.«01_k».proof.Proof.Gen.AdaGradRefIdeal.Run
public import proofs.«01_k».proof.Proof.Gen.AdaGradRefIdeal.Read
public import Idealize.ShloMosaic.Lib.Claim
public import Idealize.ShloMosaic.Lib.IdealHost
@[expose] public section
set_option maxRecDepth 16384
noncomputable section
namespace Cert.AdaGradP
open Idealize.ShloMosaic Idealize.SL.Sem Cert.AdaGradIdeal Cert.AdaGradIdeal.Gen

/-- The gradient of the modulation's weights: the sum over the sequences. -/
def G (x0 : (⟨2, ![16, 1024]⟩ : Shape).Idx → EReal) (x1 : (⟨2, ![16, 768]⟩ : Shape).Idx → EReal) : (⟨2, ![1024, 768]⟩ : Shape).Idx → EReal :=
  fun J => ∑ k : Fin 16, x0 (ix2 k (J 0)) * x1 (ix2 k (J 1))

/-- What the body leaves in its result. -/
theorem body (x0 : Vec Ideal S16x1024 .f32) (x1 : Vec Ideal S16x768 .f32) : Cert.AdaGradIdeal.Value.G2 x0 x1 = G x0 x1 := by
  funext y
  obtain ⟨p, q, rfl⟩ : ∃ p q, y = ix2 p q := ⟨_, _, Two.eta y⟩
  unfold G Cert.AdaGradIdeal.Value.G2
  unfold_payloads
  pointwise

/-- The reference's result. -/
theorem ref (x0 : (⟨2, ![16, 1024]⟩ : Shape).Idx → EReal) (x1 : (⟨2, ![16, 768]⟩ : Shape).Idx → EReal) :
    Cert.AdaGradRefIdeal.Read.val_main_v3 (F := Ideal) x0 x1 = G x0 x1 := by
  funext y
  refine (Cert.AdaGradRefIdeal.Read.val_main_v3_apply ..).trans ((Cert.AdaGradRefIdeal.Read.val_main_v2_apply ..).trans ?_)
  refine Finset.sum_congr rfl fun k _ => ?_
  refine (mul_comm _ _).trans (congrArg₂ (· * ·) (congrArg x0 ?_) (congrArg x1 ?_))
  · exact Two.at_ix _ _ _ rfl rfl
  · exact Two.at_ix _ _ _ rfl rfl

/-- The call's result is the reference's. -/
theorem algebraic : Cert.algebraic_AdaGradIdeal_AdaGradRefIdeal := by
  intro m g m' g' _ hagree
  refine ⟨fun c => G (m (c, Proc.devRef .tc main_arg0)) (m (c, Proc.devRef .tc main_arg1)), ?_, ?_⟩
  · refine (θ_run _ _ _).mono ?_ (Cert.AdaGradIdeal.Value.run m g)
    intro r hr c
    obtain ⟨e, hU⟩ := hr c
    exact ⟨e.trans (body _ _), hU⟩
  · refine (θ_run _ _ _).mono ?_ (Cert.AdaGradRefIdeal.Value.run m' g')
    intro r hr c
    obtain ⟨e, hU⟩ := hr c
    obtain ⟨k0, k1⟩ := hagree c
    refine ⟨e.trans ?_, hU⟩
    rw [Cert.AdaGradRefIdeal.Read.val_main_v3_eq, k0, k1]
    exact ref _ _

/-- The reference runs and leaves its arguments alone. -/
theorem reference_frame : Cert.quiescent_AdaGradRefIdeal := by
  intro m g _
  refine (θ_run _ _ _).mono ?_ (Cert.AdaGradRefIdeal.Value.run m g)
  intro r hr
  refine ⟨fun c => ?_, sem_eq_zero_of_no_sems (by decide) r.2⟩
  obtain ⟨-, hU⟩ := hr c
  exact hU
end Cert.AdaGradP
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.DH2
public import proofs.«01_k».proof.Proof.Gen.DH2.Skeleton
public import proofs.«01_k».proof.Proof.Gen.DH2.Launch
public import proofs.«01_k».proof.Proof.Gen.DH2.Points
public import proofs.«01_k».proof.Proof.Gen.DH2.Frame
public import proofs.«01_k».proof.Proof.Gen.DH2Ideal
public import proofs.«01_k».proof.Proof.Gen.DH2Ideal.Skeleton
public import proofs.«01_k».proof.Proof.Gen.DH2Ideal.Launch
public import proofs.«01_k».proof.Proof.Gen.DH2Ideal.Points
public import proofs.«01_k».proof.Proof.Gen.DH2Ideal.Frame
public import proofs.«01_k».proof.Proof.Gen.DH2Ideal.Value
public import proofs.«01_k».proof.Proof.Gen.DH2RefIdeal
public import proofs.«01_k».proof.Proof.Gen.DH2RefIdeal.Run
public import proofs.«01_k».proof.Proof.Gen.DH2RefIdeal.Read
public import proofs.«01_k».proof.Proof.Gen.GwFfnIn
public import proofs.«01_k».proof.Proof.Gen.GwFfnIn.Skeleton
public import proofs.«01_k».proof.Proof.Gen.GwFfnIn.Launch
public import proofs.«01_k».proof.Proof.Gen.GwFfnIn.Points
public import proofs.«01_k».proof.Proof.Gen.GwFfnIn.Frame
public import proofs.«01_k».proof.Proof.Gen.GwFfnInIdeal
public import proofs.«01_k».proof.Proof.Gen.GwFfnInIdeal.Skeleton
public import proofs.«01_k».proof.Proof.Gen.GwFfnInIdeal.Launch
public import proofs.«01_k».proof.Proof.Gen.GwFfnInIdeal.Points
public import proofs.«01_k».proof.Proof.Gen.GwFfnInIdeal.Frame
public import proofs.«01_k».proof.Proof.Gen.GwFfnInRefIdeal
public import proofs.«01_k».proof.Proof.Gen.GwFfnInRefIdeal.Run
public import proofs.«01_k».proof.Proof.Gen.GwFfnInRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.GwFfnOut
public import proofs.«01_k».proof.Proof.Gen.GwFfnOut.Skeleton
public import proofs.«01_k».proof.Proof.Gen.GwFfnOut.Launch
public import proofs.«01_k».proof.Proof.Gen.GwFfnOut.Points
public import proofs.«01_k».proof.Proof.Gen.GwFfnOut.Frame
public import proofs.«01_k».proof.Proof.Gen.GwFfnOutIdeal
public import proofs.«01_k».proof.Proof.Gen.GwFfnOutIdeal.Skeleton
public import proofs.«01_k».proof.Proof.Gen.GwFfnOutIdeal.Launch
public import proofs.«01_k».proof.Proof.Gen.GwFfnOutIdeal.Points
public import proofs.«01_k».proof.Proof.Gen.GwFfnOutIdeal.Frame
public import proofs.«01_k».proof.Proof.Gen.GwFfnOutRefIdeal
public import proofs.«01_k».proof.Proof.Gen.GwFfnOutRefIdeal.Run
public import proofs.«01_k».proof.Proof.Gen.GwFfnOutRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.DY
public import proofs.«01_k».proof.Proof.Gen.DY.Skeleton
public import proofs.«01_k».proof.Proof.Gen.DY.Launch
public import proofs.«01_k».proof.Proof.Gen.DY.Points
public import proofs.«01_k».proof.Proof.Gen.DY.Frame
public import proofs.«01_k».proof.Proof.Gen.DYIdeal
public import proofs.«01_k».proof.Proof.Gen.DYIdeal.Skeleton
public import proofs.«01_k».proof.Proof.Gen.DYIdeal.Launch
public import proofs.«01_k».proof.Proof.Gen.DYIdeal.Points
public import proofs.«01_k».proof.Proof.Gen.DYIdeal.Frame
public import proofs.«01_k».proof.Proof.Gen.DYIdeal.Value
public import proofs.«01_k».proof.Proof.Gen.DYRefIdeal
public import proofs.«01_k».proof.Proof.Gen.DYRefIdeal.Run
public import proofs.«01_k».proof.Proof.Gen.DYRefIdeal.Read
public import proofs.«01_k».proof.Proof.Gen.GwOut
public import proofs.«01_k».proof.Proof.Gen.GwOut.Skeleton
public import proofs.«01_k».proof.Proof.Gen.GwOut.Launch
public import proofs.«01_k».proof.Proof.Gen.GwOut.Points
public import proofs.«01_k».proof.Proof.Gen.GwOut.Frame
public import proofs.«01_k».proof.Proof.Gen.GwOutIdeal
public import proofs.«01_k».proof.Proof.Gen.GwOutIdeal.Skeleton
public import proofs.«01_k».proof.Proof.Gen.GwOutIdeal.Launch
public import proofs.«01_k».proof.Proof.Gen.GwOutIdeal.Points
public import proofs.«01_k».proof.Proof.Gen.GwOutIdeal.Frame
public import proofs.«01_k».proof.Proof.Gen.GwOutRefIdeal
public import proofs.«01_k».proof.Proof.Gen.GwOutRefIdeal.Run
public import proofs.«01_k».proof.Proof.Gen.GwOutRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.DH1
public import proofs.«01_k».proof.Proof.Gen.DH1.Skeleton
public import proofs.«01_k».proof.Proof.Gen.DH1.Launch
public import proofs.«01_k».proof.Proof.Gen.DH1.Points
public import proofs.«01_k».proof.Proof.Gen.DH1.Frame
public import proofs.«01_k».proof.Proof.Gen.DH1Ideal
public import proofs.«01_k».proof.Proof.Gen.DH1Ideal.Skeleton
public import proofs.«01_k».proof.Proof.Gen.DH1Ideal.Launch
public import proofs.«01_k».proof.Proof.Gen.DH1Ideal.Points
public import proofs.«01_k».proof.Proof.Gen.DH1Ideal.Frame
public import proofs.«01_k».proof.Proof.Gen.DH1Ideal.Value
public import proofs.«01_k».proof.Proof.Gen.DH1RefIdeal
public import proofs.«01_k».proof.Proof.Gen.DH1RefIdeal.Run
public import proofs.«01_k».proof.Proof.Gen.DH1RefIdeal.Read
public import proofs.«01_k».proof.Proof.Gen.GwIn
public import proofs.«01_k».proof.Proof.Gen.GwIn.Skeleton
public import proofs.«01_k».proof.Proof.Gen.GwIn.Launch
public import proofs.«01_k».proof.Proof.Gen.GwIn.Points
public import proofs.«01_k».proof.Proof.Gen.GwIn.Frame
public import proofs.«01_k».proof.Proof.Gen.GwInIdeal
public import proofs.«01_k».proof.Proof.Gen.GwInIdeal.Skeleton
public import proofs.«01_k».proof.Proof.Gen.GwInIdeal.Launch
public import proofs.«01_k».proof.Proof.Gen.GwInIdeal.Points
public import proofs.«01_k».proof.Proof.Gen.GwInIdeal.Frame
public import proofs.«01_k».proof.Proof.Gen.GwInRefIdeal
public import proofs.«01_k».proof.Proof.Gen.GwInRefIdeal.Run
public import proofs.«01_k».proof.Proof.Gen.GwInRefIdeal.Read
public import proofs.«01_k».proof.Proof.Gen.AdamWAda.Skeleton
public import proofs.«01_k».proof.Proof.Gen.AdamWAda.Launch
public import proofs.«01_k».proof.Proof.Gen.AdamWAda.Points
public import proofs.«01_k».proof.Proof.Gen.AdamWAda.Frame
public import proofs.«01_k».proof.Proof.Gen.AdamWAda
public import proofs.«01_k».proof.Proof.Gen.AdamWAdaIdeal.Skeleton
public import proofs.«01_k».proof.Proof.Gen.AdamWAdaIdeal.Launch
public import proofs.«01_k».proof.Proof.Gen.AdamWAdaIdeal.Points
public import proofs.«01_k».proof.Proof.Gen.AdamWAdaIdeal.Frame
public import proofs.«01_k».proof.Proof.Gen.AdamWAdaIdeal
public import proofs.«01_k».proof.Proof.Gen.AdamWAdaIdeal.Value
public import proofs.«01_k».proof.Proof.Gen.AdamWAdaRefIdeal
public import proofs.«01_k».proof.Proof.Gen.AdamWAdaRefIdeal.Run
public import proofs.«01_k».proof.Proof.Gen.AdamWAdaRefIdeal.Read
public import proofs.«01_k».proof.Proof.Gen.AdamWUkv.Skeleton
public import proofs.«01_k».proof.Proof.Gen.AdamWUkv.Launch
public import proofs.«01_k».proof.Proof.Gen.AdamWUkv.Points
public import proofs.«01_k».proof.Proof.Gen.AdamWUkv.Frame
public import proofs.«01_k».proof.Proof.Gen.AdamWUkv
public import proofs.«01_k».proof.Proof.Gen.AdamWUkvIdeal.Skeleton
public import proofs.«01_k».proof.Proof.Gen.AdamWUkvIdeal.Launch
public import proofs.«01_k».proof.Proof.Gen.AdamWUkvIdeal.Points
public import proofs.«01_k».proof.Proof.Gen.AdamWUkvIdeal.Frame
public import proofs.«01_k».proof.Proof.Gen.AdamWUkvIdeal
public import proofs.«01_k».proof.Proof.Gen.AdamWUkvIdeal.Value
public import proofs.«01_k».proof.Proof.Gen.AdamWUkvRefIdeal
public import proofs.«01_k».proof.Proof.Gen.AdamWUkvRefIdeal.Run
public import proofs.«01_k».proof.Proof.Gen.AdamWUkvRefIdeal.Read
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOut
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutIdeal
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.Gen.AdamWOutRefIdeal.Read
public import proofs.«01_k».proof.Proof.Gen.AdamWFfnOut.Skeleton
public import proofs.«01_k».proof.Proof.Gen.AdamWFfnOut.Launch
public import proofs.«01_k».proof.Proof.Gen.AdamWFfnOut.Points
public import proofs.«01_k».proof.Proof.Gen.AdamWFfnOut.Frame
public import proofs.«01_k».proof.Proof.Gen.AdamWFfnOut
public import proofs.«01_k».proof.Proof.Gen.AdamWFfnOutIdeal.Skeleton
public import proofs.«01_k».proof.Proof.Gen.AdamWFfnOutIdeal.Launch
public import proofs.«01_k».proof.Proof.Gen.AdamWFfnOutIdeal.Points
public import proofs.«01_k».proof.Proof.Gen.AdamWFfnOutIdeal.Frame
public import proofs.«01_k».proof.Proof.Gen.AdamWFfnOutIdeal
public import proofs.«01_k».proof.Proof.Gen.AdamWFfnOutIdeal.Value
public import proofs.«01_k».proof.Proof.Gen.AdamWFfnOutRefIdeal
public import proofs.«01_k».proof.Proof.Gen.AdamWFfnOutRefIdeal.Run
public import proofs.«01_k».proof.Proof.Gen.AdamWFfnOutRefIdeal.Read
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWIn
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInIdeal
public import proofs.«01_k».proof.Proof.Gen.AdamWInRefIdeal
public import proofs.«01_k».proof.Proof.Gen.AdamWInRefIdeal.Run
public import proofs.«01_k».proof.Proof.Gen.AdamWInRefIdeal.Read
public import proofs.«01_k».proof.Proof.Gen.AdamWUq.Skeleton
public import proofs.«01_k».proof.Proof.Gen.AdamWUq.Launch
public import proofs.«01_k».proof.Proof.Gen.AdamWUq.Points
public import proofs.«01_k».proof.Proof.Gen.AdamWUq.Frame
public import proofs.«01_k».proof.Proof.Gen.AdamWUq
public import proofs.«01_k».proof.Proof.Gen.AdamWUqIdeal.Skeleton
public import proofs.«01_k».proof.Proof.Gen.AdamWUqIdeal.Launch
public import proofs.«01_k».proof.Proof.Gen.AdamWUqIdeal.Points
public import proofs.«01_k».proof.Proof.Gen.AdamWUqIdeal.Frame
public import proofs.«01_k».proof.Proof.Gen.AdamWUqIdeal
public import proofs.«01_k».proof.Proof.Gen.AdamWUqRefIdeal
public import proofs.«01_k».proof.Proof.Gen.AdamWUqRefIdeal.Run
public import proofs.«01_k».proof.Proof.Gen.AdamWUqRefIdeal.Read
public import proofs.«01_k».proof.Proof.Gen.AdamWFfnIn.Skeleton
public import proofs.«01_k».proof.Proof.Gen.AdamWFfnIn.Launch
public import proofs.«01_k».proof.Proof.Gen.AdamWFfnIn.Points
public import proofs.«01_k».proof.Proof.Gen.AdamWFfnIn.Frame
public import proofs.«01_k».proof.Proof.Gen.AdamWFfnIn
public import proofs.«01_k».proof.Proof.Gen.AdamWFfnInIdeal.Skeleton
public import proofs.«01_k».proof.Proof.Gen.AdamWFfnInIdeal.Launch
public import proofs.«01_k».proof.Proof.Gen.AdamWFfnInIdeal.Points
public import proofs.«01_k».proof.Proof.Gen.AdamWFfnInIdeal.Frame
public import proofs.«01_k».proof.Proof.Gen.AdamWFfnInIdeal
public import proofs.«01_k».proof.Proof.Gen.AdamWFfnInRefIdeal
public import proofs.«01_k».proof.Proof.Gen.AdamWFfnInRefIdeal.Run
public import proofs.«01_k».proof.Proof.Gen.AdamWFfnInRefIdeal.Read
public import proofs.«01_k».proof.Proof.Gen.AdaGrad
public import proofs.«01_k».proof.Proof.Gen.AdaGrad.Skeleton
public import proofs.«01_k».proof.Proof.Gen.AdaGrad.Launch
public import proofs.«01_k».proof.Proof.Gen.AdaGrad.Points
public import proofs.«01_k».proof.Proof.Gen.AdaGrad.Frame
public import proofs.«01_k».proof.Proof.Gen.AdaGradIdeal
public import proofs.«01_k».proof.Proof.Gen.AdaGradIdeal.Skeleton
public import proofs.«01_k».proof.Proof.Gen.AdaGradIdeal.Launch
public import proofs.«01_k».proof.Proof.Gen.AdaGradIdeal.Points
public import proofs.«01_k».proof.Proof.Gen.AdaGradIdeal.Frame
public import proofs.«01_k».proof.Proof.Gen.AdaGradIdeal.Value
public import proofs.«01_k».proof.Proof.Gen.AdaGradRefIdeal
public import proofs.«01_k».proof.Proof.Gen.AdaGradRefIdeal.Run
public import proofs.«01_k».proof.Proof.Gen.AdaGradRefIdeal.Read
public import proofs.«01_k».proof.Proof.Values
public import proofs.«01_k».proof.Proof.DH2
public import proofs.«01_k».proof.Proof.FfnIn
public import proofs.«01_k».proof.Proof.GwFfnIn
public import proofs.«01_k».proof.Proof.FfnOut
public import proofs.«01_k».proof.Proof.GwFfnOut
public import proofs.«01_k».proof.Proof.Mix
public import proofs.«01_k».proof.Proof.DY
public import proofs.«01_k».proof.Proof.GwOut
public import proofs.«01_k».proof.Proof.Proj
public import proofs.«01_k».proof.Proof.DH1
public import proofs.«01_k».proof.Proof.GwIn
public import proofs.«01_k».proof.Proof.AdamWAda
public import proofs.«01_k».proof.Proof.AdamWUkv
public import proofs.«01_k».proof.Proof.AdamWOut
public import proofs.«01_k».proof.Proof.AdamWFfnOut
public import proofs.«01_k».proof.Proof.AdamWIn
public import proofs.«01_k».proof.Proof.AdamWUq
public import proofs.«01_k».proof.Proof.AdamWFfnIn
public import proofs.«01_k».proof.Proof.AdaGrad
public import Idealize.ShloMosaic.Lib.Claim
public import Idealize.ShloMosaic.Adequacy
public import Idealize.ShloMosaic.Init

@[expose] public section

noncomputable section

namespace Cert.Proof

open Idealize.ShloMosaic Idealize.SL.Sem

/-- The condition on the kernel's memory says that every number of its arguments is real. -/
theorem real6 (m : (ℓ : Loc Cert.KernelIdeal.nD Cert.KernelIdeal.τ Cert.KernelIdeal.sig) → Buf (Elt Ideal) ℓ) (h : Cert.Pre_KernelIdeal_finite m)
    (c : Dev Cert.KernelIdeal.nD) : Cert.Mla.Real6 m c := by
  obtain ⟨h0, h1, h2, h3, h4, h5⟩ := Cert.Mla.pre_real _ _ _ _ _ _ (h c)
  exact ⟨h0, h1, h2, h3, h4, h5⟩

/-- The kernel's five results are the reference's. -/
theorem algebraic : Cert.algebraic_KernelIdeal_ReferenceIdeal_pre_finite := by
  intro m g m' g' hpre hagree
  refine ⟨fun c => Cert.ReferenceIdeal.Read.val_main_v68 (F := Ideal) (Cert.Mla.a0 m c) (Cert.Mla.a1 m c) (Cert.Mla.a2 m c) (Cert.Mla.a3 m c) (Cert.Mla.a4 m c) (Cert.Mla.a5 m c),
    fun c => Cert.ReferenceIdeal.Read.val_main_v63 (F := Ideal) (Cert.Mla.a0 m c) (Cert.Mla.a1 m c) (Cert.Mla.a2 m c) (Cert.Mla.a3 m c) (Cert.Mla.a4 m c) (Cert.Mla.a5 m c),
    fun c => Cert.ReferenceIdeal.Read.val_main_v66 (F := Ideal) (Cert.Mla.a0 m c) (Cert.Mla.a1 m c) (Cert.Mla.a2 m c) (Cert.Mla.a3 m c) (Cert.Mla.a4 m c) (Cert.Mla.a5 m c),
    fun c => Cert.ReferenceIdeal.Read.val_main_v64 (F := Ideal) (Cert.Mla.a0 m c) (Cert.Mla.a1 m c) (Cert.Mla.a2 m c) (Cert.Mla.a3 m c) (Cert.Mla.a4 m c) (Cert.Mla.a5 m c),
    fun c => Cert.ReferenceIdeal.Read.val_main_v46 (F := Ideal) (Cert.Mla.a0 m c) (Cert.Mla.a1 m c) (Cert.Mla.a2 m c) (Cert.Mla.a3 m c) (Cert.Mla.a5 m c), ?_, ?_⟩
  · refine (θ_run _ _ _).mono ?_ (θ_run_and (Cert.KernelIdeal.Gen.run_main m g) (Cert.KernelIdeal.Gen.unchanged m g))
    intro r hr c
    obtain ⟨hP, hU⟩ := hr
    have R := real6 m hpre c
    refine ⟨?_, ?_, ?_, ?_, ?_, hU c⟩
    · exact ((hP c).2 _ (by decide)).trans ((Cert.Mla.tail_eq m c _).trans (Cert.Mla.f69 m c R))
    · exact ((hP c).2 _ (by decide)).trans ((Cert.Mla.tail_eq m c _).trans (Cert.Mla.f70 m c R))
    · exact ((hP c).2 _ (by decide)).trans ((Cert.Mla.tail_eq m c _).trans (Cert.Mla.f71 m c R))
    · exact ((hP c).2 _ (by decide)).trans ((Cert.Mla.tail_eq m c _).trans (Cert.Mla.f73 m c R))
    · exact ((hP c).2 _ (by decide)).trans ((Cert.Mla.tail_eq m c _).trans (Cert.Mla.f68 m c R))
  · refine (θ_run _ _ _).mono ?_ (Cert.ReferenceIdeal.Value.run m' g')
    intro r hr c
    obtain ⟨e0, e1, e2, e3, e4, hU⟩ := hr c
    obtain ⟨k0, k1, k2, k3, k4, k5⟩ := hagree c
    refine ⟨e0.trans ?_, e1.trans ?_, e2.trans ?_, e3.trans ?_, e4.trans ?_, hU⟩
    · rw [Cert.ReferenceIdeal.Read.val_main_v68_eq, k0, k1, k2, k3, k4, k5]
    · rw [Cert.ReferenceIdeal.Read.val_main_v63_eq, k0, k1, k2, k3, k4, k5]
    · rw [Cert.ReferenceIdeal.Read.val_main_v66_eq, k0, k1, k2, k3, k4, k5]
    · rw [Cert.ReferenceIdeal.Read.val_main_v64_eq, k0, k1, k2, k3, k4, k5]
    · rw [Cert.ReferenceIdeal.Read.val_main_v46_eq, k0, k1, k2, k3, k5]

/-- The reference runs and leaves its arguments alone. -/
theorem reference_frame : Cert.quiescent_ReferenceIdeal := by
  intro m g _
  refine (θ_run _ _ _).mono ?_ (Cert.ReferenceIdeal.Value.run m g)
  intro r hr
  refine ⟨fun c => ?_, sem_eq_zero_of_no_sems (by decide) r.2⟩
  obtain ⟨-, -, -, -, -, hU⟩ := hr c
  exact hU

/-- All of the claims. -/
theorem claim : Cert.Claim := ⟨Cert.Kernel.Gen.facts, Cert.KernelIdeal.Gen.facts, Cert.ReferenceIdeal.Gen.facts, Cert.FfnIn.Gen.facts, Cert.FfnInIdeal.Gen.facts, Cert.FfnInRefIdeal.Gen.facts, Cert.DH2.Gen.facts, Cert.DH2Ideal.Gen.facts, Cert.DH2RefIdeal.Gen.facts, Cert.GwFfnIn.Gen.facts, Cert.GwFfnInIdeal.Gen.facts, Cert.GwFfnInRefIdeal.Gen.facts,
  Cert.FfnOut.Gen.facts, Cert.FfnOutIdeal.Gen.facts, Cert.FfnOutRefIdeal.Gen.facts,
  Cert.GwFfnOut.Gen.facts, Cert.GwFfnOutIdeal.Gen.facts, Cert.GwFfnOutRefIdeal.Gen.facts,
  Cert.Mix.Gen.facts, Cert.MixIdeal.Gen.facts, Cert.MixRefIdeal.Gen.facts,
  Cert.DY.Gen.facts, Cert.DYIdeal.Gen.facts, Cert.DYRefIdeal.Gen.facts,
  Cert.GwOut.Gen.facts, Cert.GwOutIdeal.Gen.facts, Cert.GwOutRefIdeal.Gen.facts,
  Cert.Proj.Gen.facts, Cert.ProjIdeal.Gen.facts, Cert.ProjRefIdeal.Gen.facts,
  Cert.DH1.Gen.facts, Cert.DH1Ideal.Gen.facts, Cert.DH1RefIdeal.Gen.facts,
  Cert.GwIn.Gen.facts, Cert.GwInIdeal.Gen.facts, Cert.GwInRefIdeal.Gen.facts,
  Cert.AdamWAda.Gen.facts, Cert.AdamWAdaIdeal.Gen.facts, Cert.AdamWAdaRefIdeal.Gen.facts,
  Cert.AdamWUkv.Gen.facts, Cert.AdamWUkvIdeal.Gen.facts, Cert.AdamWUkvRefIdeal.Gen.facts,
  Cert.AdamWOut.Gen.facts, Cert.AdamWOutIdeal.Gen.facts, Cert.AdamWOutRefIdeal.Gen.facts,
  Cert.AdamWFfnOut.Gen.facts, Cert.AdamWFfnOutIdeal.Gen.facts, Cert.AdamWFfnOutRefIdeal.Gen.facts,
  Cert.AdamWIn.Gen.facts, Cert.AdamWInIdeal.Gen.facts, Cert.AdamWInRefIdeal.Gen.facts,
  Cert.AdamWUq.Gen.facts, Cert.AdamWUqIdeal.Gen.facts, Cert.AdamWUqRefIdeal.Gen.facts,
  Cert.AdamWFfnIn.Gen.facts, Cert.AdamWFfnInIdeal.Gen.facts, Cert.AdamWFfnInRefIdeal.Gen.facts,
  Cert.AdaGrad.Gen.facts, Cert.AdaGradIdeal.Gen.facts, Cert.AdaGradRefIdeal.Gen.facts,
  Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.FfnIn.Gen.frame m g, fun m g _ => Cert.FfnInIdeal.Gen.frame m g, Cert.FfnInP.reference_frame,
  fun m g _ => Cert.DH2.Gen.frame m g, fun m g _ => Cert.DH2Ideal.Gen.frame m g, Cert.DH2P.reference_frame,
  fun m g _ => Cert.GwFfnIn.Gen.frame m g, fun m g _ => Cert.GwFfnInIdeal.Gen.frame m g, Cert.GwFfnInP.reference_frame,
  fun m g _ => Cert.FfnOut.Gen.frame m g, fun m g _ => Cert.FfnOutIdeal.Gen.frame m g, Cert.FfnOutP.reference_frame,
  fun m g _ => Cert.GwFfnOut.Gen.frame m g, fun m g _ => Cert.GwFfnOutIdeal.Gen.frame m g, Cert.GwFfnOutP.reference_frame,
  fun m g _ => Cert.Mix.Gen.frame m g, fun m g _ => Cert.MixIdeal.Gen.frame m g, Cert.MixP.reference_frame,
  fun m g _ => Cert.DY.Gen.frame m g, fun m g _ => Cert.DYIdeal.Gen.frame m g, Cert.DYP.reference_frame,
  fun m g _ => Cert.GwOut.Gen.frame m g, fun m g _ => Cert.GwOutIdeal.Gen.frame m g, Cert.GwOutP.reference_frame,
  fun m g _ => Cert.Proj.Gen.frame m g, fun m g _ => Cert.ProjIdeal.Gen.frame m g, Cert.ProjP.reference_frame,
  fun m g _ => Cert.DH1.Gen.frame m g, fun m g _ => Cert.DH1Ideal.Gen.frame m g, Cert.DH1P.reference_frame,
  fun m g _ => Cert.GwIn.Gen.frame m g, fun m g _ => Cert.GwInIdeal.Gen.frame m g, Cert.GwInP.reference_frame,
  fun m g _ => Cert.AdamWAda.Gen.frame m g, fun m g _ => Cert.AdamWAdaIdeal.Gen.frame m g, Cert.AdamWAdaP.reference_frame,
  fun m g _ => Cert.AdamWUkv.Gen.frame m g, fun m g _ => Cert.AdamWUkvIdeal.Gen.frame m g, Cert.AdamWUkvP.reference_frame,
  fun m g _ => Cert.AdamWOut.Gen.frame m g, fun m g _ => Cert.AdamWOutIdeal.Gen.frame m g, Cert.AdamWOutP.reference_frame,
  fun m g _ => Cert.AdamWFfnOut.Gen.frame m g, fun m g _ => Cert.AdamWFfnOutIdeal.Gen.frame m g, Cert.AdamWFfnOutP.reference_frame,
  fun m g _ => Cert.AdamWIn.Gen.frame m g, fun m g _ => Cert.AdamWInIdeal.Gen.frame m g, Cert.AdamWInP.reference_frame,
  fun m g _ => Cert.AdamWUq.Gen.frame m g, fun m g _ => Cert.AdamWUqIdeal.Gen.frame m g, Cert.AdamWUqP.reference_frame,
  fun m g _ => Cert.AdamWFfnIn.Gen.frame m g, fun m g _ => Cert.AdamWFfnInIdeal.Gen.frame m g, Cert.AdamWFfnInP.reference_frame,
  fun m g _ => Cert.AdaGrad.Gen.frame m g, fun m g _ => Cert.AdaGradIdeal.Gen.frame m g, Cert.AdaGradP.reference_frame,
  trivial, algebraic, trivial, Cert.FfnInP.algebraic, trivial, Cert.DH2P.algebraic, trivial, Cert.GwFfnInP.algebraic,
  trivial, Cert.FfnOutP.algebraic, trivial, Cert.GwFfnOutP.algebraic, trivial, Cert.MixP.algebraic,
  trivial, Cert.DYP.algebraic, trivial, Cert.GwOutP.algebraic, trivial, Cert.ProjP.algebraic,
  trivial, Cert.DH1P.algebraic, trivial, Cert.GwInP.algebraic,
  trivial, Cert.AdamWAdaP.algebraic, trivial, Cert.AdamWUkvP.algebraic,
  trivial, Cert.AdamWOutP.algebraic, trivial, Cert.AdamWFfnOutP.algebraic,
  trivial, Cert.AdamWInP.algebraic, trivial, Cert.AdamWUqP.algebraic,
  trivial, Cert.AdamWFfnInP.algebraic, trivial, Cert.AdaGradP.algebraic⟩

end Cert.Proof

end
